-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_one_plus_lamb" .f32 0x3A40191B#32 ((8192 / 11179101 : ℝ) : EReal)

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : FVec F S1024x100000 .f32) (main_arg2 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 32 := constantI S_ 32 100000#32
  let main_v2 : IVec S1024 32 := broadcastInDim S1024 ![] bcast_S_S1024 main_c_0
  let main_v3 : IVec S1024 1 := cmpi .slt main_arg2 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S100000x1024 : Shape := ⟨2, ![100000, 1024]⟩
abbrev S1024x8x128 : Shape := ⟨3, ![1024, 8, 128]⟩
abbrev S32 : Shape := ⟨1, ![32]⟩
abbrev S_ : Shape := ⟨0, ![]⟩
abbrev S16 : Shape := ⟨1, ![16]⟩
abbrev S1 : Shape := ⟨1, ![1]⟩
abbrev S1x8x128 : Shape := ⟨3, ![1, 8, 128]⟩
abbrev S8x128 : Shape := ⟨2, ![8, 128]⟩
abbrev S1x1024 : Shape := ⟨2, ![1, 1024]⟩
abbrev S2000x1024 : Shape := ⟨2, ![2000, 1024]⟩
abbrev S1024x1 : Shape := ⟨2, ![1024, 1]⟩
abbrev S1x1 : Shape := ⟨2, ![1, 1]⟩
abbrev S1024x1x1 : Shape := ⟨3, ![1024, 1, 1]⟩
abbrev S1x1x1024 : Shape := ⟨3, ![1, 1, 1024]⟩
abbrev S1x1x1 : Shape := ⟨3, ![1, 1, 1]⟩

abbrev nBuf : Table → Nat
  | .hbm => 16
  | .local .tc .vmem => 14
  | .local .scVector .vmem => 1
  | _ => 0

abbrev bufTy : (tb : Table) → Fin (nBuf tb) → BufTy
  | .hbm, ⟨0, _⟩ => ⟨S1024x100000, .f32⟩
  | .hbm, ⟨1, _⟩ => ⟨S1024x100000, .f32⟩
  | .hbm, ⟨2, _⟩ => ⟨S1024, .i32⟩
  | .hbm, ⟨3, _⟩ => ⟨S100000x1024, .f32⟩
  | .hbm, ⟨4, _⟩ => ⟨S100000x1024, .f32⟩
  | .hbm, ⟨5, _⟩ => ⟨S1024x8x128, .f32⟩
  | .hbm, ⟨6, _⟩ => ⟨S1024x8x128, .f32⟩
  | .hbm, ⟨7, _⟩ => ⟨S1x1024, .f32⟩
  | .hbm, ⟨8, _⟩ => ⟨S1x1024, .f32⟩
  | .hbm, ⟨9, _⟩ => ⟨S1x1024, .i32⟩
  | .hbm, ⟨10, _⟩ => ⟨S1x1024, .i32⟩
  | .hbm, ⟨11, _⟩ => ⟨S1024x1, .i32⟩
  | .hbm, ⟨12, _⟩ => ⟨S1x1, .f32⟩
  | .hbm, ⟨13, _⟩ => ⟨S1x1, .f32⟩
  | .hbm, ⟨14, _⟩ => ⟨S_, .f32⟩
  | .hbm, ⟨15, _⟩ => ⟨S_, .f32⟩
  | .local .tc .vmem, ⟨0, _⟩ => ⟨S2000x1024, .f32⟩
  | .local .tc .vmem, ⟨1, _⟩ => ⟨S2000x1024, .f32⟩
  | .local .tc .vmem, ⟨2, _⟩ => ⟨S1x1024, .f32⟩
  | .local .tc .vmem, ⟨3, _⟩ => ⟨S1x1024, .f32⟩
  | .local .tc .vmem, ⟨4, _⟩ => ⟨S1x1024, .i32⟩
  | .local .tc .vmem, ⟨5, _⟩ => ⟨S1x1024, .f32⟩
  | .local .tc .vmem, ⟨6, _⟩ => ⟨S1x1024, .f32⟩
  | .local .tc .vmem, ⟨7, _⟩ => ⟨S1x1024, .i32⟩
  | .local .tc .vmem, ⟨8, _⟩ => ⟨S1x1024, .i32⟩
  | .local .tc .vmem, ⟨9, _⟩ => ⟨S1024x1, .i32⟩
  | .local .tc .vmem, ⟨10, _⟩ => ⟨S1024x8x128, .f32⟩
  | .local .tc .vmem, ⟨11, _⟩ => ⟨S1024x8x128, .f32⟩
  | .local .tc .vmem, ⟨12, _⟩ => ⟨S1x1, .f32⟩
  | .local .tc .vmem, ⟨13, _⟩ => ⟨S1x1, .f32⟩
  | .local .scVector .vmem, ⟨0, _⟩ => ⟨S32, .i32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v0_scv : Ref sig .scVector := ⟨.hbm, 3, rfl⟩
abbrev main_v1_scv : Ref sig .scVector := ⟨.hbm, 4, rfl⟩
abbrev main_arg2_scv : Ref sig .scVector := ⟨.hbm, 2, rfl⟩
abbrev main_v2_0_scv : Ref sig .scVector := ⟨.hbm, 5, rfl⟩
abbrev main_v2_1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc0_scratch0 : Ref sig .scVector := ⟨.vmem, 0, rfl⟩
abbrev cc1_sem0_0 : DmaSem sig := 2
abbrev cc1_sem0_1 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem2_0 : DmaSem sig := 9
abbrev cc2_sem3_0 : DmaSem sig := 10
abbrev cc2_sem4_0 : DmaSem sig := 11
abbrev cc2_sem5_0 : DmaSem sig := 12
abbrev cc2_sem6_0 : DmaSem sig := 13
abbrev cc2_sem7_0 : DmaSem sig := 14
abbrev cc2_sem8_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_mult1 (v10 : BitVec 32) : BitVec 32 :=
  v10

def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v7 : BitVec 32 := Scalar.addi v2 c0_i32
  let c0_i32_0 : BitVec 32 := 0#32
  let v8 : BitVec 32 := Scalar.addi v7 c0_i32_0
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c128_i32 : BitVec 32 := 128#32
  let c0_i32_3 : BitVec 32 := 0#32
  let v18 : BitVec 1 := Scalar.cmpi .sgt c128_i32 c0_i32_3
  let v19 : BitVec 32 := Scalar.extui v18
  let c0_i32_4 : BitVec 32 := 0#32
  let v20 : BitVec 1 := Scalar.cmpi .slt c128_i32 c0_i32_4
  let v21 : BitVec 32 := Scalar.extui v20
  let v22 : BitVec 32 := Scalar.subi v19 v21
  let v23 : BitVec 1 := Scalar.cmpi .ne v17 v22
  let v24 : BitVec 32 := Scalar.remsi v8 c128_i32
  let c0_i32_5 : BitVec 32 := 0#32
  let v25 : BitVec 1 := Scalar.cmpi .ne v24 c0_i32_5
  let v26 : BitVec 1 := Scalar.andi v23 v25
  let v12 : BitVec 32 := Scalar.divsi v8 c128_i32
  let c1_i32 : BitVec 32 := 1#32
  let v27 : BitVec 32 := Scalar.subi v12 c1_i32
  let v28 : BitVec 32 := Scalar.select v26 v27 v12
  let c128_i32_6 : BitVec 32 := 128#32
  let v29 : BitVec 32 := Scalar.muli v28 c128_i32_6
  v29
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v7 : BitVec 32 := Scalar.addi v2 c0_i32
  let c0_i32_0 : BitVec 32 := 0#32
  let v8 : BitVec 32 := Scalar.addi v7 c0_i32_0
  let c0_i32_7 : BitVec 32 := 0#32
  let c0_i32_8 : BitVec 32 := 0#32
  ![v8.toNat, 0, 0]
def k0_off3 (i : grid0.Coords) (v10 : BitVec 32) : Fin 2 → Nat :=
  let v11 : BitVec 32 := v10
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v7 : BitVec 32 := Scalar.addi v2 c0_i32
  let c0_i32_0 : BitVec 32 := 0#32
  let v8 : BitVec 32 := Scalar.addi v7 c0_i32_0
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c128_i32 : BitVec 32 := 128#32
  let c0_i32_3 : BitVec 32 := 0#32
  let v18 : BitVec 1 := Scalar.cmpi .sgt c128_i32 c0_i32_3
  let v19 : BitVec 32 := Scalar.extui v18
  let c0_i32_4 : BitVec 32 := 0#32
  let v20 : BitVec 1 := Scalar.cmpi .slt c128_i32 c0_i32_4
  let v21 : BitVec 32 := Scalar.extui v20
  let v22 : BitVec 32 := Scalar.subi v19 v21
  let v23 : BitVec 1 := Scalar.cmpi .ne v17 v22
  let v24 : BitVec 32 := Scalar.remsi v8 c128_i32
  let c0_i32_5 : BitVec 32 := 0#32
  let v25 : BitVec 1 := Scalar.cmpi .ne v24 c0_i32_5
  let v26 : BitVec 1 := Scalar.andi v23 v25
  let v12 : BitVec 32 := Scalar.divsi v8 c128_i32
  let c1_i32 : BitVec 32 := 1#32
  let v27 : BitVec 32 := Scalar.subi v12 c1_i32
  let v28 : BitVec 32 := Scalar.select v26 v27 v12
  let c128_i32_6 : BitVec 32 := 128#32
  let v29 : BitVec 32 := Scalar.muli v28 c128_i32_6
  let v30 : BitVec 32 := v29
  ![v11.toNat, v30.toNat]
def k0_mult3 (v40 : BitVec 32) : BitVec 32 :=
  v40

def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_11 : BitVec 32 := 0#32
  let v37 : BitVec 32 := Scalar.addi v2 c0_i32_11
  let c1_i32_12 : BitVec 32 := 1#32
  let v38 : BitVec 32 := Scalar.addi v37 c1_i32_12
  let c0_i32_14 : BitVec 32 := 0#32
  let v43 : BitVec 1 := Scalar.cmpi .sgt v38 c0_i32_14
  let v44 : BitVec 32 := Scalar.extui v43
  let c0_i32_15 : BitVec 32 := 0#32
  let v45 : BitVec 1 := Scalar.cmpi .slt v38 c0_i32_15
  let v46 : BitVec 32 := Scalar.extui v45
  let v47 : BitVec 32 := Scalar.subi v44 v46
  let c128_i32_13 : BitVec 32 := 128#32
  let c0_i32_16 : BitVec 32 := 0#32
  let v48 : BitVec 1 := Scalar.cmpi .sgt c128_i32_13 c0_i32_16
  let v49 : BitVec 32 := Scalar.extui v48
  let c0_i32_17 : BitVec 32 := 0#32
  let v50 : BitVec 1 := Scalar.cmpi .slt c128_i32_13 c0_i32_17
  let v51 : BitVec 32 := Scalar.extui v50
  let v52 : BitVec 32 := Scalar.subi v49 v51
  let v53 : BitVec 1 := Scalar.cmpi .ne v47 v52
  let v54 : BitVec 32 := Scalar.remsi v38 c128_i32_13
  let c0_i32_18 : BitVec 32 := 0#32
  let v55 : BitVec 1 := Scalar.cmpi .ne v54 c0_i32_18
  let v56 : BitVec 1 := Scalar.andi v53 v55
  let v42 : BitVec 32 := Scalar.divsi v38 c128_i32_13
  let c1_i32_19 : BitVec 32 := 1#32
  let v57 : BitVec 32 := Scalar.subi v42 c1_i32_19
  let v58 : BitVec 32 := Scalar.select v56 v57 v42
  let c128_i32_20 : BitVec 32 := 128#32
  let v59 : BitVec 32 := Scalar.muli v58 c128_i32_20
  v59
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_11 : BitVec 32 := 0#32
  let v37 : BitVec 32 := Scalar.addi v2 c0_i32_11
  let c1_i32_12 : BitVec 32 := 1#32
  let v38 : BitVec 32 := Scalar.addi v37 c1_i32_12
  let c0_i32_21 : BitVec 32 := 0#32
  let c0_i32_22 : BitVec 32 := 0#32
  ![v38.toNat, 0, 0]
def k0_off5 (i : grid0.Coords) (v40 : BitVec 32) : Fin 2 → Nat :=
  let v41 : BitVec 32 := v40
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_11 : BitVec 32 := 0#32
  let v37 : BitVec 32 := Scalar.addi v2 c0_i32_11
  let c1_i32_12 : BitVec 32 := 1#32
  let v38 : BitVec 32 := Scalar.addi v37 c1_i32_12
  let c0_i32_14 : BitVec 32 := 0#32
  let v43 : BitVec 1 := Scalar.cmpi .sgt v38 c0_i32_14
  let v44 : BitVec 32 := Scalar.extui v43
  let c0_i32_15 : BitVec 32 := 0#32
  let v45 : BitVec 1 := Scalar.cmpi .slt v38 c0_i32_15
  let v46 : BitVec 32 := Scalar.extui v45
  let v47 : BitVec 32 := Scalar.subi v44 v46
  let c128_i32_13 : BitVec 32 := 128#32
  let c0_i32_16 : BitVec 32 := 0#32
  let v48 : BitVec 1 := Scalar.cmpi .sgt c128_i32_13 c0_i32_16
  let v49 : BitVec 32 := Scalar.extui v48
  let c0_i32_17 : BitVec 32 := 0#32
  let v50 : BitVec 1 := Scalar.cmpi .slt c128_i32_13 c0_i32_17
  let v51 : BitVec 32 := Scalar.extui v50
  let v52 : BitVec 32 := Scalar.subi v49 v51
  let v53 : BitVec 1 := Scalar.cmpi .ne v47 v52
  let v54 : BitVec 32 := Scalar.remsi v38 c128_i32_13
  let c0_i32_18 : BitVec 32 := 0#32
  let v55 : BitVec 1 := Scalar.cmpi .ne v54 c0_i32_18
  let v56 : BitVec 1 := Scalar.andi v53 v55
  let v42 : BitVec 32 := Scalar.divsi v38 c128_i32_13
  let c1_i32_19 : BitVec 32 := 1#32
  let v57 : BitVec 32 := Scalar.subi v42 c1_i32_19
  let v58 : BitVec 32 := Scalar.select v56 v57 v42
  let c128_i32_20 : BitVec 32 := 128#32
  let v59 : BitVec 32 := Scalar.muli v58 c128_i32_20
  let v60 : BitVec 32 := v59
  ![v41.toNat, v60.toNat]
def k0_mult5 (v70 : BitVec 32) : BitVec 32 :=
  v70

def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v67 : BitVec 32 := Scalar.addi v2 c0_i32_25
  let c2_i32_26 : BitVec 32 := 2#32
  let v68 : BitVec 32 := Scalar.addi v67 c2_i32_26
  let c0_i32_28 : BitVec 32 := 0#32
  let v73 : BitVec 1 := Scalar.cmpi .sgt v68 c0_i32_28
  let v74 : BitVec 32 := Scalar.extui v73
  let c0_i32_29 : BitVec 32 := 0#32
  let v75 : BitVec 1 := Scalar.cmpi .slt v68 c0_i32_29
  let v76 : BitVec 32 := Scalar.extui v75
  let v77 : BitVec 32 := Scalar.subi v74 v76
  let c128_i32_27 : BitVec 32 := 128#32
  let c0_i32_30 : BitVec 32 := 0#32
  let v78 : BitVec 1 := Scalar.cmpi .sgt c128_i32_27 c0_i32_30
  let v79 : BitVec 32 := Scalar.extui v78
  let c0_i32_31 : BitVec 32 := 0#32
  let v80 : BitVec 1 := Scalar.cmpi .slt c128_i32_27 c0_i32_31
  let v81 : BitVec 32 := Scalar.extui v80
  let v82 : BitVec 32 := Scalar.subi v79 v81
  let v83 : BitVec 1 := Scalar.cmpi .ne v77 v82
  let v84 : BitVec 32 := Scalar.remsi v68 c128_i32_27
  let c0_i32_32 : BitVec 32 := 0#32
  let v85 : BitVec 1 := Scalar.cmpi .ne v84 c0_i32_32
  let v86 : BitVec 1 := Scalar.andi v83 v85
  let v72 : BitVec 32 := Scalar.divsi v68 c128_i32_27
  let c1_i32_33 : BitVec 32 := 1#32
  let v87 : BitVec 32 := Scalar.subi v72 c1_i32_33
  let v88 : BitVec 32 := Scalar.select v86 v87 v72
  let c128_i32_34 : BitVec 32 := 128#32
  let v89 : BitVec 32 := Scalar.muli v88 c128_i32_34
  v89
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v67 : BitVec 32 := Scalar.addi v2 c0_i32_25
  let c2_i32_26 : BitVec 32 := 2#32
  let v68 : BitVec 32 := Scalar.addi v67 c2_i32_26
  let c0_i32_35 : BitVec 32 := 0#32
  let c0_i32_36 : BitVec 32 := 0#32
  ![v68.toNat, 0, 0]
def k0_off7 (i : grid0.Coords) (v70 : BitVec 32) : Fin 2 → Nat :=
  let v71 : BitVec 32 := v70
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v67 : BitVec 32 := Scalar.addi v2 c0_i32_25
  let c2_i32_26 : BitVec 32 := 2#32
  let v68 : BitVec 32 := Scalar.addi v67 c2_i32_26
  let c0_i32_28 : BitVec 32 := 0#32
  let v73 : BitVec 1 := Scalar.cmpi .sgt v68 c0_i32_28
  let v74 : BitVec 32 := Scalar.extui v73
  let c0_i32_29 : BitVec 32 := 0#32
  let v75 : BitVec 1 := Scalar.cmpi .slt v68 c0_i32_29
  let v76 : BitVec 32 := Scalar.extui v75
  let v77 : BitVec 32 := Scalar.subi v74 v76
  let c128_i32_27 : BitVec 32 := 128#32
  let c0_i32_30 : BitVec 32 := 0#32
  let v78 : BitVec 1 := Scalar.cmpi .sgt c128_i32_27 c0_i32_30
  let v79 : BitVec 32 := Scalar.extui v78
  let c0_i32_31 : BitVec 32 := 0#32
  let v80 : BitVec 1 := Scalar.cmpi .slt c128_i32_27 c0_i32_31
  let v81 : BitVec 32 := Scalar.extui v80
  let v82 : BitVec 32 := Scalar.subi v79 v81
  let v83 : BitVec 1 := Scalar.cmpi .ne v77 v82
  let v84 : BitVec 32 := Scalar.remsi v68 c128_i32_27
  let c0_i32_32 : BitVec 32 := 0#32
  let v85 : BitVec 1 := Scalar.cmpi .ne v84 c0_i32_32
  let v86 : BitVec 1 := Scalar.andi v83 v85
  let v72 : BitVec 32 := Scalar.divsi v68 c128_i32_27
  let c1_i32_33 : BitVec 32 := 1#32
  let v87 : BitVec 32 := Scalar.subi v72 c1_i32_33
  let v88 : BitVec 32 := Scalar.select v86 v87 v72
  let c128_i32_34 : BitVec 32 := 128#32
  let v89 : BitVec 32 := Scalar.muli v88 c128_i32_34
  let v90 : BitVec 32 := v89
  ![v71.toNat, v90.toNat]
def k0_mult7 (v100 : BitVec 32) : BitVec 32 :=
  v100

def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_39 : BitVec 32 := 0#32
  let v97 : BitVec 32 := Scalar.addi v2 c0_i32_39
  let c3_i32 : BitVec 32 := 3#32
  let v98 : BitVec 32 := Scalar.addi v97 c3_i32
  let c0_i32_41 : BitVec 32 := 0#32
  let v103 : BitVec 1 := Scalar.cmpi .sgt v98 c0_i32_41
  let v104 : BitVec 32 := Scalar.extui v103
  let c0_i32_42 : BitVec 32 := 0#32
  let v105 : BitVec 1 := Scalar.cmpi .slt v98 c0_i32_42
  let v106 : BitVec 32 := Scalar.extui v105
  let v107 : BitVec 32 := Scalar.subi v104 v106
  let c128_i32_40 : BitVec 32 := 128#32
  let c0_i32_43 : BitVec 32 := 0#32
  let v108 : BitVec 1 := Scalar.cmpi .sgt c128_i32_40 c0_i32_43
  let v109 : BitVec 32 := Scalar.extui v108
  let c0_i32_44 : BitVec 32 := 0#32
  let v110 : BitVec 1 := Scalar.cmpi .slt c128_i32_40 c0_i32_44
  let v111 : BitVec 32 := Scalar.extui v110
  let v112 : BitVec 32 := Scalar.subi v109 v111
  let v113 : BitVec 1 := Scalar.cmpi .ne v107 v112
  let v114 : BitVec 32 := Scalar.remsi v98 c128_i32_40
  let c0_i32_45 : BitVec 32 := 0#32
  let v115 : BitVec 1 := Scalar.cmpi .ne v114 c0_i32_45
  let v116 : BitVec 1 := Scalar.andi v113 v115
  let v102 : BitVec 32 := Scalar.divsi v98 c128_i32_40
  let c1_i32_46 : BitVec 32 := 1#32
  let v117 : BitVec 32 := Scalar.subi v102 c1_i32_46
  let v118 : BitVec 32 := Scalar.select v116 v117 v102
  let c128_i32_47 : BitVec 32 := 128#32
  let v119 : BitVec 32 := Scalar.muli v118 c128_i32_47
  v119
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_39 : BitVec 32 := 0#32
  let v97 : BitVec 32 := Scalar.addi v2 c0_i32_39
  let c3_i32 : BitVec 32 := 3#32
  let v98 : BitVec 32 := Scalar.addi v97 c3_i32
  let c0_i32_48 : BitVec 32 := 0#32
  let c0_i32_49 : BitVec 32 := 0#32
  ![v98.toNat, 0, 0]
def k0_off9 (i : grid0.Coords) (v100 : BitVec 32) : Fin 2 → Nat :=
  let v101 : BitVec 32 := v100
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_39 : BitVec 32 := 0#32
  let v97 : BitVec 32 := Scalar.addi v2 c0_i32_39
  let c3_i32 : BitVec 32 := 3#32
  let v98 : BitVec 32 := Scalar.addi v97 c3_i32
  let c0_i32_41 : BitVec 32 := 0#32
  let v103 : BitVec 1 := Scalar.cmpi .sgt v98 c0_i32_41
  let v104 : BitVec 32 := Scalar.extui v103
  let c0_i32_42 : BitVec 32 := 0#32
  let v105 : BitVec 1 := Scalar.cmpi .slt v98 c0_i32_42
  let v106 : BitVec 32 := Scalar.extui v105
  let v107 : BitVec 32 := Scalar.subi v104 v106
  let c128_i32_40 : BitVec 32 := 128#32
  let c0_i32_43 : BitVec 32 := 0#32
  let v108 : BitVec 1 := Scalar.cmpi .sgt c128_i32_40 c0_i32_43
  let v109 : BitVec 32 := Scalar.extui v108
  let c0_i32_44 : BitVec 32 := 0#32
  let v110 : BitVec 1 := Scalar.cmpi .slt c128_i32_40 c0_i32_44
  let v111 : BitVec 32 := Scalar.extui v110
  let v112 : BitVec 32 := Scalar.subi v109 v111
  let v113 : BitVec 1 := Scalar.cmpi .ne v107 v112
  let v114 : BitVec 32 := Scalar.remsi v98 c128_i32_40
  let c0_i32_45 : BitVec 32 := 0#32
  let v115 : BitVec 1 := Scalar.cmpi .ne v114 c0_i32_45
  let v116 : BitVec 1 := Scalar.andi v113 v115
  let v102 : BitVec 32 := Scalar.divsi v98 c128_i32_40
  let c1_i32_46 : BitVec 32 := 1#32
  let v117 : BitVec 32 := Scalar.subi v102 c1_i32_46
  let v118 : BitVec 32 := Scalar.select v116 v117 v102
  let c128_i32_47 : BitVec 32 := 128#32
  let v119 : BitVec 32 := Scalar.muli v118 c128_i32_47
  let v120 : BitVec 32 := v119
  ![v101.toNat, v120.toNat]
def k0_mult9 (v130 : BitVec 32) : BitVec 32 :=
  v130

def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_52 : BitVec 32 := 0#32
  let v127 : BitVec 32 := Scalar.addi v2 c0_i32_52
  let c4_i32 : BitVec 32 := 4#32
  let v128 : BitVec 32 := Scalar.addi v127 c4_i32
  let c0_i32_54 : BitVec 32 := 0#32
  let v133 : BitVec 1 := Scalar.cmpi .sgt v128 c0_i32_54
  let v134 : BitVec 32 := Scalar.extui v133
  let c0_i32_55 : BitVec 32 := 0#32
  let v135 : BitVec 1 := Scalar.cmpi .slt v128 c0_i32_55
  let v136 : BitVec 32 := Scalar.extui v135
  let v137 : BitVec 32 := Scalar.subi v134 v136
  let c128_i32_53 : BitVec 32 := 128#32
  let c0_i32_56 : BitVec 32 := 0#32
  let v138 : BitVec 1 := Scalar.cmpi .sgt c128_i32_53 c0_i32_56
  let v139 : BitVec 32 := Scalar.extui v138
  let c0_i32_57 : BitVec 32 := 0#32
  let v140 : BitVec 1 := Scalar.cmpi .slt c128_i32_53 c0_i32_57
  let v141 : BitVec 32 := Scalar.extui v140
  let v142 : BitVec 32 := Scalar.subi v139 v141
  let v143 : BitVec 1 := Scalar.cmpi .ne v137 v142
  let v144 : BitVec 32 := Scalar.remsi v128 c128_i32_53
  let c0_i32_58 : BitVec 32 := 0#32
  let v145 : BitVec 1 := Scalar.cmpi .ne v144 c0_i32_58
  let v146 : BitVec 1 := Scalar.andi v143 v145
  let v132 : BitVec 32 := Scalar.divsi v128 c128_i32_53
  let c1_i32_59 : BitVec 32 := 1#32
  let v147 : BitVec 32 := Scalar.subi v132 c1_i32_59
  let v148 : BitVec 32 := Scalar.select v146 v147 v132
  let c128_i32_60 : BitVec 32 := 128#32
  let v149 : BitVec 32 := Scalar.muli v148 c128_i32_60
  v149
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_52 : BitVec 32 := 0#32
  let v127 : BitVec 32 := Scalar.addi v2 c0_i32_52
  let c4_i32 : BitVec 32 := 4#32
  let v128 : BitVec 32 := Scalar.addi v127 c4_i32
  let c0_i32_61 : BitVec 32 := 0#32
  let c0_i32_62 : BitVec 32 := 0#32
  ![v128.toNat, 0, 0]
def k0_off11 (i : grid0.Coords) (v130 : BitVec 32) : Fin 2 → Nat :=
  let v131 : BitVec 32 := v130
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_52 : BitVec 32 := 0#32
  let v127 : BitVec 32 := Scalar.addi v2 c0_i32_52
  let c4_i32 : BitVec 32 := 4#32
  let v128 : BitVec 32 := Scalar.addi v127 c4_i32
  let c0_i32_54 : BitVec 32 := 0#32
  let v133 : BitVec 1 := Scalar.cmpi .sgt v128 c0_i32_54
  let v134 : BitVec 32 := Scalar.extui v133
  let c0_i32_55 : BitVec 32 := 0#32
  let v135 : BitVec 1 := Scalar.cmpi .slt v128 c0_i32_55
  let v136 : BitVec 32 := Scalar.extui v135
  let v137 : BitVec 32 := Scalar.subi v134 v136
  let c128_i32_53 : BitVec 32 := 128#32
  let c0_i32_56 : BitVec 32 := 0#32
  let v138 : BitVec 1 := Scalar.cmpi .sgt c128_i32_53 c0_i32_56
  let v139 : BitVec 32 := Scalar.extui v138
  let c0_i32_57 : BitVec 32 := 0#32
  let v140 : BitVec 1 := Scalar.cmpi .slt c128_i32_53 c0_i32_57
  let v141 : BitVec 32 := Scalar.extui v140
  let v142 : BitVec 32 := Scalar.subi v139 v141
  let v143 : BitVec 1 := Scalar.cmpi .ne v137 v142
  let v144 : BitVec 32 := Scalar.remsi v128 c128_i32_53
  let c0_i32_58 : BitVec 32 := 0#32
  let v145 : BitVec 1 := Scalar.cmpi .ne v144 c0_i32_58
  let v146 : BitVec 1 := Scalar.andi v143 v145
  let v132 : BitVec 32 := Scalar.divsi v128 c128_i32_53
  let c1_i32_59 : BitVec 32 := 1#32
  let v147 : BitVec 32 := Scalar.subi v132 c1_i32_59
  let v148 : BitVec 32 := Scalar.select v146 v147 v132
  let c128_i32_60 : BitVec 32 := 128#32
  let v149 : BitVec 32 := Scalar.muli v148 c128_i32_60
  let v150 : BitVec 32 := v149
  ![v131.toNat, v150.toNat]
def k0_mult11 (v160 : BitVec 32) : BitVec 32 :=
  v160

def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_65 : BitVec 32 := 0#32
  let v157 : BitVec 32 := Scalar.addi v2 c0_i32_65
  let c5_i32 : BitVec 32 := 5#32
  let v158 : BitVec 32 := Scalar.addi v157 c5_i32
  let c0_i32_67 : BitVec 32 := 0#32
  let v163 : BitVec 1 := Scalar.cmpi .sgt v158 c0_i32_67
  let v164 : BitVec 32 := Scalar.extui v163
  let c0_i32_68 : BitVec 32 := 0#32
  let v165 : BitVec 1 := Scalar.cmpi .slt v158 c0_i32_68
  let v166 : BitVec 32 := Scalar.extui v165
  let v167 : BitVec 32 := Scalar.subi v164 v166
  let c128_i32_66 : BitVec 32 := 128#32
  let c0_i32_69 : BitVec 32 := 0#32
  let v168 : BitVec 1 := Scalar.cmpi .sgt c128_i32_66 c0_i32_69
  let v169 : BitVec 32 := Scalar.extui v168
  let c0_i32_70 : BitVec 32 := 0#32
  let v170 : BitVec 1 := Scalar.cmpi .slt c128_i32_66 c0_i32_70
  let v171 : BitVec 32 := Scalar.extui v170
  let v172 : BitVec 32 := Scalar.subi v169 v171
  let v173 : BitVec 1 := Scalar.cmpi .ne v167 v172
  let v174 : BitVec 32 := Scalar.remsi v158 c128_i32_66
  let c0_i32_71 : BitVec 32 := 0#32
  let v175 : BitVec 1 := Scalar.cmpi .ne v174 c0_i32_71
  let v176 : BitVec 1 := Scalar.andi v173 v175
  let v162 : BitVec 32 := Scalar.divsi v158 c128_i32_66
  let c1_i32_72 : BitVec 32 := 1#32
  let v177 : BitVec 32 := Scalar.subi v162 c1_i32_72
  let v178 : BitVec 32 := Scalar.select v176 v177 v162
  let c128_i32_73 : BitVec 32 := 128#32
  let v179 : BitVec 32 := Scalar.muli v178 c128_i32_73
  v179
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_65 : BitVec 32 := 0#32
  let v157 : BitVec 32 := Scalar.addi v2 c0_i32_65
  let c5_i32 : BitVec 32 := 5#32
  let v158 : BitVec 32 := Scalar.addi v157 c5_i32
  let c0_i32_74 : BitVec 32 := 0#32
  let c0_i32_75 : BitVec 32 := 0#32
  ![v158.toNat, 0, 0]
def k0_off13 (i : grid0.Coords) (v160 : BitVec 32) : Fin 2 → Nat :=
  let v161 : BitVec 32 := v160
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_65 : BitVec 32 := 0#32
  let v157 : BitVec 32 := Scalar.addi v2 c0_i32_65
  let c5_i32 : BitVec 32 := 5#32
  let v158 : BitVec 32 := Scalar.addi v157 c5_i32
  let c0_i32_67 : BitVec 32 := 0#32
  let v163 : BitVec 1 := Scalar.cmpi .sgt v158 c0_i32_67
  let v164 : BitVec 32 := Scalar.extui v163
  let c0_i32_68 : BitVec 32 := 0#32
  let v165 : BitVec 1 := Scalar.cmpi .slt v158 c0_i32_68
  let v166 : BitVec 32 := Scalar.extui v165
  let v167 : BitVec 32 := Scalar.subi v164 v166
  let c128_i32_66 : BitVec 32 := 128#32
  let c0_i32_69 : BitVec 32 := 0#32
  let v168 : BitVec 1 := Scalar.cmpi .sgt c128_i32_66 c0_i32_69
  let v169 : BitVec 32 := Scalar.extui v168
  let c0_i32_70 : BitVec 32 := 0#32
  let v170 : BitVec 1 := Scalar.cmpi .slt c128_i32_66 c0_i32_70
  let v171 : BitVec 32 := Scalar.extui v170
  let v172 : BitVec 32 := Scalar.subi v169 v171
  let v173 : BitVec 1 := Scalar.cmpi .ne v167 v172
  let v174 : BitVec 32 := Scalar.remsi v158 c128_i32_66
  let c0_i32_71 : BitVec 32 := 0#32
  let v175 : BitVec 1 := Scalar.cmpi .ne v174 c0_i32_71
  let v176 : BitVec 1 := Scalar.andi v173 v175
  let v162 : BitVec 32 := Scalar.divsi v158 c128_i32_66
  let c1_i32_72 : BitVec 32 := 1#32
  let v177 : BitVec 32 := Scalar.subi v162 c1_i32_72
  let v178 : BitVec 32 := Scalar.select v176 v177 v162
  let c128_i32_73 : BitVec 32 := 128#32
  let v179 : BitVec 32 := Scalar.muli v178 c128_i32_73
  let v180 : BitVec 32 := v179
  ![v161.toNat, v180.toNat]
def k0_mult13 (v190 : BitVec 32) : BitVec 32 :=
  v190

def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_78 : BitVec 32 := 0#32
  let v187 : BitVec 32 := Scalar.addi v2 c0_i32_78
  let c6_i32 : BitVec 32 := 6#32
  let v188 : BitVec 32 := Scalar.addi v187 c6_i32
  let c0_i32_80 : BitVec 32 := 0#32
  let v193 : BitVec 1 := Scalar.cmpi .sgt v188 c0_i32_80
  let v194 : BitVec 32 := Scalar.extui v193
  let c0_i32_81 : BitVec 32 := 0#32
  let v195 : BitVec 1 := Scalar.cmpi .slt v188 c0_i32_81
  let v196 : BitVec 32 := Scalar.extui v195
  let v197 : BitVec 32 := Scalar.subi v194 v196
  let c128_i32_79 : BitVec 32 := 128#32
  let c0_i32_82 : BitVec 32 := 0#32
  let v198 : BitVec 1 := Scalar.cmpi .sgt c128_i32_79 c0_i32_82
  let v199 : BitVec 32 := Scalar.extui v198
  let c0_i32_83 : BitVec 32 := 0#32
  let v200 : BitVec 1 := Scalar.cmpi .slt c128_i32_79 c0_i32_83
  let v201 : BitVec 32 := Scalar.extui v200
  let v202 : BitVec 32 := Scalar.subi v199 v201
  let v203 : BitVec 1 := Scalar.cmpi .ne v197 v202
  let v204 : BitVec 32 := Scalar.remsi v188 c128_i32_79
  let c0_i32_84 : BitVec 32 := 0#32
  let v205 : BitVec 1 := Scalar.cmpi .ne v204 c0_i32_84
  let v206 : BitVec 1 := Scalar.andi v203 v205
  let v192 : BitVec 32 := Scalar.divsi v188 c128_i32_79
  let c1_i32_85 : BitVec 32 := 1#32
  let v207 : BitVec 32 := Scalar.subi v192 c1_i32_85
  let v208 : BitVec 32 := Scalar.select v206 v207 v192
  let c128_i32_86 : BitVec 32 := 128#32
  let v209 : BitVec 32 := Scalar.muli v208 c128_i32_86
  v209
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_78 : BitVec 32 := 0#32
  let v187 : BitVec 32 := Scalar.addi v2 c0_i32_78
  let c6_i32 : BitVec 32 := 6#32
  let v188 : BitVec 32 := Scalar.addi v187 c6_i32
  let c0_i32_87 : BitVec 32 := 0#32
  let c0_i32_88 : BitVec 32 := 0#32
  ![v188.toNat, 0, 0]
def k0_off15 (i : grid0.Coords) (v190 : BitVec 32) : Fin 2 → Nat :=
  let v191 : BitVec 32 := v190
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_78 : BitVec 32 := 0#32
  let v187 : BitVec 32 := Scalar.addi v2 c0_i32_78
  let c6_i32 : BitVec 32 := 6#32
  let v188 : BitVec 32 := Scalar.addi v187 c6_i32
  let c0_i32_80 : BitVec 32 := 0#32
  let v193 : BitVec 1 := Scalar.cmpi .sgt v188 c0_i32_80
  let v194 : BitVec 32 := Scalar.extui v193
  let c0_i32_81 : BitVec 32 := 0#32
  let v195 : BitVec 1 := Scalar.cmpi .slt v188 c0_i32_81
  let v196 : BitVec 32 := Scalar.extui v195
  let v197 : BitVec 32 := Scalar.subi v194 v196
  let c128_i32_79 : BitVec 32 := 128#32
  let c0_i32_82 : BitVec 32 := 0#32
  let v198 : BitVec 1 := Scalar.cmpi .sgt c128_i32_79 c0_i32_82
  let v199 : BitVec 32 := Scalar.extui v198
  let c0_i32_83 : BitVec 32 := 0#32
  let v200 : BitVec 1 := Scalar.cmpi .slt c128_i32_79 c0_i32_83
  let v201 : BitVec 32 := Scalar.extui v200
  let v202 : BitVec 32 := Scalar.subi v199 v201
  let v203 : BitVec 1 := Scalar.cmpi .ne v197 v202
  let v204 : BitVec 32 := Scalar.remsi v188 c128_i32_79
  let c0_i32_84 : BitVec 32 := 0#32
  let v205 : BitVec 1 := Scalar.cmpi .ne v204 c0_i32_84
  let v206 : BitVec 1 := Scalar.andi v203 v205
  let v192 : BitVec 32 := Scalar.divsi v188 c128_i32_79
  let c1_i32_85 : BitVec 32 := 1#32
  let v207 : BitVec 32 := Scalar.subi v192 c1_i32_85
  let v208 : BitVec 32 := Scalar.select v206 v207 v192
  let c128_i32_86 : BitVec 32 := 128#32
  let v209 : BitVec 32 := Scalar.muli v208 c128_i32_86
  let v210 : BitVec 32 := v209
  ![v191.toNat, v210.toNat]
def k0_mult15 (v220 : BitVec 32) : BitVec 32 :=
  v220

def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_91 : BitVec 32 := 0#32
  let v217 : BitVec 32 := Scalar.addi v2 c0_i32_91
  let c7_i32 : BitVec 32 := 7#32
  let v218 : BitVec 32 := Scalar.addi v217 c7_i32
  let c0_i32_93 : BitVec 32 := 0#32
  let v223 : BitVec 1 := Scalar.cmpi .sgt v218 c0_i32_93
  let v224 : BitVec 32 := Scalar.extui v223
  let c0_i32_94 : BitVec 32 := 0#32
  let v225 : BitVec 1 := Scalar.cmpi .slt v218 c0_i32_94
  let v226 : BitVec 32 := Scalar.extui v225
  let v227 : BitVec 32 := Scalar.subi v224 v226
  let c128_i32_92 : BitVec 32 := 128#32
  let c0_i32_95 : BitVec 32 := 0#32
  let v228 : BitVec 1 := Scalar.cmpi .sgt c128_i32_92 c0_i32_95
  let v229 : BitVec 32 := Scalar.extui v228
  let c0_i32_96 : BitVec 32 := 0#32
  let v230 : BitVec 1 := Scalar.cmpi .slt c128_i32_92 c0_i32_96
  let v231 : BitVec 32 := Scalar.extui v230
  let v232 : BitVec 32 := Scalar.subi v229 v231
  let v233 : BitVec 1 := Scalar.cmpi .ne v227 v232
  let v234 : BitVec 32 := Scalar.remsi v218 c128_i32_92
  let c0_i32_97 : BitVec 32 := 0#32
  let v235 : BitVec 1 := Scalar.cmpi .ne v234 c0_i32_97
  let v236 : BitVec 1 := Scalar.andi v233 v235
  let v222 : BitVec 32 := Scalar.divsi v218 c128_i32_92
  let c1_i32_98 : BitVec 32 := 1#32
  let v237 : BitVec 32 := Scalar.subi v222 c1_i32_98
  let v238 : BitVec 32 := Scalar.select v236 v237 v222
  let c128_i32_99 : BitVec 32 := 128#32
  let v239 : BitVec 32 := Scalar.muli v238 c128_i32_99
  v239
def k0_off16 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_91 : BitVec 32 := 0#32
  let v217 : BitVec 32 := Scalar.addi v2 c0_i32_91
  let c7_i32 : BitVec 32 := 7#32
  let v218 : BitVec 32 := Scalar.addi v217 c7_i32
  let c0_i32_100 : BitVec 32 := 0#32
  let c0_i32_101 : BitVec 32 := 0#32
  ![v218.toNat, 0, 0]
def k0_off17 (i : grid0.Coords) (v220 : BitVec 32) : Fin 2 → Nat :=
  let v221 : BitVec 32 := v220
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_91 : BitVec 32 := 0#32
  let v217 : BitVec 32 := Scalar.addi v2 c0_i32_91
  let c7_i32 : BitVec 32 := 7#32
  let v218 : BitVec 32 := Scalar.addi v217 c7_i32
  let c0_i32_93 : BitVec 32 := 0#32
  let v223 : BitVec 1 := Scalar.cmpi .sgt v218 c0_i32_93
  let v224 : BitVec 32 := Scalar.extui v223
  let c0_i32_94 : BitVec 32 := 0#32
  let v225 : BitVec 1 := Scalar.cmpi .slt v218 c0_i32_94
  let v226 : BitVec 32 := Scalar.extui v225
  let v227 : BitVec 32 := Scalar.subi v224 v226
  let c128_i32_92 : BitVec 32 := 128#32
  let c0_i32_95 : BitVec 32 := 0#32
  let v228 : BitVec 1 := Scalar.cmpi .sgt c128_i32_92 c0_i32_95
  let v229 : BitVec 32 := Scalar.extui v228
  let c0_i32_96 : BitVec 32 := 0#32
  let v230 : BitVec 1 := Scalar.cmpi .slt c128_i32_92 c0_i32_96
  let v231 : BitVec 32 := Scalar.extui v230
  let v232 : BitVec 32 := Scalar.subi v229 v231
  let v233 : BitVec 1 := Scalar.cmpi .ne v227 v232
  let v234 : BitVec 32 := Scalar.remsi v218 c128_i32_92
  let c0_i32_97 : BitVec 32 := 0#32
  let v235 : BitVec 1 := Scalar.cmpi .ne v234 c0_i32_97
  let v236 : BitVec 1 := Scalar.andi v233 v235
  let v222 : BitVec 32 := Scalar.divsi v218 c128_i32_92
  let c1_i32_98 : BitVec 32 := 1#32
  let v237 : BitVec 32 := Scalar.subi v222 c1_i32_98
  let v238 : BitVec 32 := Scalar.select v236 v237 v222
  let c128_i32_99 : BitVec 32 := 128#32
  let v239 : BitVec 32 := Scalar.muli v238 c128_i32_99
  let v240 : BitVec 32 := v239
  ![v221.toNat, v240.toNat]
def k0_mult17 (v250 : BitVec 32) : BitVec 32 :=
  v250

def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_104 : BitVec 32 := 0#32
  let v247 : BitVec 32 := Scalar.addi v2 c0_i32_104
  let c8_i32 : BitVec 32 := 8#32
  let v248 : BitVec 32 := Scalar.addi v247 c8_i32
  let c0_i32_106 : BitVec 32 := 0#32
  let v253 : BitVec 1 := Scalar.cmpi .sgt v248 c0_i32_106
  let v254 : BitVec 32 := Scalar.extui v253
  let c0_i32_107 : BitVec 32 := 0#32
  let v255 : BitVec 1 := Scalar.cmpi .slt v248 c0_i32_107
  let v256 : BitVec 32 := Scalar.extui v255
  let v257 : BitVec 32 := Scalar.subi v254 v256
  let c128_i32_105 : BitVec 32 := 128#32
  let c0_i32_108 : BitVec 32 := 0#32
  let v258 : BitVec 1 := Scalar.cmpi .sgt c128_i32_105 c0_i32_108
  let v259 : BitVec 32 := Scalar.extui v258
  let c0_i32_109 : BitVec 32 := 0#32
  let v260 : BitVec 1 := Scalar.cmpi .slt c128_i32_105 c0_i32_109
  let v261 : BitVec 32 := Scalar.extui v260
  let v262 : BitVec 32 := Scalar.subi v259 v261
  let v263 : BitVec 1 := Scalar.cmpi .ne v257 v262
  let v264 : BitVec 32 := Scalar.remsi v248 c128_i32_105
  let c0_i32_110 : BitVec 32 := 0#32
  let v265 : BitVec 1 := Scalar.cmpi .ne v264 c0_i32_110
  let v266 : BitVec 1 := Scalar.andi v263 v265
  let v252 : BitVec 32 := Scalar.divsi v248 c128_i32_105
  let c1_i32_111 : BitVec 32 := 1#32
  let v267 : BitVec 32 := Scalar.subi v252 c1_i32_111
  let v268 : BitVec 32 := Scalar.select v266 v267 v252
  let c128_i32_112 : BitVec 32 := 128#32
  let v269 : BitVec 32 := Scalar.muli v268 c128_i32_112
  v269
def k0_off18 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_104 : BitVec 32 := 0#32
  let v247 : BitVec 32 := Scalar.addi v2 c0_i32_104
  let c8_i32 : BitVec 32 := 8#32
  let v248 : BitVec 32 := Scalar.addi v247 c8_i32
  let c0_i32_113 : BitVec 32 := 0#32
  let c0_i32_114 : BitVec 32 := 0#32
  ![v248.toNat, 0, 0]
def k0_off19 (i : grid0.Coords) (v250 : BitVec 32) : Fin 2 → Nat :=
  let v251 : BitVec 32 := v250
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_104 : BitVec 32 := 0#32
  let v247 : BitVec 32 := Scalar.addi v2 c0_i32_104
  let c8_i32 : BitVec 32 := 8#32
  let v248 : BitVec 32 := Scalar.addi v247 c8_i32
  let c0_i32_106 : BitVec 32 := 0#32
  let v253 : BitVec 1 := Scalar.cmpi .sgt v248 c0_i32_106
  let v254 : BitVec 32 := Scalar.extui v253
  let c0_i32_107 : BitVec 32 := 0#32
  let v255 : BitVec 1 := Scalar.cmpi .slt v248 c0_i32_107
  let v256 : BitVec 32 := Scalar.extui v255
  let v257 : BitVec 32 := Scalar.subi v254 v256
  let c128_i32_105 : BitVec 32 := 128#32
  let c0_i32_108 : BitVec 32 := 0#32
  let v258 : BitVec 1 := Scalar.cmpi .sgt c128_i32_105 c0_i32_108
  let v259 : BitVec 32 := Scalar.extui v258
  let c0_i32_109 : BitVec 32 := 0#32
  let v260 : BitVec 1 := Scalar.cmpi .slt c128_i32_105 c0_i32_109
  let v261 : BitVec 32 := Scalar.extui v260
  let v262 : BitVec 32 := Scalar.subi v259 v261
  let v263 : BitVec 1 := Scalar.cmpi .ne v257 v262
  let v264 : BitVec 32 := Scalar.remsi v248 c128_i32_105
  let c0_i32_110 : BitVec 32 := 0#32
  let v265 : BitVec 1 := Scalar.cmpi .ne v264 c0_i32_110
  let v266 : BitVec 1 := Scalar.andi v263 v265
  let v252 : BitVec 32 := Scalar.divsi v248 c128_i32_105
  let c1_i32_111 : BitVec 32 := 1#32
  let v267 : BitVec 32 := Scalar.subi v252 c1_i32_111
  let v268 : BitVec 32 := Scalar.select v266 v267 v252
  let c128_i32_112 : BitVec 32 := 128#32
  let v269 : BitVec 32 := Scalar.muli v268 c128_i32_112
  let v270 : BitVec 32 := v269
  ![v251.toNat, v270.toNat]
def k0_mult19 (v280 : BitVec 32) : BitVec 32 :=
  v280

def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_117 : BitVec 32 := 0#32
  let v277 : BitVec 32 := Scalar.addi v2 c0_i32_117
  let c9_i32 : BitVec 32 := 9#32
  let v278 : BitVec 32 := Scalar.addi v277 c9_i32
  let c0_i32_119 : BitVec 32 := 0#32
  let v283 : BitVec 1 := Scalar.cmpi .sgt v278 c0_i32_119
  let v284 : BitVec 32 := Scalar.extui v283
  let c0_i32_120 : BitVec 32 := 0#32
  let v285 : BitVec 1 := Scalar.cmpi .slt v278 c0_i32_120
  let v286 : BitVec 32 := Scalar.extui v285
  let v287 : BitVec 32 := Scalar.subi v284 v286
  let c128_i32_118 : BitVec 32 := 128#32
  let c0_i32_121 : BitVec 32 := 0#32
  let v288 : BitVec 1 := Scalar.cmpi .sgt c128_i32_118 c0_i32_121
  let v289 : BitVec 32 := Scalar.extui v288
  let c0_i32_122 : BitVec 32 := 0#32
  let v290 : BitVec 1 := Scalar.cmpi .slt c128_i32_118 c0_i32_122
  let v291 : BitVec 32 := Scalar.extui v290
  let v292 : BitVec 32 := Scalar.subi v289 v291
  let v293 : BitVec 1 := Scalar.cmpi .ne v287 v292
  let v294 : BitVec 32 := Scalar.remsi v278 c128_i32_118
  let c0_i32_123 : BitVec 32 := 0#32
  let v295 : BitVec 1 := Scalar.cmpi .ne v294 c0_i32_123
  let v296 : BitVec 1 := Scalar.andi v293 v295
  let v282 : BitVec 32 := Scalar.divsi v278 c128_i32_118
  let c1_i32_124 : BitVec 32 := 1#32
  let v297 : BitVec 32 := Scalar.subi v282 c1_i32_124
  let v298 : BitVec 32 := Scalar.select v296 v297 v282
  let c128_i32_125 : BitVec 32 := 128#32
  let v299 : BitVec 32 := Scalar.muli v298 c128_i32_125
  v299
def k0_off20 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_117 : BitVec 32 := 0#32
  let v277 : BitVec 32 := Scalar.addi v2 c0_i32_117
  let c9_i32 : BitVec 32 := 9#32
  let v278 : BitVec 32 := Scalar.addi v277 c9_i32
  let c0_i32_126 : BitVec 32 := 0#32
  let c0_i32_127 : BitVec 32 := 0#32
  ![v278.toNat, 0, 0]
def k0_off21 (i : grid0.Coords) (v280 : BitVec 32) : Fin 2 → Nat :=
  let v281 : BitVec 32 := v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_117 : BitVec 32 := 0#32
  let v277 : BitVec 32 := Scalar.addi v2 c0_i32_117
  let c9_i32 : BitVec 32 := 9#32
  let v278 : BitVec 32 := Scalar.addi v277 c9_i32
  let c0_i32_119 : BitVec 32 := 0#32
  let v283 : BitVec 1 := Scalar.cmpi .sgt v278 c0_i32_119
  let v284 : BitVec 32 := Scalar.extui v283
  let c0_i32_120 : BitVec 32 := 0#32
  let v285 : BitVec 1 := Scalar.cmpi .slt v278 c0_i32_120
  let v286 : BitVec 32 := Scalar.extui v285
  let v287 : BitVec 32 := Scalar.subi v284 v286
  let c128_i32_118 : BitVec 32 := 128#32
  let c0_i32_121 : BitVec 32 := 0#32
  let v288 : BitVec 1 := Scalar.cmpi .sgt c128_i32_118 c0_i32_121
  let v289 : BitVec 32 := Scalar.extui v288
  let c0_i32_122 : BitVec 32 := 0#32
  let v290 : BitVec 1 := Scalar.cmpi .slt c128_i32_118 c0_i32_122
  let v291 : BitVec 32 := Scalar.extui v290
  let v292 : BitVec 32 := Scalar.subi v289 v291
  let v293 : BitVec 1 := Scalar.cmpi .ne v287 v292
  let v294 : BitVec 32 := Scalar.remsi v278 c128_i32_118
  let c0_i32_123 : BitVec 32 := 0#32
  let v295 : BitVec 1 := Scalar.cmpi .ne v294 c0_i32_123
  let v296 : BitVec 1 := Scalar.andi v293 v295
  let v282 : BitVec 32 := Scalar.divsi v278 c128_i32_118
  let c1_i32_124 : BitVec 32 := 1#32
  let v297 : BitVec 32 := Scalar.subi v282 c1_i32_124
  let v298 : BitVec 32 := Scalar.select v296 v297 v282
  let c128_i32_125 : BitVec 32 := 128#32
  let v299 : BitVec 32 := Scalar.muli v298 c128_i32_125
  let v300 : BitVec 32 := v299
  ![v281.toNat, v300.toNat]
def k0_mult21 (v310 : BitVec 32) : BitVec 32 :=
  v310

def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_130 : BitVec 32 := 0#32
  let v307 : BitVec 32 := Scalar.addi v2 c0_i32_130
  let c10_i32 : BitVec 32 := 10#32
  let v308 : BitVec 32 := Scalar.addi v307 c10_i32
  let c0_i32_132 : BitVec 32 := 0#32
  let v313 : BitVec 1 := Scalar.cmpi .sgt v308 c0_i32_132
  let v314 : BitVec 32 := Scalar.extui v313
  let c0_i32_133 : BitVec 32 := 0#32
  let v315 : BitVec 1 := Scalar.cmpi .slt v308 c0_i32_133
  let v316 : BitVec 32 := Scalar.extui v315
  let v317 : BitVec 32 := Scalar.subi v314 v316
  let c128_i32_131 : BitVec 32 := 128#32
  let c0_i32_134 : BitVec 32 := 0#32
  let v318 : BitVec 1 := Scalar.cmpi .sgt c128_i32_131 c0_i32_134
  let v319 : BitVec 32 := Scalar.extui v318
  let c0_i32_135 : BitVec 32 := 0#32
  let v320 : BitVec 1 := Scalar.cmpi .slt c128_i32_131 c0_i32_135
  let v321 : BitVec 32 := Scalar.extui v320
  let v322 : BitVec 32 := Scalar.subi v319 v321
  let v323 : BitVec 1 := Scalar.cmpi .ne v317 v322
  let v324 : BitVec 32 := Scalar.remsi v308 c128_i32_131
  let c0_i32_136 : BitVec 32 := 0#32
  let v325 : BitVec 1 := Scalar.cmpi .ne v324 c0_i32_136
  let v326 : BitVec 1 := Scalar.andi v323 v325
  let v312 : BitVec 32 := Scalar.divsi v308 c128_i32_131
  let c1_i32_137 : BitVec 32 := 1#32
  let v327 : BitVec 32 := Scalar.subi v312 c1_i32_137
  let v328 : BitVec 32 := Scalar.select v326 v327 v312
  let c128_i32_138 : BitVec 32 := 128#32
  let v329 : BitVec 32 := Scalar.muli v328 c128_i32_138
  v329
def k0_off22 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_130 : BitVec 32 := 0#32
  let v307 : BitVec 32 := Scalar.addi v2 c0_i32_130
  let c10_i32 : BitVec 32 := 10#32
  let v308 : BitVec 32 := Scalar.addi v307 c10_i32
  let c0_i32_139 : BitVec 32 := 0#32
  let c0_i32_140 : BitVec 32 := 0#32
  ![v308.toNat, 0, 0]
def k0_off23 (i : grid0.Coords) (v310 : BitVec 32) : Fin 2 → Nat :=
  let v311 : BitVec 32 := v310
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_130 : BitVec 32 := 0#32
  let v307 : BitVec 32 := Scalar.addi v2 c0_i32_130
  let c10_i32 : BitVec 32 := 10#32
  let v308 : BitVec 32 := Scalar.addi v307 c10_i32
  let c0_i32_132 : BitVec 32 := 0#32
  let v313 : BitVec 1 := Scalar.cmpi .sgt v308 c0_i32_132
  let v314 : BitVec 32 := Scalar.extui v313
  let c0_i32_133 : BitVec 32 := 0#32
  let v315 : BitVec 1 := Scalar.cmpi .slt v308 c0_i32_133
  let v316 : BitVec 32 := Scalar.extui v315
  let v317 : BitVec 32 := Scalar.subi v314 v316
  let c128_i32_131 : BitVec 32 := 128#32
  let c0_i32_134 : BitVec 32 := 0#32
  let v318 : BitVec 1 := Scalar.cmpi .sgt c128_i32_131 c0_i32_134
  let v319 : BitVec 32 := Scalar.extui v318
  let c0_i32_135 : BitVec 32 := 0#32
  let v320 : BitVec 1 := Scalar.cmpi .slt c128_i32_131 c0_i32_135
  let v321 : BitVec 32 := Scalar.extui v320
  let v322 : BitVec 32 := Scalar.subi v319 v321
  let v323 : BitVec 1 := Scalar.cmpi .ne v317 v322
  let v324 : BitVec 32 := Scalar.remsi v308 c128_i32_131
  let c0_i32_136 : BitVec 32 := 0#32
  let v325 : BitVec 1 := Scalar.cmpi .ne v324 c0_i32_136
  let v326 : BitVec 1 := Scalar.andi v323 v325
  let v312 : BitVec 32 := Scalar.divsi v308 c128_i32_131
  let c1_i32_137 : BitVec 32 := 1#32
  let v327 : BitVec 32 := Scalar.subi v312 c1_i32_137
  let v328 : BitVec 32 := Scalar.select v326 v327 v312
  let c128_i32_138 : BitVec 32 := 128#32
  let v329 : BitVec 32 := Scalar.muli v328 c128_i32_138
  let v330 : BitVec 32 := v329
  ![v311.toNat, v330.toNat]
def k0_mult23 (v340 : BitVec 32) : BitVec 32 :=
  v340

def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_143 : BitVec 32 := 0#32
  let v337 : BitVec 32 := Scalar.addi v2 c0_i32_143
  let c11_i32 : BitVec 32 := 11#32
  let v338 : BitVec 32 := Scalar.addi v337 c11_i32
  let c0_i32_145 : BitVec 32 := 0#32
  let v343 : BitVec 1 := Scalar.cmpi .sgt v338 c0_i32_145
  let v344 : BitVec 32 := Scalar.extui v343
  let c0_i32_146 : BitVec 32 := 0#32
  let v345 : BitVec 1 := Scalar.cmpi .slt v338 c0_i32_146
  let v346 : BitVec 32 := Scalar.extui v345
  let v347 : BitVec 32 := Scalar.subi v344 v346
  let c128_i32_144 : BitVec 32 := 128#32
  let c0_i32_147 : BitVec 32 := 0#32
  let v348 : BitVec 1 := Scalar.cmpi .sgt c128_i32_144 c0_i32_147
  let v349 : BitVec 32 := Scalar.extui v348
  let c0_i32_148 : BitVec 32 := 0#32
  let v350 : BitVec 1 := Scalar.cmpi .slt c128_i32_144 c0_i32_148
  let v351 : BitVec 32 := Scalar.extui v350
  let v352 : BitVec 32 := Scalar.subi v349 v351
  let v353 : BitVec 1 := Scalar.cmpi .ne v347 v352
  let v354 : BitVec 32 := Scalar.remsi v338 c128_i32_144
  let c0_i32_149 : BitVec 32 := 0#32
  let v355 : BitVec 1 := Scalar.cmpi .ne v354 c0_i32_149
  let v356 : BitVec 1 := Scalar.andi v353 v355
  let v342 : BitVec 32 := Scalar.divsi v338 c128_i32_144
  let c1_i32_150 : BitVec 32 := 1#32
  let v357 : BitVec 32 := Scalar.subi v342 c1_i32_150
  let v358 : BitVec 32 := Scalar.select v356 v357 v342
  let c128_i32_151 : BitVec 32 := 128#32
  let v359 : BitVec 32 := Scalar.muli v358 c128_i32_151
  v359
def k0_off24 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_143 : BitVec 32 := 0#32
  let v337 : BitVec 32 := Scalar.addi v2 c0_i32_143
  let c11_i32 : BitVec 32 := 11#32
  let v338 : BitVec 32 := Scalar.addi v337 c11_i32
  let c0_i32_152 : BitVec 32 := 0#32
  let c0_i32_153 : BitVec 32 := 0#32
  ![v338.toNat, 0, 0]
def k0_off25 (i : grid0.Coords) (v340 : BitVec 32) : Fin 2 → Nat :=
  let v341 : BitVec 32 := v340
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_143 : BitVec 32 := 0#32
  let v337 : BitVec 32 := Scalar.addi v2 c0_i32_143
  let c11_i32 : BitVec 32 := 11#32
  let v338 : BitVec 32 := Scalar.addi v337 c11_i32
  let c0_i32_145 : BitVec 32 := 0#32
  let v343 : BitVec 1 := Scalar.cmpi .sgt v338 c0_i32_145
  let v344 : BitVec 32 := Scalar.extui v343
  let c0_i32_146 : BitVec 32 := 0#32
  let v345 : BitVec 1 := Scalar.cmpi .slt v338 c0_i32_146
  let v346 : BitVec 32 := Scalar.extui v345
  let v347 : BitVec 32 := Scalar.subi v344 v346
  let c128_i32_144 : BitVec 32 := 128#32
  let c0_i32_147 : BitVec 32 := 0#32
  let v348 : BitVec 1 := Scalar.cmpi .sgt c128_i32_144 c0_i32_147
  let v349 : BitVec 32 := Scalar.extui v348
  let c0_i32_148 : BitVec 32 := 0#32
  let v350 : BitVec 1 := Scalar.cmpi .slt c128_i32_144 c0_i32_148
  let v351 : BitVec 32 := Scalar.extui v350
  let v352 : BitVec 32 := Scalar.subi v349 v351
  let v353 : BitVec 1 := Scalar.cmpi .ne v347 v352
  let v354 : BitVec 32 := Scalar.remsi v338 c128_i32_144
  let c0_i32_149 : BitVec 32 := 0#32
  let v355 : BitVec 1 := Scalar.cmpi .ne v354 c0_i32_149
  let v356 : BitVec 1 := Scalar.andi v353 v355
  let v342 : BitVec 32 := Scalar.divsi v338 c128_i32_144
  let c1_i32_150 : BitVec 32 := 1#32
  let v357 : BitVec 32 := Scalar.subi v342 c1_i32_150
  let v358 : BitVec 32 := Scalar.select v356 v357 v342
  let c128_i32_151 : BitVec 32 := 128#32
  let v359 : BitVec 32 := Scalar.muli v358 c128_i32_151
  let v360 : BitVec 32 := v359
  ![v341.toNat, v360.toNat]
def k0_mult25 (v370 : BitVec 32) : BitVec 32 :=
  v370

def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_156 : BitVec 32 := 0#32
  let v367 : BitVec 32 := Scalar.addi v2 c0_i32_156
  let c12_i32 : BitVec 32 := 12#32
  let v368 : BitVec 32 := Scalar.addi v367 c12_i32
  let c0_i32_158 : BitVec 32 := 0#32
  let v373 : BitVec 1 := Scalar.cmpi .sgt v368 c0_i32_158
  let v374 : BitVec 32 := Scalar.extui v373
  let c0_i32_159 : BitVec 32 := 0#32
  let v375 : BitVec 1 := Scalar.cmpi .slt v368 c0_i32_159
  let v376 : BitVec 32 := Scalar.extui v375
  let v377 : BitVec 32 := Scalar.subi v374 v376
  let c128_i32_157 : BitVec 32 := 128#32
  let c0_i32_160 : BitVec 32 := 0#32
  let v378 : BitVec 1 := Scalar.cmpi .sgt c128_i32_157 c0_i32_160
  let v379 : BitVec 32 := Scalar.extui v378
  let c0_i32_161 : BitVec 32 := 0#32
  let v380 : BitVec 1 := Scalar.cmpi .slt c128_i32_157 c0_i32_161
  let v381 : BitVec 32 := Scalar.extui v380
  let v382 : BitVec 32 := Scalar.subi v379 v381
  let v383 : BitVec 1 := Scalar.cmpi .ne v377 v382
  let v384 : BitVec 32 := Scalar.remsi v368 c128_i32_157
  let c0_i32_162 : BitVec 32 := 0#32
  let v385 : BitVec 1 := Scalar.cmpi .ne v384 c0_i32_162
  let v386 : BitVec 1 := Scalar.andi v383 v385
  let v372 : BitVec 32 := Scalar.divsi v368 c128_i32_157
  let c1_i32_163 : BitVec 32 := 1#32
  let v387 : BitVec 32 := Scalar.subi v372 c1_i32_163
  let v388 : BitVec 32 := Scalar.select v386 v387 v372
  let c128_i32_164 : BitVec 32 := 128#32
  let v389 : BitVec 32 := Scalar.muli v388 c128_i32_164
  v389
def k0_off26 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_156 : BitVec 32 := 0#32
  let v367 : BitVec 32 := Scalar.addi v2 c0_i32_156
  let c12_i32 : BitVec 32 := 12#32
  let v368 : BitVec 32 := Scalar.addi v367 c12_i32
  let c0_i32_165 : BitVec 32 := 0#32
  let c0_i32_166 : BitVec 32 := 0#32
  ![v368.toNat, 0, 0]
def k0_off27 (i : grid0.Coords) (v370 : BitVec 32) : Fin 2 → Nat :=
  let v371 : BitVec 32 := v370
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_156 : BitVec 32 := 0#32
  let v367 : BitVec 32 := Scalar.addi v2 c0_i32_156
  let c12_i32 : BitVec 32 := 12#32
  let v368 : BitVec 32 := Scalar.addi v367 c12_i32
  let c0_i32_158 : BitVec 32 := 0#32
  let v373 : BitVec 1 := Scalar.cmpi .sgt v368 c0_i32_158
  let v374 : BitVec 32 := Scalar.extui v373
  let c0_i32_159 : BitVec 32 := 0#32
  let v375 : BitVec 1 := Scalar.cmpi .slt v368 c0_i32_159
  let v376 : BitVec 32 := Scalar.extui v375
  let v377 : BitVec 32 := Scalar.subi v374 v376
  let c128_i32_157 : BitVec 32 := 128#32
  let c0_i32_160 : BitVec 32 := 0#32
  let v378 : BitVec 1 := Scalar.cmpi .sgt c128_i32_157 c0_i32_160
  let v379 : BitVec 32 := Scalar.extui v378
  let c0_i32_161 : BitVec 32 := 0#32
  let v380 : BitVec 1 := Scalar.cmpi .slt c128_i32_157 c0_i32_161
  let v381 : BitVec 32 := Scalar.extui v380
  let v382 : BitVec 32 := Scalar.subi v379 v381
  let v383 : BitVec 1 := Scalar.cmpi .ne v377 v382
  let v384 : BitVec 32 := Scalar.remsi v368 c128_i32_157
  let c0_i32_162 : BitVec 32 := 0#32
  let v385 : BitVec 1 := Scalar.cmpi .ne v384 c0_i32_162
  let v386 : BitVec 1 := Scalar.andi v383 v385
  let v372 : BitVec 32 := Scalar.divsi v368 c128_i32_157
  let c1_i32_163 : BitVec 32 := 1#32
  let v387 : BitVec 32 := Scalar.subi v372 c1_i32_163
  let v388 : BitVec 32 := Scalar.select v386 v387 v372
  let c128_i32_164 : BitVec 32 := 128#32
  let v389 : BitVec 32 := Scalar.muli v388 c128_i32_164
  let v390 : BitVec 32 := v389
  ![v371.toNat, v390.toNat]
def k0_mult27 (v400 : BitVec 32) : BitVec 32 :=
  v400

def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_169 : BitVec 32 := 0#32
  let v397 : BitVec 32 := Scalar.addi v2 c0_i32_169
  let c13_i32 : BitVec 32 := 13#32
  let v398 : BitVec 32 := Scalar.addi v397 c13_i32
  let c0_i32_171 : BitVec 32 := 0#32
  let v403 : BitVec 1 := Scalar.cmpi .sgt v398 c0_i32_171
  let v404 : BitVec 32 := Scalar.extui v403
  let c0_i32_172 : BitVec 32 := 0#32
  let v405 : BitVec 1 := Scalar.cmpi .slt v398 c0_i32_172
  let v406 : BitVec 32 := Scalar.extui v405
  let v407 : BitVec 32 := Scalar.subi v404 v406
  let c128_i32_170 : BitVec 32 := 128#32
  let c0_i32_173 : BitVec 32 := 0#32
  let v408 : BitVec 1 := Scalar.cmpi .sgt c128_i32_170 c0_i32_173
  let v409 : BitVec 32 := Scalar.extui v408
  let c0_i32_174 : BitVec 32 := 0#32
  let v410 : BitVec 1 := Scalar.cmpi .slt c128_i32_170 c0_i32_174
  let v411 : BitVec 32 := Scalar.extui v410
  let v412 : BitVec 32 := Scalar.subi v409 v411
  let v413 : BitVec 1 := Scalar.cmpi .ne v407 v412
  let v414 : BitVec 32 := Scalar.remsi v398 c128_i32_170
  let c0_i32_175 : BitVec 32 := 0#32
  let v415 : BitVec 1 := Scalar.cmpi .ne v414 c0_i32_175
  let v416 : BitVec 1 := Scalar.andi v413 v415
  let v402 : BitVec 32 := Scalar.divsi v398 c128_i32_170
  let c1_i32_176 : BitVec 32 := 1#32
  let v417 : BitVec 32 := Scalar.subi v402 c1_i32_176
  let v418 : BitVec 32 := Scalar.select v416 v417 v402
  let c128_i32_177 : BitVec 32 := 128#32
  let v419 : BitVec 32 := Scalar.muli v418 c128_i32_177
  v419
def k0_off28 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_169 : BitVec 32 := 0#32
  let v397 : BitVec 32 := Scalar.addi v2 c0_i32_169
  let c13_i32 : BitVec 32 := 13#32
  let v398 : BitVec 32 := Scalar.addi v397 c13_i32
  let c0_i32_178 : BitVec 32 := 0#32
  let c0_i32_179 : BitVec 32 := 0#32
  ![v398.toNat, 0, 0]
def k0_off29 (i : grid0.Coords) (v400 : BitVec 32) : Fin 2 → Nat :=
  let v401 : BitVec 32 := v400
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_169 : BitVec 32 := 0#32
  let v397 : BitVec 32 := Scalar.addi v2 c0_i32_169
  let c13_i32 : BitVec 32 := 13#32
  let v398 : BitVec 32 := Scalar.addi v397 c13_i32
  let c0_i32_171 : BitVec 32 := 0#32
  let v403 : BitVec 1 := Scalar.cmpi .sgt v398 c0_i32_171
  let v404 : BitVec 32 := Scalar.extui v403
  let c0_i32_172 : BitVec 32 := 0#32
  let v405 : BitVec 1 := Scalar.cmpi .slt v398 c0_i32_172
  let v406 : BitVec 32 := Scalar.extui v405
  let v407 : BitVec 32 := Scalar.subi v404 v406
  let c128_i32_170 : BitVec 32 := 128#32
  let c0_i32_173 : BitVec 32 := 0#32
  let v408 : BitVec 1 := Scalar.cmpi .sgt c128_i32_170 c0_i32_173
  let v409 : BitVec 32 := Scalar.extui v408
  let c0_i32_174 : BitVec 32 := 0#32
  let v410 : BitVec 1 := Scalar.cmpi .slt c128_i32_170 c0_i32_174
  let v411 : BitVec 32 := Scalar.extui v410
  let v412 : BitVec 32 := Scalar.subi v409 v411
  let v413 : BitVec 1 := Scalar.cmpi .ne v407 v412
  let v414 : BitVec 32 := Scalar.remsi v398 c128_i32_170
  let c0_i32_175 : BitVec 32 := 0#32
  let v415 : BitVec 1 := Scalar.cmpi .ne v414 c0_i32_175
  let v416 : BitVec 1 := Scalar.andi v413 v415
  let v402 : BitVec 32 := Scalar.divsi v398 c128_i32_170
  let c1_i32_176 : BitVec 32 := 1#32
  let v417 : BitVec 32 := Scalar.subi v402 c1_i32_176
  let v418 : BitVec 32 := Scalar.select v416 v417 v402
  let c128_i32_177 : BitVec 32 := 128#32
  let v419 : BitVec 32 := Scalar.muli v418 c128_i32_177
  let v420 : BitVec 32 := v419
  ![v401.toNat, v420.toNat]
def k0_mult29 (v430 : BitVec 32) : BitVec 32 :=
  v430

def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_182 : BitVec 32 := 0#32
  let v427 : BitVec 32 := Scalar.addi v2 c0_i32_182
  let c14_i32 : BitVec 32 := 14#32
  let v428 : BitVec 32 := Scalar.addi v427 c14_i32
  let c0_i32_184 : BitVec 32 := 0#32
  let v433 : BitVec 1 := Scalar.cmpi .sgt v428 c0_i32_184
  let v434 : BitVec 32 := Scalar.extui v433
  let c0_i32_185 : BitVec 32 := 0#32
  let v435 : BitVec 1 := Scalar.cmpi .slt v428 c0_i32_185
  let v436 : BitVec 32 := Scalar.extui v435
  let v437 : BitVec 32 := Scalar.subi v434 v436
  let c128_i32_183 : BitVec 32 := 128#32
  let c0_i32_186 : BitVec 32 := 0#32
  let v438 : BitVec 1 := Scalar.cmpi .sgt c128_i32_183 c0_i32_186
  let v439 : BitVec 32 := Scalar.extui v438
  let c0_i32_187 : BitVec 32 := 0#32
  let v440 : BitVec 1 := Scalar.cmpi .slt c128_i32_183 c0_i32_187
  let v441 : BitVec 32 := Scalar.extui v440
  let v442 : BitVec 32 := Scalar.subi v439 v441
  let v443 : BitVec 1 := Scalar.cmpi .ne v437 v442
  let v444 : BitVec 32 := Scalar.remsi v428 c128_i32_183
  let c0_i32_188 : BitVec 32 := 0#32
  let v445 : BitVec 1 := Scalar.cmpi .ne v444 c0_i32_188
  let v446 : BitVec 1 := Scalar.andi v443 v445
  let v432 : BitVec 32 := Scalar.divsi v428 c128_i32_183
  let c1_i32_189 : BitVec 32 := 1#32
  let v447 : BitVec 32 := Scalar.subi v432 c1_i32_189
  let v448 : BitVec 32 := Scalar.select v446 v447 v432
  let c128_i32_190 : BitVec 32 := 128#32
  let v449 : BitVec 32 := Scalar.muli v448 c128_i32_190
  v449
def k0_off30 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_182 : BitVec 32 := 0#32
  let v427 : BitVec 32 := Scalar.addi v2 c0_i32_182
  let c14_i32 : BitVec 32 := 14#32
  let v428 : BitVec 32 := Scalar.addi v427 c14_i32
  let c0_i32_191 : BitVec 32 := 0#32
  let c0_i32_192 : BitVec 32 := 0#32
  ![v428.toNat, 0, 0]
def k0_off31 (i : grid0.Coords) (v430 : BitVec 32) : Fin 2 → Nat :=
  let v431 : BitVec 32 := v430
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_182 : BitVec 32 := 0#32
  let v427 : BitVec 32 := Scalar.addi v2 c0_i32_182
  let c14_i32 : BitVec 32 := 14#32
  let v428 : BitVec 32 := Scalar.addi v427 c14_i32
  let c0_i32_184 : BitVec 32 := 0#32
  let v433 : BitVec 1 := Scalar.cmpi .sgt v428 c0_i32_184
  let v434 : BitVec 32 := Scalar.extui v433
  let c0_i32_185 : BitVec 32 := 0#32
  let v435 : BitVec 1 := Scalar.cmpi .slt v428 c0_i32_185
  let v436 : BitVec 32 := Scalar.extui v435
  let v437 : BitVec 32 := Scalar.subi v434 v436
  let c128_i32_183 : BitVec 32 := 128#32
  let c0_i32_186 : BitVec 32 := 0#32
  let v438 : BitVec 1 := Scalar.cmpi .sgt c128_i32_183 c0_i32_186
  let v439 : BitVec 32 := Scalar.extui v438
  let c0_i32_187 : BitVec 32 := 0#32
  let v440 : BitVec 1 := Scalar.cmpi .slt c128_i32_183 c0_i32_187
  let v441 : BitVec 32 := Scalar.extui v440
  let v442 : BitVec 32 := Scalar.subi v439 v441
  let v443 : BitVec 1 := Scalar.cmpi .ne v437 v442
  let v444 : BitVec 32 := Scalar.remsi v428 c128_i32_183
  let c0_i32_188 : BitVec 32 := 0#32
  let v445 : BitVec 1 := Scalar.cmpi .ne v444 c0_i32_188
  let v446 : BitVec 1 := Scalar.andi v443 v445
  let v432 : BitVec 32 := Scalar.divsi v428 c128_i32_183
  let c1_i32_189 : BitVec 32 := 1#32
  let v447 : BitVec 32 := Scalar.subi v432 c1_i32_189
  let v448 : BitVec 32 := Scalar.select v446 v447 v432
  let c128_i32_190 : BitVec 32 := 128#32
  let v449 : BitVec 32 := Scalar.muli v448 c128_i32_190
  let v450 : BitVec 32 := v449
  ![v431.toNat, v450.toNat]
def k0_mult31 (v460 : BitVec 32) : BitVec 32 :=
  v460

def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_195 : BitVec 32 := 0#32
  let v457 : BitVec 32 := Scalar.addi v2 c0_i32_195
  let c15_i32 : BitVec 32 := 15#32
  let v458 : BitVec 32 := Scalar.addi v457 c15_i32
  let c0_i32_197 : BitVec 32 := 0#32
  let v463 : BitVec 1 := Scalar.cmpi .sgt v458 c0_i32_197
  let v464 : BitVec 32 := Scalar.extui v463
  let c0_i32_198 : BitVec 32 := 0#32
  let v465 : BitVec 1 := Scalar.cmpi .slt v458 c0_i32_198
  let v466 : BitVec 32 := Scalar.extui v465
  let v467 : BitVec 32 := Scalar.subi v464 v466
  let c128_i32_196 : BitVec 32 := 128#32
  let c0_i32_199 : BitVec 32 := 0#32
  let v468 : BitVec 1 := Scalar.cmpi .sgt c128_i32_196 c0_i32_199
  let v469 : BitVec 32 := Scalar.extui v468
  let c0_i32_200 : BitVec 32 := 0#32
  let v470 : BitVec 1 := Scalar.cmpi .slt c128_i32_196 c0_i32_200
  let v471 : BitVec 32 := Scalar.extui v470
  let v472 : BitVec 32 := Scalar.subi v469 v471
  let v473 : BitVec 1 := Scalar.cmpi .ne v467 v472
  let v474 : BitVec 32 := Scalar.remsi v458 c128_i32_196
  let c0_i32_201 : BitVec 32 := 0#32
  let v475 : BitVec 1 := Scalar.cmpi .ne v474 c0_i32_201
  let v476 : BitVec 1 := Scalar.andi v473 v475
  let v462 : BitVec 32 := Scalar.divsi v458 c128_i32_196
  let c1_i32_202 : BitVec 32 := 1#32
  let v477 : BitVec 32 := Scalar.subi v462 c1_i32_202
  let v478 : BitVec 32 := Scalar.select v476 v477 v462
  let c128_i32_203 : BitVec 32 := 128#32
  let v479 : BitVec 32 := Scalar.muli v478 c128_i32_203
  v479
def k0_off32 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_195 : BitVec 32 := 0#32
  let v457 : BitVec 32 := Scalar.addi v2 c0_i32_195
  let c15_i32 : BitVec 32 := 15#32
  let v458 : BitVec 32 := Scalar.addi v457 c15_i32
  let c0_i32_204 : BitVec 32 := 0#32
  let c0_i32_205 : BitVec 32 := 0#32
  ![v458.toNat, 0, 0]
def k0_off33 (i : grid0.Coords) (v460 : BitVec 32) : Fin 2 → Nat :=
  let v461 : BitVec 32 := v460
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_195 : BitVec 32 := 0#32
  let v457 : BitVec 32 := Scalar.addi v2 c0_i32_195
  let c15_i32 : BitVec 32 := 15#32
  let v458 : BitVec 32 := Scalar.addi v457 c15_i32
  let c0_i32_197 : BitVec 32 := 0#32
  let v463 : BitVec 1 := Scalar.cmpi .sgt v458 c0_i32_197
  let v464 : BitVec 32 := Scalar.extui v463
  let c0_i32_198 : BitVec 32 := 0#32
  let v465 : BitVec 1 := Scalar.cmpi .slt v458 c0_i32_198
  let v466 : BitVec 32 := Scalar.extui v465
  let v467 : BitVec 32 := Scalar.subi v464 v466
  let c128_i32_196 : BitVec 32 := 128#32
  let c0_i32_199 : BitVec 32 := 0#32
  let v468 : BitVec 1 := Scalar.cmpi .sgt c128_i32_196 c0_i32_199
  let v469 : BitVec 32 := Scalar.extui v468
  let c0_i32_200 : BitVec 32 := 0#32
  let v470 : BitVec 1 := Scalar.cmpi .slt c128_i32_196 c0_i32_200
  let v471 : BitVec 32 := Scalar.extui v470
  let v472 : BitVec 32 := Scalar.subi v469 v471
  let v473 : BitVec 1 := Scalar.cmpi .ne v467 v472
  let v474 : BitVec 32 := Scalar.remsi v458 c128_i32_196
  let c0_i32_201 : BitVec 32 := 0#32
  let v475 : BitVec 1 := Scalar.cmpi .ne v474 c0_i32_201
  let v476 : BitVec 1 := Scalar.andi v473 v475
  let v462 : BitVec 32 := Scalar.divsi v458 c128_i32_196
  let c1_i32_202 : BitVec 32 := 1#32
  let v477 : BitVec 32 := Scalar.subi v462 c1_i32_202
  let v478 : BitVec 32 := Scalar.select v476 v477 v462
  let c128_i32_203 : BitVec 32 := 128#32
  let v479 : BitVec 32 := Scalar.muli v478 c128_i32_203
  let v480 : BitVec 32 := v479
  ![v461.toNat, v480.toNat]
def k0_mult33 (v494 : BitVec 32) : BitVec 32 :=
  v494

def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v491 : BitVec 32 := Scalar.addi v2 c16_i32
  let c0_i32_209 : BitVec 32 := 0#32
  let v492 : BitVec 32 := Scalar.addi v491 c0_i32_209
  let c0_i32_211 : BitVec 32 := 0#32
  let v497 : BitVec 1 := Scalar.cmpi .sgt v492 c0_i32_211
  let v498 : BitVec 32 := Scalar.extui v497
  let c0_i32_212 : BitVec 32 := 0#32
  let v499 : BitVec 1 := Scalar.cmpi .slt v492 c0_i32_212
  let v500 : BitVec 32 := Scalar.extui v499
  let v501 : BitVec 32 := Scalar.subi v498 v500
  let c128_i32_210 : BitVec 32 := 128#32
  let c0_i32_213 : BitVec 32 := 0#32
  let v502 : BitVec 1 := Scalar.cmpi .sgt c128_i32_210 c0_i32_213
  let v503 : BitVec 32 := Scalar.extui v502
  let c0_i32_214 : BitVec 32 := 0#32
  let v504 : BitVec 1 := Scalar.cmpi .slt c128_i32_210 c0_i32_214
  let v505 : BitVec 32 := Scalar.extui v504
  let v506 : BitVec 32 := Scalar.subi v503 v505
  let v507 : BitVec 1 := Scalar.cmpi .ne v501 v506
  let v508 : BitVec 32 := Scalar.remsi v492 c128_i32_210
  let c0_i32_215 : BitVec 32 := 0#32
  let v509 : BitVec 1 := Scalar.cmpi .ne v508 c0_i32_215
  let v510 : BitVec 1 := Scalar.andi v507 v509
  let v496 : BitVec 32 := Scalar.divsi v492 c128_i32_210
  let c1_i32_216 : BitVec 32 := 1#32
  let v511 : BitVec 32 := Scalar.subi v496 c1_i32_216
  let v512 : BitVec 32 := Scalar.select v510 v511 v496
  let c128_i32_217 : BitVec 32 := 128#32
  let v513 : BitVec 32 := Scalar.muli v512 c128_i32_217
  v513
def k0_off34 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v491 : BitVec 32 := Scalar.addi v2 c16_i32
  let c0_i32_209 : BitVec 32 := 0#32
  let v492 : BitVec 32 := Scalar.addi v491 c0_i32_209
  let c0_i32_218 : BitVec 32 := 0#32
  let c0_i32_219 : BitVec 32 := 0#32
  ![v492.toNat, 0, 0]
def k0_off35 (i : grid0.Coords) (v494 : BitVec 32) : Fin 2 → Nat :=
  let v495 : BitVec 32 := v494
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v491 : BitVec 32 := Scalar.addi v2 c16_i32
  let c0_i32_209 : BitVec 32 := 0#32
  let v492 : BitVec 32 := Scalar.addi v491 c0_i32_209
  let c0_i32_211 : BitVec 32 := 0#32
  let v497 : BitVec 1 := Scalar.cmpi .sgt v492 c0_i32_211
  let v498 : BitVec 32 := Scalar.extui v497
  let c0_i32_212 : BitVec 32 := 0#32
  let v499 : BitVec 1 := Scalar.cmpi .slt v492 c0_i32_212
  let v500 : BitVec 32 := Scalar.extui v499
  let v501 : BitVec 32 := Scalar.subi v498 v500
  let c128_i32_210 : BitVec 32 := 128#32
  let c0_i32_213 : BitVec 32 := 0#32
  let v502 : BitVec 1 := Scalar.cmpi .sgt c128_i32_210 c0_i32_213
  let v503 : BitVec 32 := Scalar.extui v502
  let c0_i32_214 : BitVec 32 := 0#32
  let v504 : BitVec 1 := Scalar.cmpi .slt c128_i32_210 c0_i32_214
  let v505 : BitVec 32 := Scalar.extui v504
  let v506 : BitVec 32 := Scalar.subi v503 v505
  let v507 : BitVec 1 := Scalar.cmpi .ne v501 v506
  let v508 : BitVec 32 := Scalar.remsi v492 c128_i32_210
  let c0_i32_215 : BitVec 32 := 0#32
  let v509 : BitVec 1 := Scalar.cmpi .ne v508 c0_i32_215
  let v510 : BitVec 1 := Scalar.andi v507 v509
  let v496 : BitVec 32 := Scalar.divsi v492 c128_i32_210
  let c1_i32_216 : BitVec 32 := 1#32
  let v511 : BitVec 32 := Scalar.subi v496 c1_i32_216
  let v512 : BitVec 32 := Scalar.select v510 v511 v496
  let c128_i32_217 : BitVec 32 := 128#32
  let v513 : BitVec 32 := Scalar.muli v512 c128_i32_217
  let v514 : BitVec 32 := v513
  ![v495.toNat, v514.toNat]
def k0_mult35 (v524 : BitVec 32) : BitVec 32 :=
  v524

def k0_mult36 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_222 : BitVec 32 := 16#32
  let v521 : BitVec 32 := Scalar.addi v2 c16_i32_222
  let c1_i32_223 : BitVec 32 := 1#32
  let v522 : BitVec 32 := Scalar.addi v521 c1_i32_223
  let c0_i32_225 : BitVec 32 := 0#32
  let v527 : BitVec 1 := Scalar.cmpi .sgt v522 c0_i32_225
  let v528 : BitVec 32 := Scalar.extui v527
  let c0_i32_226 : BitVec 32 := 0#32
  let v529 : BitVec 1 := Scalar.cmpi .slt v522 c0_i32_226
  let v530 : BitVec 32 := Scalar.extui v529
  let v531 : BitVec 32 := Scalar.subi v528 v530
  let c128_i32_224 : BitVec 32 := 128#32
  let c0_i32_227 : BitVec 32 := 0#32
  let v532 : BitVec 1 := Scalar.cmpi .sgt c128_i32_224 c0_i32_227
  let v533 : BitVec 32 := Scalar.extui v532
  let c0_i32_228 : BitVec 32 := 0#32
  let v534 : BitVec 1 := Scalar.cmpi .slt c128_i32_224 c0_i32_228
  let v535 : BitVec 32 := Scalar.extui v534
  let v536 : BitVec 32 := Scalar.subi v533 v535
  let v537 : BitVec 1 := Scalar.cmpi .ne v531 v536
  let v538 : BitVec 32 := Scalar.remsi v522 c128_i32_224
  let c0_i32_229 : BitVec 32 := 0#32
  let v539 : BitVec 1 := Scalar.cmpi .ne v538 c0_i32_229
  let v540 : BitVec 1 := Scalar.andi v537 v539
  let v526 : BitVec 32 := Scalar.divsi v522 c128_i32_224
  let c1_i32_230 : BitVec 32 := 1#32
  let v541 : BitVec 32 := Scalar.subi v526 c1_i32_230
  let v542 : BitVec 32 := Scalar.select v540 v541 v526
  let c128_i32_231 : BitVec 32 := 128#32
  let v543 : BitVec 32 := Scalar.muli v542 c128_i32_231
  v543
def k0_off36 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_222 : BitVec 32 := 16#32
  let v521 : BitVec 32 := Scalar.addi v2 c16_i32_222
  let c1_i32_223 : BitVec 32 := 1#32
  let v522 : BitVec 32 := Scalar.addi v521 c1_i32_223
  let c0_i32_232 : BitVec 32 := 0#32
  let c0_i32_233 : BitVec 32 := 0#32
  ![v522.toNat, 0, 0]
def k0_off37 (i : grid0.Coords) (v524 : BitVec 32) : Fin 2 → Nat :=
  let v525 : BitVec 32 := v524
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_222 : BitVec 32 := 16#32
  let v521 : BitVec 32 := Scalar.addi v2 c16_i32_222
  let c1_i32_223 : BitVec 32 := 1#32
  let v522 : BitVec 32 := Scalar.addi v521 c1_i32_223
  let c0_i32_225 : BitVec 32 := 0#32
  let v527 : BitVec 1 := Scalar.cmpi .sgt v522 c0_i32_225
  let v528 : BitVec 32 := Scalar.extui v527
  let c0_i32_226 : BitVec 32 := 0#32
  let v529 : BitVec 1 := Scalar.cmpi .slt v522 c0_i32_226
  let v530 : BitVec 32 := Scalar.extui v529
  let v531 : BitVec 32 := Scalar.subi v528 v530
  let c128_i32_224 : BitVec 32 := 128#32
  let c0_i32_227 : BitVec 32 := 0#32
  let v532 : BitVec 1 := Scalar.cmpi .sgt c128_i32_224 c0_i32_227
  let v533 : BitVec 32 := Scalar.extui v532
  let c0_i32_228 : BitVec 32 := 0#32
  let v534 : BitVec 1 := Scalar.cmpi .slt c128_i32_224 c0_i32_228
  let v535 : BitVec 32 := Scalar.extui v534
  let v536 : BitVec 32 := Scalar.subi v533 v535
  let v537 : BitVec 1 := Scalar.cmpi .ne v531 v536
  let v538 : BitVec 32 := Scalar.remsi v522 c128_i32_224
  let c0_i32_229 : BitVec 32 := 0#32
  let v539 : BitVec 1 := Scalar.cmpi .ne v538 c0_i32_229
  let v540 : BitVec 1 := Scalar.andi v537 v539
  let v526 : BitVec 32 := Scalar.divsi v522 c128_i32_224
  let c1_i32_230 : BitVec 32 := 1#32
  let v541 : BitVec 32 := Scalar.subi v526 c1_i32_230
  let v542 : BitVec 32 := Scalar.select v540 v541 v526
  let c128_i32_231 : BitVec 32 := 128#32
  let v543 : BitVec 32 := Scalar.muli v542 c128_i32_231
  let v544 : BitVec 32 := v543
  ![v525.toNat, v544.toNat]
def k0_mult37 (v554 : BitVec 32) : BitVec 32 :=
  v554

def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_236 : BitVec 32 := 16#32
  let v551 : BitVec 32 := Scalar.addi v2 c16_i32_236
  let c2_i32_237 : BitVec 32 := 2#32
  let v552 : BitVec 32 := Scalar.addi v551 c2_i32_237
  let c0_i32_239 : BitVec 32 := 0#32
  let v557 : BitVec 1 := Scalar.cmpi .sgt v552 c0_i32_239
  let v558 : BitVec 32 := Scalar.extui v557
  let c0_i32_240 : BitVec 32 := 0#32
  let v559 : BitVec 1 := Scalar.cmpi .slt v552 c0_i32_240
  let v560 : BitVec 32 := Scalar.extui v559
  let v561 : BitVec 32 := Scalar.subi v558 v560
  let c128_i32_238 : BitVec 32 := 128#32
  let c0_i32_241 : BitVec 32 := 0#32
  let v562 : BitVec 1 := Scalar.cmpi .sgt c128_i32_238 c0_i32_241
  let v563 : BitVec 32 := Scalar.extui v562
  let c0_i32_242 : BitVec 32 := 0#32
  let v564 : BitVec 1 := Scalar.cmpi .slt c128_i32_238 c0_i32_242
  let v565 : BitVec 32 := Scalar.extui v564
  let v566 : BitVec 32 := Scalar.subi v563 v565
  let v567 : BitVec 1 := Scalar.cmpi .ne v561 v566
  let v568 : BitVec 32 := Scalar.remsi v552 c128_i32_238
  let c0_i32_243 : BitVec 32 := 0#32
  let v569 : BitVec 1 := Scalar.cmpi .ne v568 c0_i32_243
  let v570 : BitVec 1 := Scalar.andi v567 v569
  let v556 : BitVec 32 := Scalar.divsi v552 c128_i32_238
  let c1_i32_244 : BitVec 32 := 1#32
  let v571 : BitVec 32 := Scalar.subi v556 c1_i32_244
  let v572 : BitVec 32 := Scalar.select v570 v571 v556
  let c128_i32_245 : BitVec 32 := 128#32
  let v573 : BitVec 32 := Scalar.muli v572 c128_i32_245
  v573
def k0_off38 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_236 : BitVec 32 := 16#32
  let v551 : BitVec 32 := Scalar.addi v2 c16_i32_236
  let c2_i32_237 : BitVec 32 := 2#32
  let v552 : BitVec 32 := Scalar.addi v551 c2_i32_237
  let c0_i32_246 : BitVec 32 := 0#32
  let c0_i32_247 : BitVec 32 := 0#32
  ![v552.toNat, 0, 0]
def k0_off39 (i : grid0.Coords) (v554 : BitVec 32) : Fin 2 → Nat :=
  let v555 : BitVec 32 := v554
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_236 : BitVec 32 := 16#32
  let v551 : BitVec 32 := Scalar.addi v2 c16_i32_236
  let c2_i32_237 : BitVec 32 := 2#32
  let v552 : BitVec 32 := Scalar.addi v551 c2_i32_237
  let c0_i32_239 : BitVec 32 := 0#32
  let v557 : BitVec 1 := Scalar.cmpi .sgt v552 c0_i32_239
  let v558 : BitVec 32 := Scalar.extui v557
  let c0_i32_240 : BitVec 32 := 0#32
  let v559 : BitVec 1 := Scalar.cmpi .slt v552 c0_i32_240
  let v560 : BitVec 32 := Scalar.extui v559
  let v561 : BitVec 32 := Scalar.subi v558 v560
  let c128_i32_238 : BitVec 32 := 128#32
  let c0_i32_241 : BitVec 32 := 0#32
  let v562 : BitVec 1 := Scalar.cmpi .sgt c128_i32_238 c0_i32_241
  let v563 : BitVec 32 := Scalar.extui v562
  let c0_i32_242 : BitVec 32 := 0#32
  let v564 : BitVec 1 := Scalar.cmpi .slt c128_i32_238 c0_i32_242
  let v565 : BitVec 32 := Scalar.extui v564
  let v566 : BitVec 32 := Scalar.subi v563 v565
  let v567 : BitVec 1 := Scalar.cmpi .ne v561 v566
  let v568 : BitVec 32 := Scalar.remsi v552 c128_i32_238
  let c0_i32_243 : BitVec 32 := 0#32
  let v569 : BitVec 1 := Scalar.cmpi .ne v568 c0_i32_243
  let v570 : BitVec 1 := Scalar.andi v567 v569
  let v556 : BitVec 32 := Scalar.divsi v552 c128_i32_238
  let c1_i32_244 : BitVec 32 := 1#32
  let v571 : BitVec 32 := Scalar.subi v556 c1_i32_244
  let v572 : BitVec 32 := Scalar.select v570 v571 v556
  let c128_i32_245 : BitVec 32 := 128#32
  let v573 : BitVec 32 := Scalar.muli v572 c128_i32_245
  let v574 : BitVec 32 := v573
  ![v555.toNat, v574.toNat]
def k0_mult39 (v584 : BitVec 32) : BitVec 32 :=
  v584

def k0_mult40 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_250 : BitVec 32 := 16#32
  let v581 : BitVec 32 := Scalar.addi v2 c16_i32_250
  let c3_i32_251 : BitVec 32 := 3#32
  let v582 : BitVec 32 := Scalar.addi v581 c3_i32_251
  let c0_i32_253 : BitVec 32 := 0#32
  let v587 : BitVec 1 := Scalar.cmpi .sgt v582 c0_i32_253
  let v588 : BitVec 32 := Scalar.extui v587
  let c0_i32_254 : BitVec 32 := 0#32
  let v589 : BitVec 1 := Scalar.cmpi .slt v582 c0_i32_254
  let v590 : BitVec 32 := Scalar.extui v589
  let v591 : BitVec 32 := Scalar.subi v588 v590
  let c128_i32_252 : BitVec 32 := 128#32
  let c0_i32_255 : BitVec 32 := 0#32
  let v592 : BitVec 1 := Scalar.cmpi .sgt c128_i32_252 c0_i32_255
  let v593 : BitVec 32 := Scalar.extui v592
  let c0_i32_256 : BitVec 32 := 0#32
  let v594 : BitVec 1 := Scalar.cmpi .slt c128_i32_252 c0_i32_256
  let v595 : BitVec 32 := Scalar.extui v594
  let v596 : BitVec 32 := Scalar.subi v593 v595
  let v597 : BitVec 1 := Scalar.cmpi .ne v591 v596
  let v598 : BitVec 32 := Scalar.remsi v582 c128_i32_252
  let c0_i32_257 : BitVec 32 := 0#32
  let v599 : BitVec 1 := Scalar.cmpi .ne v598 c0_i32_257
  let v600 : BitVec 1 := Scalar.andi v597 v599
  let v586 : BitVec 32 := Scalar.divsi v582 c128_i32_252
  let c1_i32_258 : BitVec 32 := 1#32
  let v601 : BitVec 32 := Scalar.subi v586 c1_i32_258
  let v602 : BitVec 32 := Scalar.select v600 v601 v586
  let c128_i32_259 : BitVec 32 := 128#32
  let v603 : BitVec 32 := Scalar.muli v602 c128_i32_259
  v603
def k0_off40 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_250 : BitVec 32 := 16#32
  let v581 : BitVec 32 := Scalar.addi v2 c16_i32_250
  let c3_i32_251 : BitVec 32 := 3#32
  let v582 : BitVec 32 := Scalar.addi v581 c3_i32_251
  let c0_i32_260 : BitVec 32 := 0#32
  let c0_i32_261 : BitVec 32 := 0#32
  ![v582.toNat, 0, 0]
def k0_off41 (i : grid0.Coords) (v584 : BitVec 32) : Fin 2 → Nat :=
  let v585 : BitVec 32 := v584
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_250 : BitVec 32 := 16#32
  let v581 : BitVec 32 := Scalar.addi v2 c16_i32_250
  let c3_i32_251 : BitVec 32 := 3#32
  let v582 : BitVec 32 := Scalar.addi v581 c3_i32_251
  let c0_i32_253 : BitVec 32 := 0#32
  let v587 : BitVec 1 := Scalar.cmpi .sgt v582 c0_i32_253
  let v588 : BitVec 32 := Scalar.extui v587
  let c0_i32_254 : BitVec 32 := 0#32
  let v589 : BitVec 1 := Scalar.cmpi .slt v582 c0_i32_254
  let v590 : BitVec 32 := Scalar.extui v589
  let v591 : BitVec 32 := Scalar.subi v588 v590
  let c128_i32_252 : BitVec 32 := 128#32
  let c0_i32_255 : BitVec 32 := 0#32
  let v592 : BitVec 1 := Scalar.cmpi .sgt c128_i32_252 c0_i32_255
  let v593 : BitVec 32 := Scalar.extui v592
  let c0_i32_256 : BitVec 32 := 0#32
  let v594 : BitVec 1 := Scalar.cmpi .slt c128_i32_252 c0_i32_256
  let v595 : BitVec 32 := Scalar.extui v594
  let v596 : BitVec 32 := Scalar.subi v593 v595
  let v597 : BitVec 1 := Scalar.cmpi .ne v591 v596
  let v598 : BitVec 32 := Scalar.remsi v582 c128_i32_252
  let c0_i32_257 : BitVec 32 := 0#32
  let v599 : BitVec 1 := Scalar.cmpi .ne v598 c0_i32_257
  let v600 : BitVec 1 := Scalar.andi v597 v599
  let v586 : BitVec 32 := Scalar.divsi v582 c128_i32_252
  let c1_i32_258 : BitVec 32 := 1#32
  let v601 : BitVec 32 := Scalar.subi v586 c1_i32_258
  let v602 : BitVec 32 := Scalar.select v600 v601 v586
  let c128_i32_259 : BitVec 32 := 128#32
  let v603 : BitVec 32 := Scalar.muli v602 c128_i32_259
  let v604 : BitVec 32 := v603
  ![v585.toNat, v604.toNat]
def k0_mult41 (v614 : BitVec 32) : BitVec 32 :=
  v614

def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_264 : BitVec 32 := 16#32
  let v611 : BitVec 32 := Scalar.addi v2 c16_i32_264
  let c4_i32_265 : BitVec 32 := 4#32
  let v612 : BitVec 32 := Scalar.addi v611 c4_i32_265
  let c0_i32_267 : BitVec 32 := 0#32
  let v617 : BitVec 1 := Scalar.cmpi .sgt v612 c0_i32_267
  let v618 : BitVec 32 := Scalar.extui v617
  let c0_i32_268 : BitVec 32 := 0#32
  let v619 : BitVec 1 := Scalar.cmpi .slt v612 c0_i32_268
  let v620 : BitVec 32 := Scalar.extui v619
  let v621 : BitVec 32 := Scalar.subi v618 v620
  let c128_i32_266 : BitVec 32 := 128#32
  let c0_i32_269 : BitVec 32 := 0#32
  let v622 : BitVec 1 := Scalar.cmpi .sgt c128_i32_266 c0_i32_269
  let v623 : BitVec 32 := Scalar.extui v622
  let c0_i32_270 : BitVec 32 := 0#32
  let v624 : BitVec 1 := Scalar.cmpi .slt c128_i32_266 c0_i32_270
  let v625 : BitVec 32 := Scalar.extui v624
  let v626 : BitVec 32 := Scalar.subi v623 v625
  let v627 : BitVec 1 := Scalar.cmpi .ne v621 v626
  let v628 : BitVec 32 := Scalar.remsi v612 c128_i32_266
  let c0_i32_271 : BitVec 32 := 0#32
  let v629 : BitVec 1 := Scalar.cmpi .ne v628 c0_i32_271
  let v630 : BitVec 1 := Scalar.andi v627 v629
  let v616 : BitVec 32 := Scalar.divsi v612 c128_i32_266
  let c1_i32_272 : BitVec 32 := 1#32
  let v631 : BitVec 32 := Scalar.subi v616 c1_i32_272
  let v632 : BitVec 32 := Scalar.select v630 v631 v616
  let c128_i32_273 : BitVec 32 := 128#32
  let v633 : BitVec 32 := Scalar.muli v632 c128_i32_273
  v633
def k0_off42 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_264 : BitVec 32 := 16#32
  let v611 : BitVec 32 := Scalar.addi v2 c16_i32_264
  let c4_i32_265 : BitVec 32 := 4#32
  let v612 : BitVec 32 := Scalar.addi v611 c4_i32_265
  let c0_i32_274 : BitVec 32 := 0#32
  let c0_i32_275 : BitVec 32 := 0#32
  ![v612.toNat, 0, 0]
def k0_off43 (i : grid0.Coords) (v614 : BitVec 32) : Fin 2 → Nat :=
  let v615 : BitVec 32 := v614
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_264 : BitVec 32 := 16#32
  let v611 : BitVec 32 := Scalar.addi v2 c16_i32_264
  let c4_i32_265 : BitVec 32 := 4#32
  let v612 : BitVec 32 := Scalar.addi v611 c4_i32_265
  let c0_i32_267 : BitVec 32 := 0#32
  let v617 : BitVec 1 := Scalar.cmpi .sgt v612 c0_i32_267
  let v618 : BitVec 32 := Scalar.extui v617
  let c0_i32_268 : BitVec 32 := 0#32
  let v619 : BitVec 1 := Scalar.cmpi .slt v612 c0_i32_268
  let v620 : BitVec 32 := Scalar.extui v619
  let v621 : BitVec 32 := Scalar.subi v618 v620
  let c128_i32_266 : BitVec 32 := 128#32
  let c0_i32_269 : BitVec 32 := 0#32
  let v622 : BitVec 1 := Scalar.cmpi .sgt c128_i32_266 c0_i32_269
  let v623 : BitVec 32 := Scalar.extui v622
  let c0_i32_270 : BitVec 32 := 0#32
  let v624 : BitVec 1 := Scalar.cmpi .slt c128_i32_266 c0_i32_270
  let v625 : BitVec 32 := Scalar.extui v624
  let v626 : BitVec 32 := Scalar.subi v623 v625
  let v627 : BitVec 1 := Scalar.cmpi .ne v621 v626
  let v628 : BitVec 32 := Scalar.remsi v612 c128_i32_266
  let c0_i32_271 : BitVec 32 := 0#32
  let v629 : BitVec 1 := Scalar.cmpi .ne v628 c0_i32_271
  let v630 : BitVec 1 := Scalar.andi v627 v629
  let v616 : BitVec 32 := Scalar.divsi v612 c128_i32_266
  let c1_i32_272 : BitVec 32 := 1#32
  let v631 : BitVec 32 := Scalar.subi v616 c1_i32_272
  let v632 : BitVec 32 := Scalar.select v630 v631 v616
  let c128_i32_273 : BitVec 32 := 128#32
  let v633 : BitVec 32 := Scalar.muli v632 c128_i32_273
  let v634 : BitVec 32 := v633
  ![v615.toNat, v634.toNat]
def k0_mult43 (v644 : BitVec 32) : BitVec 32 :=
  v644

def k0_mult44 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_278 : BitVec 32 := 16#32
  let v641 : BitVec 32 := Scalar.addi v2 c16_i32_278
  let c5_i32_279 : BitVec 32 := 5#32
  let v642 : BitVec 32 := Scalar.addi v641 c5_i32_279
  let c0_i32_281 : BitVec 32 := 0#32
  let v647 : BitVec 1 := Scalar.cmpi .sgt v642 c0_i32_281
  let v648 : BitVec 32 := Scalar.extui v647
  let c0_i32_282 : BitVec 32 := 0#32
  let v649 : BitVec 1 := Scalar.cmpi .slt v642 c0_i32_282
  let v650 : BitVec 32 := Scalar.extui v649
  let v651 : BitVec 32 := Scalar.subi v648 v650
  let c128_i32_280 : BitVec 32 := 128#32
  let c0_i32_283 : BitVec 32 := 0#32
  let v652 : BitVec 1 := Scalar.cmpi .sgt c128_i32_280 c0_i32_283
  let v653 : BitVec 32 := Scalar.extui v652
  let c0_i32_284 : BitVec 32 := 0#32
  let v654 : BitVec 1 := Scalar.cmpi .slt c128_i32_280 c0_i32_284
  let v655 : BitVec 32 := Scalar.extui v654
  let v656 : BitVec 32 := Scalar.subi v653 v655
  let v657 : BitVec 1 := Scalar.cmpi .ne v651 v656
  let v658 : BitVec 32 := Scalar.remsi v642 c128_i32_280
  let c0_i32_285 : BitVec 32 := 0#32
  let v659 : BitVec 1 := Scalar.cmpi .ne v658 c0_i32_285
  let v660 : BitVec 1 := Scalar.andi v657 v659
  let v646 : BitVec 32 := Scalar.divsi v642 c128_i32_280
  let c1_i32_286 : BitVec 32 := 1#32
  let v661 : BitVec 32 := Scalar.subi v646 c1_i32_286
  let v662 : BitVec 32 := Scalar.select v660 v661 v646
  let c128_i32_287 : BitVec 32 := 128#32
  let v663 : BitVec 32 := Scalar.muli v662 c128_i32_287
  v663
def k0_off44 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_278 : BitVec 32 := 16#32
  let v641 : BitVec 32 := Scalar.addi v2 c16_i32_278
  let c5_i32_279 : BitVec 32 := 5#32
  let v642 : BitVec 32 := Scalar.addi v641 c5_i32_279
  let c0_i32_288 : BitVec 32 := 0#32
  let c0_i32_289 : BitVec 32 := 0#32
  ![v642.toNat, 0, 0]
def k0_off45 (i : grid0.Coords) (v644 : BitVec 32) : Fin 2 → Nat :=
  let v645 : BitVec 32 := v644
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_278 : BitVec 32 := 16#32
  let v641 : BitVec 32 := Scalar.addi v2 c16_i32_278
  let c5_i32_279 : BitVec 32 := 5#32
  let v642 : BitVec 32 := Scalar.addi v641 c5_i32_279
  let c0_i32_281 : BitVec 32 := 0#32
  let v647 : BitVec 1 := Scalar.cmpi .sgt v642 c0_i32_281
  let v648 : BitVec 32 := Scalar.extui v647
  let c0_i32_282 : BitVec 32 := 0#32
  let v649 : BitVec 1 := Scalar.cmpi .slt v642 c0_i32_282
  let v650 : BitVec 32 := Scalar.extui v649
  let v651 : BitVec 32 := Scalar.subi v648 v650
  let c128_i32_280 : BitVec 32 := 128#32
  let c0_i32_283 : BitVec 32 := 0#32
  let v652 : BitVec 1 := Scalar.cmpi .sgt c128_i32_280 c0_i32_283
  let v653 : BitVec 32 := Scalar.extui v652
  let c0_i32_284 : BitVec 32 := 0#32
  let v654 : BitVec 1 := Scalar.cmpi .slt c128_i32_280 c0_i32_284
  let v655 : BitVec 32 := Scalar.extui v654
  let v656 : BitVec 32 := Scalar.subi v653 v655
  let v657 : BitVec 1 := Scalar.cmpi .ne v651 v656
  let v658 : BitVec 32 := Scalar.remsi v642 c128_i32_280
  let c0_i32_285 : BitVec 32 := 0#32
  let v659 : BitVec 1 := Scalar.cmpi .ne v658 c0_i32_285
  let v660 : BitVec 1 := Scalar.andi v657 v659
  let v646 : BitVec 32 := Scalar.divsi v642 c128_i32_280
  let c1_i32_286 : BitVec 32 := 1#32
  let v661 : BitVec 32 := Scalar.subi v646 c1_i32_286
  let v662 : BitVec 32 := Scalar.select v660 v661 v646
  let c128_i32_287 : BitVec 32 := 128#32
  let v663 : BitVec 32 := Scalar.muli v662 c128_i32_287
  let v664 : BitVec 32 := v663
  ![v645.toNat, v664.toNat]
def k0_mult45 (v674 : BitVec 32) : BitVec 32 :=
  v674

def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_292 : BitVec 32 := 16#32
  let v671 : BitVec 32 := Scalar.addi v2 c16_i32_292
  let c6_i32_293 : BitVec 32 := 6#32
  let v672 : BitVec 32 := Scalar.addi v671 c6_i32_293
  let c0_i32_295 : BitVec 32 := 0#32
  let v677 : BitVec 1 := Scalar.cmpi .sgt v672 c0_i32_295
  let v678 : BitVec 32 := Scalar.extui v677
  let c0_i32_296 : BitVec 32 := 0#32
  let v679 : BitVec 1 := Scalar.cmpi .slt v672 c0_i32_296
  let v680 : BitVec 32 := Scalar.extui v679
  let v681 : BitVec 32 := Scalar.subi v678 v680
  let c128_i32_294 : BitVec 32 := 128#32
  let c0_i32_297 : BitVec 32 := 0#32
  let v682 : BitVec 1 := Scalar.cmpi .sgt c128_i32_294 c0_i32_297
  let v683 : BitVec 32 := Scalar.extui v682
  let c0_i32_298 : BitVec 32 := 0#32
  let v684 : BitVec 1 := Scalar.cmpi .slt c128_i32_294 c0_i32_298
  let v685 : BitVec 32 := Scalar.extui v684
  let v686 : BitVec 32 := Scalar.subi v683 v685
  let v687 : BitVec 1 := Scalar.cmpi .ne v681 v686
  let v688 : BitVec 32 := Scalar.remsi v672 c128_i32_294
  let c0_i32_299 : BitVec 32 := 0#32
  let v689 : BitVec 1 := Scalar.cmpi .ne v688 c0_i32_299
  let v690 : BitVec 1 := Scalar.andi v687 v689
  let v676 : BitVec 32 := Scalar.divsi v672 c128_i32_294
  let c1_i32_300 : BitVec 32 := 1#32
  let v691 : BitVec 32 := Scalar.subi v676 c1_i32_300
  let v692 : BitVec 32 := Scalar.select v690 v691 v676
  let c128_i32_301 : BitVec 32 := 128#32
  let v693 : BitVec 32 := Scalar.muli v692 c128_i32_301
  v693
def k0_off46 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_292 : BitVec 32 := 16#32
  let v671 : BitVec 32 := Scalar.addi v2 c16_i32_292
  let c6_i32_293 : BitVec 32 := 6#32
  let v672 : BitVec 32 := Scalar.addi v671 c6_i32_293
  let c0_i32_302 : BitVec 32 := 0#32
  let c0_i32_303 : BitVec 32 := 0#32
  ![v672.toNat, 0, 0]
def k0_off47 (i : grid0.Coords) (v674 : BitVec 32) : Fin 2 → Nat :=
  let v675 : BitVec 32 := v674
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_292 : BitVec 32 := 16#32
  let v671 : BitVec 32 := Scalar.addi v2 c16_i32_292
  let c6_i32_293 : BitVec 32 := 6#32
  let v672 : BitVec 32 := Scalar.addi v671 c6_i32_293
  let c0_i32_295 : BitVec 32 := 0#32
  let v677 : BitVec 1 := Scalar.cmpi .sgt v672 c0_i32_295
  let v678 : BitVec 32 := Scalar.extui v677
  let c0_i32_296 : BitVec 32 := 0#32
  let v679 : BitVec 1 := Scalar.cmpi .slt v672 c0_i32_296
  let v680 : BitVec 32 := Scalar.extui v679
  let v681 : BitVec 32 := Scalar.subi v678 v680
  let c128_i32_294 : BitVec 32 := 128#32
  let c0_i32_297 : BitVec 32 := 0#32
  let v682 : BitVec 1 := Scalar.cmpi .sgt c128_i32_294 c0_i32_297
  let v683 : BitVec 32 := Scalar.extui v682
  let c0_i32_298 : BitVec 32 := 0#32
  let v684 : BitVec 1 := Scalar.cmpi .slt c128_i32_294 c0_i32_298
  let v685 : BitVec 32 := Scalar.extui v684
  let v686 : BitVec 32 := Scalar.subi v683 v685
  let v687 : BitVec 1 := Scalar.cmpi .ne v681 v686
  let v688 : BitVec 32 := Scalar.remsi v672 c128_i32_294
  let c0_i32_299 : BitVec 32 := 0#32
  let v689 : BitVec 1 := Scalar.cmpi .ne v688 c0_i32_299
  let v690 : BitVec 1 := Scalar.andi v687 v689
  let v676 : BitVec 32 := Scalar.divsi v672 c128_i32_294
  let c1_i32_300 : BitVec 32 := 1#32
  let v691 : BitVec 32 := Scalar.subi v676 c1_i32_300
  let v692 : BitVec 32 := Scalar.select v690 v691 v676
  let c128_i32_301 : BitVec 32 := 128#32
  let v693 : BitVec 32 := Scalar.muli v692 c128_i32_301
  let v694 : BitVec 32 := v693
  ![v675.toNat, v694.toNat]
def k0_mult47 (v704 : BitVec 32) : BitVec 32 :=
  v704

def k0_mult48 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_306 : BitVec 32 := 16#32
  let v701 : BitVec 32 := Scalar.addi v2 c16_i32_306
  let c7_i32_307 : BitVec 32 := 7#32
  let v702 : BitVec 32 := Scalar.addi v701 c7_i32_307
  let c0_i32_309 : BitVec 32 := 0#32
  let v707 : BitVec 1 := Scalar.cmpi .sgt v702 c0_i32_309
  let v708 : BitVec 32 := Scalar.extui v707
  let c0_i32_310 : BitVec 32 := 0#32
  let v709 : BitVec 1 := Scalar.cmpi .slt v702 c0_i32_310
  let v710 : BitVec 32 := Scalar.extui v709
  let v711 : BitVec 32 := Scalar.subi v708 v710
  let c128_i32_308 : BitVec 32 := 128#32
  let c0_i32_311 : BitVec 32 := 0#32
  let v712 : BitVec 1 := Scalar.cmpi .sgt c128_i32_308 c0_i32_311
  let v713 : BitVec 32 := Scalar.extui v712
  let c0_i32_312 : BitVec 32 := 0#32
  let v714 : BitVec 1 := Scalar.cmpi .slt c128_i32_308 c0_i32_312
  let v715 : BitVec 32 := Scalar.extui v714
  let v716 : BitVec 32 := Scalar.subi v713 v715
  let v717 : BitVec 1 := Scalar.cmpi .ne v711 v716
  let v718 : BitVec 32 := Scalar.remsi v702 c128_i32_308
  let c0_i32_313 : BitVec 32 := 0#32
  let v719 : BitVec 1 := Scalar.cmpi .ne v718 c0_i32_313
  let v720 : BitVec 1 := Scalar.andi v717 v719
  let v706 : BitVec 32 := Scalar.divsi v702 c128_i32_308
  let c1_i32_314 : BitVec 32 := 1#32
  let v721 : BitVec 32 := Scalar.subi v706 c1_i32_314
  let v722 : BitVec 32 := Scalar.select v720 v721 v706
  let c128_i32_315 : BitVec 32 := 128#32
  let v723 : BitVec 32 := Scalar.muli v722 c128_i32_315
  v723
def k0_off48 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_306 : BitVec 32 := 16#32
  let v701 : BitVec 32 := Scalar.addi v2 c16_i32_306
  let c7_i32_307 : BitVec 32 := 7#32
  let v702 : BitVec 32 := Scalar.addi v701 c7_i32_307
  let c0_i32_316 : BitVec 32 := 0#32
  let c0_i32_317 : BitVec 32 := 0#32
  ![v702.toNat, 0, 0]
def k0_off49 (i : grid0.Coords) (v704 : BitVec 32) : Fin 2 → Nat :=
  let v705 : BitVec 32 := v704
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_306 : BitVec 32 := 16#32
  let v701 : BitVec 32 := Scalar.addi v2 c16_i32_306
  let c7_i32_307 : BitVec 32 := 7#32
  let v702 : BitVec 32 := Scalar.addi v701 c7_i32_307
  let c0_i32_309 : BitVec 32 := 0#32
  let v707 : BitVec 1 := Scalar.cmpi .sgt v702 c0_i32_309
  let v708 : BitVec 32 := Scalar.extui v707
  let c0_i32_310 : BitVec 32 := 0#32
  let v709 : BitVec 1 := Scalar.cmpi .slt v702 c0_i32_310
  let v710 : BitVec 32 := Scalar.extui v709
  let v711 : BitVec 32 := Scalar.subi v708 v710
  let c128_i32_308 : BitVec 32 := 128#32
  let c0_i32_311 : BitVec 32 := 0#32
  let v712 : BitVec 1 := Scalar.cmpi .sgt c128_i32_308 c0_i32_311
  let v713 : BitVec 32 := Scalar.extui v712
  let c0_i32_312 : BitVec 32 := 0#32
  let v714 : BitVec 1 := Scalar.cmpi .slt c128_i32_308 c0_i32_312
  let v715 : BitVec 32 := Scalar.extui v714
  let v716 : BitVec 32 := Scalar.subi v713 v715
  let v717 : BitVec 1 := Scalar.cmpi .ne v711 v716
  let v718 : BitVec 32 := Scalar.remsi v702 c128_i32_308
  let c0_i32_313 : BitVec 32 := 0#32
  let v719 : BitVec 1 := Scalar.cmpi .ne v718 c0_i32_313
  let v720 : BitVec 1 := Scalar.andi v717 v719
  let v706 : BitVec 32 := Scalar.divsi v702 c128_i32_308
  let c1_i32_314 : BitVec 32 := 1#32
  let v721 : BitVec 32 := Scalar.subi v706 c1_i32_314
  let v722 : BitVec 32 := Scalar.select v720 v721 v706
  let c128_i32_315 : BitVec 32 := 128#32
  let v723 : BitVec 32 := Scalar.muli v722 c128_i32_315
  let v724 : BitVec 32 := v723
  ![v705.toNat, v724.toNat]
def k0_mult49 (v734 : BitVec 32) : BitVec 32 :=
  v734

def k0_mult50 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_320 : BitVec 32 := 16#32
  let v731 : BitVec 32 := Scalar.addi v2 c16_i32_320
  let c8_i32_321 : BitVec 32 := 8#32
  let v732 : BitVec 32 := Scalar.addi v731 c8_i32_321
  let c0_i32_323 : BitVec 32 := 0#32
  let v737 : BitVec 1 := Scalar.cmpi .sgt v732 c0_i32_323
  let v738 : BitVec 32 := Scalar.extui v737
  let c0_i32_324 : BitVec 32 := 0#32
  let v739 : BitVec 1 := Scalar.cmpi .slt v732 c0_i32_324
  let v740 : BitVec 32 := Scalar.extui v739
  let v741 : BitVec 32 := Scalar.subi v738 v740
  let c128_i32_322 : BitVec 32 := 128#32
  let c0_i32_325 : BitVec 32 := 0#32
  let v742 : BitVec 1 := Scalar.cmpi .sgt c128_i32_322 c0_i32_325
  let v743 : BitVec 32 := Scalar.extui v742
  let c0_i32_326 : BitVec 32 := 0#32
  let v744 : BitVec 1 := Scalar.cmpi .slt c128_i32_322 c0_i32_326
  let v745 : BitVec 32 := Scalar.extui v744
  let v746 : BitVec 32 := Scalar.subi v743 v745
  let v747 : BitVec 1 := Scalar.cmpi .ne v741 v746
  let v748 : BitVec 32 := Scalar.remsi v732 c128_i32_322
  let c0_i32_327 : BitVec 32 := 0#32
  let v749 : BitVec 1 := Scalar.cmpi .ne v748 c0_i32_327
  let v750 : BitVec 1 := Scalar.andi v747 v749
  let v736 : BitVec 32 := Scalar.divsi v732 c128_i32_322
  let c1_i32_328 : BitVec 32 := 1#32
  let v751 : BitVec 32 := Scalar.subi v736 c1_i32_328
  let v752 : BitVec 32 := Scalar.select v750 v751 v736
  let c128_i32_329 : BitVec 32 := 128#32
  let v753 : BitVec 32 := Scalar.muli v752 c128_i32_329
  v753
def k0_off50 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_320 : BitVec 32 := 16#32
  let v731 : BitVec 32 := Scalar.addi v2 c16_i32_320
  let c8_i32_321 : BitVec 32 := 8#32
  let v732 : BitVec 32 := Scalar.addi v731 c8_i32_321
  let c0_i32_330 : BitVec 32 := 0#32
  let c0_i32_331 : BitVec 32 := 0#32
  ![v732.toNat, 0, 0]
def k0_off51 (i : grid0.Coords) (v734 : BitVec 32) : Fin 2 → Nat :=
  let v735 : BitVec 32 := v734
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_320 : BitVec 32 := 16#32
  let v731 : BitVec 32 := Scalar.addi v2 c16_i32_320
  let c8_i32_321 : BitVec 32 := 8#32
  let v732 : BitVec 32 := Scalar.addi v731 c8_i32_321
  let c0_i32_323 : BitVec 32 := 0#32
  let v737 : BitVec 1 := Scalar.cmpi .sgt v732 c0_i32_323
  let v738 : BitVec 32 := Scalar.extui v737
  let c0_i32_324 : BitVec 32 := 0#32
  let v739 : BitVec 1 := Scalar.cmpi .slt v732 c0_i32_324
  let v740 : BitVec 32 := Scalar.extui v739
  let v741 : BitVec 32 := Scalar.subi v738 v740
  let c128_i32_322 : BitVec 32 := 128#32
  let c0_i32_325 : BitVec 32 := 0#32
  let v742 : BitVec 1 := Scalar.cmpi .sgt c128_i32_322 c0_i32_325
  let v743 : BitVec 32 := Scalar.extui v742
  let c0_i32_326 : BitVec 32 := 0#32
  let v744 : BitVec 1 := Scalar.cmpi .slt c128_i32_322 c0_i32_326
  let v745 : BitVec 32 := Scalar.extui v744
  let v746 : BitVec 32 := Scalar.subi v743 v745
  let v747 : BitVec 1 := Scalar.cmpi .ne v741 v746
  let v748 : BitVec 32 := Scalar.remsi v732 c128_i32_322
  let c0_i32_327 : BitVec 32 := 0#32
  let v749 : BitVec 1 := Scalar.cmpi .ne v748 c0_i32_327
  let v750 : BitVec 1 := Scalar.andi v747 v749
  let v736 : BitVec 32 := Scalar.divsi v732 c128_i32_322
  let c1_i32_328 : BitVec 32 := 1#32
  let v751 : BitVec 32 := Scalar.subi v736 c1_i32_328
  let v752 : BitVec 32 := Scalar.select v750 v751 v736
  let c128_i32_329 : BitVec 32 := 128#32
  let v753 : BitVec 32 := Scalar.muli v752 c128_i32_329
  let v754 : BitVec 32 := v753
  ![v735.toNat, v754.toNat]
def k0_mult51 (v764 : BitVec 32) : BitVec 32 :=
  v764

def k0_mult52 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_334 : BitVec 32 := 16#32
  let v761 : BitVec 32 := Scalar.addi v2 c16_i32_334
  let c9_i32_335 : BitVec 32 := 9#32
  let v762 : BitVec 32 := Scalar.addi v761 c9_i32_335
  let c0_i32_337 : BitVec 32 := 0#32
  let v767 : BitVec 1 := Scalar.cmpi .sgt v762 c0_i32_337
  let v768 : BitVec 32 := Scalar.extui v767
  let c0_i32_338 : BitVec 32 := 0#32
  let v769 : BitVec 1 := Scalar.cmpi .slt v762 c0_i32_338
  let v770 : BitVec 32 := Scalar.extui v769
  let v771 : BitVec 32 := Scalar.subi v768 v770
  let c128_i32_336 : BitVec 32 := 128#32
  let c0_i32_339 : BitVec 32 := 0#32
  let v772 : BitVec 1 := Scalar.cmpi .sgt c128_i32_336 c0_i32_339
  let v773 : BitVec 32 := Scalar.extui v772
  let c0_i32_340 : BitVec 32 := 0#32
  let v774 : BitVec 1 := Scalar.cmpi .slt c128_i32_336 c0_i32_340
  let v775 : BitVec 32 := Scalar.extui v774
  let v776 : BitVec 32 := Scalar.subi v773 v775
  let v777 : BitVec 1 := Scalar.cmpi .ne v771 v776
  let v778 : BitVec 32 := Scalar.remsi v762 c128_i32_336
  let c0_i32_341 : BitVec 32 := 0#32
  let v779 : BitVec 1 := Scalar.cmpi .ne v778 c0_i32_341
  let v780 : BitVec 1 := Scalar.andi v777 v779
  let v766 : BitVec 32 := Scalar.divsi v762 c128_i32_336
  let c1_i32_342 : BitVec 32 := 1#32
  let v781 : BitVec 32 := Scalar.subi v766 c1_i32_342
  let v782 : BitVec 32 := Scalar.select v780 v781 v766
  let c128_i32_343 : BitVec 32 := 128#32
  let v783 : BitVec 32 := Scalar.muli v782 c128_i32_343
  v783
def k0_off52 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_334 : BitVec 32 := 16#32
  let v761 : BitVec 32 := Scalar.addi v2 c16_i32_334
  let c9_i32_335 : BitVec 32 := 9#32
  let v762 : BitVec 32 := Scalar.addi v761 c9_i32_335
  let c0_i32_344 : BitVec 32 := 0#32
  let c0_i32_345 : BitVec 32 := 0#32
  ![v762.toNat, 0, 0]
def k0_off53 (i : grid0.Coords) (v764 : BitVec 32) : Fin 2 → Nat :=
  let v765 : BitVec 32 := v764
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_334 : BitVec 32 := 16#32
  let v761 : BitVec 32 := Scalar.addi v2 c16_i32_334
  let c9_i32_335 : BitVec 32 := 9#32
  let v762 : BitVec 32 := Scalar.addi v761 c9_i32_335
  let c0_i32_337 : BitVec 32 := 0#32
  let v767 : BitVec 1 := Scalar.cmpi .sgt v762 c0_i32_337
  let v768 : BitVec 32 := Scalar.extui v767
  let c0_i32_338 : BitVec 32 := 0#32
  let v769 : BitVec 1 := Scalar.cmpi .slt v762 c0_i32_338
  let v770 : BitVec 32 := Scalar.extui v769
  let v771 : BitVec 32 := Scalar.subi v768 v770
  let c128_i32_336 : BitVec 32 := 128#32
  let c0_i32_339 : BitVec 32 := 0#32
  let v772 : BitVec 1 := Scalar.cmpi .sgt c128_i32_336 c0_i32_339
  let v773 : BitVec 32 := Scalar.extui v772
  let c0_i32_340 : BitVec 32 := 0#32
  let v774 : BitVec 1 := Scalar.cmpi .slt c128_i32_336 c0_i32_340
  let v775 : BitVec 32 := Scalar.extui v774
  let v776 : BitVec 32 := Scalar.subi v773 v775
  let v777 : BitVec 1 := Scalar.cmpi .ne v771 v776
  let v778 : BitVec 32 := Scalar.remsi v762 c128_i32_336
  let c0_i32_341 : BitVec 32 := 0#32
  let v779 : BitVec 1 := Scalar.cmpi .ne v778 c0_i32_341
  let v780 : BitVec 1 := Scalar.andi v777 v779
  let v766 : BitVec 32 := Scalar.divsi v762 c128_i32_336
  let c1_i32_342 : BitVec 32 := 1#32
  let v781 : BitVec 32 := Scalar.subi v766 c1_i32_342
  let v782 : BitVec 32 := Scalar.select v780 v781 v766
  let c128_i32_343 : BitVec 32 := 128#32
  let v783 : BitVec 32 := Scalar.muli v782 c128_i32_343
  let v784 : BitVec 32 := v783
  ![v765.toNat, v784.toNat]
def k0_mult53 (v794 : BitVec 32) : BitVec 32 :=
  v794

def k0_mult54 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_348 : BitVec 32 := 16#32
  let v791 : BitVec 32 := Scalar.addi v2 c16_i32_348
  let c10_i32_349 : BitVec 32 := 10#32
  let v792 : BitVec 32 := Scalar.addi v791 c10_i32_349
  let c0_i32_351 : BitVec 32 := 0#32
  let v797 : BitVec 1 := Scalar.cmpi .sgt v792 c0_i32_351
  let v798 : BitVec 32 := Scalar.extui v797
  let c0_i32_352 : BitVec 32 := 0#32
  let v799 : BitVec 1 := Scalar.cmpi .slt v792 c0_i32_352
  let v800 : BitVec 32 := Scalar.extui v799
  let v801 : BitVec 32 := Scalar.subi v798 v800
  let c128_i32_350 : BitVec 32 := 128#32
  let c0_i32_353 : BitVec 32 := 0#32
  let v802 : BitVec 1 := Scalar.cmpi .sgt c128_i32_350 c0_i32_353
  let v803 : BitVec 32 := Scalar.extui v802
  let c0_i32_354 : BitVec 32 := 0#32
  let v804 : BitVec 1 := Scalar.cmpi .slt c128_i32_350 c0_i32_354
  let v805 : BitVec 32 := Scalar.extui v804
  let v806 : BitVec 32 := Scalar.subi v803 v805
  let v807 : BitVec 1 := Scalar.cmpi .ne v801 v806
  let v808 : BitVec 32 := Scalar.remsi v792 c128_i32_350
  let c0_i32_355 : BitVec 32 := 0#32
  let v809 : BitVec 1 := Scalar.cmpi .ne v808 c0_i32_355
  let v810 : BitVec 1 := Scalar.andi v807 v809
  let v796 : BitVec 32 := Scalar.divsi v792 c128_i32_350
  let c1_i32_356 : BitVec 32 := 1#32
  let v811 : BitVec 32 := Scalar.subi v796 c1_i32_356
  let v812 : BitVec 32 := Scalar.select v810 v811 v796
  let c128_i32_357 : BitVec 32 := 128#32
  let v813 : BitVec 32 := Scalar.muli v812 c128_i32_357
  v813
def k0_off54 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_348 : BitVec 32 := 16#32
  let v791 : BitVec 32 := Scalar.addi v2 c16_i32_348
  let c10_i32_349 : BitVec 32 := 10#32
  let v792 : BitVec 32 := Scalar.addi v791 c10_i32_349
  let c0_i32_358 : BitVec 32 := 0#32
  let c0_i32_359 : BitVec 32 := 0#32
  ![v792.toNat, 0, 0]
def k0_off55 (i : grid0.Coords) (v794 : BitVec 32) : Fin 2 → Nat :=
  let v795 : BitVec 32 := v794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_348 : BitVec 32 := 16#32
  let v791 : BitVec 32 := Scalar.addi v2 c16_i32_348
  let c10_i32_349 : BitVec 32 := 10#32
  let v792 : BitVec 32 := Scalar.addi v791 c10_i32_349
  let c0_i32_351 : BitVec 32 := 0#32
  let v797 : BitVec 1 := Scalar.cmpi .sgt v792 c0_i32_351
  let v798 : BitVec 32 := Scalar.extui v797
  let c0_i32_352 : BitVec 32 := 0#32
  let v799 : BitVec 1 := Scalar.cmpi .slt v792 c0_i32_352
  let v800 : BitVec 32 := Scalar.extui v799
  let v801 : BitVec 32 := Scalar.subi v798 v800
  let c128_i32_350 : BitVec 32 := 128#32
  let c0_i32_353 : BitVec 32 := 0#32
  let v802 : BitVec 1 := Scalar.cmpi .sgt c128_i32_350 c0_i32_353
  let v803 : BitVec 32 := Scalar.extui v802
  let c0_i32_354 : BitVec 32 := 0#32
  let v804 : BitVec 1 := Scalar.cmpi .slt c128_i32_350 c0_i32_354
  let v805 : BitVec 32 := Scalar.extui v804
  let v806 : BitVec 32 := Scalar.subi v803 v805
  let v807 : BitVec 1 := Scalar.cmpi .ne v801 v806
  let v808 : BitVec 32 := Scalar.remsi v792 c128_i32_350
  let c0_i32_355 : BitVec 32 := 0#32
  let v809 : BitVec 1 := Scalar.cmpi .ne v808 c0_i32_355
  let v810 : BitVec 1 := Scalar.andi v807 v809
  let v796 : BitVec 32 := Scalar.divsi v792 c128_i32_350
  let c1_i32_356 : BitVec 32 := 1#32
  let v811 : BitVec 32 := Scalar.subi v796 c1_i32_356
  let v812 : BitVec 32 := Scalar.select v810 v811 v796
  let c128_i32_357 : BitVec 32 := 128#32
  let v813 : BitVec 32 := Scalar.muli v812 c128_i32_357
  let v814 : BitVec 32 := v813
  ![v795.toNat, v814.toNat]
def k0_mult55 (v824 : BitVec 32) : BitVec 32 :=
  v824

def k0_mult56 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_362 : BitVec 32 := 16#32
  let v821 : BitVec 32 := Scalar.addi v2 c16_i32_362
  let c11_i32_363 : BitVec 32 := 11#32
  let v822 : BitVec 32 := Scalar.addi v821 c11_i32_363
  let c0_i32_365 : BitVec 32 := 0#32
  let v827 : BitVec 1 := Scalar.cmpi .sgt v822 c0_i32_365
  let v828 : BitVec 32 := Scalar.extui v827
  let c0_i32_366 : BitVec 32 := 0#32
  let v829 : BitVec 1 := Scalar.cmpi .slt v822 c0_i32_366
  let v830 : BitVec 32 := Scalar.extui v829
  let v831 : BitVec 32 := Scalar.subi v828 v830
  let c128_i32_364 : BitVec 32 := 128#32
  let c0_i32_367 : BitVec 32 := 0#32
  let v832 : BitVec 1 := Scalar.cmpi .sgt c128_i32_364 c0_i32_367
  let v833 : BitVec 32 := Scalar.extui v832
  let c0_i32_368 : BitVec 32 := 0#32
  let v834 : BitVec 1 := Scalar.cmpi .slt c128_i32_364 c0_i32_368
  let v835 : BitVec 32 := Scalar.extui v834
  let v836 : BitVec 32 := Scalar.subi v833 v835
  let v837 : BitVec 1 := Scalar.cmpi .ne v831 v836
  let v838 : BitVec 32 := Scalar.remsi v822 c128_i32_364
  let c0_i32_369 : BitVec 32 := 0#32
  let v839 : BitVec 1 := Scalar.cmpi .ne v838 c0_i32_369
  let v840 : BitVec 1 := Scalar.andi v837 v839
  let v826 : BitVec 32 := Scalar.divsi v822 c128_i32_364
  let c1_i32_370 : BitVec 32 := 1#32
  let v841 : BitVec 32 := Scalar.subi v826 c1_i32_370
  let v842 : BitVec 32 := Scalar.select v840 v841 v826
  let c128_i32_371 : BitVec 32 := 128#32
  let v843 : BitVec 32 := Scalar.muli v842 c128_i32_371
  v843
def k0_off56 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_362 : BitVec 32 := 16#32
  let v821 : BitVec 32 := Scalar.addi v2 c16_i32_362
  let c11_i32_363 : BitVec 32 := 11#32
  let v822 : BitVec 32 := Scalar.addi v821 c11_i32_363
  let c0_i32_372 : BitVec 32 := 0#32
  let c0_i32_373 : BitVec 32 := 0#32
  ![v822.toNat, 0, 0]
def k0_off57 (i : grid0.Coords) (v824 : BitVec 32) : Fin 2 → Nat :=
  let v825 : BitVec 32 := v824
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_362 : BitVec 32 := 16#32
  let v821 : BitVec 32 := Scalar.addi v2 c16_i32_362
  let c11_i32_363 : BitVec 32 := 11#32
  let v822 : BitVec 32 := Scalar.addi v821 c11_i32_363
  let c0_i32_365 : BitVec 32 := 0#32
  let v827 : BitVec 1 := Scalar.cmpi .sgt v822 c0_i32_365
  let v828 : BitVec 32 := Scalar.extui v827
  let c0_i32_366 : BitVec 32 := 0#32
  let v829 : BitVec 1 := Scalar.cmpi .slt v822 c0_i32_366
  let v830 : BitVec 32 := Scalar.extui v829
  let v831 : BitVec 32 := Scalar.subi v828 v830
  let c128_i32_364 : BitVec 32 := 128#32
  let c0_i32_367 : BitVec 32 := 0#32
  let v832 : BitVec 1 := Scalar.cmpi .sgt c128_i32_364 c0_i32_367
  let v833 : BitVec 32 := Scalar.extui v832
  let c0_i32_368 : BitVec 32 := 0#32
  let v834 : BitVec 1 := Scalar.cmpi .slt c128_i32_364 c0_i32_368
  let v835 : BitVec 32 := Scalar.extui v834
  let v836 : BitVec 32 := Scalar.subi v833 v835
  let v837 : BitVec 1 := Scalar.cmpi .ne v831 v836
  let v838 : BitVec 32 := Scalar.remsi v822 c128_i32_364
  let c0_i32_369 : BitVec 32 := 0#32
  let v839 : BitVec 1 := Scalar.cmpi .ne v838 c0_i32_369
  let v840 : BitVec 1 := Scalar.andi v837 v839
  let v826 : BitVec 32 := Scalar.divsi v822 c128_i32_364
  let c1_i32_370 : BitVec 32 := 1#32
  let v841 : BitVec 32 := Scalar.subi v826 c1_i32_370
  let v842 : BitVec 32 := Scalar.select v840 v841 v826
  let c128_i32_371 : BitVec 32 := 128#32
  let v843 : BitVec 32 := Scalar.muli v842 c128_i32_371
  let v844 : BitVec 32 := v843
  ![v825.toNat, v844.toNat]
def k0_mult57 (v854 : BitVec 32) : BitVec 32 :=
  v854

def k0_mult58 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_376 : BitVec 32 := 16#32
  let v851 : BitVec 32 := Scalar.addi v2 c16_i32_376
  let c12_i32_377 : BitVec 32 := 12#32
  let v852 : BitVec 32 := Scalar.addi v851 c12_i32_377
  let c0_i32_379 : BitVec 32 := 0#32
  let v857 : BitVec 1 := Scalar.cmpi .sgt v852 c0_i32_379
  let v858 : BitVec 32 := Scalar.extui v857
  let c0_i32_380 : BitVec 32 := 0#32
  let v859 : BitVec 1 := Scalar.cmpi .slt v852 c0_i32_380
  let v860 : BitVec 32 := Scalar.extui v859
  let v861 : BitVec 32 := Scalar.subi v858 v860
  let c128_i32_378 : BitVec 32 := 128#32
  let c0_i32_381 : BitVec 32 := 0#32
  let v862 : BitVec 1 := Scalar.cmpi .sgt c128_i32_378 c0_i32_381
  let v863 : BitVec 32 := Scalar.extui v862
  let c0_i32_382 : BitVec 32 := 0#32
  let v864 : BitVec 1 := Scalar.cmpi .slt c128_i32_378 c0_i32_382
  let v865 : BitVec 32 := Scalar.extui v864
  let v866 : BitVec 32 := Scalar.subi v863 v865
  let v867 : BitVec 1 := Scalar.cmpi .ne v861 v866
  let v868 : BitVec 32 := Scalar.remsi v852 c128_i32_378
  let c0_i32_383 : BitVec 32 := 0#32
  let v869 : BitVec 1 := Scalar.cmpi .ne v868 c0_i32_383
  let v870 : BitVec 1 := Scalar.andi v867 v869
  let v856 : BitVec 32 := Scalar.divsi v852 c128_i32_378
  let c1_i32_384 : BitVec 32 := 1#32
  let v871 : BitVec 32 := Scalar.subi v856 c1_i32_384
  let v872 : BitVec 32 := Scalar.select v870 v871 v856
  let c128_i32_385 : BitVec 32 := 128#32
  let v873 : BitVec 32 := Scalar.muli v872 c128_i32_385
  v873
def k0_off58 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_376 : BitVec 32 := 16#32
  let v851 : BitVec 32 := Scalar.addi v2 c16_i32_376
  let c12_i32_377 : BitVec 32 := 12#32
  let v852 : BitVec 32 := Scalar.addi v851 c12_i32_377
  let c0_i32_386 : BitVec 32 := 0#32
  let c0_i32_387 : BitVec 32 := 0#32
  ![v852.toNat, 0, 0]
def k0_off59 (i : grid0.Coords) (v854 : BitVec 32) : Fin 2 → Nat :=
  let v855 : BitVec 32 := v854
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_376 : BitVec 32 := 16#32
  let v851 : BitVec 32 := Scalar.addi v2 c16_i32_376
  let c12_i32_377 : BitVec 32 := 12#32
  let v852 : BitVec 32 := Scalar.addi v851 c12_i32_377
  let c0_i32_379 : BitVec 32 := 0#32
  let v857 : BitVec 1 := Scalar.cmpi .sgt v852 c0_i32_379
  let v858 : BitVec 32 := Scalar.extui v857
  let c0_i32_380 : BitVec 32 := 0#32
  let v859 : BitVec 1 := Scalar.cmpi .slt v852 c0_i32_380
  let v860 : BitVec 32 := Scalar.extui v859
  let v861 : BitVec 32 := Scalar.subi v858 v860
  let c128_i32_378 : BitVec 32 := 128#32
  let c0_i32_381 : BitVec 32 := 0#32
  let v862 : BitVec 1 := Scalar.cmpi .sgt c128_i32_378 c0_i32_381
  let v863 : BitVec 32 := Scalar.extui v862
  let c0_i32_382 : BitVec 32 := 0#32
  let v864 : BitVec 1 := Scalar.cmpi .slt c128_i32_378 c0_i32_382
  let v865 : BitVec 32 := Scalar.extui v864
  let v866 : BitVec 32 := Scalar.subi v863 v865
  let v867 : BitVec 1 := Scalar.cmpi .ne v861 v866
  let v868 : BitVec 32 := Scalar.remsi v852 c128_i32_378
  let c0_i32_383 : BitVec 32 := 0#32
  let v869 : BitVec 1 := Scalar.cmpi .ne v868 c0_i32_383
  let v870 : BitVec 1 := Scalar.andi v867 v869
  let v856 : BitVec 32 := Scalar.divsi v852 c128_i32_378
  let c1_i32_384 : BitVec 32 := 1#32
  let v871 : BitVec 32 := Scalar.subi v856 c1_i32_384
  let v872 : BitVec 32 := Scalar.select v870 v871 v856
  let c128_i32_385 : BitVec 32 := 128#32
  let v873 : BitVec 32 := Scalar.muli v872 c128_i32_385
  let v874 : BitVec 32 := v873
  ![v855.toNat, v874.toNat]
def k0_mult59 (v884 : BitVec 32) : BitVec 32 :=
  v884

def k0_mult60 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_390 : BitVec 32 := 16#32
  let v881 : BitVec 32 := Scalar.addi v2 c16_i32_390
  let c13_i32_391 : BitVec 32 := 13#32
  let v882 : BitVec 32 := Scalar.addi v881 c13_i32_391
  let c0_i32_393 : BitVec 32 := 0#32
  let v887 : BitVec 1 := Scalar.cmpi .sgt v882 c0_i32_393
  let v888 : BitVec 32 := Scalar.extui v887
  let c0_i32_394 : BitVec 32 := 0#32
  let v889 : BitVec 1 := Scalar.cmpi .slt v882 c0_i32_394
  let v890 : BitVec 32 := Scalar.extui v889
  let v891 : BitVec 32 := Scalar.subi v888 v890
  let c128_i32_392 : BitVec 32 := 128#32
  let c0_i32_395 : BitVec 32 := 0#32
  let v892 : BitVec 1 := Scalar.cmpi .sgt c128_i32_392 c0_i32_395
  let v893 : BitVec 32 := Scalar.extui v892
  let c0_i32_396 : BitVec 32 := 0#32
  let v894 : BitVec 1 := Scalar.cmpi .slt c128_i32_392 c0_i32_396
  let v895 : BitVec 32 := Scalar.extui v894
  let v896 : BitVec 32 := Scalar.subi v893 v895
  let v897 : BitVec 1 := Scalar.cmpi .ne v891 v896
  let v898 : BitVec 32 := Scalar.remsi v882 c128_i32_392
  let c0_i32_397 : BitVec 32 := 0#32
  let v899 : BitVec 1 := Scalar.cmpi .ne v898 c0_i32_397
  let v900 : BitVec 1 := Scalar.andi v897 v899
  let v886 : BitVec 32 := Scalar.divsi v882 c128_i32_392
  let c1_i32_398 : BitVec 32 := 1#32
  let v901 : BitVec 32 := Scalar.subi v886 c1_i32_398
  let v902 : BitVec 32 := Scalar.select v900 v901 v886
  let c128_i32_399 : BitVec 32 := 128#32
  let v903 : BitVec 32 := Scalar.muli v902 c128_i32_399
  v903
def k0_off60 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_390 : BitVec 32 := 16#32
  let v881 : BitVec 32 := Scalar.addi v2 c16_i32_390
  let c13_i32_391 : BitVec 32 := 13#32
  let v882 : BitVec 32 := Scalar.addi v881 c13_i32_391
  let c0_i32_400 : BitVec 32 := 0#32
  let c0_i32_401 : BitVec 32 := 0#32
  ![v882.toNat, 0, 0]
def k0_off61 (i : grid0.Coords) (v884 : BitVec 32) : Fin 2 → Nat :=
  let v885 : BitVec 32 := v884
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_390 : BitVec 32 := 16#32
  let v881 : BitVec 32 := Scalar.addi v2 c16_i32_390
  let c13_i32_391 : BitVec 32 := 13#32
  let v882 : BitVec 32 := Scalar.addi v881 c13_i32_391
  let c0_i32_393 : BitVec 32 := 0#32
  let v887 : BitVec 1 := Scalar.cmpi .sgt v882 c0_i32_393
  let v888 : BitVec 32 := Scalar.extui v887
  let c0_i32_394 : BitVec 32 := 0#32
  let v889 : BitVec 1 := Scalar.cmpi .slt v882 c0_i32_394
  let v890 : BitVec 32 := Scalar.extui v889
  let v891 : BitVec 32 := Scalar.subi v888 v890
  let c128_i32_392 : BitVec 32 := 128#32
  let c0_i32_395 : BitVec 32 := 0#32
  let v892 : BitVec 1 := Scalar.cmpi .sgt c128_i32_392 c0_i32_395
  let v893 : BitVec 32 := Scalar.extui v892
  let c0_i32_396 : BitVec 32 := 0#32
  let v894 : BitVec 1 := Scalar.cmpi .slt c128_i32_392 c0_i32_396
  let v895 : BitVec 32 := Scalar.extui v894
  let v896 : BitVec 32 := Scalar.subi v893 v895
  let v897 : BitVec 1 := Scalar.cmpi .ne v891 v896
  let v898 : BitVec 32 := Scalar.remsi v882 c128_i32_392
  let c0_i32_397 : BitVec 32 := 0#32
  let v899 : BitVec 1 := Scalar.cmpi .ne v898 c0_i32_397
  let v900 : BitVec 1 := Scalar.andi v897 v899
  let v886 : BitVec 32 := Scalar.divsi v882 c128_i32_392
  let c1_i32_398 : BitVec 32 := 1#32
  let v901 : BitVec 32 := Scalar.subi v886 c1_i32_398
  let v902 : BitVec 32 := Scalar.select v900 v901 v886
  let c128_i32_399 : BitVec 32 := 128#32
  let v903 : BitVec 32 := Scalar.muli v902 c128_i32_399
  let v904 : BitVec 32 := v903
  ![v885.toNat, v904.toNat]
def k0_mult61 (v914 : BitVec 32) : BitVec 32 :=
  v914

def k0_mult62 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_404 : BitVec 32 := 16#32
  let v911 : BitVec 32 := Scalar.addi v2 c16_i32_404
  let c14_i32_405 : BitVec 32 := 14#32
  let v912 : BitVec 32 := Scalar.addi v911 c14_i32_405
  let c0_i32_407 : BitVec 32 := 0#32
  let v917 : BitVec 1 := Scalar.cmpi .sgt v912 c0_i32_407
  let v918 : BitVec 32 := Scalar.extui v917
  let c0_i32_408 : BitVec 32 := 0#32
  let v919 : BitVec 1 := Scalar.cmpi .slt v912 c0_i32_408
  let v920 : BitVec 32 := Scalar.extui v919
  let v921 : BitVec 32 := Scalar.subi v918 v920
  let c128_i32_406 : BitVec 32 := 128#32
  let c0_i32_409 : BitVec 32 := 0#32
  let v922 : BitVec 1 := Scalar.cmpi .sgt c128_i32_406 c0_i32_409
  let v923 : BitVec 32 := Scalar.extui v922
  let c0_i32_410 : BitVec 32 := 0#32
  let v924 : BitVec 1 := Scalar.cmpi .slt c128_i32_406 c0_i32_410
  let v925 : BitVec 32 := Scalar.extui v924
  let v926 : BitVec 32 := Scalar.subi v923 v925
  let v927 : BitVec 1 := Scalar.cmpi .ne v921 v926
  let v928 : BitVec 32 := Scalar.remsi v912 c128_i32_406
  let c0_i32_411 : BitVec 32 := 0#32
  let v929 : BitVec 1 := Scalar.cmpi .ne v928 c0_i32_411
  let v930 : BitVec 1 := Scalar.andi v927 v929
  let v916 : BitVec 32 := Scalar.divsi v912 c128_i32_406
  let c1_i32_412 : BitVec 32 := 1#32
  let v931 : BitVec 32 := Scalar.subi v916 c1_i32_412
  let v932 : BitVec 32 := Scalar.select v930 v931 v916
  let c128_i32_413 : BitVec 32 := 128#32
  let v933 : BitVec 32 := Scalar.muli v932 c128_i32_413
  v933
def k0_off62 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_404 : BitVec 32 := 16#32
  let v911 : BitVec 32 := Scalar.addi v2 c16_i32_404
  let c14_i32_405 : BitVec 32 := 14#32
  let v912 : BitVec 32 := Scalar.addi v911 c14_i32_405
  let c0_i32_414 : BitVec 32 := 0#32
  let c0_i32_415 : BitVec 32 := 0#32
  ![v912.toNat, 0, 0]
def k0_off63 (i : grid0.Coords) (v914 : BitVec 32) : Fin 2 → Nat :=
  let v915 : BitVec 32 := v914
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_404 : BitVec 32 := 16#32
  let v911 : BitVec 32 := Scalar.addi v2 c16_i32_404
  let c14_i32_405 : BitVec 32 := 14#32
  let v912 : BitVec 32 := Scalar.addi v911 c14_i32_405
  let c0_i32_407 : BitVec 32 := 0#32
  let v917 : BitVec 1 := Scalar.cmpi .sgt v912 c0_i32_407
  let v918 : BitVec 32 := Scalar.extui v917
  let c0_i32_408 : BitVec 32 := 0#32
  let v919 : BitVec 1 := Scalar.cmpi .slt v912 c0_i32_408
  let v920 : BitVec 32 := Scalar.extui v919
  let v921 : BitVec 32 := Scalar.subi v918 v920
  let c128_i32_406 : BitVec 32 := 128#32
  let c0_i32_409 : BitVec 32 := 0#32
  let v922 : BitVec 1 := Scalar.cmpi .sgt c128_i32_406 c0_i32_409
  let v923 : BitVec 32 := Scalar.extui v922
  let c0_i32_410 : BitVec 32 := 0#32
  let v924 : BitVec 1 := Scalar.cmpi .slt c128_i32_406 c0_i32_410
  let v925 : BitVec 32 := Scalar.extui v924
  let v926 : BitVec 32 := Scalar.subi v923 v925
  let v927 : BitVec 1 := Scalar.cmpi .ne v921 v926
  let v928 : BitVec 32 := Scalar.remsi v912 c128_i32_406
  let c0_i32_411 : BitVec 32 := 0#32
  let v929 : BitVec 1 := Scalar.cmpi .ne v928 c0_i32_411
  let v930 : BitVec 1 := Scalar.andi v927 v929
  let v916 : BitVec 32 := Scalar.divsi v912 c128_i32_406
  let c1_i32_412 : BitVec 32 := 1#32
  let v931 : BitVec 32 := Scalar.subi v916 c1_i32_412
  let v932 : BitVec 32 := Scalar.select v930 v931 v916
  let c128_i32_413 : BitVec 32 := 128#32
  let v933 : BitVec 32 := Scalar.muli v932 c128_i32_413
  let v934 : BitVec 32 := v933
  ![v915.toNat, v934.toNat]
def k0_mult63 (v944 : BitVec 32) : BitVec 32 :=
  v944

def k0_mult64 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_418 : BitVec 32 := 16#32
  let v941 : BitVec 32 := Scalar.addi v2 c16_i32_418
  let c15_i32_419 : BitVec 32 := 15#32
  let v942 : BitVec 32 := Scalar.addi v941 c15_i32_419
  let c0_i32_421 : BitVec 32 := 0#32
  let v947 : BitVec 1 := Scalar.cmpi .sgt v942 c0_i32_421
  let v948 : BitVec 32 := Scalar.extui v947
  let c0_i32_422 : BitVec 32 := 0#32
  let v949 : BitVec 1 := Scalar.cmpi .slt v942 c0_i32_422
  let v950 : BitVec 32 := Scalar.extui v949
  let v951 : BitVec 32 := Scalar.subi v948 v950
  let c128_i32_420 : BitVec 32 := 128#32
  let c0_i32_423 : BitVec 32 := 0#32
  let v952 : BitVec 1 := Scalar.cmpi .sgt c128_i32_420 c0_i32_423
  let v953 : BitVec 32 := Scalar.extui v952
  let c0_i32_424 : BitVec 32 := 0#32
  let v954 : BitVec 1 := Scalar.cmpi .slt c128_i32_420 c0_i32_424
  let v955 : BitVec 32 := Scalar.extui v954
  let v956 : BitVec 32 := Scalar.subi v953 v955
  let v957 : BitVec 1 := Scalar.cmpi .ne v951 v956
  let v958 : BitVec 32 := Scalar.remsi v942 c128_i32_420
  let c0_i32_425 : BitVec 32 := 0#32
  let v959 : BitVec 1 := Scalar.cmpi .ne v958 c0_i32_425
  let v960 : BitVec 1 := Scalar.andi v957 v959
  let v946 : BitVec 32 := Scalar.divsi v942 c128_i32_420
  let c1_i32_426 : BitVec 32 := 1#32
  let v961 : BitVec 32 := Scalar.subi v946 c1_i32_426
  let v962 : BitVec 32 := Scalar.select v960 v961 v946
  let c128_i32_427 : BitVec 32 := 128#32
  let v963 : BitVec 32 := Scalar.muli v962 c128_i32_427
  v963
def k0_off64 (i : grid0.Coords) (c16_i32_418 : BitVec 32) (c15_i32_419 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v941 : BitVec 32 := Scalar.addi v2 c16_i32_418
  let v942 : BitVec 32 := Scalar.addi v941 c15_i32_419
  let c0_i32_428 : BitVec 32 := 0#32
  let c0_i32_429 : BitVec 32 := 0#32
  ![v942.toNat, 0, 0]
def k0_off65 (i : grid0.Coords) (v944 : BitVec 32) : Fin 2 → Nat :=
  let v945 : BitVec 32 := v944
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_418 : BitVec 32 := 16#32
  let v941 : BitVec 32 := Scalar.addi v2 c16_i32_418
  let c15_i32_419 : BitVec 32 := 15#32
  let v942 : BitVec 32 := Scalar.addi v941 c15_i32_419
  let c0_i32_421 : BitVec 32 := 0#32
  let v947 : BitVec 1 := Scalar.cmpi .sgt v942 c0_i32_421
  let v948 : BitVec 32 := Scalar.extui v947
  let c0_i32_422 : BitVec 32 := 0#32
  let v949 : BitVec 1 := Scalar.cmpi .slt v942 c0_i32_422
  let v950 : BitVec 32 := Scalar.extui v949
  let v951 : BitVec 32 := Scalar.subi v948 v950
  let c128_i32_420 : BitVec 32 := 128#32
  let c0_i32_423 : BitVec 32 := 0#32
  let v952 : BitVec 1 := Scalar.cmpi .sgt c128_i32_420 c0_i32_423
  let v953 : BitVec 32 := Scalar.extui v952
  let c0_i32_424 : BitVec 32 := 0#32
  let v954 : BitVec 1 := Scalar.cmpi .slt c128_i32_420 c0_i32_424
  let v955 : BitVec 32 := Scalar.extui v954
  let v956 : BitVec 32 := Scalar.subi v953 v955
  let v957 : BitVec 1 := Scalar.cmpi .ne v951 v956
  let v958 : BitVec 32 := Scalar.remsi v942 c128_i32_420
  let c0_i32_425 : BitVec 32 := 0#32
  let v959 : BitVec 1 := Scalar.cmpi .ne v958 c0_i32_425
  let v960 : BitVec 1 := Scalar.andi v957 v959
  let v946 : BitVec 32 := Scalar.divsi v942 c128_i32_420
  let c1_i32_426 : BitVec 32 := 1#32
  let v961 : BitVec 32 := Scalar.subi v946 c1_i32_426
  let v962 : BitVec 32 := Scalar.select v960 v961 v946
  let c128_i32_427 : BitVec 32 := 128#32
  let v963 : BitVec 32 := Scalar.muli v962 c128_i32_427
  let v964 : BitVec 32 := v963
  ![v945.toNat, v964.toNat]

def k0_chk32 (i : grid0.Coords) (v944 : BitVec 32) : Prop :=
  (8 ∣ (k0_mult63 v944).toNat) ∧
  (∀ a, (k0_off65 i v944) a + S8x128.size a ≤ S100000x1024.size a)
theorem k0_mult63_dvd : ∀ (i : grid0.Coords) (v944 : BitVec 32) (k0_hw32 : k0_chk32 i v944), 8 ∣ (k0_mult63 v944).toNat := fun i v944 k0_hw32 => k0_hw32.1
theorem k0_off65_inb : ∀ (i : grid0.Coords) (v944 : BitVec 32) (k0_hw32 : k0_chk32 i v944), ∀ a, (k0_off65 i v944) a + S8x128.size a ≤ S100000x1024.size a := fun i v944 k0_hw32 => k0_hw32.2

def k0_off66 (i : grid0.Coords) (v10 : BitVec 32) : Fin 2 → Nat :=
  let v11 : BitVec 32 := v10
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v7 : BitVec 32 := Scalar.addi v2 c0_i32
  let c0_i32_0 : BitVec 32 := 0#32
  let v8 : BitVec 32 := Scalar.addi v7 c0_i32_0
  let c0_i32_1 : BitVec 32 := 0#32
  let v13 : BitVec 1 := Scalar.cmpi .sgt v8 c0_i32_1
  let v14 : BitVec 32 := Scalar.extui v13
  let c0_i32_2 : BitVec 32 := 0#32
  let v15 : BitVec 1 := Scalar.cmpi .slt v8 c0_i32_2
  let v16 : BitVec 32 := Scalar.extui v15
  let v17 : BitVec 32 := Scalar.subi v14 v16
  let c128_i32 : BitVec 32 := 128#32
  let c0_i32_3 : BitVec 32 := 0#32
  let v18 : BitVec 1 := Scalar.cmpi .sgt c128_i32 c0_i32_3
  let v19 : BitVec 32 := Scalar.extui v18
  let c0_i32_4 : BitVec 32 := 0#32
  let v20 : BitVec 1 := Scalar.cmpi .slt c128_i32 c0_i32_4
  let v21 : BitVec 32 := Scalar.extui v20
  let v22 : BitVec 32 := Scalar.subi v19 v21
  let v23 : BitVec 1 := Scalar.cmpi .ne v17 v22
  let v24 : BitVec 32 := Scalar.remsi v8 c128_i32
  let c0_i32_5 : BitVec 32 := 0#32
  let v25 : BitVec 1 := Scalar.cmpi .ne v24 c0_i32_5
  let v26 : BitVec 1 := Scalar.andi v23 v25
  let v12 : BitVec 32 := Scalar.divsi v8 c128_i32
  let c1_i32 : BitVec 32 := 1#32
  let v27 : BitVec 32 := Scalar.subi v12 c1_i32
  let v28 : BitVec 32 := Scalar.select v26 v27 v12
  let c128_i32_6 : BitVec 32 := 128#32
  let v29 : BitVec 32 := Scalar.muli v28 c128_i32_6
  let v30 : BitVec 32 := v29
  ![v11.toNat, v30.toNat]

def k0_chk1 (i : grid0.Coords) (v10 : BitVec 32) : Prop :=
  (8 ∣ (k0_mult1 v10).toNat) ∧
  (∀ a, (k0_off3 i v10) a + S8x128.size a ≤ S100000x1024.size a) ∧
  (∀ a, (k0_off66 i v10) a + S8x128.size a ≤ S100000x1024.size a)
theorem k0_mult1_dvd : ∀ (i : grid0.Coords) (v10 : BitVec 32) (k0_hw1 : k0_chk1 i v10), 8 ∣ (k0_mult1 v10).toNat := fun i v10 k0_hw1 => k0_hw1.1
theorem k0_off3_inb : ∀ (i : grid0.Coords) (v10 : BitVec 32) (k0_hw1 : k0_chk1 i v10), ∀ a, (k0_off3 i v10) a + S8x128.size a ≤ S100000x1024.size a := fun i v10 k0_hw1 => k0_hw1.2.1
theorem k0_off66_inb : ∀ (i : grid0.Coords) (v10 : BitVec 32) (k0_hw1 : k0_chk1 i v10), ∀ a, (k0_off66 i v10) a + S8x128.size a ≤ S100000x1024.size a := fun i v10 k0_hw1 => k0_hw1.2.2

def k0_off67 (i : grid0.Coords) (v40 : BitVec 32) : Fin 2 → Nat :=
  let v41 : BitVec 32 := v40
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_11 : BitVec 32 := 0#32
  let v37 : BitVec 32 := Scalar.addi v2 c0_i32_11
  let c1_i32_12 : BitVec 32 := 1#32
  let v38 : BitVec 32 := Scalar.addi v37 c1_i32_12
  let c0_i32_14 : BitVec 32 := 0#32
  let v43 : BitVec 1 := Scalar.cmpi .sgt v38 c0_i32_14
  let v44 : BitVec 32 := Scalar.extui v43
  let c0_i32_15 : BitVec 32 := 0#32
  let v45 : BitVec 1 := Scalar.cmpi .slt v38 c0_i32_15
  let v46 : BitVec 32 := Scalar.extui v45
  let v47 : BitVec 32 := Scalar.subi v44 v46
  let c128_i32_13 : BitVec 32 := 128#32
  let c0_i32_16 : BitVec 32 := 0#32
  let v48 : BitVec 1 := Scalar.cmpi .sgt c128_i32_13 c0_i32_16
  let v49 : BitVec 32 := Scalar.extui v48
  let c0_i32_17 : BitVec 32 := 0#32
  let v50 : BitVec 1 := Scalar.cmpi .slt c128_i32_13 c0_i32_17
  let v51 : BitVec 32 := Scalar.extui v50
  let v52 : BitVec 32 := Scalar.subi v49 v51
  let v53 : BitVec 1 := Scalar.cmpi .ne v47 v52
  let v54 : BitVec 32 := Scalar.remsi v38 c128_i32_13
  let c0_i32_18 : BitVec 32 := 0#32
  let v55 : BitVec 1 := Scalar.cmpi .ne v54 c0_i32_18
  let v56 : BitVec 1 := Scalar.andi v53 v55
  let v42 : BitVec 32 := Scalar.divsi v38 c128_i32_13
  let c1_i32_19 : BitVec 32 := 1#32
  let v57 : BitVec 32 := Scalar.subi v42 c1_i32_19
  let v58 : BitVec 32 := Scalar.select v56 v57 v42
  let c128_i32_20 : BitVec 32 := 128#32
  let v59 : BitVec 32 := Scalar.muli v58 c128_i32_20
  let v60 : BitVec 32 := v59
  ![v41.toNat, v60.toNat]

def k0_chk2 (i : grid0.Coords) (v40 : BitVec 32) : Prop :=
  (8 ∣ (k0_mult3 v40).toNat) ∧
  (∀ a, (k0_off5 i v40) a + S8x128.size a ≤ S100000x1024.size a) ∧
  (∀ a, (k0_off67 i v40) a + S8x128.size a ≤ S100000x1024.size a)
theorem k0_mult3_dvd : ∀ (i : grid0.Coords) (v40 : BitVec 32) (k0_hw2 : k0_chk2 i v40), 8 ∣ (k0_mult3 v40).toNat := fun i v40 k0_hw2 => k0_hw2.1
theorem k0_off5_inb : ∀ (i : grid0.Coords) (v40 : BitVec 32) (k0_hw2 : k0_chk2 i v40), ∀ a, (k0_off5 i v40) a + S8x128.size a ≤ S100000x1024.size a := fun i v40 k0_hw2 => k0_hw2.2.1
theorem k0_off67_inb : ∀ (i : grid0.Coords) (v40 : BitVec 32) (k0_hw2 : k0_chk2 i v40), ∀ a, (k0_off67 i v40) a + S8x128.size a ≤ S100000x1024.size a := fun i v40 k0_hw2 => k0_hw2.2.2

def k0_off68 (i : grid0.Coords) (v70 : BitVec 32) : Fin 2 → Nat :=
  let v71 : BitVec 32 := v70
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_25 : BitVec 32 := 0#32
  let v67 : BitVec 32 := Scalar.addi v2 c0_i32_25
  let c2_i32_26 : BitVec 32 := 2#32
  let v68 : BitVec 32 := Scalar.addi v67 c2_i32_26
  let c0_i32_28 : BitVec 32 := 0#32
  let v73 : BitVec 1 := Scalar.cmpi .sgt v68 c0_i32_28
  let v74 : BitVec 32 := Scalar.extui v73
  let c0_i32_29 : BitVec 32 := 0#32
  let v75 : BitVec 1 := Scalar.cmpi .slt v68 c0_i32_29
  let v76 : BitVec 32 := Scalar.extui v75
  let v77 : BitVec 32 := Scalar.subi v74 v76
  let c128_i32_27 : BitVec 32 := 128#32
  let c0_i32_30 : BitVec 32 := 0#32
  let v78 : BitVec 1 := Scalar.cmpi .sgt c128_i32_27 c0_i32_30
  let v79 : BitVec 32 := Scalar.extui v78
  let c0_i32_31 : BitVec 32 := 0#32
  let v80 : BitVec 1 := Scalar.cmpi .slt c128_i32_27 c0_i32_31
  let v81 : BitVec 32 := Scalar.extui v80
  let v82 : BitVec 32 := Scalar.subi v79 v81
  let v83 : BitVec 1 := Scalar.cmpi .ne v77 v82
  let v84 : BitVec 32 := Scalar.remsi v68 c128_i32_27
  let c0_i32_32 : BitVec 32 := 0#32
  let v85 : BitVec 1 := Scalar.cmpi .ne v84 c0_i32_32
  let v86 : BitVec 1 := Scalar.andi v83 v85
  let v72 : BitVec 32 := Scalar.divsi v68 c128_i32_27
  let c1_i32_33 : BitVec 32 := 1#32
  let v87 : BitVec 32 := Scalar.subi v72 c1_i32_33
  let v88 : BitVec 32 := Scalar.select v86 v87 v72
  let c128_i32_34 : BitVec 32 := 128#32
  let v89 : BitVec 32 := Scalar.muli v88 c128_i32_34
  let v90 : BitVec 32 := v89
  ![v71.toNat, v90.toNat]

def k0_chk3 (i : grid0.Coords) (v70 : BitVec 32) : Prop :=
  (8 ∣ (k0_mult5 v70).toNat) ∧
  (∀ a, (k0_off7 i v70) a + S8x128.size a ≤ S100000x1024.size a) ∧
  (∀ a, (k0_off68 i v70) a + S8x128.size a ≤ S100000x1024.size a)
theorem k0_mult5_dvd : ∀ (i : grid0.Coords) (v70 : BitVec 32) (k0_hw3 : k0_chk3 i v70), 8 ∣ (k0_mult5 v70).toNat := fun i v70 k0_hw3 => k0_hw3.1
theorem k0_off7_inb : ∀ (i : grid0.Coords) (v70 : BitVec 32) (k0_hw3 : k0_chk3 i v70), ∀ a, (k0_off7 i v70) a + S8x128.size a ≤ S100000x1024.size a := fun i v70 k0_hw3 => k0_hw3.2.1
theorem k0_off68_inb : ∀ (i : grid0.Coords) (v70 : BitVec 32) (k0_hw3 : k0_chk3 i v70), ∀ a, (k0_off68 i v70) a + S8x128.size a ≤ S100000x1024.size a := fun i v70 k0_hw3 => k0_hw3.2.2

def k0_off69 (i : grid0.Coords) (v100 : BitVec 32) : Fin 2 → Nat :=
  let v101 : BitVec 32 := v100
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_39 : BitVec 32 := 0#32
  let v97 : BitVec 32 := Scalar.addi v2 c0_i32_39
  let c3_i32 : BitVec 32 := 3#32
  let v98 : BitVec 32 := Scalar.addi v97 c3_i32
  let c0_i32_41 : BitVec 32 := 0#32
  let v103 : BitVec 1 := Scalar.cmpi .sgt v98 c0_i32_41
  let v104 : BitVec 32 := Scalar.extui v103
  let c0_i32_42 : BitVec 32 := 0#32
  let v105 : BitVec 1 := Scalar.cmpi .slt v98 c0_i32_42
  let v106 : BitVec 32 := Scalar.extui v105
  let v107 : BitVec 32 := Scalar.subi v104 v106
  let c128_i32_40 : BitVec 32 := 128#32
  let c0_i32_43 : BitVec 32 := 0#32
  let v108 : BitVec 1 := Scalar.cmpi .sgt c128_i32_40 c0_i32_43
  let v109 : BitVec 32 := Scalar.extui v108
  let c0_i32_44 : BitVec 32 := 0#32
  let v110 : BitVec 1 := Scalar.cmpi .slt c128_i32_40 c0_i32_44
  let v111 : BitVec 32 := Scalar.extui v110
  let v112 : BitVec 32 := Scalar.subi v109 v111
  let v113 : BitVec 1 := Scalar.cmpi .ne v107 v112
  let v114 : BitVec 32 := Scalar.remsi v98 c128_i32_40
  let c0_i32_45 : BitVec 32 := 0#32
  let v115 : BitVec 1 := Scalar.cmpi .ne v114 c0_i32_45
  let v116 : BitVec 1 := Scalar.andi v113 v115
  let v102 : BitVec 32 := Scalar.divsi v98 c128_i32_40
  let c1_i32_46 : BitVec 32 := 1#32
  let v117 : BitVec 32 := Scalar.subi v102 c1_i32_46
  let v118 : BitVec 32 := Scalar.select v116 v117 v102
  let c128_i32_47 : BitVec 32 := 128#32
  let v119 : BitVec 32 := Scalar.muli v118 c128_i32_47
  let v120 : BitVec 32 := v119
  ![v101.toNat, v120.toNat]

def k0_chk4 (i : grid0.Coords) (v100 : BitVec 32) : Prop :=
  (8 ∣ (k0_mult7 v100).toNat) ∧
  (∀ a, (k0_off9 i v100) a + S8x128.size a ≤ S100000x1024.size a) ∧
  (∀ a, (k0_off69 i v100) a + S8x128.size a ≤ S100000x1024.size a)
theorem k0_mult7_dvd : ∀ (i : grid0.Coords) (v100 : BitVec 32) (k0_hw4 : k0_chk4 i v100), 8 ∣ (k0_mult7 v100).toNat := fun i v100 k0_hw4 => k0_hw4.1
theorem k0_off9_inb : ∀ (i : grid0.Coords) (v100 : BitVec 32) (k0_hw4 : k0_chk4 i v100), ∀ a, (k0_off9 i v100) a + S8x128.size a ≤ S100000x1024.size a := fun i v100 k0_hw4 => k0_hw4.2.1
theorem k0_off69_inb : ∀ (i : grid0.Coords) (v100 : BitVec 32) (k0_hw4 : k0_chk4 i v100), ∀ a, (k0_off69 i v100) a + S8x128.size a ≤ S100000x1024.size a := fun i v100 k0_hw4 => k0_hw4.2.2

def k0_off70 (i : grid0.Coords) (v130 : BitVec 32) : Fin 2 → Nat :=
  let v131 : BitVec 32 := v130
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_52 : BitVec 32 := 0#32
  let v127 : BitVec 32 := Scalar.addi v2 c0_i32_52
  let c4_i32 : BitVec 32 := 4#32
  let v128 : BitVec 32 := Scalar.addi v127 c4_i32
  let c0_i32_54 : BitVec 32 := 0#32
  let v133 : BitVec 1 := Scalar.cmpi .sgt v128 c0_i32_54
  let v134 : BitVec 32 := Scalar.extui v133
  let c0_i32_55 : BitVec 32 := 0#32
  let v135 : BitVec 1 := Scalar.cmpi .slt v128 c0_i32_55
  let v136 : BitVec 32 := Scalar.extui v135
  let v137 : BitVec 32 := Scalar.subi v134 v136
  let c128_i32_53 : BitVec 32 := 128#32
  let c0_i32_56 : BitVec 32 := 0#32
  let v138 : BitVec 1 := Scalar.cmpi .sgt c128_i32_53 c0_i32_56
  let v139 : BitVec 32 := Scalar.extui v138
  let c0_i32_57 : BitVec 32 := 0#32
  let v140 : BitVec 1 := Scalar.cmpi .slt c128_i32_53 c0_i32_57
  let v141 : BitVec 32 := Scalar.extui v140
  let v142 : BitVec 32 := Scalar.subi v139 v141
  let v143 : BitVec 1 := Scalar.cmpi .ne v137 v142
  let v144 : BitVec 32 := Scalar.remsi v128 c128_i32_53
  let c0_i32_58 : BitVec 32 := 0#32
  let v145 : BitVec 1 := Scalar.cmpi .ne v144 c0_i32_58
  let v146 : BitVec 1 := Scalar.andi v143 v145
  let v132 : BitVec 32 := Scalar.divsi v128 c128_i32_53
  let c1_i32_59 : BitVec 32 := 1#32
  let v147 : BitVec 32 := Scalar.subi v132 c1_i32_59
  let v148 : BitVec 32 := Scalar.select v146 v147 v132
  let c128_i32_60 : BitVec 32 := 128#32
  let v149 : BitVec 32 := Scalar.muli v148 c128_i32_60
  let v150 : BitVec 32 := v149
  ![v131.toNat, v150.toNat]

def k0_chk5 (i : grid0.Coords) (v130 : BitVec 32) : Prop :=
  (8 ∣ (k0_mult9 v130).toNat) ∧
  (∀ a, (k0_off11 i v130) a + S8x128.size a ≤ S100000x1024.size a) ∧
  (∀ a, (k0_off70 i v130) a + S8x128.size a ≤ S100000x1024.size a)
theorem k0_mult9_dvd : ∀ (i : grid0.Coords) (v130 : BitVec 32) (k0_hw5 : k0_chk5 i v130), 8 ∣ (k0_mult9 v130).toNat := fun i v130 k0_hw5 => k0_hw5.1
theorem k0_off11_inb : ∀ (i : grid0.Coords) (v130 : BitVec 32) (k0_hw5 : k0_chk5 i v130), ∀ a, (k0_off11 i v130) a + S8x128.size a ≤ S100000x1024.size a := fun i v130 k0_hw5 => k0_hw5.2.1
theorem k0_off70_inb : ∀ (i : grid0.Coords) (v130 : BitVec 32) (k0_hw5 : k0_chk5 i v130), ∀ a, (k0_off70 i v130) a + S8x128.size a ≤ S100000x1024.size a := fun i v130 k0_hw5 => k0_hw5.2.2

def k0_off71 (i : grid0.Coords) (v160 : BitVec 32) : Fin 2 → Nat :=
  let v161 : BitVec 32 := v160
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_65 : BitVec 32 := 0#32
  let v157 : BitVec 32 := Scalar.addi v2 c0_i32_65
  let c5_i32 : BitVec 32 := 5#32
  let v158 : BitVec 32 := Scalar.addi v157 c5_i32
  let c0_i32_67 : BitVec 32 := 0#32
  let v163 : BitVec 1 := Scalar.cmpi .sgt v158 c0_i32_67
  let v164 : BitVec 32 := Scalar.extui v163
  let c0_i32_68 : BitVec 32 := 0#32
  let v165 : BitVec 1 := Scalar.cmpi .slt v158 c0_i32_68
  let v166 : BitVec 32 := Scalar.extui v165
  let v167 : BitVec 32 := Scalar.subi v164 v166
  let c128_i32_66 : BitVec 32 := 128#32
  let c0_i32_69 : BitVec 32 := 0#32
  let v168 : BitVec 1 := Scalar.cmpi .sgt c128_i32_66 c0_i32_69
  let v169 : BitVec 32 := Scalar.extui v168
  let c0_i32_70 : BitVec 32 := 0#32
  let v170 : BitVec 1 := Scalar.cmpi .slt c128_i32_66 c0_i32_70
  let v171 : BitVec 32 := Scalar.extui v170
  let v172 : BitVec 32 := Scalar.subi v169 v171
  let v173 : BitVec 1 := Scalar.cmpi .ne v167 v172
  let v174 : BitVec 32 := Scalar.remsi v158 c128_i32_66
  let c0_i32_71 : BitVec 32 := 0#32
  let v175 : BitVec 1 := Scalar.cmpi .ne v174 c0_i32_71
  let v176 : BitVec 1 := Scalar.andi v173 v175
  let v162 : BitVec 32 := Scalar.divsi v158 c128_i32_66
  let c1_i32_72 : BitVec 32 := 1#32
  let v177 : BitVec 32 := Scalar.subi v162 c1_i32_72
  let v178 : BitVec 32 := Scalar.select v176 v177 v162
  let c128_i32_73 : BitVec 32 := 128#32
  let v179 : BitVec 32 := Scalar.muli v178 c128_i32_73
  let v180 : BitVec 32 := v179
  ![v161.toNat, v180.toNat]

def k0_chk6 (i : grid0.Coords) (v160 : BitVec 32) : Prop :=
  (8 ∣ (k0_mult11 v160).toNat) ∧
  (∀ a, (k0_off13 i v160) a + S8x128.size a ≤ S100000x1024.size a) ∧
  (∀ a, (k0_off71 i v160) a + S8x128.size a ≤ S100000x1024.size a)
theorem k0_mult11_dvd : ∀ (i : grid0.Coords) (v160 : BitVec 32) (k0_hw6 : k0_chk6 i v160), 8 ∣ (k0_mult11 v160).toNat := fun i v160 k0_hw6 => k0_hw6.1
theorem k0_off13_inb : ∀ (i : grid0.Coords) (v160 : BitVec 32) (k0_hw6 : k0_chk6 i v160), ∀ a, (k0_off13 i v160) a + S8x128.size a ≤ S100000x1024.size a := fun i v160 k0_hw6 => k0_hw6.2.1
theorem k0_off71_inb : ∀ (i : grid0.Coords) (v160 : BitVec 32) (k0_hw6 : k0_chk6 i v160), ∀ a, (k0_off71 i v160) a + S8x128.size a ≤ S100000x1024.size a := fun i v160 k0_hw6 => k0_hw6.2.2

def k0_off72 (i : grid0.Coords) (v190 : BitVec 32) : Fin 2 → Nat :=
  let v191 : BitVec 32 := v190
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_78 : BitVec 32 := 0#32
  let v187 : BitVec 32 := Scalar.addi v2 c0_i32_78
  let c6_i32 : BitVec 32 := 6#32
  let v188 : BitVec 32 := Scalar.addi v187 c6_i32
  let c0_i32_80 : BitVec 32 := 0#32
  let v193 : BitVec 1 := Scalar.cmpi .sgt v188 c0_i32_80
  let v194 : BitVec 32 := Scalar.extui v193
  let c0_i32_81 : BitVec 32 := 0#32
  let v195 : BitVec 1 := Scalar.cmpi .slt v188 c0_i32_81
  let v196 : BitVec 32 := Scalar.extui v195
  let v197 : BitVec 32 := Scalar.subi v194 v196
  let c128_i32_79 : BitVec 32 := 128#32
  let c0_i32_82 : BitVec 32 := 0#32
  let v198 : BitVec 1 := Scalar.cmpi .sgt c128_i32_79 c0_i32_82
  let v199 : BitVec 32 := Scalar.extui v198
  let c0_i32_83 : BitVec 32 := 0#32
  let v200 : BitVec 1 := Scalar.cmpi .slt c128_i32_79 c0_i32_83
  let v201 : BitVec 32 := Scalar.extui v200
  let v202 : BitVec 32 := Scalar.subi v199 v201
  let v203 : BitVec 1 := Scalar.cmpi .ne v197 v202
  let v204 : BitVec 32 := Scalar.remsi v188 c128_i32_79
  let c0_i32_84 : BitVec 32 := 0#32
  let v205 : BitVec 1 := Scalar.cmpi .ne v204 c0_i32_84
  let v206 : BitVec 1 := Scalar.andi v203 v205
  let v192 : BitVec 32 := Scalar.divsi v188 c128_i32_79
  let c1_i32_85 : BitVec 32 := 1#32
  let v207 : BitVec 32 := Scalar.subi v192 c1_i32_85
  let v208 : BitVec 32 := Scalar.select v206 v207 v192
  let c128_i32_86 : BitVec 32 := 128#32
  let v209 : BitVec 32 := Scalar.muli v208 c128_i32_86
  let v210 : BitVec 32 := v209
  ![v191.toNat, v210.toNat]

def k0_chk7 (i : grid0.Coords) (v190 : BitVec 32) : Prop :=
  (8 ∣ (k0_mult13 v190).toNat) ∧
  (∀ a, (k0_off15 i v190) a + S8x128.size a ≤ S100000x1024.size a) ∧
  (∀ a, (k0_off72 i v190) a + S8x128.size a ≤ S100000x1024.size a)
theorem k0_mult13_dvd : ∀ (i : grid0.Coords) (v190 : BitVec 32) (k0_hw7 : k0_chk7 i v190), 8 ∣ (k0_mult13 v190).toNat := fun i v190 k0_hw7 => k0_hw7.1
theorem k0_off15_inb : ∀ (i : grid0.Coords) (v190 : BitVec 32) (k0_hw7 : k0_chk7 i v190), ∀ a, (k0_off15 i v190) a + S8x128.size a ≤ S100000x1024.size a := fun i v190 k0_hw7 => k0_hw7.2.1
theorem k0_off72_inb : ∀ (i : grid0.Coords) (v190 : BitVec 32) (k0_hw7 : k0_chk7 i v190), ∀ a, (k0_off72 i v190) a + S8x128.size a ≤ S100000x1024.size a := fun i v190 k0_hw7 => k0_hw7.2.2

def k0_off73 (i : grid0.Coords) (v220 : BitVec 32) : Fin 2 → Nat :=
  let v221 : BitVec 32 := v220
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_91 : BitVec 32 := 0#32
  let v217 : BitVec 32 := Scalar.addi v2 c0_i32_91
  let c7_i32 : BitVec 32 := 7#32
  let v218 : BitVec 32 := Scalar.addi v217 c7_i32
  let c0_i32_93 : BitVec 32 := 0#32
  let v223 : BitVec 1 := Scalar.cmpi .sgt v218 c0_i32_93
  let v224 : BitVec 32 := Scalar.extui v223
  let c0_i32_94 : BitVec 32 := 0#32
  let v225 : BitVec 1 := Scalar.cmpi .slt v218 c0_i32_94
  let v226 : BitVec 32 := Scalar.extui v225
  let v227 : BitVec 32 := Scalar.subi v224 v226
  let c128_i32_92 : BitVec 32 := 128#32
  let c0_i32_95 : BitVec 32 := 0#32
  let v228 : BitVec 1 := Scalar.cmpi .sgt c128_i32_92 c0_i32_95
  let v229 : BitVec 32 := Scalar.extui v228
  let c0_i32_96 : BitVec 32 := 0#32
  let v230 : BitVec 1 := Scalar.cmpi .slt c128_i32_92 c0_i32_96
  let v231 : BitVec 32 := Scalar.extui v230
  let v232 : BitVec 32 := Scalar.subi v229 v231
  let v233 : BitVec 1 := Scalar.cmpi .ne v227 v232
  let v234 : BitVec 32 := Scalar.remsi v218 c128_i32_92
  let c0_i32_97 : BitVec 32 := 0#32
  let v235 : BitVec 1 := Scalar.cmpi .ne v234 c0_i32_97
  let v236 : BitVec 1 := Scalar.andi v233 v235
  let v222 : BitVec 32 := Scalar.divsi v218 c128_i32_92
  let c1_i32_98 : BitVec 32 := 1#32
  let v237 : BitVec 32 := Scalar.subi v222 c1_i32_98
  let v238 : BitVec 32 := Scalar.select v236 v237 v222
  let c128_i32_99 : BitVec 32 := 128#32
  let v239 : BitVec 32 := Scalar.muli v238 c128_i32_99
  let v240 : BitVec 32 := v239
  ![v221.toNat, v240.toNat]

def k0_chk8 (i : grid0.Coords) (v220 : BitVec 32) : Prop :=
  (8 ∣ (k0_mult15 v220).toNat) ∧
  (∀ a, (k0_off17 i v220) a + S8x128.size a ≤ S100000x1024.size a) ∧
  (∀ a, (k0_off73 i v220) a + S8x128.size a ≤ S100000x1024.size a)
theorem k0_mult15_dvd : ∀ (i : grid0.Coords) (v220 : BitVec 32) (k0_hw8 : k0_chk8 i v220), 8 ∣ (k0_mult15 v220).toNat := fun i v220 k0_hw8 => k0_hw8.1
theorem k0_off17_inb : ∀ (i : grid0.Coords) (v220 : BitVec 32) (k0_hw8 : k0_chk8 i v220), ∀ a, (k0_off17 i v220) a + S8x128.size a ≤ S100000x1024.size a := fun i v220 k0_hw8 => k0_hw8.2.1
theorem k0_off73_inb : ∀ (i : grid0.Coords) (v220 : BitVec 32) (k0_hw8 : k0_chk8 i v220), ∀ a, (k0_off73 i v220) a + S8x128.size a ≤ S100000x1024.size a := fun i v220 k0_hw8 => k0_hw8.2.2

def k0_off74 (i : grid0.Coords) (v250 : BitVec 32) : Fin 2 → Nat :=
  let v251 : BitVec 32 := v250
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_104 : BitVec 32 := 0#32
  let v247 : BitVec 32 := Scalar.addi v2 c0_i32_104
  let c8_i32 : BitVec 32 := 8#32
  let v248 : BitVec 32 := Scalar.addi v247 c8_i32
  let c0_i32_106 : BitVec 32 := 0#32
  let v253 : BitVec 1 := Scalar.cmpi .sgt v248 c0_i32_106
  let v254 : BitVec 32 := Scalar.extui v253
  let c0_i32_107 : BitVec 32 := 0#32
  let v255 : BitVec 1 := Scalar.cmpi .slt v248 c0_i32_107
  let v256 : BitVec 32 := Scalar.extui v255
  let v257 : BitVec 32 := Scalar.subi v254 v256
  let c128_i32_105 : BitVec 32 := 128#32
  let c0_i32_108 : BitVec 32 := 0#32
  let v258 : BitVec 1 := Scalar.cmpi .sgt c128_i32_105 c0_i32_108
  let v259 : BitVec 32 := Scalar.extui v258
  let c0_i32_109 : BitVec 32 := 0#32
  let v260 : BitVec 1 := Scalar.cmpi .slt c128_i32_105 c0_i32_109
  let v261 : BitVec 32 := Scalar.extui v260
  let v262 : BitVec 32 := Scalar.subi v259 v261
  let v263 : BitVec 1 := Scalar.cmpi .ne v257 v262
  let v264 : BitVec 32 := Scalar.remsi v248 c128_i32_105
  let c0_i32_110 : BitVec 32 := 0#32
  let v265 : BitVec 1 := Scalar.cmpi .ne v264 c0_i32_110
  let v266 : BitVec 1 := Scalar.andi v263 v265
  let v252 : BitVec 32 := Scalar.divsi v248 c128_i32_105
  let c1_i32_111 : BitVec 32 := 1#32
  let v267 : BitVec 32 := Scalar.subi v252 c1_i32_111
  let v268 : BitVec 32 := Scalar.select v266 v267 v252
  let c128_i32_112 : BitVec 32 := 128#32
  let v269 : BitVec 32 := Scalar.muli v268 c128_i32_112
  let v270 : BitVec 32 := v269
  ![v251.toNat, v270.toNat]

def k0_chk9 (i : grid0.Coords) (v250 : BitVec 32) : Prop :=
  (8 ∣ (k0_mult17 v250).toNat) ∧
  (∀ a, (k0_off19 i v250) a + S8x128.size a ≤ S100000x1024.size a) ∧
  (∀ a, (k0_off74 i v250) a + S8x128.size a ≤ S100000x1024.size a)
theorem k0_mult17_dvd : ∀ (i : grid0.Coords) (v250 : BitVec 32) (k0_hw9 : k0_chk9 i v250), 8 ∣ (k0_mult17 v250).toNat := fun i v250 k0_hw9 => k0_hw9.1
theorem k0_off19_inb : ∀ (i : grid0.Coords) (v250 : BitVec 32) (k0_hw9 : k0_chk9 i v250), ∀ a, (k0_off19 i v250) a + S8x128.size a ≤ S100000x1024.size a := fun i v250 k0_hw9 => k0_hw9.2.1
theorem k0_off74_inb : ∀ (i : grid0.Coords) (v250 : BitVec 32) (k0_hw9 : k0_chk9 i v250), ∀ a, (k0_off74 i v250) a + S8x128.size a ≤ S100000x1024.size a := fun i v250 k0_hw9 => k0_hw9.2.2

def k0_off75 (i : grid0.Coords) (v280 : BitVec 32) : Fin 2 → Nat :=
  let v281 : BitVec 32 := v280
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_117 : BitVec 32 := 0#32
  let v277 : BitVec 32 := Scalar.addi v2 c0_i32_117
  let c9_i32 : BitVec 32 := 9#32
  let v278 : BitVec 32 := Scalar.addi v277 c9_i32
  let c0_i32_119 : BitVec 32 := 0#32
  let v283 : BitVec 1 := Scalar.cmpi .sgt v278 c0_i32_119
  let v284 : BitVec 32 := Scalar.extui v283
  let c0_i32_120 : BitVec 32 := 0#32
  let v285 : BitVec 1 := Scalar.cmpi .slt v278 c0_i32_120
  let v286 : BitVec 32 := Scalar.extui v285
  let v287 : BitVec 32 := Scalar.subi v284 v286
  let c128_i32_118 : BitVec 32 := 128#32
  let c0_i32_121 : BitVec 32 := 0#32
  let v288 : BitVec 1 := Scalar.cmpi .sgt c128_i32_118 c0_i32_121
  let v289 : BitVec 32 := Scalar.extui v288
  let c0_i32_122 : BitVec 32 := 0#32
  let v290 : BitVec 1 := Scalar.cmpi .slt c128_i32_118 c0_i32_122
  let v291 : BitVec 32 := Scalar.extui v290
  let v292 : BitVec 32 := Scalar.subi v289 v291
  let v293 : BitVec 1 := Scalar.cmpi .ne v287 v292
  let v294 : BitVec 32 := Scalar.remsi v278 c128_i32_118
  let c0_i32_123 : BitVec 32 := 0#32
  let v295 : BitVec 1 := Scalar.cmpi .ne v294 c0_i32_123
  let v296 : BitVec 1 := Scalar.andi v293 v295
  let v282 : BitVec 32 := Scalar.divsi v278 c128_i32_118
  let c1_i32_124 : BitVec 32 := 1#32
  let v297 : BitVec 32 := Scalar.subi v282 c1_i32_124
  let v298 : BitVec 32 := Scalar.select v296 v297 v282
  let c128_i32_125 : BitVec 32 := 128#32
  let v299 : BitVec 32 := Scalar.muli v298 c128_i32_125
  let v300 : BitVec 32 := v299
  ![v281.toNat, v300.toNat]

def k0_chk10 (i : grid0.Coords) (v280 : BitVec 32) : Prop :=
  (8 ∣ (k0_mult19 v280).toNat) ∧
  (∀ a, (k0_off21 i v280) a + S8x128.size a ≤ S100000x1024.size a) ∧
  (∀ a, (k0_off75 i v280) a + S8x128.size a ≤ S100000x1024.size a)
theorem k0_mult19_dvd : ∀ (i : grid0.Coords) (v280 : BitVec 32) (k0_hw10 : k0_chk10 i v280), 8 ∣ (k0_mult19 v280).toNat := fun i v280 k0_hw10 => k0_hw10.1
theorem k0_off21_inb : ∀ (i : grid0.Coords) (v280 : BitVec 32) (k0_hw10 : k0_chk10 i v280), ∀ a, (k0_off21 i v280) a + S8x128.size a ≤ S100000x1024.size a := fun i v280 k0_hw10 => k0_hw10.2.1
theorem k0_off75_inb : ∀ (i : grid0.Coords) (v280 : BitVec 32) (k0_hw10 : k0_chk10 i v280), ∀ a, (k0_off75 i v280) a + S8x128.size a ≤ S100000x1024.size a := fun i v280 k0_hw10 => k0_hw10.2.2

def k0_off76 (i : grid0.Coords) (v310 : BitVec 32) : Fin 2 → Nat :=
  let v311 : BitVec 32 := v310
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_130 : BitVec 32 := 0#32
  let v307 : BitVec 32 := Scalar.addi v2 c0_i32_130
  let c10_i32 : BitVec 32 := 10#32
  let v308 : BitVec 32 := Scalar.addi v307 c10_i32
  let c0_i32_132 : BitVec 32 := 0#32
  let v313 : BitVec 1 := Scalar.cmpi .sgt v308 c0_i32_132
  let v314 : BitVec 32 := Scalar.extui v313
  let c0_i32_133 : BitVec 32 := 0#32
  let v315 : BitVec 1 := Scalar.cmpi .slt v308 c0_i32_133
  let v316 : BitVec 32 := Scalar.extui v315
  let v317 : BitVec 32 := Scalar.subi v314 v316
  let c128_i32_131 : BitVec 32 := 128#32
  let c0_i32_134 : BitVec 32 := 0#32
  let v318 : BitVec 1 := Scalar.cmpi .sgt c128_i32_131 c0_i32_134
  let v319 : BitVec 32 := Scalar.extui v318
  let c0_i32_135 : BitVec 32 := 0#32
  let v320 : BitVec 1 := Scalar.cmpi .slt c128_i32_131 c0_i32_135
  let v321 : BitVec 32 := Scalar.extui v320
  let v322 : BitVec 32 := Scalar.subi v319 v321
  let v323 : BitVec 1 := Scalar.cmpi .ne v317 v322
  let v324 : BitVec 32 := Scalar.remsi v308 c128_i32_131
  let c0_i32_136 : BitVec 32 := 0#32
  let v325 : BitVec 1 := Scalar.cmpi .ne v324 c0_i32_136
  let v326 : BitVec 1 := Scalar.andi v323 v325
  let v312 : BitVec 32 := Scalar.divsi v308 c128_i32_131
  let c1_i32_137 : BitVec 32 := 1#32
  let v327 : BitVec 32 := Scalar.subi v312 c1_i32_137
  let v328 : BitVec 32 := Scalar.select v326 v327 v312
  let c128_i32_138 : BitVec 32 := 128#32
  let v329 : BitVec 32 := Scalar.muli v328 c128_i32_138
  let v330 : BitVec 32 := v329
  ![v311.toNat, v330.toNat]

def k0_chk11 (i : grid0.Coords) (v310 : BitVec 32) : Prop :=
  (8 ∣ (k0_mult21 v310).toNat) ∧
  (∀ a, (k0_off23 i v310) a + S8x128.size a ≤ S100000x1024.size a) ∧
  (∀ a, (k0_off76 i v310) a + S8x128.size a ≤ S100000x1024.size a)
theorem k0_mult21_dvd : ∀ (i : grid0.Coords) (v310 : BitVec 32) (k0_hw11 : k0_chk11 i v310), 8 ∣ (k0_mult21 v310).toNat := fun i v310 k0_hw11 => k0_hw11.1
theorem k0_off23_inb : ∀ (i : grid0.Coords) (v310 : BitVec 32) (k0_hw11 : k0_chk11 i v310), ∀ a, (k0_off23 i v310) a + S8x128.size a ≤ S100000x1024.size a := fun i v310 k0_hw11 => k0_hw11.2.1
theorem k0_off76_inb : ∀ (i : grid0.Coords) (v310 : BitVec 32) (k0_hw11 : k0_chk11 i v310), ∀ a, (k0_off76 i v310) a + S8x128.size a ≤ S100000x1024.size a := fun i v310 k0_hw11 => k0_hw11.2.2

def k0_off77 (i : grid0.Coords) (v340 : BitVec 32) : Fin 2 → Nat :=
  let v341 : BitVec 32 := v340
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_143 : BitVec 32 := 0#32
  let v337 : BitVec 32 := Scalar.addi v2 c0_i32_143
  let c11_i32 : BitVec 32 := 11#32
  let v338 : BitVec 32 := Scalar.addi v337 c11_i32
  let c0_i32_145 : BitVec 32 := 0#32
  let v343 : BitVec 1 := Scalar.cmpi .sgt v338 c0_i32_145
  let v344 : BitVec 32 := Scalar.extui v343
  let c0_i32_146 : BitVec 32 := 0#32
  let v345 : BitVec 1 := Scalar.cmpi .slt v338 c0_i32_146
  let v346 : BitVec 32 := Scalar.extui v345
  let v347 : BitVec 32 := Scalar.subi v344 v346
  let c128_i32_144 : BitVec 32 := 128#32
  let c0_i32_147 : BitVec 32 := 0#32
  let v348 : BitVec 1 := Scalar.cmpi .sgt c128_i32_144 c0_i32_147
  let v349 : BitVec 32 := Scalar.extui v348
  let c0_i32_148 : BitVec 32 := 0#32
  let v350 : BitVec 1 := Scalar.cmpi .slt c128_i32_144 c0_i32_148
  let v351 : BitVec 32 := Scalar.extui v350
  let v352 : BitVec 32 := Scalar.subi v349 v351
  let v353 : BitVec 1 := Scalar.cmpi .ne v347 v352
  let v354 : BitVec 32 := Scalar.remsi v338 c128_i32_144
  let c0_i32_149 : BitVec 32 := 0#32
  let v355 : BitVec 1 := Scalar.cmpi .ne v354 c0_i32_149
  let v356 : BitVec 1 := Scalar.andi v353 v355
  let v342 : BitVec 32 := Scalar.divsi v338 c128_i32_144
  let c1_i32_150 : BitVec 32 := 1#32
  let v357 : BitVec 32 := Scalar.subi v342 c1_i32_150
  let v358 : BitVec 32 := Scalar.select v356 v357 v342
  let c128_i32_151 : BitVec 32 := 128#32
  let v359 : BitVec 32 := Scalar.muli v358 c128_i32_151
  let v360 : BitVec 32 := v359
  ![v341.toNat, v360.toNat]

def k0_chk12 (i : grid0.Coords) (v340 : BitVec 32) : Prop :=
  (8 ∣ (k0_mult23 v340).toNat) ∧
  (∀ a, (k0_off25 i v340) a + S8x128.size a ≤ S100000x1024.size a) ∧
  (∀ a, (k0_off77 i v340) a + S8x128.size a ≤ S100000x1024.size a)
theorem k0_mult23_dvd : ∀ (i : grid0.Coords) (v340 : BitVec 32) (k0_hw12 : k0_chk12 i v340), 8 ∣ (k0_mult23 v340).toNat := fun i v340 k0_hw12 => k0_hw12.1
theorem k0_off25_inb : ∀ (i : grid0.Coords) (v340 : BitVec 32) (k0_hw12 : k0_chk12 i v340), ∀ a, (k0_off25 i v340) a + S8x128.size a ≤ S100000x1024.size a := fun i v340 k0_hw12 => k0_hw12.2.1
theorem k0_off77_inb : ∀ (i : grid0.Coords) (v340 : BitVec 32) (k0_hw12 : k0_chk12 i v340), ∀ a, (k0_off77 i v340) a + S8x128.size a ≤ S100000x1024.size a := fun i v340 k0_hw12 => k0_hw12.2.2

def k0_off78 (i : grid0.Coords) (v370 : BitVec 32) : Fin 2 → Nat :=
  let v371 : BitVec 32 := v370
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_156 : BitVec 32 := 0#32
  let v367 : BitVec 32 := Scalar.addi v2 c0_i32_156
  let c12_i32 : BitVec 32 := 12#32
  let v368 : BitVec 32 := Scalar.addi v367 c12_i32
  let c0_i32_158 : BitVec 32 := 0#32
  let v373 : BitVec 1 := Scalar.cmpi .sgt v368 c0_i32_158
  let v374 : BitVec 32 := Scalar.extui v373
  let c0_i32_159 : BitVec 32 := 0#32
  let v375 : BitVec 1 := Scalar.cmpi .slt v368 c0_i32_159
  let v376 : BitVec 32 := Scalar.extui v375
  let v377 : BitVec 32 := Scalar.subi v374 v376
  let c128_i32_157 : BitVec 32 := 128#32
  let c0_i32_160 : BitVec 32 := 0#32
  let v378 : BitVec 1 := Scalar.cmpi .sgt c128_i32_157 c0_i32_160
  let v379 : BitVec 32 := Scalar.extui v378
  let c0_i32_161 : BitVec 32 := 0#32
  let v380 : BitVec 1 := Scalar.cmpi .slt c128_i32_157 c0_i32_161
  let v381 : BitVec 32 := Scalar.extui v380
  let v382 : BitVec 32 := Scalar.subi v379 v381
  let v383 : BitVec 1 := Scalar.cmpi .ne v377 v382
  let v384 : BitVec 32 := Scalar.remsi v368 c128_i32_157
  let c0_i32_162 : BitVec 32 := 0#32
  let v385 : BitVec 1 := Scalar.cmpi .ne v384 c0_i32_162
  let v386 : BitVec 1 := Scalar.andi v383 v385
  let v372 : BitVec 32 := Scalar.divsi v368 c128_i32_157
  let c1_i32_163 : BitVec 32 := 1#32
  let v387 : BitVec 32 := Scalar.subi v372 c1_i32_163
  let v388 : BitVec 32 := Scalar.select v386 v387 v372
  let c128_i32_164 : BitVec 32 := 128#32
  let v389 : BitVec 32 := Scalar.muli v388 c128_i32_164
  let v390 : BitVec 32 := v389
  ![v371.toNat, v390.toNat]

def k0_chk13 (i : grid0.Coords) (v370 : BitVec 32) : Prop :=
  (8 ∣ (k0_mult25 v370).toNat) ∧
  (∀ a, (k0_off27 i v370) a + S8x128.size a ≤ S100000x1024.size a) ∧
  (∀ a, (k0_off78 i v370) a + S8x128.size a ≤ S100000x1024.size a)
theorem k0_mult25_dvd : ∀ (i : grid0.Coords) (v370 : BitVec 32) (k0_hw13 : k0_chk13 i v370), 8 ∣ (k0_mult25 v370).toNat := fun i v370 k0_hw13 => k0_hw13.1
theorem k0_off27_inb : ∀ (i : grid0.Coords) (v370 : BitVec 32) (k0_hw13 : k0_chk13 i v370), ∀ a, (k0_off27 i v370) a + S8x128.size a ≤ S100000x1024.size a := fun i v370 k0_hw13 => k0_hw13.2.1
theorem k0_off78_inb : ∀ (i : grid0.Coords) (v370 : BitVec 32) (k0_hw13 : k0_chk13 i v370), ∀ a, (k0_off78 i v370) a + S8x128.size a ≤ S100000x1024.size a := fun i v370 k0_hw13 => k0_hw13.2.2

def k0_off79 (i : grid0.Coords) (v400 : BitVec 32) : Fin 2 → Nat :=
  let v401 : BitVec 32 := v400
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_169 : BitVec 32 := 0#32
  let v397 : BitVec 32 := Scalar.addi v2 c0_i32_169
  let c13_i32 : BitVec 32 := 13#32
  let v398 : BitVec 32 := Scalar.addi v397 c13_i32
  let c0_i32_171 : BitVec 32 := 0#32
  let v403 : BitVec 1 := Scalar.cmpi .sgt v398 c0_i32_171
  let v404 : BitVec 32 := Scalar.extui v403
  let c0_i32_172 : BitVec 32 := 0#32
  let v405 : BitVec 1 := Scalar.cmpi .slt v398 c0_i32_172
  let v406 : BitVec 32 := Scalar.extui v405
  let v407 : BitVec 32 := Scalar.subi v404 v406
  let c128_i32_170 : BitVec 32 := 128#32
  let c0_i32_173 : BitVec 32 := 0#32
  let v408 : BitVec 1 := Scalar.cmpi .sgt c128_i32_170 c0_i32_173
  let v409 : BitVec 32 := Scalar.extui v408
  let c0_i32_174 : BitVec 32 := 0#32
  let v410 : BitVec 1 := Scalar.cmpi .slt c128_i32_170 c0_i32_174
  let v411 : BitVec 32 := Scalar.extui v410
  let v412 : BitVec 32 := Scalar.subi v409 v411
  let v413 : BitVec 1 := Scalar.cmpi .ne v407 v412
  let v414 : BitVec 32 := Scalar.remsi v398 c128_i32_170
  let c0_i32_175 : BitVec 32 := 0#32
  let v415 : BitVec 1 := Scalar.cmpi .ne v414 c0_i32_175
  let v416 : BitVec 1 := Scalar.andi v413 v415
  let v402 : BitVec 32 := Scalar.divsi v398 c128_i32_170
  let c1_i32_176 : BitVec 32 := 1#32
  let v417 : BitVec 32 := Scalar.subi v402 c1_i32_176
  let v418 : BitVec 32 := Scalar.select v416 v417 v402
  let c128_i32_177 : BitVec 32 := 128#32
  let v419 : BitVec 32 := Scalar.muli v418 c128_i32_177
  let v420 : BitVec 32 := v419
  ![v401.toNat, v420.toNat]

def k0_chk14 (i : grid0.Coords) (v400 : BitVec 32) : Prop :=
  (8 ∣ (k0_mult27 v400).toNat) ∧
  (∀ a, (k0_off29 i v400) a + S8x128.size a ≤ S100000x1024.size a) ∧
  (∀ a, (k0_off79 i v400) a + S8x128.size a ≤ S100000x1024.size a)
theorem k0_mult27_dvd : ∀ (i : grid0.Coords) (v400 : BitVec 32) (k0_hw14 : k0_chk14 i v400), 8 ∣ (k0_mult27 v400).toNat := fun i v400 k0_hw14 => k0_hw14.1
theorem k0_off29_inb : ∀ (i : grid0.Coords) (v400 : BitVec 32) (k0_hw14 : k0_chk14 i v400), ∀ a, (k0_off29 i v400) a + S8x128.size a ≤ S100000x1024.size a := fun i v400 k0_hw14 => k0_hw14.2.1
theorem k0_off79_inb : ∀ (i : grid0.Coords) (v400 : BitVec 32) (k0_hw14 : k0_chk14 i v400), ∀ a, (k0_off79 i v400) a + S8x128.size a ≤ S100000x1024.size a := fun i v400 k0_hw14 => k0_hw14.2.2

def k0_off80 (i : grid0.Coords) (v430 : BitVec 32) : Fin 2 → Nat :=
  let v431 : BitVec 32 := v430
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_182 : BitVec 32 := 0#32
  let v427 : BitVec 32 := Scalar.addi v2 c0_i32_182
  let c14_i32 : BitVec 32 := 14#32
  let v428 : BitVec 32 := Scalar.addi v427 c14_i32
  let c0_i32_184 : BitVec 32 := 0#32
  let v433 : BitVec 1 := Scalar.cmpi .sgt v428 c0_i32_184
  let v434 : BitVec 32 := Scalar.extui v433
  let c0_i32_185 : BitVec 32 := 0#32
  let v435 : BitVec 1 := Scalar.cmpi .slt v428 c0_i32_185
  let v436 : BitVec 32 := Scalar.extui v435
  let v437 : BitVec 32 := Scalar.subi v434 v436
  let c128_i32_183 : BitVec 32 := 128#32
  let c0_i32_186 : BitVec 32 := 0#32
  let v438 : BitVec 1 := Scalar.cmpi .sgt c128_i32_183 c0_i32_186
  let v439 : BitVec 32 := Scalar.extui v438
  let c0_i32_187 : BitVec 32 := 0#32
  let v440 : BitVec 1 := Scalar.cmpi .slt c128_i32_183 c0_i32_187
  let v441 : BitVec 32 := Scalar.extui v440
  let v442 : BitVec 32 := Scalar.subi v439 v441
  let v443 : BitVec 1 := Scalar.cmpi .ne v437 v442
  let v444 : BitVec 32 := Scalar.remsi v428 c128_i32_183
  let c0_i32_188 : BitVec 32 := 0#32
  let v445 : BitVec 1 := Scalar.cmpi .ne v444 c0_i32_188
  let v446 : BitVec 1 := Scalar.andi v443 v445
  let v432 : BitVec 32 := Scalar.divsi v428 c128_i32_183
  let c1_i32_189 : BitVec 32 := 1#32
  let v447 : BitVec 32 := Scalar.subi v432 c1_i32_189
  let v448 : BitVec 32 := Scalar.select v446 v447 v432
  let c128_i32_190 : BitVec 32 := 128#32
  let v449 : BitVec 32 := Scalar.muli v448 c128_i32_190
  let v450 : BitVec 32 := v449
  ![v431.toNat, v450.toNat]

def k0_chk15 (i : grid0.Coords) (v430 : BitVec 32) : Prop :=
  (8 ∣ (k0_mult29 v430).toNat) ∧
  (∀ a, (k0_off31 i v430) a + S8x128.size a ≤ S100000x1024.size a) ∧
  (∀ a, (k0_off80 i v430) a + S8x128.size a ≤ S100000x1024.size a)
theorem k0_mult29_dvd : ∀ (i : grid0.Coords) (v430 : BitVec 32) (k0_hw15 : k0_chk15 i v430), 8 ∣ (k0_mult29 v430).toNat := fun i v430 k0_hw15 => k0_hw15.1
theorem k0_off31_inb : ∀ (i : grid0.Coords) (v430 : BitVec 32) (k0_hw15 : k0_chk15 i v430), ∀ a, (k0_off31 i v430) a + S8x128.size a ≤ S100000x1024.size a := fun i v430 k0_hw15 => k0_hw15.2.1
theorem k0_off80_inb : ∀ (i : grid0.Coords) (v430 : BitVec 32) (k0_hw15 : k0_chk15 i v430), ∀ a, (k0_off80 i v430) a + S8x128.size a ≤ S100000x1024.size a := fun i v430 k0_hw15 => k0_hw15.2.2

def k0_off81 (i : grid0.Coords) (v460 : BitVec 32) : Fin 2 → Nat :=
  let v461 : BitVec 32 := v460
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_195 : BitVec 32 := 0#32
  let v457 : BitVec 32 := Scalar.addi v2 c0_i32_195
  let c15_i32 : BitVec 32 := 15#32
  let v458 : BitVec 32 := Scalar.addi v457 c15_i32
  let c0_i32_197 : BitVec 32 := 0#32
  let v463 : BitVec 1 := Scalar.cmpi .sgt v458 c0_i32_197
  let v464 : BitVec 32 := Scalar.extui v463
  let c0_i32_198 : BitVec 32 := 0#32
  let v465 : BitVec 1 := Scalar.cmpi .slt v458 c0_i32_198
  let v466 : BitVec 32 := Scalar.extui v465
  let v467 : BitVec 32 := Scalar.subi v464 v466
  let c128_i32_196 : BitVec 32 := 128#32
  let c0_i32_199 : BitVec 32 := 0#32
  let v468 : BitVec 1 := Scalar.cmpi .sgt c128_i32_196 c0_i32_199
  let v469 : BitVec 32 := Scalar.extui v468
  let c0_i32_200 : BitVec 32 := 0#32
  let v470 : BitVec 1 := Scalar.cmpi .slt c128_i32_196 c0_i32_200
  let v471 : BitVec 32 := Scalar.extui v470
  let v472 : BitVec 32 := Scalar.subi v469 v471
  let v473 : BitVec 1 := Scalar.cmpi .ne v467 v472
  let v474 : BitVec 32 := Scalar.remsi v458 c128_i32_196
  let c0_i32_201 : BitVec 32 := 0#32
  let v475 : BitVec 1 := Scalar.cmpi .ne v474 c0_i32_201
  let v476 : BitVec 1 := Scalar.andi v473 v475
  let v462 : BitVec 32 := Scalar.divsi v458 c128_i32_196
  let c1_i32_202 : BitVec 32 := 1#32
  let v477 : BitVec 32 := Scalar.subi v462 c1_i32_202
  let v478 : BitVec 32 := Scalar.select v476 v477 v462
  let c128_i32_203 : BitVec 32 := 128#32
  let v479 : BitVec 32 := Scalar.muli v478 c128_i32_203
  let v480 : BitVec 32 := v479
  ![v461.toNat, v480.toNat]

def k0_chk16 (i : grid0.Coords) (v460 : BitVec 32) : Prop :=
  (8 ∣ (k0_mult31 v460).toNat) ∧
  (∀ a, (k0_off33 i v460) a + S8x128.size a ≤ S100000x1024.size a) ∧
  (∀ a, (k0_off81 i v460) a + S8x128.size a ≤ S100000x1024.size a)
theorem k0_mult31_dvd : ∀ (i : grid0.Coords) (v460 : BitVec 32) (k0_hw16 : k0_chk16 i v460), 8 ∣ (k0_mult31 v460).toNat := fun i v460 k0_hw16 => k0_hw16.1
theorem k0_off33_inb : ∀ (i : grid0.Coords) (v460 : BitVec 32) (k0_hw16 : k0_chk16 i v460), ∀ a, (k0_off33 i v460) a + S8x128.size a ≤ S100000x1024.size a := fun i v460 k0_hw16 => k0_hw16.2.1
theorem k0_off81_inb : ∀ (i : grid0.Coords) (v460 : BitVec 32) (k0_hw16 : k0_chk16 i v460), ∀ a, (k0_off81 i v460) a + S8x128.size a ≤ S100000x1024.size a := fun i v460 k0_hw16 => k0_hw16.2.2

def k0_off82 (i : grid0.Coords) (v494 : BitVec 32) : Fin 2 → Nat :=
  let v495 : BitVec 32 := v494
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32 : BitVec 32 := 16#32
  let v491 : BitVec 32 := Scalar.addi v2 c16_i32
  let c0_i32_209 : BitVec 32 := 0#32
  let v492 : BitVec 32 := Scalar.addi v491 c0_i32_209
  let c0_i32_211 : BitVec 32 := 0#32
  let v497 : BitVec 1 := Scalar.cmpi .sgt v492 c0_i32_211
  let v498 : BitVec 32 := Scalar.extui v497
  let c0_i32_212 : BitVec 32 := 0#32
  let v499 : BitVec 1 := Scalar.cmpi .slt v492 c0_i32_212
  let v500 : BitVec 32 := Scalar.extui v499
  let v501 : BitVec 32 := Scalar.subi v498 v500
  let c128_i32_210 : BitVec 32 := 128#32
  let c0_i32_213 : BitVec 32 := 0#32
  let v502 : BitVec 1 := Scalar.cmpi .sgt c128_i32_210 c0_i32_213
  let v503 : BitVec 32 := Scalar.extui v502
  let c0_i32_214 : BitVec 32 := 0#32
  let v504 : BitVec 1 := Scalar.cmpi .slt c128_i32_210 c0_i32_214
  let v505 : BitVec 32 := Scalar.extui v504
  let v506 : BitVec 32 := Scalar.subi v503 v505
  let v507 : BitVec 1 := Scalar.cmpi .ne v501 v506
  let v508 : BitVec 32 := Scalar.remsi v492 c128_i32_210
  let c0_i32_215 : BitVec 32 := 0#32
  let v509 : BitVec 1 := Scalar.cmpi .ne v508 c0_i32_215
  let v510 : BitVec 1 := Scalar.andi v507 v509
  let v496 : BitVec 32 := Scalar.divsi v492 c128_i32_210
  let c1_i32_216 : BitVec 32 := 1#32
  let v511 : BitVec 32 := Scalar.subi v496 c1_i32_216
  let v512 : BitVec 32 := Scalar.select v510 v511 v496
  let c128_i32_217 : BitVec 32 := 128#32
  let v513 : BitVec 32 := Scalar.muli v512 c128_i32_217
  let v514 : BitVec 32 := v513
  ![v495.toNat, v514.toNat]

def k0_chk17 (i : grid0.Coords) (v494 : BitVec 32) : Prop :=
  (8 ∣ (k0_mult33 v494).toNat) ∧
  (∀ a, (k0_off35 i v494) a + S8x128.size a ≤ S100000x1024.size a) ∧
  (∀ a, (k0_off82 i v494) a + S8x128.size a ≤ S100000x1024.size a)
theorem k0_mult33_dvd : ∀ (i : grid0.Coords) (v494 : BitVec 32) (k0_hw17 : k0_chk17 i v494), 8 ∣ (k0_mult33 v494).toNat := fun i v494 k0_hw17 => k0_hw17.1
theorem k0_off35_inb : ∀ (i : grid0.Coords) (v494 : BitVec 32) (k0_hw17 : k0_chk17 i v494), ∀ a, (k0_off35 i v494) a + S8x128.size a ≤ S100000x1024.size a := fun i v494 k0_hw17 => k0_hw17.2.1
theorem k0_off82_inb : ∀ (i : grid0.Coords) (v494 : BitVec 32) (k0_hw17 : k0_chk17 i v494), ∀ a, (k0_off82 i v494) a + S8x128.size a ≤ S100000x1024.size a := fun i v494 k0_hw17 => k0_hw17.2.2

def k0_off83 (i : grid0.Coords) (v524 : BitVec 32) : Fin 2 → Nat :=
  let v525 : BitVec 32 := v524
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_222 : BitVec 32 := 16#32
  let v521 : BitVec 32 := Scalar.addi v2 c16_i32_222
  let c1_i32_223 : BitVec 32 := 1#32
  let v522 : BitVec 32 := Scalar.addi v521 c1_i32_223
  let c0_i32_225 : BitVec 32 := 0#32
  let v527 : BitVec 1 := Scalar.cmpi .sgt v522 c0_i32_225
  let v528 : BitVec 32 := Scalar.extui v527
  let c0_i32_226 : BitVec 32 := 0#32
  let v529 : BitVec 1 := Scalar.cmpi .slt v522 c0_i32_226
  let v530 : BitVec 32 := Scalar.extui v529
  let v531 : BitVec 32 := Scalar.subi v528 v530
  let c128_i32_224 : BitVec 32 := 128#32
  let c0_i32_227 : BitVec 32 := 0#32
  let v532 : BitVec 1 := Scalar.cmpi .sgt c128_i32_224 c0_i32_227
  let v533 : BitVec 32 := Scalar.extui v532
  let c0_i32_228 : BitVec 32 := 0#32
  let v534 : BitVec 1 := Scalar.cmpi .slt c128_i32_224 c0_i32_228
  let v535 : BitVec 32 := Scalar.extui v534
  let v536 : BitVec 32 := Scalar.subi v533 v535
  let v537 : BitVec 1 := Scalar.cmpi .ne v531 v536
  let v538 : BitVec 32 := Scalar.remsi v522 c128_i32_224
  let c0_i32_229 : BitVec 32 := 0#32
  let v539 : BitVec 1 := Scalar.cmpi .ne v538 c0_i32_229
  let v540 : BitVec 1 := Scalar.andi v537 v539
  let v526 : BitVec 32 := Scalar.divsi v522 c128_i32_224
  let c1_i32_230 : BitVec 32 := 1#32
  let v541 : BitVec 32 := Scalar.subi v526 c1_i32_230
  let v542 : BitVec 32 := Scalar.select v540 v541 v526
  let c128_i32_231 : BitVec 32 := 128#32
  let v543 : BitVec 32 := Scalar.muli v542 c128_i32_231
  let v544 : BitVec 32 := v543
  ![v525.toNat, v544.toNat]

def k0_chk18 (i : grid0.Coords) (v524 : BitVec 32) : Prop :=
  (8 ∣ (k0_mult35 v524).toNat) ∧
  (∀ a, (k0_off37 i v524) a + S8x128.size a ≤ S100000x1024.size a) ∧
  (∀ a, (k0_off83 i v524) a + S8x128.size a ≤ S100000x1024.size a)
theorem k0_mult35_dvd : ∀ (i : grid0.Coords) (v524 : BitVec 32) (k0_hw18 : k0_chk18 i v524), 8 ∣ (k0_mult35 v524).toNat := fun i v524 k0_hw18 => k0_hw18.1
theorem k0_off37_inb : ∀ (i : grid0.Coords) (v524 : BitVec 32) (k0_hw18 : k0_chk18 i v524), ∀ a, (k0_off37 i v524) a + S8x128.size a ≤ S100000x1024.size a := fun i v524 k0_hw18 => k0_hw18.2.1
theorem k0_off83_inb : ∀ (i : grid0.Coords) (v524 : BitVec 32) (k0_hw18 : k0_chk18 i v524), ∀ a, (k0_off83 i v524) a + S8x128.size a ≤ S100000x1024.size a := fun i v524 k0_hw18 => k0_hw18.2.2

def k0_off84 (i : grid0.Coords) (v554 : BitVec 32) : Fin 2 → Nat :=
  let v555 : BitVec 32 := v554
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_236 : BitVec 32 := 16#32
  let v551 : BitVec 32 := Scalar.addi v2 c16_i32_236
  let c2_i32_237 : BitVec 32 := 2#32
  let v552 : BitVec 32 := Scalar.addi v551 c2_i32_237
  let c0_i32_239 : BitVec 32 := 0#32
  let v557 : BitVec 1 := Scalar.cmpi .sgt v552 c0_i32_239
  let v558 : BitVec 32 := Scalar.extui v557
  let c0_i32_240 : BitVec 32 := 0#32
  let v559 : BitVec 1 := Scalar.cmpi .slt v552 c0_i32_240
  let v560 : BitVec 32 := Scalar.extui v559
  let v561 : BitVec 32 := Scalar.subi v558 v560
  let c128_i32_238 : BitVec 32 := 128#32
  let c0_i32_241 : BitVec 32 := 0#32
  let v562 : BitVec 1 := Scalar.cmpi .sgt c128_i32_238 c0_i32_241
  let v563 : BitVec 32 := Scalar.extui v562
  let c0_i32_242 : BitVec 32 := 0#32
  let v564 : BitVec 1 := Scalar.cmpi .slt c128_i32_238 c0_i32_242
  let v565 : BitVec 32 := Scalar.extui v564
  let v566 : BitVec 32 := Scalar.subi v563 v565
  let v567 : BitVec 1 := Scalar.cmpi .ne v561 v566
  let v568 : BitVec 32 := Scalar.remsi v552 c128_i32_238
  let c0_i32_243 : BitVec 32 := 0#32
  let v569 : BitVec 1 := Scalar.cmpi .ne v568 c0_i32_243
  let v570 : BitVec 1 := Scalar.andi v567 v569
  let v556 : BitVec 32 := Scalar.divsi v552 c128_i32_238
  let c1_i32_244 : BitVec 32 := 1#32
  let v571 : BitVec 32 := Scalar.subi v556 c1_i32_244
  let v572 : BitVec 32 := Scalar.select v570 v571 v556
  let c128_i32_245 : BitVec 32 := 128#32
  let v573 : BitVec 32 := Scalar.muli v572 c128_i32_245
  let v574 : BitVec 32 := v573
  ![v555.toNat, v574.toNat]

def k0_chk19 (i : grid0.Coords) (v554 : BitVec 32) : Prop :=
  (8 ∣ (k0_mult37 v554).toNat) ∧
  (∀ a, (k0_off39 i v554) a + S8x128.size a ≤ S100000x1024.size a) ∧
  (∀ a, (k0_off84 i v554) a + S8x128.size a ≤ S100000x1024.size a)
theorem k0_mult37_dvd : ∀ (i : grid0.Coords) (v554 : BitVec 32) (k0_hw19 : k0_chk19 i v554), 8 ∣ (k0_mult37 v554).toNat := fun i v554 k0_hw19 => k0_hw19.1
theorem k0_off39_inb : ∀ (i : grid0.Coords) (v554 : BitVec 32) (k0_hw19 : k0_chk19 i v554), ∀ a, (k0_off39 i v554) a + S8x128.size a ≤ S100000x1024.size a := fun i v554 k0_hw19 => k0_hw19.2.1
theorem k0_off84_inb : ∀ (i : grid0.Coords) (v554 : BitVec 32) (k0_hw19 : k0_chk19 i v554), ∀ a, (k0_off84 i v554) a + S8x128.size a ≤ S100000x1024.size a := fun i v554 k0_hw19 => k0_hw19.2.2

def k0_off85 (i : grid0.Coords) (v584 : BitVec 32) : Fin 2 → Nat :=
  let v585 : BitVec 32 := v584
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_250 : BitVec 32 := 16#32
  let v581 : BitVec 32 := Scalar.addi v2 c16_i32_250
  let c3_i32_251 : BitVec 32 := 3#32
  let v582 : BitVec 32 := Scalar.addi v581 c3_i32_251
  let c0_i32_253 : BitVec 32 := 0#32
  let v587 : BitVec 1 := Scalar.cmpi .sgt v582 c0_i32_253
  let v588 : BitVec 32 := Scalar.extui v587
  let c0_i32_254 : BitVec 32 := 0#32
  let v589 : BitVec 1 := Scalar.cmpi .slt v582 c0_i32_254
  let v590 : BitVec 32 := Scalar.extui v589
  let v591 : BitVec 32 := Scalar.subi v588 v590
  let c128_i32_252 : BitVec 32 := 128#32
  let c0_i32_255 : BitVec 32 := 0#32
  let v592 : BitVec 1 := Scalar.cmpi .sgt c128_i32_252 c0_i32_255
  let v593 : BitVec 32 := Scalar.extui v592
  let c0_i32_256 : BitVec 32 := 0#32
  let v594 : BitVec 1 := Scalar.cmpi .slt c128_i32_252 c0_i32_256
  let v595 : BitVec 32 := Scalar.extui v594
  let v596 : BitVec 32 := Scalar.subi v593 v595
  let v597 : BitVec 1 := Scalar.cmpi .ne v591 v596
  let v598 : BitVec 32 := Scalar.remsi v582 c128_i32_252
  let c0_i32_257 : BitVec 32 := 0#32
  let v599 : BitVec 1 := Scalar.cmpi .ne v598 c0_i32_257
  let v600 : BitVec 1 := Scalar.andi v597 v599
  let v586 : BitVec 32 := Scalar.divsi v582 c128_i32_252
  let c1_i32_258 : BitVec 32 := 1#32
  let v601 : BitVec 32 := Scalar.subi v586 c1_i32_258
  let v602 : BitVec 32 := Scalar.select v600 v601 v586
  let c128_i32_259 : BitVec 32 := 128#32
  let v603 : BitVec 32 := Scalar.muli v602 c128_i32_259
  let v604 : BitVec 32 := v603
  ![v585.toNat, v604.toNat]

def k0_chk20 (i : grid0.Coords) (v584 : BitVec 32) : Prop :=
  (8 ∣ (k0_mult39 v584).toNat) ∧
  (∀ a, (k0_off41 i v584) a + S8x128.size a ≤ S100000x1024.size a) ∧
  (∀ a, (k0_off85 i v584) a + S8x128.size a ≤ S100000x1024.size a)
theorem k0_mult39_dvd : ∀ (i : grid0.Coords) (v584 : BitVec 32) (k0_hw20 : k0_chk20 i v584), 8 ∣ (k0_mult39 v584).toNat := fun i v584 k0_hw20 => k0_hw20.1
theorem k0_off41_inb : ∀ (i : grid0.Coords) (v584 : BitVec 32) (k0_hw20 : k0_chk20 i v584), ∀ a, (k0_off41 i v584) a + S8x128.size a ≤ S100000x1024.size a := fun i v584 k0_hw20 => k0_hw20.2.1
theorem k0_off85_inb : ∀ (i : grid0.Coords) (v584 : BitVec 32) (k0_hw20 : k0_chk20 i v584), ∀ a, (k0_off85 i v584) a + S8x128.size a ≤ S100000x1024.size a := fun i v584 k0_hw20 => k0_hw20.2.2

def k0_off86 (i : grid0.Coords) (v614 : BitVec 32) : Fin 2 → Nat :=
  let v615 : BitVec 32 := v614
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_264 : BitVec 32 := 16#32
  let v611 : BitVec 32 := Scalar.addi v2 c16_i32_264
  let c4_i32_265 : BitVec 32 := 4#32
  let v612 : BitVec 32 := Scalar.addi v611 c4_i32_265
  let c0_i32_267 : BitVec 32 := 0#32
  let v617 : BitVec 1 := Scalar.cmpi .sgt v612 c0_i32_267
  let v618 : BitVec 32 := Scalar.extui v617
  let c0_i32_268 : BitVec 32 := 0#32
  let v619 : BitVec 1 := Scalar.cmpi .slt v612 c0_i32_268
  let v620 : BitVec 32 := Scalar.extui v619
  let v621 : BitVec 32 := Scalar.subi v618 v620
  let c128_i32_266 : BitVec 32 := 128#32
  let c0_i32_269 : BitVec 32 := 0#32
  let v622 : BitVec 1 := Scalar.cmpi .sgt c128_i32_266 c0_i32_269
  let v623 : BitVec 32 := Scalar.extui v622
  let c0_i32_270 : BitVec 32 := 0#32
  let v624 : BitVec 1 := Scalar.cmpi .slt c128_i32_266 c0_i32_270
  let v625 : BitVec 32 := Scalar.extui v624
  let v626 : BitVec 32 := Scalar.subi v623 v625
  let v627 : BitVec 1 := Scalar.cmpi .ne v621 v626
  let v628 : BitVec 32 := Scalar.remsi v612 c128_i32_266
  let c0_i32_271 : BitVec 32 := 0#32
  let v629 : BitVec 1 := Scalar.cmpi .ne v628 c0_i32_271
  let v630 : BitVec 1 := Scalar.andi v627 v629
  let v616 : BitVec 32 := Scalar.divsi v612 c128_i32_266
  let c1_i32_272 : BitVec 32 := 1#32
  let v631 : BitVec 32 := Scalar.subi v616 c1_i32_272
  let v632 : BitVec 32 := Scalar.select v630 v631 v616
  let c128_i32_273 : BitVec 32 := 128#32
  let v633 : BitVec 32 := Scalar.muli v632 c128_i32_273
  let v634 : BitVec 32 := v633
  ![v615.toNat, v634.toNat]

def k0_chk21 (i : grid0.Coords) (v614 : BitVec 32) : Prop :=
  (8 ∣ (k0_mult41 v614).toNat) ∧
  (∀ a, (k0_off43 i v614) a + S8x128.size a ≤ S100000x1024.size a) ∧
  (∀ a, (k0_off86 i v614) a + S8x128.size a ≤ S100000x1024.size a)
theorem k0_mult41_dvd : ∀ (i : grid0.Coords) (v614 : BitVec 32) (k0_hw21 : k0_chk21 i v614), 8 ∣ (k0_mult41 v614).toNat := fun i v614 k0_hw21 => k0_hw21.1
theorem k0_off43_inb : ∀ (i : grid0.Coords) (v614 : BitVec 32) (k0_hw21 : k0_chk21 i v614), ∀ a, (k0_off43 i v614) a + S8x128.size a ≤ S100000x1024.size a := fun i v614 k0_hw21 => k0_hw21.2.1
theorem k0_off86_inb : ∀ (i : grid0.Coords) (v614 : BitVec 32) (k0_hw21 : k0_chk21 i v614), ∀ a, (k0_off86 i v614) a + S8x128.size a ≤ S100000x1024.size a := fun i v614 k0_hw21 => k0_hw21.2.2

def k0_off87 (i : grid0.Coords) (v644 : BitVec 32) : Fin 2 → Nat :=
  let v645 : BitVec 32 := v644
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_278 : BitVec 32 := 16#32
  let v641 : BitVec 32 := Scalar.addi v2 c16_i32_278
  let c5_i32_279 : BitVec 32 := 5#32
  let v642 : BitVec 32 := Scalar.addi v641 c5_i32_279
  let c0_i32_281 : BitVec 32 := 0#32
  let v647 : BitVec 1 := Scalar.cmpi .sgt v642 c0_i32_281
  let v648 : BitVec 32 := Scalar.extui v647
  let c0_i32_282 : BitVec 32 := 0#32
  let v649 : BitVec 1 := Scalar.cmpi .slt v642 c0_i32_282
  let v650 : BitVec 32 := Scalar.extui v649
  let v651 : BitVec 32 := Scalar.subi v648 v650
  let c128_i32_280 : BitVec 32 := 128#32
  let c0_i32_283 : BitVec 32 := 0#32
  let v652 : BitVec 1 := Scalar.cmpi .sgt c128_i32_280 c0_i32_283
  let v653 : BitVec 32 := Scalar.extui v652
  let c0_i32_284 : BitVec 32 := 0#32
  let v654 : BitVec 1 := Scalar.cmpi .slt c128_i32_280 c0_i32_284
  let v655 : BitVec 32 := Scalar.extui v654
  let v656 : BitVec 32 := Scalar.subi v653 v655
  let v657 : BitVec 1 := Scalar.cmpi .ne v651 v656
  let v658 : BitVec 32 := Scalar.remsi v642 c128_i32_280
  let c0_i32_285 : BitVec 32 := 0#32
  let v659 : BitVec 1 := Scalar.cmpi .ne v658 c0_i32_285
  let v660 : BitVec 1 := Scalar.andi v657 v659
  let v646 : BitVec 32 := Scalar.divsi v642 c128_i32_280
  let c1_i32_286 : BitVec 32 := 1#32
  let v661 : BitVec 32 := Scalar.subi v646 c1_i32_286
  let v662 : BitVec 32 := Scalar.select v660 v661 v646
  let c128_i32_287 : BitVec 32 := 128#32
  let v663 : BitVec 32 := Scalar.muli v662 c128_i32_287
  let v664 : BitVec 32 := v663
  ![v645.toNat, v664.toNat]

def k0_chk22 (i : grid0.Coords) (v644 : BitVec 32) : Prop :=
  (8 ∣ (k0_mult43 v644).toNat) ∧
  (∀ a, (k0_off45 i v644) a + S8x128.size a ≤ S100000x1024.size a) ∧
  (∀ a, (k0_off87 i v644) a + S8x128.size a ≤ S100000x1024.size a)
theorem k0_mult43_dvd : ∀ (i : grid0.Coords) (v644 : BitVec 32) (k0_hw22 : k0_chk22 i v644), 8 ∣ (k0_mult43 v644).toNat := fun i v644 k0_hw22 => k0_hw22.1
theorem k0_off45_inb : ∀ (i : grid0.Coords) (v644 : BitVec 32) (k0_hw22 : k0_chk22 i v644), ∀ a, (k0_off45 i v644) a + S8x128.size a ≤ S100000x1024.size a := fun i v644 k0_hw22 => k0_hw22.2.1
theorem k0_off87_inb : ∀ (i : grid0.Coords) (v644 : BitVec 32) (k0_hw22 : k0_chk22 i v644), ∀ a, (k0_off87 i v644) a + S8x128.size a ≤ S100000x1024.size a := fun i v644 k0_hw22 => k0_hw22.2.2

def k0_off88 (i : grid0.Coords) (v674 : BitVec 32) : Fin 2 → Nat :=
  let v675 : BitVec 32 := v674
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_292 : BitVec 32 := 16#32
  let v671 : BitVec 32 := Scalar.addi v2 c16_i32_292
  let c6_i32_293 : BitVec 32 := 6#32
  let v672 : BitVec 32 := Scalar.addi v671 c6_i32_293
  let c0_i32_295 : BitVec 32 := 0#32
  let v677 : BitVec 1 := Scalar.cmpi .sgt v672 c0_i32_295
  let v678 : BitVec 32 := Scalar.extui v677
  let c0_i32_296 : BitVec 32 := 0#32
  let v679 : BitVec 1 := Scalar.cmpi .slt v672 c0_i32_296
  let v680 : BitVec 32 := Scalar.extui v679
  let v681 : BitVec 32 := Scalar.subi v678 v680
  let c128_i32_294 : BitVec 32 := 128#32
  let c0_i32_297 : BitVec 32 := 0#32
  let v682 : BitVec 1 := Scalar.cmpi .sgt c128_i32_294 c0_i32_297
  let v683 : BitVec 32 := Scalar.extui v682
  let c0_i32_298 : BitVec 32 := 0#32
  let v684 : BitVec 1 := Scalar.cmpi .slt c128_i32_294 c0_i32_298
  let v685 : BitVec 32 := Scalar.extui v684
  let v686 : BitVec 32 := Scalar.subi v683 v685
  let v687 : BitVec 1 := Scalar.cmpi .ne v681 v686
  let v688 : BitVec 32 := Scalar.remsi v672 c128_i32_294
  let c0_i32_299 : BitVec 32 := 0#32
  let v689 : BitVec 1 := Scalar.cmpi .ne v688 c0_i32_299
  let v690 : BitVec 1 := Scalar.andi v687 v689
  let v676 : BitVec 32 := Scalar.divsi v672 c128_i32_294
  let c1_i32_300 : BitVec 32 := 1#32
  let v691 : BitVec 32 := Scalar.subi v676 c1_i32_300
  let v692 : BitVec 32 := Scalar.select v690 v691 v676
  let c128_i32_301 : BitVec 32 := 128#32
  let v693 : BitVec 32 := Scalar.muli v692 c128_i32_301
  let v694 : BitVec 32 := v693
  ![v675.toNat, v694.toNat]

def k0_chk23 (i : grid0.Coords) (v674 : BitVec 32) : Prop :=
  (8 ∣ (k0_mult45 v674).toNat) ∧
  (∀ a, (k0_off47 i v674) a + S8x128.size a ≤ S100000x1024.size a) ∧
  (∀ a, (k0_off88 i v674) a + S8x128.size a ≤ S100000x1024.size a)
theorem k0_mult45_dvd : ∀ (i : grid0.Coords) (v674 : BitVec 32) (k0_hw23 : k0_chk23 i v674), 8 ∣ (k0_mult45 v674).toNat := fun i v674 k0_hw23 => k0_hw23.1
theorem k0_off47_inb : ∀ (i : grid0.Coords) (v674 : BitVec 32) (k0_hw23 : k0_chk23 i v674), ∀ a, (k0_off47 i v674) a + S8x128.size a ≤ S100000x1024.size a := fun i v674 k0_hw23 => k0_hw23.2.1
theorem k0_off88_inb : ∀ (i : grid0.Coords) (v674 : BitVec 32) (k0_hw23 : k0_chk23 i v674), ∀ a, (k0_off88 i v674) a + S8x128.size a ≤ S100000x1024.size a := fun i v674 k0_hw23 => k0_hw23.2.2

def k0_off89 (i : grid0.Coords) (v704 : BitVec 32) : Fin 2 → Nat :=
  let v705 : BitVec 32 := v704
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_306 : BitVec 32 := 16#32
  let v701 : BitVec 32 := Scalar.addi v2 c16_i32_306
  let c7_i32_307 : BitVec 32 := 7#32
  let v702 : BitVec 32 := Scalar.addi v701 c7_i32_307
  let c0_i32_309 : BitVec 32 := 0#32
  let v707 : BitVec 1 := Scalar.cmpi .sgt v702 c0_i32_309
  let v708 : BitVec 32 := Scalar.extui v707
  let c0_i32_310 : BitVec 32 := 0#32
  let v709 : BitVec 1 := Scalar.cmpi .slt v702 c0_i32_310
  let v710 : BitVec 32 := Scalar.extui v709
  let v711 : BitVec 32 := Scalar.subi v708 v710
  let c128_i32_308 : BitVec 32 := 128#32
  let c0_i32_311 : BitVec 32 := 0#32
  let v712 : BitVec 1 := Scalar.cmpi .sgt c128_i32_308 c0_i32_311
  let v713 : BitVec 32 := Scalar.extui v712
  let c0_i32_312 : BitVec 32 := 0#32
  let v714 : BitVec 1 := Scalar.cmpi .slt c128_i32_308 c0_i32_312
  let v715 : BitVec 32 := Scalar.extui v714
  let v716 : BitVec 32 := Scalar.subi v713 v715
  let v717 : BitVec 1 := Scalar.cmpi .ne v711 v716
  let v718 : BitVec 32 := Scalar.remsi v702 c128_i32_308
  let c0_i32_313 : BitVec 32 := 0#32
  let v719 : BitVec 1 := Scalar.cmpi .ne v718 c0_i32_313
  let v720 : BitVec 1 := Scalar.andi v717 v719
  let v706 : BitVec 32 := Scalar.divsi v702 c128_i32_308
  let c1_i32_314 : BitVec 32 := 1#32
  let v721 : BitVec 32 := Scalar.subi v706 c1_i32_314
  let v722 : BitVec 32 := Scalar.select v720 v721 v706
  let c128_i32_315 : BitVec 32 := 128#32
  let v723 : BitVec 32 := Scalar.muli v722 c128_i32_315
  let v724 : BitVec 32 := v723
  ![v705.toNat, v724.toNat]

def k0_chk24 (i : grid0.Coords) (v704 : BitVec 32) : Prop :=
  (8 ∣ (k0_mult47 v704).toNat) ∧
  (∀ a, (k0_off49 i v704) a + S8x128.size a ≤ S100000x1024.size a) ∧
  (∀ a, (k0_off89 i v704) a + S8x128.size a ≤ S100000x1024.size a)
theorem k0_mult47_dvd : ∀ (i : grid0.Coords) (v704 : BitVec 32) (k0_hw24 : k0_chk24 i v704), 8 ∣ (k0_mult47 v704).toNat := fun i v704 k0_hw24 => k0_hw24.1
theorem k0_off49_inb : ∀ (i : grid0.Coords) (v704 : BitVec 32) (k0_hw24 : k0_chk24 i v704), ∀ a, (k0_off49 i v704) a + S8x128.size a ≤ S100000x1024.size a := fun i v704 k0_hw24 => k0_hw24.2.1
theorem k0_off89_inb : ∀ (i : grid0.Coords) (v704 : BitVec 32) (k0_hw24 : k0_chk24 i v704), ∀ a, (k0_off89 i v704) a + S8x128.size a ≤ S100000x1024.size a := fun i v704 k0_hw24 => k0_hw24.2.2

def k0_off90 (i : grid0.Coords) (v734 : BitVec 32) : Fin 2 → Nat :=
  let v735 : BitVec 32 := v734
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_320 : BitVec 32 := 16#32
  let v731 : BitVec 32 := Scalar.addi v2 c16_i32_320
  let c8_i32_321 : BitVec 32 := 8#32
  let v732 : BitVec 32 := Scalar.addi v731 c8_i32_321
  let c0_i32_323 : BitVec 32 := 0#32
  let v737 : BitVec 1 := Scalar.cmpi .sgt v732 c0_i32_323
  let v738 : BitVec 32 := Scalar.extui v737
  let c0_i32_324 : BitVec 32 := 0#32
  let v739 : BitVec 1 := Scalar.cmpi .slt v732 c0_i32_324
  let v740 : BitVec 32 := Scalar.extui v739
  let v741 : BitVec 32 := Scalar.subi v738 v740
  let c128_i32_322 : BitVec 32 := 128#32
  let c0_i32_325 : BitVec 32 := 0#32
  let v742 : BitVec 1 := Scalar.cmpi .sgt c128_i32_322 c0_i32_325
  let v743 : BitVec 32 := Scalar.extui v742
  let c0_i32_326 : BitVec 32 := 0#32
  let v744 : BitVec 1 := Scalar.cmpi .slt c128_i32_322 c0_i32_326
  let v745 : BitVec 32 := Scalar.extui v744
  let v746 : BitVec 32 := Scalar.subi v743 v745
  let v747 : BitVec 1 := Scalar.cmpi .ne v741 v746
  let v748 : BitVec 32 := Scalar.remsi v732 c128_i32_322
  let c0_i32_327 : BitVec 32 := 0#32
  let v749 : BitVec 1 := Scalar.cmpi .ne v748 c0_i32_327
  let v750 : BitVec 1 := Scalar.andi v747 v749
  let v736 : BitVec 32 := Scalar.divsi v732 c128_i32_322
  let c1_i32_328 : BitVec 32 := 1#32
  let v751 : BitVec 32 := Scalar.subi v736 c1_i32_328
  let v752 : BitVec 32 := Scalar.select v750 v751 v736
  let c128_i32_329 : BitVec 32 := 128#32
  let v753 : BitVec 32 := Scalar.muli v752 c128_i32_329
  let v754 : BitVec 32 := v753
  ![v735.toNat, v754.toNat]

def k0_chk25 (i : grid0.Coords) (v734 : BitVec 32) : Prop :=
  (8 ∣ (k0_mult49 v734).toNat) ∧
  (∀ a, (k0_off51 i v734) a + S8x128.size a ≤ S100000x1024.size a) ∧
  (∀ a, (k0_off90 i v734) a + S8x128.size a ≤ S100000x1024.size a)
theorem k0_mult49_dvd : ∀ (i : grid0.Coords) (v734 : BitVec 32) (k0_hw25 : k0_chk25 i v734), 8 ∣ (k0_mult49 v734).toNat := fun i v734 k0_hw25 => k0_hw25.1
theorem k0_off51_inb : ∀ (i : grid0.Coords) (v734 : BitVec 32) (k0_hw25 : k0_chk25 i v734), ∀ a, (k0_off51 i v734) a + S8x128.size a ≤ S100000x1024.size a := fun i v734 k0_hw25 => k0_hw25.2.1
theorem k0_off90_inb : ∀ (i : grid0.Coords) (v734 : BitVec 32) (k0_hw25 : k0_chk25 i v734), ∀ a, (k0_off90 i v734) a + S8x128.size a ≤ S100000x1024.size a := fun i v734 k0_hw25 => k0_hw25.2.2

def k0_off91 (i : grid0.Coords) (v764 : BitVec 32) : Fin 2 → Nat :=
  let v765 : BitVec 32 := v764
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_334 : BitVec 32 := 16#32
  let v761 : BitVec 32 := Scalar.addi v2 c16_i32_334
  let c9_i32_335 : BitVec 32 := 9#32
  let v762 : BitVec 32 := Scalar.addi v761 c9_i32_335
  let c0_i32_337 : BitVec 32 := 0#32
  let v767 : BitVec 1 := Scalar.cmpi .sgt v762 c0_i32_337
  let v768 : BitVec 32 := Scalar.extui v767
  let c0_i32_338 : BitVec 32 := 0#32
  let v769 : BitVec 1 := Scalar.cmpi .slt v762 c0_i32_338
  let v770 : BitVec 32 := Scalar.extui v769
  let v771 : BitVec 32 := Scalar.subi v768 v770
  let c128_i32_336 : BitVec 32 := 128#32
  let c0_i32_339 : BitVec 32 := 0#32
  let v772 : BitVec 1 := Scalar.cmpi .sgt c128_i32_336 c0_i32_339
  let v773 : BitVec 32 := Scalar.extui v772
  let c0_i32_340 : BitVec 32 := 0#32
  let v774 : BitVec 1 := Scalar.cmpi .slt c128_i32_336 c0_i32_340
  let v775 : BitVec 32 := Scalar.extui v774
  let v776 : BitVec 32 := Scalar.subi v773 v775
  let v777 : BitVec 1 := Scalar.cmpi .ne v771 v776
  let v778 : BitVec 32 := Scalar.remsi v762 c128_i32_336
  let c0_i32_341 : BitVec 32 := 0#32
  let v779 : BitVec 1 := Scalar.cmpi .ne v778 c0_i32_341
  let v780 : BitVec 1 := Scalar.andi v777 v779
  let v766 : BitVec 32 := Scalar.divsi v762 c128_i32_336
  let c1_i32_342 : BitVec 32 := 1#32
  let v781 : BitVec 32 := Scalar.subi v766 c1_i32_342
  let v782 : BitVec 32 := Scalar.select v780 v781 v766
  let c128_i32_343 : BitVec 32 := 128#32
  let v783 : BitVec 32 := Scalar.muli v782 c128_i32_343
  let v784 : BitVec 32 := v783
  ![v765.toNat, v784.toNat]

def k0_chk26 (i : grid0.Coords) (v764 : BitVec 32) : Prop :=
  (8 ∣ (k0_mult51 v764).toNat) ∧
  (∀ a, (k0_off53 i v764) a + S8x128.size a ≤ S100000x1024.size a) ∧
  (∀ a, (k0_off91 i v764) a + S8x128.size a ≤ S100000x1024.size a)
theorem k0_mult51_dvd : ∀ (i : grid0.Coords) (v764 : BitVec 32) (k0_hw26 : k0_chk26 i v764), 8 ∣ (k0_mult51 v764).toNat := fun i v764 k0_hw26 => k0_hw26.1
theorem k0_off53_inb : ∀ (i : grid0.Coords) (v764 : BitVec 32) (k0_hw26 : k0_chk26 i v764), ∀ a, (k0_off53 i v764) a + S8x128.size a ≤ S100000x1024.size a := fun i v764 k0_hw26 => k0_hw26.2.1
theorem k0_off91_inb : ∀ (i : grid0.Coords) (v764 : BitVec 32) (k0_hw26 : k0_chk26 i v764), ∀ a, (k0_off91 i v764) a + S8x128.size a ≤ S100000x1024.size a := fun i v764 k0_hw26 => k0_hw26.2.2

def k0_off92 (i : grid0.Coords) (v794 : BitVec 32) : Fin 2 → Nat :=
  let v795 : BitVec 32 := v794
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_348 : BitVec 32 := 16#32
  let v791 : BitVec 32 := Scalar.addi v2 c16_i32_348
  let c10_i32_349 : BitVec 32 := 10#32
  let v792 : BitVec 32 := Scalar.addi v791 c10_i32_349
  let c0_i32_351 : BitVec 32 := 0#32
  let v797 : BitVec 1 := Scalar.cmpi .sgt v792 c0_i32_351
  let v798 : BitVec 32 := Scalar.extui v797
  let c0_i32_352 : BitVec 32 := 0#32
  let v799 : BitVec 1 := Scalar.cmpi .slt v792 c0_i32_352
  let v800 : BitVec 32 := Scalar.extui v799
  let v801 : BitVec 32 := Scalar.subi v798 v800
  let c128_i32_350 : BitVec 32 := 128#32
  let c0_i32_353 : BitVec 32 := 0#32
  let v802 : BitVec 1 := Scalar.cmpi .sgt c128_i32_350 c0_i32_353
  let v803 : BitVec 32 := Scalar.extui v802
  let c0_i32_354 : BitVec 32 := 0#32
  let v804 : BitVec 1 := Scalar.cmpi .slt c128_i32_350 c0_i32_354
  let v805 : BitVec 32 := Scalar.extui v804
  let v806 : BitVec 32 := Scalar.subi v803 v805
  let v807 : BitVec 1 := Scalar.cmpi .ne v801 v806
  let v808 : BitVec 32 := Scalar.remsi v792 c128_i32_350
  let c0_i32_355 : BitVec 32 := 0#32
  let v809 : BitVec 1 := Scalar.cmpi .ne v808 c0_i32_355
  let v810 : BitVec 1 := Scalar.andi v807 v809
  let v796 : BitVec 32 := Scalar.divsi v792 c128_i32_350
  let c1_i32_356 : BitVec 32 := 1#32
  let v811 : BitVec 32 := Scalar.subi v796 c1_i32_356
  let v812 : BitVec 32 := Scalar.select v810 v811 v796
  let c128_i32_357 : BitVec 32 := 128#32
  let v813 : BitVec 32 := Scalar.muli v812 c128_i32_357
  let v814 : BitVec 32 := v813
  ![v795.toNat, v814.toNat]

def k0_chk27 (i : grid0.Coords) (v794 : BitVec 32) : Prop :=
  (8 ∣ (k0_mult53 v794).toNat) ∧
  (∀ a, (k0_off55 i v794) a + S8x128.size a ≤ S100000x1024.size a) ∧
  (∀ a, (k0_off92 i v794) a + S8x128.size a ≤ S100000x1024.size a)
theorem k0_mult53_dvd : ∀ (i : grid0.Coords) (v794 : BitVec 32) (k0_hw27 : k0_chk27 i v794), 8 ∣ (k0_mult53 v794).toNat := fun i v794 k0_hw27 => k0_hw27.1
theorem k0_off55_inb : ∀ (i : grid0.Coords) (v794 : BitVec 32) (k0_hw27 : k0_chk27 i v794), ∀ a, (k0_off55 i v794) a + S8x128.size a ≤ S100000x1024.size a := fun i v794 k0_hw27 => k0_hw27.2.1
theorem k0_off92_inb : ∀ (i : grid0.Coords) (v794 : BitVec 32) (k0_hw27 : k0_chk27 i v794), ∀ a, (k0_off92 i v794) a + S8x128.size a ≤ S100000x1024.size a := fun i v794 k0_hw27 => k0_hw27.2.2

def k0_off93 (i : grid0.Coords) (v824 : BitVec 32) : Fin 2 → Nat :=
  let v825 : BitVec 32 := v824
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_362 : BitVec 32 := 16#32
  let v821 : BitVec 32 := Scalar.addi v2 c16_i32_362
  let c11_i32_363 : BitVec 32 := 11#32
  let v822 : BitVec 32 := Scalar.addi v821 c11_i32_363
  let c0_i32_365 : BitVec 32 := 0#32
  let v827 : BitVec 1 := Scalar.cmpi .sgt v822 c0_i32_365
  let v828 : BitVec 32 := Scalar.extui v827
  let c0_i32_366 : BitVec 32 := 0#32
  let v829 : BitVec 1 := Scalar.cmpi .slt v822 c0_i32_366
  let v830 : BitVec 32 := Scalar.extui v829
  let v831 : BitVec 32 := Scalar.subi v828 v830
  let c128_i32_364 : BitVec 32 := 128#32
  let c0_i32_367 : BitVec 32 := 0#32
  let v832 : BitVec 1 := Scalar.cmpi .sgt c128_i32_364 c0_i32_367
  let v833 : BitVec 32 := Scalar.extui v832
  let c0_i32_368 : BitVec 32 := 0#32
  let v834 : BitVec 1 := Scalar.cmpi .slt c128_i32_364 c0_i32_368
  let v835 : BitVec 32 := Scalar.extui v834
  let v836 : BitVec 32 := Scalar.subi v833 v835
  let v837 : BitVec 1 := Scalar.cmpi .ne v831 v836
  let v838 : BitVec 32 := Scalar.remsi v822 c128_i32_364
  let c0_i32_369 : BitVec 32 := 0#32
  let v839 : BitVec 1 := Scalar.cmpi .ne v838 c0_i32_369
  let v840 : BitVec 1 := Scalar.andi v837 v839
  let v826 : BitVec 32 := Scalar.divsi v822 c128_i32_364
  let c1_i32_370 : BitVec 32 := 1#32
  let v841 : BitVec 32 := Scalar.subi v826 c1_i32_370
  let v842 : BitVec 32 := Scalar.select v840 v841 v826
  let c128_i32_371 : BitVec 32 := 128#32
  let v843 : BitVec 32 := Scalar.muli v842 c128_i32_371
  let v844 : BitVec 32 := v843
  ![v825.toNat, v844.toNat]

def k0_chk28 (i : grid0.Coords) (v824 : BitVec 32) : Prop :=
  (8 ∣ (k0_mult55 v824).toNat) ∧
  (∀ a, (k0_off57 i v824) a + S8x128.size a ≤ S100000x1024.size a) ∧
  (∀ a, (k0_off93 i v824) a + S8x128.size a ≤ S100000x1024.size a)
theorem k0_mult55_dvd : ∀ (i : grid0.Coords) (v824 : BitVec 32) (k0_hw28 : k0_chk28 i v824), 8 ∣ (k0_mult55 v824).toNat := fun i v824 k0_hw28 => k0_hw28.1
theorem k0_off57_inb : ∀ (i : grid0.Coords) (v824 : BitVec 32) (k0_hw28 : k0_chk28 i v824), ∀ a, (k0_off57 i v824) a + S8x128.size a ≤ S100000x1024.size a := fun i v824 k0_hw28 => k0_hw28.2.1
theorem k0_off93_inb : ∀ (i : grid0.Coords) (v824 : BitVec 32) (k0_hw28 : k0_chk28 i v824), ∀ a, (k0_off93 i v824) a + S8x128.size a ≤ S100000x1024.size a := fun i v824 k0_hw28 => k0_hw28.2.2

def k0_off94 (i : grid0.Coords) (v854 : BitVec 32) : Fin 2 → Nat :=
  let v855 : BitVec 32 := v854
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_376 : BitVec 32 := 16#32
  let v851 : BitVec 32 := Scalar.addi v2 c16_i32_376
  let c12_i32_377 : BitVec 32 := 12#32
  let v852 : BitVec 32 := Scalar.addi v851 c12_i32_377
  let c0_i32_379 : BitVec 32 := 0#32
  let v857 : BitVec 1 := Scalar.cmpi .sgt v852 c0_i32_379
  let v858 : BitVec 32 := Scalar.extui v857
  let c0_i32_380 : BitVec 32 := 0#32
  let v859 : BitVec 1 := Scalar.cmpi .slt v852 c0_i32_380
  let v860 : BitVec 32 := Scalar.extui v859
  let v861 : BitVec 32 := Scalar.subi v858 v860
  let c128_i32_378 : BitVec 32 := 128#32
  let c0_i32_381 : BitVec 32 := 0#32
  let v862 : BitVec 1 := Scalar.cmpi .sgt c128_i32_378 c0_i32_381
  let v863 : BitVec 32 := Scalar.extui v862
  let c0_i32_382 : BitVec 32 := 0#32
  let v864 : BitVec 1 := Scalar.cmpi .slt c128_i32_378 c0_i32_382
  let v865 : BitVec 32 := Scalar.extui v864
  let v866 : BitVec 32 := Scalar.subi v863 v865
  let v867 : BitVec 1 := Scalar.cmpi .ne v861 v866
  let v868 : BitVec 32 := Scalar.remsi v852 c128_i32_378
  let c0_i32_383 : BitVec 32 := 0#32
  let v869 : BitVec 1 := Scalar.cmpi .ne v868 c0_i32_383
  let v870 : BitVec 1 := Scalar.andi v867 v869
  let v856 : BitVec 32 := Scalar.divsi v852 c128_i32_378
  let c1_i32_384 : BitVec 32 := 1#32
  let v871 : BitVec 32 := Scalar.subi v856 c1_i32_384
  let v872 : BitVec 32 := Scalar.select v870 v871 v856
  let c128_i32_385 : BitVec 32 := 128#32
  let v873 : BitVec 32 := Scalar.muli v872 c128_i32_385
  let v874 : BitVec 32 := v873
  ![v855.toNat, v874.toNat]

def k0_chk29 (i : grid0.Coords) (v854 : BitVec 32) : Prop :=
  (8 ∣ (k0_mult57 v854).toNat) ∧
  (∀ a, (k0_off59 i v854) a + S8x128.size a ≤ S100000x1024.size a) ∧
  (∀ a, (k0_off94 i v854) a + S8x128.size a ≤ S100000x1024.size a)
theorem k0_mult57_dvd : ∀ (i : grid0.Coords) (v854 : BitVec 32) (k0_hw29 : k0_chk29 i v854), 8 ∣ (k0_mult57 v854).toNat := fun i v854 k0_hw29 => k0_hw29.1
theorem k0_off59_inb : ∀ (i : grid0.Coords) (v854 : BitVec 32) (k0_hw29 : k0_chk29 i v854), ∀ a, (k0_off59 i v854) a + S8x128.size a ≤ S100000x1024.size a := fun i v854 k0_hw29 => k0_hw29.2.1
theorem k0_off94_inb : ∀ (i : grid0.Coords) (v854 : BitVec 32) (k0_hw29 : k0_chk29 i v854), ∀ a, (k0_off94 i v854) a + S8x128.size a ≤ S100000x1024.size a := fun i v854 k0_hw29 => k0_hw29.2.2

def k0_off95 (i : grid0.Coords) (v884 : BitVec 32) : Fin 2 → Nat :=
  let v885 : BitVec 32 := v884
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_390 : BitVec 32 := 16#32
  let v881 : BitVec 32 := Scalar.addi v2 c16_i32_390
  let c13_i32_391 : BitVec 32 := 13#32
  let v882 : BitVec 32 := Scalar.addi v881 c13_i32_391
  let c0_i32_393 : BitVec 32 := 0#32
  let v887 : BitVec 1 := Scalar.cmpi .sgt v882 c0_i32_393
  let v888 : BitVec 32 := Scalar.extui v887
  let c0_i32_394 : BitVec 32 := 0#32
  let v889 : BitVec 1 := Scalar.cmpi .slt v882 c0_i32_394
  let v890 : BitVec 32 := Scalar.extui v889
  let v891 : BitVec 32 := Scalar.subi v888 v890
  let c128_i32_392 : BitVec 32 := 128#32
  let c0_i32_395 : BitVec 32 := 0#32
  let v892 : BitVec 1 := Scalar.cmpi .sgt c128_i32_392 c0_i32_395
  let v893 : BitVec 32 := Scalar.extui v892
  let c0_i32_396 : BitVec 32 := 0#32
  let v894 : BitVec 1 := Scalar.cmpi .slt c128_i32_392 c0_i32_396
  let v895 : BitVec 32 := Scalar.extui v894
  let v896 : BitVec 32 := Scalar.subi v893 v895
  let v897 : BitVec 1 := Scalar.cmpi .ne v891 v896
  let v898 : BitVec 32 := Scalar.remsi v882 c128_i32_392
  let c0_i32_397 : BitVec 32 := 0#32
  let v899 : BitVec 1 := Scalar.cmpi .ne v898 c0_i32_397
  let v900 : BitVec 1 := Scalar.andi v897 v899
  let v886 : BitVec 32 := Scalar.divsi v882 c128_i32_392
  let c1_i32_398 : BitVec 32 := 1#32
  let v901 : BitVec 32 := Scalar.subi v886 c1_i32_398
  let v902 : BitVec 32 := Scalar.select v900 v901 v886
  let c128_i32_399 : BitVec 32 := 128#32
  let v903 : BitVec 32 := Scalar.muli v902 c128_i32_399
  let v904 : BitVec 32 := v903
  ![v885.toNat, v904.toNat]

def k0_chk30 (i : grid0.Coords) (v884 : BitVec 32) : Prop :=
  (8 ∣ (k0_mult59 v884).toNat) ∧
  (∀ a, (k0_off61 i v884) a + S8x128.size a ≤ S100000x1024.size a) ∧
  (∀ a, (k0_off95 i v884) a + S8x128.size a ≤ S100000x1024.size a)
theorem k0_mult59_dvd : ∀ (i : grid0.Coords) (v884 : BitVec 32) (k0_hw30 : k0_chk30 i v884), 8 ∣ (k0_mult59 v884).toNat := fun i v884 k0_hw30 => k0_hw30.1
theorem k0_off61_inb : ∀ (i : grid0.Coords) (v884 : BitVec 32) (k0_hw30 : k0_chk30 i v884), ∀ a, (k0_off61 i v884) a + S8x128.size a ≤ S100000x1024.size a := fun i v884 k0_hw30 => k0_hw30.2.1
theorem k0_off95_inb : ∀ (i : grid0.Coords) (v884 : BitVec 32) (k0_hw30 : k0_chk30 i v884), ∀ a, (k0_off95 i v884) a + S8x128.size a ≤ S100000x1024.size a := fun i v884 k0_hw30 => k0_hw30.2.2

def k0_off96 (i : grid0.Coords) (v914 : BitVec 32) : Fin 2 → Nat :=
  let v915 : BitVec 32 := v914
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_404 : BitVec 32 := 16#32
  let v911 : BitVec 32 := Scalar.addi v2 c16_i32_404
  let c14_i32_405 : BitVec 32 := 14#32
  let v912 : BitVec 32 := Scalar.addi v911 c14_i32_405
  let c0_i32_407 : BitVec 32 := 0#32
  let v917 : BitVec 1 := Scalar.cmpi .sgt v912 c0_i32_407
  let v918 : BitVec 32 := Scalar.extui v917
  let c0_i32_408 : BitVec 32 := 0#32
  let v919 : BitVec 1 := Scalar.cmpi .slt v912 c0_i32_408
  let v920 : BitVec 32 := Scalar.extui v919
  let v921 : BitVec 32 := Scalar.subi v918 v920
  let c128_i32_406 : BitVec 32 := 128#32
  let c0_i32_409 : BitVec 32 := 0#32
  let v922 : BitVec 1 := Scalar.cmpi .sgt c128_i32_406 c0_i32_409
  let v923 : BitVec 32 := Scalar.extui v922
  let c0_i32_410 : BitVec 32 := 0#32
  let v924 : BitVec 1 := Scalar.cmpi .slt c128_i32_406 c0_i32_410
  let v925 : BitVec 32 := Scalar.extui v924
  let v926 : BitVec 32 := Scalar.subi v923 v925
  let v927 : BitVec 1 := Scalar.cmpi .ne v921 v926
  let v928 : BitVec 32 := Scalar.remsi v912 c128_i32_406
  let c0_i32_411 : BitVec 32 := 0#32
  let v929 : BitVec 1 := Scalar.cmpi .ne v928 c0_i32_411
  let v930 : BitVec 1 := Scalar.andi v927 v929
  let v916 : BitVec 32 := Scalar.divsi v912 c128_i32_406
  let c1_i32_412 : BitVec 32 := 1#32
  let v931 : BitVec 32 := Scalar.subi v916 c1_i32_412
  let v932 : BitVec 32 := Scalar.select v930 v931 v916
  let c128_i32_413 : BitVec 32 := 128#32
  let v933 : BitVec 32 := Scalar.muli v932 c128_i32_413
  let v934 : BitVec 32 := v933
  ![v915.toNat, v934.toNat]

def k0_chk31 (i : grid0.Coords) (v914 : BitVec 32) : Prop :=
  (8 ∣ (k0_mult61 v914).toNat) ∧
  (∀ a, (k0_off63 i v914) a + S8x128.size a ≤ S100000x1024.size a) ∧
  (∀ a, (k0_off96 i v914) a + S8x128.size a ≤ S100000x1024.size a)
theorem k0_mult61_dvd : ∀ (i : grid0.Coords) (v914 : BitVec 32) (k0_hw31 : k0_chk31 i v914), 8 ∣ (k0_mult61 v914).toNat := fun i v914 k0_hw31 => k0_hw31.1
theorem k0_off63_inb : ∀ (i : grid0.Coords) (v914 : BitVec 32) (k0_hw31 : k0_chk31 i v914), ∀ a, (k0_off63 i v914) a + S8x128.size a ≤ S100000x1024.size a := fun i v914 k0_hw31 => k0_hw31.2.1
theorem k0_off96_inb : ∀ (i : grid0.Coords) (v914 : BitVec 32) (k0_hw31 : k0_chk31 i v914), ∀ a, (k0_off96 i v914) a + S8x128.size a ≤ S100000x1024.size a := fun i v914 k0_hw31 => k0_hw31.2.2

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1024 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1024 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1024x1 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1024x8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1024x8x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_one_plus_lamb" => some ((8192 / 11179101 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 115
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x100000, .f32⟩
  | .hbm, ⟨2, _⟩ => ⟨S1024, .i32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x1, .i32⟩
  | .hbm, ⟨20, _⟩ => ⟨S1024x2, .i32⟩
  | .hbm, ⟨21, _⟩ => ⟨S1024, .f32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S1024x1, .i32⟩
  | .hbm, ⟨37, _⟩ => ⟨S1024x1, .i32⟩
  | .hbm, ⟨38, _⟩ => ⟨S1024x2, .i32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S_, .i32⟩
  | .hbm, ⟨56, _⟩ => ⟨S1024, .i32⟩
  | .hbm, ⟨57, _⟩ => ⟨S1024, .i1⟩
  | .hbm, ⟨58, _⟩ => ⟨S_, .i32⟩
  | .hbm, ⟨59, _⟩ => ⟨S1024, .i32⟩
  | .hbm, ⟨60, _⟩ => ⟨S1024, .i32⟩
  | .hbm, ⟨61, _⟩ => ⟨S1024, .i32⟩
  | .hbm, ⟨62, _⟩ => ⟨S1024x1, .i32⟩
  | .hbm, ⟨63, _⟩ => ⟨S1024x1, .i32⟩
  | .hbm, ⟨64, _⟩ => ⟨S1024x2, .i32⟩
  | .hbm, ⟨65, _⟩ => ⟨S1024x100000, .f32⟩
  | .hbm, ⟨66, _⟩ => ⟨S_, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S1024x1, .f32⟩
  | .hbm, ⟨72, _⟩ => ⟨S1024x100000, .f32⟩
  | .hbm, ⟨73, _⟩ => ⟨S1024x100000, .f32⟩
  | .hbm, ⟨74, _⟩ => ⟨S1024x100000, .f32⟩
  | .hbm, ⟨75, _⟩ => ⟨S_, .f32⟩
  | .hbm, ⟨76, _⟩ => ⟨S1024, .f32⟩
  | .hbm, ⟨77, _⟩ => ⟨S1024x1, .f32⟩
  | .hbm, ⟨78, _⟩ => ⟨S1024x1, .f32⟩
  | .hbm, ⟨79, _⟩ => ⟨S1024x100000, .f32⟩
  | .hbm, ⟨80, _⟩ => ⟨S1024x100000, .f32⟩
  | .hbm, ⟨81, _⟩ => ⟨S_, .i32⟩
  | .hbm, ⟨82, _⟩ => ⟨S1024, .i32⟩
  | .hbm, ⟨83, _⟩ => ⟨S1024, .i1⟩
  | .hbm, ⟨84, _⟩ => ⟨S_, .i32⟩
  | .hbm, ⟨85, _⟩ => ⟨S1024, .i32⟩
  | .hbm, ⟨86, _⟩ => ⟨S1024, .i32⟩
  | .hbm, ⟨87, _⟩ => ⟨S1024, .i32⟩
  | .hbm, ⟨88, _⟩ => ⟨S_, .i32⟩
  | .hbm, ⟨89, _⟩ => ⟨S1024, .i32⟩
  | .hbm, ⟨90, _⟩ => ⟨S1024, .i1⟩
  | .hbm, ⟨91, _⟩ => ⟨S_, .i32⟩
  | .hbm, ⟨92, _⟩ => ⟨S1024, .i32⟩
  | .hbm, ⟨93, _⟩ => ⟨S1024, .i32⟩
  | .hbm, ⟨94, _⟩ => ⟨S1024, .i32⟩
  | .hbm, ⟨95, _⟩ => ⟨S1024x1, .i32⟩
  | .hbm, ⟨96, _⟩ => ⟨S1024x1, .i32⟩
  | .hbm, ⟨97, _⟩ => ⟨S1024x2, .i32⟩
  | .hbm, ⟨98, _⟩ => ⟨S1024, .f32⟩
  | .hbm, ⟨99, _⟩ => ⟨S1024, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1024x100000, .i32⟩
  | .hbm, ⟨105, _⟩ => ⟨S_, .f32⟩
  | .hbm, ⟨106, _⟩ => ⟨S_, .i32⟩
  | .hbm, ⟨107, _⟩ => ⟨S1024, .f32⟩
  | .hbm, ⟨108, _⟩ => ⟨S1024, .i32⟩
  | .hbm, ⟨109, _⟩ => ⟨S1024, .i1⟩
  | .hbm, ⟨110, _⟩ => ⟨S1024, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_c_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_10 : Ref sig .tc := ⟨.hbm, 55, rfl⟩
abbrev main_v40 : Ref sig .tc := ⟨.hbm, 56, rfl⟩
abbrev main_v41 : Ref sig .tc := ⟨.hbm, 57, rfl⟩
abbrev main_c_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_call0_cst_0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_cst_1 : Ref sig .tc := ⟨.hbm, 75, rfl⟩
abbrev main_call0_v7 : Ref sig .tc := ⟨.hbm, 76, rfl⟩
abbrev main_call0_v8 : Ref sig .tc := ⟨.hbm, 77, rfl⟩
abbrev main_call0_v9 : Ref sig .tc := ⟨.hbm, 78, rfl⟩
abbrev main_call0_v10 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_c_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_14 : Ref sig .tc := ⟨.hbm, 88, rfl⟩
abbrev main_v55 : Ref sig .tc := ⟨.hbm, 89, rfl⟩
abbrev main_v56 : Ref sig .tc := ⟨.hbm, 90, rfl⟩
abbrev main_c_15 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_16 : Ref sig .tc := ⟨.hbm, 100, rfl⟩
abbrev main_v65 : Ref sig .tc := ⟨.hbm, 101, rfl⟩
abbrev main_cst_17 : Ref sig .tc := ⟨.hbm, 102, rfl⟩
abbrev main_v66 : Ref sig .tc := ⟨.hbm, 103, rfl⟩
abbrev main_call1_v0 : Ref sig .tc := ⟨.hbm, 104, rfl⟩
abbrev main_call1_cst : Ref sig .tc := ⟨.hbm, 105, rfl⟩
abbrev main_call1_c : Ref sig .tc := ⟨.hbm, 106, rfl⟩
abbrev main_call1_v1_0 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_18 : Ref sig .tc := ⟨.hbm, 111, rfl⟩
abbrev main_v70 : Ref sig .tc := ⟨.hbm, 112, rfl⟩
abbrev main_cst_19 : Ref sig .tc := ⟨.hbm, 113, rfl⟩
abbrev main_v71 : Ref sig .tc := ⟨.hbm, 114, rfl⟩

abbrev nD : Nat := 1
abbrev τ : Topo := Topo.v7x

variable {F : FTy → Type} [FloatOps F]
-- ==== Proof.Base.lean ====
/-
  What the proof's modules share: the program as the launch theorem sees it, the resource algebra, the buffers, the
  rows the gather writes and the contents it leaves there, and the closed forms of the gather kernel's offsets.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.SC

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type}

/-! ## The program as the launch theorem sees it -/

/-- The labels of the program with its two pipelined calls. -/
abbrev ΛP : Labels := Pipeline.Sig Λ₀ (Fin 2) fun p => (pcfgs (F := F) p).Adm
/-- The SparseCore launch of the program. -/
abbrev K [FloatOps F] [Named F] : SparseCore.Cfg τ sig (ΛP (F := F)) 1 := sc (F := F)
/-- The definitions that the program's labels unfold to. -/
abbrev D [FloatOps F] [Named F] : Defs nD τ sig (Elt F) (ΛP (F := F)) := Pipeline.defs pcfgs defs₀
/-- No loop variants are needed below the pipelines. -/
abbrev 𝒱₀ : Variants := Variants.none
/-- The variants, lifted to the pipelines' labels. -/
abbrev 𝒱 : Variants := 𝒱₀.lift
/-- The variant that every step starts from. -/
abbrev v₀ : 𝒱.V := Sum.inl none

/-! ## The resource algebra: the handshakes' rounds, the pipelines' rounds, the copies' counters -/

/-- Ghost state of the launch's handshakes. -/
abbrev UH : Type := URounds (GSem nD τ sig) ℕ
/-- Ghost state of the pipelines' cells. -/
abbrev UP : Type := URounds (GSem nD τ sig) Unit
/-- The whole ghost state: handshakes, pipelines, counters. -/
abbrev UU : Type := UH × (UP × Counters)

local notation "𝕄" => MT nD τ sig (HIx 1) (Elt F) ℕ UU ℕ

/-- Where the handshakes' ghost state lies. -/
abbrev EH : Emb UH (MT nD τ sig (HIx 1) (Elt F) ℕ UU ℕ) := embL

/-- Where the pipelines' rounds live in the algebra. -/
def EP : Emb UP (MT nD τ sig (HIx 1) (Elt F) ℕ UU ℕ) :=
  (Emb.inl : Emb UP (UP × Counters)).trans embR

/-- The pipelines' ghost state lies inside the user's part. -/
instance EP_landsIn : (EP (F := F)).LandsIn (upEmb : UEmb _ 𝕄) := by
  unfold EP; infer_instance

/-- Where the counters lie. -/
abbrev EC : UEmb Counters (MT nD τ sig (HIx 1) (Elt F) ℕ UU ℕ) := countersEmb (U := UU)

/-! ## The buffers -/

/-- The transposed cosines, the transposed phis, the targets, the two gathered windows. -/
abbrev aLoc (d : Dev nD) : Loc nD τ sig := (SparseCore.T d).loc main_v0
/-- The transposed phis. -/
abbrev bLoc (d : Dev nD) : Loc nD τ sig := (SparseCore.T d).loc main_v1
/-- The targets. -/
abbrev tLoc (d : Dev nD) : Loc nD τ sig := (SparseCore.T d).loc main_arg2
/-- The gathered windows of the cosines. -/
abbrev cLoc (d : Dev nD) : Loc nD τ sig := (SparseCore.T d).loc main_v2_0
/-- The gathered windows of the phis. -/
abbrev pLoc (d : Dev nD) : Loc nD τ sig := (SparseCore.T d).loc main_v2_1

local notation "aV" => (Memref.whole Cert.KernelIdeal.main_v0_scv : Memref Cert.KernelIdeal.sig Kind.scVector Space.hbm Cert.KernelIdeal.S100000x1024 EltTy.f32)
local notation "bV" => (Memref.whole Cert.KernelIdeal.main_v1_scv : Memref Cert.KernelIdeal.sig Kind.scVector Space.hbm Cert.KernelIdeal.S100000x1024 EltTy.f32)
local notation "tV" => (Memref.whole Cert.KernelIdeal.main_arg2_scv : Memref Cert.KernelIdeal.sig Kind.scVector Space.hbm Cert.KernelIdeal.S1024 EltTy.i32)
local notation "cV" => (Memref.whole Cert.KernelIdeal.main_v2_0_scv : Memref Cert.KernelIdeal.sig Kind.scVector Space.hbm Cert.KernelIdeal.S1024x8x128 EltTy.f32)
local notation "pV" => (Memref.whole Cert.KernelIdeal.main_v2_1_scv : Memref Cert.KernelIdeal.sig Kind.scVector Space.hbm Cert.KernelIdeal.S1024x8x128 EltTy.f32)
local notation "lV" => (Memref.whole Cert.KernelIdeal.cc0_scratch0 : Memref Cert.KernelIdeal.sig Kind.scVector Space.vmem Cert.KernelIdeal.S32 EltTy.i32)

/-! ## Indices and the gathered contents -/

/-- Row `r` as an index of the target array. -/
def rix (r : ℕ) : S1024.Idx := fun a => match a with
  | 0 => ⟨r % 1024, Nat.mod_lt _ (by decide)⟩

/-- The target of row `r` as a natural number. -/
def tgt (T : S1024.Idx → BitVec 32) (r : ℕ) : ℕ := (T (rix r)).toNat

/-- The element of a transposed array at class `k`, row `r`. -/
def tix (k : ℕ) (r : ℕ) : S100000x1024.Idx := fun a => match a with
  | 0 => ⟨k % 100000, Nat.mod_lt _ (by decide)⟩
  | 1 => ⟨r % 1024, Nat.mod_lt _ (by decide)⟩

/-- What the gather leaves in a window array: row `r`'s window is the 8 × 128 aligned block of the transposed array
    `A` that holds the element of class `target r`, row `r`. -/
def gath {α : Type} (A : S100000x1024.Idx → α) (T : S1024.Idx → BitVec 32) : S1024x8x128.Idx → α := fun x =>
  A (tix (8 * (tgt T (x 0).val / 8) + (x 1).val) (128 * ((x 0).val / 128) + (x 2).val))

/-- The elements of a window array that are row `r`'s. -/
def rowSet (r : ℕ) : Finset S1024x8x128.Idx := Finset.univ.filter fun x => (x 0).val = r

/-- An index lies in a row's set when its first coordinate is that row. -/
theorem mem_rowSet {r : ℕ} {x : S1024x8x128.Idx} : x ∈ rowSet r ↔ (x 0).val = r := by simp [rowSet]

/-! ## One tile -/

/-- The SparseCore of a grid point. -/
abbrev cVx (L : grid0.Coords) : Fin τ.nSC := (L 0).castLE hcore0
/-- The subcore of a grid point. -/
abbrev jVx (L : grid0.Coords) : Fin τ.nSub := (L 1).castLE hsub0
/-- The tile's thread. -/
abbrev VT (d : Dev nD) (L : grid0.Coords) : Thread nD τ := V d (cVx L) (jVx L)

/-- The first of the tile's thirty-two rows. -/
def base (L : grid0.Coords) : ℕ := 64 * (L 1).val + 32 * (L 0).val

/-- There are two SparseCores. -/
theorem L0_lt (L : grid0.Coords) : (L 0).val < 2 := (L 0).isLt
/-- There are sixteen subcores on each. -/
theorem L1_lt (L : grid0.Coords) : (L 1).val < 16 := (L 1).isLt

/-- A tile's rows lie inside the 1024. -/
theorem base_lt (L : grid0.Coords) (t : ℕ) (ht : t < 32) : base L + t < 1024 := by
  have := L0_lt L; have := L1_lt L; unfold base; omega

/-- All of a tile's rows lie in one group of 128 lanes. -/
theorem base_div (L : grid0.Coords) (t : ℕ) (ht : t < 32) : (base L + t) / 128 = (L 1).val / 2 := by
  have := L0_lt L; have := L1_lt L; unfold base; omega

/-! ## The offsets in closed form -/

/-- The word a kernel computes for a tile's row: `a` is 0 or 16, `b` the row within the half. -/
def rowW (L : grid0.Coords) (a b : BitVec 32) : BitVec 32 :=
  Scalar.addi (Scalar.addi (Scalar.muli (Scalar.addi (Scalar.muli (BitVec.ofNat 32 (L 1).val) 2#32) (BitVec.ofNat 32 (L 0).val)) 32#32) a) b

/-- The word of a row's number is the tile's base plus the row's place in the tile. -/
theorem rowW_toNat (L : grid0.Coords) (a b : ℕ) (hab : a + b < 32) :
    (rowW L (BitVec.ofNat 32 a) (BitVec.ofNat 32 b)).toNat = base L + (a + b) := by
  have h0 := L0_lt L; have h1 := L1_lt L
  unfold rowW base Scalar.addi Scalar.muli IntOp.addi IntOp.muli
  simp only [BitVec.toNat_add, BitVec.toNat_mul, BitVec.toNat_ofNat]
  omega

/-- The lane offset a kernel computes from a row number: the row rounded down to a multiple of 128. -/
def laneW (x : BitVec 32) : BitVec 32 :=
  Scalar.muli (Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt 128#32 0#32)) (Scalar.extui (Scalar.cmpi .slt 128#32 0#32))))
      (Scalar.cmpi .ne (Scalar.remsi x 128#32) 0#32))
    (Scalar.subi (Scalar.divsi x 128#32) 1#32) (Scalar.divsi x 128#32)) 128#32

/-- The first lane of a row's group of 128, for every row. -/
theorem laneW_table : ∀ x : Fin 1024, (laneW (BitVec.ofNat 32 x.val)).toNat = 128 * (x.val / 128) := by decide +kernel

/-- The first lane of the group of 128 that holds one of the tile's rows. -/
theorem laneW_toNat (L : grid0.Coords) (a b : ℕ) (hab : a + b < 32) :
    (laneW (rowW L (BitVec.ofNat 32 a) (BitVec.ofNat 32 b))).toNat = 128 * ((base L + (a + b)) / 128) := by
  have h := laneW_table ⟨base L + (a + b), base_lt L _ hab⟩
  have hx : rowW L (BitVec.ofNat 32 a) (BitVec.ofNat 32 b) = BitVec.ofNat 32 (base L + (a + b)) := by
    apply BitVec.eq_of_toNat_eq
    rw [rowW_toNat L a b hab, BitVec.toNat_ofNat, Nat.mod_eq_of_lt]
    exact (base_lt L _ hab).trans (by decide)
  rw [hx]; exact h

/-- The source offsets of a row's copy. -/
def srcOff (L : grid0.Coords) (a b v : BitVec 32) : Fin 2 → ℕ := ![v.toNat, (laneW (rowW L a b)).toNat]

/-- The row's target rounded down to a multiple of eight, as the kernel computes it. -/
def wordOf (L : grid0.Coords) (T : S1024.Idx → BitVec 32) (t : ℕ) : BitVec 32 :=
  IntOp.andi (T (rix (base L + t))) 4294967288#32

/-- Clearing a word's three lowest bits rounds it down to a multiple of eight. -/
theorem andi_toNat (v : BitVec 32) : (IntOp.andi v 4294967288#32).toNat = 8 * (v.toNat / 8) := by
  have h : IntOp.andi v 4294967288#32 = BitVec.ofNat 32 (8 * (v.toNat / 8)) := by
    have h2 : (4294967288#32 : BitVec 32) = (BitVec.allOnes 32) <<< 3 := by decide
    have h1 : v &&& 4294967288#32 = (v >>> 3) <<< 3 := by
      ext i hi
      rw [h2]
      simp only [BitVec.getElem_and, BitVec.getElem_shiftLeft, BitVec.getElem_ushiftRight, BitVec.getElem_allOnes]
      by_cases h : i < 3
      · simp [h]
      · simp only [h, decide_false, Bool.not_false, Bool.true_and]
        have : 3 + (i - 3) = i := by omega
        simp [this, BitVec.getLsbD_eq_getElem hi]
    show v &&& 4294967288#32 = _
    rw [h1]
    apply BitVec.eq_of_toNat_eq
    simp only [BitVec.toNat_shiftLeft, BitVec.toNat_ushiftRight, BitVec.toNat_ofNat, Nat.shiftLeft_eq, Nat.shiftRight_eq_div_pow]
    rw [Nat.mul_comm]
  rw [h, BitVec.toNat_ofNat, Nat.mod_eq_of_lt]
  have := v.isLt; omega

/-- The first row of a target's window: the target rounded down to a multiple of eight. -/
theorem wordOf_toNat (L : grid0.Coords) (T : S1024.Idx → BitVec 32) (t : ℕ) :
    (wordOf L T t).toNat = 8 * (tgt T (base L + t) / 8) := andi_toNat _

/-- A row's source offsets at its own target word. -/
theorem srcOff_eq (L : grid0.Coords) (T : S1024.Idx → BitVec 32) (t a b : ℕ) (hab : a + b = t) (ht : t < 32) :
    srcOff L (BitVec.ofNat 32 a) (BitVec.ofNat 32 b) (wordOf L T t)
      = ![8 * (tgt T (base L + t) / 8), 128 * ((base L + t) / 128)] := by
  subst hab
  unfold srcOff
  rw [wordOf_toNat, laneW_toNat L a b ht]

/-- The block of the transposed array a row copies lies inside the array. -/
theorem src_inb (L : grid0.Coords) (T : S1024.Idx → BitVec 32) (t : ℕ) (ht : t < 32) (hT : tgt T (base L + t) < 100000) :
    ∀ a, (![8 * (tgt T (base L + t) / 8), 128 * ((base L + t) / 128)] : Fin 2 → ℕ) a + S8x128.size a ≤ S100000x1024.size a := by
  have := base_lt L t ht
  intro a; fin_cases a
  · show 8 * (tgt T (base L + t) / 8) + 8 ≤ 100000; omega
  · show 128 * ((base L + t) / 128) + 128 ≤ 1024; omega

end Cert.Proof.SC

end

end
-- ==== Proof.Tile.lean ====
/-
  One tile's run of the gather kernel: the thirty-two targets fetched, sixty-four row copies issued on one semaphore,
  sixty-four waits. The rows of the two window arrays end at the blocks of the transposed arrays the targets name.
-/
module

public import proofs.«01_k».proof.Proof.Base

@[expose] public section

noncomputable section

namespace Cert.Proof.SC

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type}

local notation "𝕄" => MT nD τ sig (HIx 1) (Elt F) ℕ UU ℕ
local notation "aV" => (Memref.whole Cert.KernelIdeal.main_v0_scv : Memref Cert.KernelIdeal.sig Kind.scVector Space.hbm Cert.KernelIdeal.S100000x1024 EltTy.f32)
local notation "bV" => (Memref.whole Cert.KernelIdeal.main_v1_scv : Memref Cert.KernelIdeal.sig Kind.scVector Space.hbm Cert.KernelIdeal.S100000x1024 EltTy.f32)
local notation "tV" => (Memref.whole Cert.KernelIdeal.main_arg2_scv : Memref Cert.KernelIdeal.sig Kind.scVector Space.hbm Cert.KernelIdeal.S1024 EltTy.i32)
local notation "cV" => (Memref.whole Cert.KernelIdeal.main_v2_0_scv : Memref Cert.KernelIdeal.sig Kind.scVector Space.hbm Cert.KernelIdeal.S1024x8x128 EltTy.f32)
local notation "pV" => (Memref.whole Cert.KernelIdeal.main_v2_1_scv : Memref Cert.KernelIdeal.sig Kind.scVector Space.hbm Cert.KernelIdeal.S1024x8x128 EltTy.f32)
local notation "lV" => (Memref.whole Cert.KernelIdeal.cc0_scratch0 : Memref Cert.KernelIdeal.sig Kind.scVector Space.vmem Cert.KernelIdeal.S32 EltTy.i32)

/-! ## The copies' windows -/

/-- A row of a window array as the kernel names it, and a block of a transposed array. -/
abbrev dstM (M : Memref sig .scVector .hbm S1024x8x128 .f32) (off : Fin 3 → ℕ) (h : ∀ a, off a + S1x8x128.size a ≤ S1024x8x128.size a) :
    Memref sig .scVector .hbm S8x128 .f32 :=
  (M.slice (Rect.unit (s := S1024x8x128) off S1x8x128.size h) (fun _ => rfl)).squeeze S8x128 squeezes_S1x8x128_S8x128
/-- A window of eight rows and 128 lanes of a transposed table. -/
abbrev srcM (M : Memref sig .scVector .hbm S100000x1024 .f32) (off : Fin 2 → ℕ) (h : ∀ a, off a + S8x128.size a ≤ S100000x1024.size a) :
    Memref sig .scVector .hbm S8x128 .f32 :=
  M.slice (Rect.unit (s := S100000x1024) off S8x128.size h) (fun _ => rfl)

/-- The squeeze of a row keeps sublane and lane numbers. -/
theorem squeeze_coord : ∀ y : S8x128.Idx,
    ((Shape.reshapeEquiv (s := S1x8x128) (s' := S8x128) squeezes_S1x8x128_S8x128.numel_eq) y 1).val = (y 0).val
      ∧ ((Shape.reshapeEquiv (s := S1x8x128) (s' := S8x128) squeezes_S1x8x128_S8x128.numel_eq) y 2).val = (y 1).val := by
  decide +kernel

/-- Where element `y` of a row of the window array lies. -/
def wix (r : ℕ) (y : S8x128.Idx) : S1024x8x128.Idx := fun a => match a with
  | 0 => ⟨r % 1024, Nat.mod_lt _ (by decide)⟩
  | 1 => y 0
  | 2 => y 1

/-- Where an element of one row's window lies among all the windows. -/
theorem unit_emb3 (off : Fin 3 → ℕ) (h) (r : ℕ) (hr : r < 1024) (hoff : off = ![r, 0, 0]) (y : S8x128.Idx) :
    (Rect.unit (s := S1024x8x128) off S1x8x128.size h).emb
      ((Shape.reshapeEquiv (s := S1x8x128) (s' := S8x128) squeezes_S1x8x128_S8x128.numel_eq) y) = wix r y := by
  subst hoff
  obtain ⟨h1, h2⟩ := squeeze_coord y
  have h0 : ((Shape.reshapeEquiv (s := S1x8x128) (s' := S8x128) squeezes_S1x8x128_S8x128.numel_eq) y 0).val = 0 :=
    Nat.lt_one_iff.1 ((Shape.reshapeEquiv (s := S1x8x128) (s' := S8x128) squeezes_S1x8x128_S8x128.numel_eq) y 0).isLt
  funext a
  apply Fin.ext
  fin_cases a
  · show r + 1 * ((Shape.reshapeEquiv (s := S1x8x128) (s' := S8x128) squeezes_S1x8x128_S8x128.numel_eq) y 0).val = r % 1024
    rw [h0, Nat.mod_eq_of_lt hr]; rfl
  · show 0 + 1 * ((Shape.reshapeEquiv (s := S1x8x128) (s' := S8x128) squeezes_S1x8x128_S8x128.numel_eq) y 1).val = (y 0).val
    rw [h1]; omega
  · show 0 + 1 * ((Shape.reshapeEquiv (s := S1x8x128) (s' := S8x128) squeezes_S1x8x128_S8x128.numel_eq) y 2).val = (y 1).val
    rw [h2]; omega

/-- Where an element of a window lies in the transposed table. -/
theorem unit_emb2 (off : Fin 2 → ℕ) (h) (k l : ℕ) (hk : k + 8 ≤ 100000) (hl : l + 128 ≤ 1024) (hoff : off = ![k, l]) (y : S8x128.Idx) :
    (Rect.unit (s := S100000x1024) off S8x128.size h).emb y = tix (k + (y 0).val) (l + (y 1).val) := by
  subst hoff
  have h0 : (y 0).val < 8 := (y 0).isLt
  have h1 : (y 1).val < 128 := (y 1).isLt
  funext a
  apply Fin.ext
  fin_cases a
  · show k + 1 * (y 0).val = (k + (y 0).val) % 100000
    rw [Nat.mod_eq_of_lt (by omega)]; omega
  · show l + 1 * (y 1).val = (l + (y 1).val) % 1024
    rw [Nat.mod_eq_of_lt (by omega)]; omega

/-- A row's set is the elements of its window. -/
theorem rowSet_iff (r : ℕ) (hr : r < 1024) (x : S1024x8x128.Idx) : x ∈ rowSet r ↔ ∃ y, wix r y = x := by
  rw [mem_rowSet]
  constructor
  · intro hx
    refine ⟨fun a => match a with | 0 => x 1 | 1 => x 2, ?_⟩
    funext a
    apply Fin.ext
    fin_cases a
    · show r % 1024 = (x 0).val
      rw [Nat.mod_eq_of_lt hr, hx]
    · rfl
    · rfl
  · rintro ⟨y, rfl⟩
    show r % 1024 = r
    exact Nat.mod_eq_of_lt hr

/-- Where a copy of cosines puts an element. -/
theorem dstC_emb (off : Fin 3 → ℕ) (h) (r : ℕ) (hr : r < 1024) (hoff : off = ![r, 0, 0]) (y : S8x128.Idx) :
    (dstM cV off h).view.emb y = wix r y := unit_emb3 off h r hr hoff y
/-- Where a copy of phis puts an element. -/
theorem dstP_emb (off : Fin 3 → ℕ) (h) (r : ℕ) (hr : r < 1024) (hoff : off = ![r, 0, 0]) (y : S8x128.Idx) :
    (dstM pV off h).view.emb y = wix r y := unit_emb3 off h r hr hoff y

/-- A copy of cosines writes its row and no other. -/
theorem dstC_set (off : Fin 3 → ℕ) (h) (r : ℕ) (hr : r < 1024) (hoff : off = ![r, 0, 0]) :
    (dstM cV off h).view.set = rowSet r := by
  ext x
  refine Finset.mem_map.trans (Iff.trans ?_ (rowSet_iff r hr x).symm)
  simp only [Finset.mem_univ, true_and]
  exact exists_congr fun y => by rw [dstC_emb off h r hr hoff y]
/-- A copy of phis writes its row and no other. -/
theorem dstP_set (off : Fin 3 → ℕ) (h) (r : ℕ) (hr : r < 1024) (hoff : off = ![r, 0, 0]) :
    (dstM pV off h).view.set = rowSet r := by
  ext x
  refine Finset.mem_map.trans (Iff.trans ?_ (rowSet_iff r hr x).symm)
  simp only [Finset.mem_univ, true_and]
  exact exists_congr fun y => by rw [dstP_emb off h r hr hoff y]

/-- The gathered contents at a row's element. -/
theorem gath_wix {α : Type} (A : S100000x1024.Idx → α) (T : S1024.Idx → BitVec 32) (r : ℕ) (hr : r < 1024) (y : S8x128.Idx) :
    gath A T (wix r y) = A (tix (8 * (tgt T r / 8) + (y 0).val) (128 * (r / 128) + (y 1).val)) := by
  show A (tix (8 * (tgt T (r % 1024) / 8) + (y 0).val) (128 * ((r % 1024) / 128) + (y 1).val)) = _
  rw [Nat.mod_eq_of_lt hr]

section Val
variable (d : Dev nD)

/-- What a row's copy leaves in the window array of the cosines, and of the phis. -/
theorem landC (A : Buf (Elt F) (aLoc d)) (T : Buf (Elt F) (tLoc d)) (C0 : Buf (Elt F) (cLoc d))
    (off : Fin 3 → ℕ) (h) (soff : Fin 2 → ℕ) (hs) (r : ℕ) (hr : r < 1024) (hT : tgt T r < 100000) (hoff : off = ![r, 0, 0])
    (hsoff : soff = ![8 * (tgt T r / 8), 128 * (r / 128)]) :
    ∀ x ∈ rowSet r, (dstM cV off h).view.write (Elt F) C0
        (ReadAs.same.apply ((srcM aV soff hs).view.read (Elt F) A)) Finset.univ x = gath A T x := by
  intro x hx
  obtain ⟨y, rfl⟩ := (rowSet_iff r hr x).1 hx
  rw [gath_wix A T r hr y, ← dstC_emb off h r hr hoff y]
  refine ((View.write_emb_of_mem (v := (dstM cV off h).view) C0 _ (Finset.mem_univ y)).trans (cast_eq _ _)).trans ?_
  refine ((View.read_apply (v := (srcM aV soff hs).view) A y).trans (cast_eq _ _)).trans ?_
  exact congrArg A (unit_emb2 soff hs _ _ (by omega) (by omega) hsoff y)

/-- A copy of phis leaves the gathered window on its row. -/
theorem landP (A : Buf (Elt F) (bLoc d)) (T : Buf (Elt F) (tLoc d)) (C0 : Buf (Elt F) (pLoc d))
    (off : Fin 3 → ℕ) (h) (soff : Fin 2 → ℕ) (hs) (r : ℕ) (hr : r < 1024) (hT : tgt T r < 100000) (hoff : off = ![r, 0, 0])
    (hsoff : soff = ![8 * (tgt T r / 8), 128 * (r / 128)]) :
    ∀ x ∈ rowSet r, (dstM pV off h).view.write (Elt F) C0
        (ReadAs.same.apply ((srcM bV soff hs).view.read (Elt F) A)) Finset.univ x = gath A T x := by
  intro x hx
  obtain ⟨y, rfl⟩ := (rowSet_iff r hr x).1 hx
  rw [gath_wix A T r hr y, ← dstP_emb off h r hr hoff y]
  refine ((View.write_emb_of_mem (v := (dstM pV off h).view) C0 _ (Finset.mem_univ y)).trans (cast_eq _ _)).trans ?_
  refine ((View.read_apply (v := (srcM bV soff hs).view) A y).trans (cast_eq _ _)).trans ?_
  exact congrArg A (unit_emb2 soff hs _ _ (by omega) (by omega) hsoff y)

end Val

/-! ## The run's states -/

section Run

variable (d : Dev nD) (L : grid0.Coords) (A : Buf (Elt F) (aLoc d)) (B : Buf (Elt F) (bLoc d)) (T : Buf (Elt F) (tLoc d))
variable (C0 : Buf (Elt F) (cLoc d)) (P0 : Buf (Elt F) (pLoc d)) (q : PosShare TreeShare)
variable (O : CellTallies nD τ sig (HIx 1))

/-- A row still to be copied: a read token of the transposed array and the row of the window array. -/
def srcC (t : ℕ) : sProp 𝕄 := iprop((aLoc d ↦{Transfers.shareTokN q t} A) ∗ (cLoc d ↦[rowSet (base L + t)]{fullShare} C0))
/-- What a copy of phis takes with it. -/
def srcP (t : ℕ) : sProp 𝕄 := iprop((bLoc d ↦{Transfers.shareTokN q t} B) ∗ (pLoc d ↦[rowSet (base L + t)]{fullShare} P0))

/-- A row at its final contents. -/
def outC (t : ℕ) : sProp 𝕄 := cLoc d ↦[rowSet (base L + t)]{fullShare} (gath A T : Buf (Elt F) (cLoc d))
/-- What a copy of phis leaves. -/
def outP (t : ℕ) : sProp 𝕄 := pLoc d ↦[rowSet (base L + t)]{fullShare} (gath B T : Buf (Elt F) (pLoc d))

/-- What a copy of cosines leaves can be kept in an invariant. -/
instance outC_storable (t : ℕ) : Storable (upEmb : UEmb _ 𝕄) (outC d L A T t) := by unfold outC; infer_instance
/-- What a copy of phis leaves can be kept in an invariant. -/
instance outP_storable (t : ℕ) : Storable (upEmb : UEmb _ 𝕄) (outP d L B T t) := by unfold outP; infer_instance

/-- What the batch's transfers deliver: the even ones a row of the cosines, the odd ones a row of the phis. -/
def DD (j : Fin 64) : sProp 𝕄 := if j.val % 2 = 0 then outC d L A T (j.val / 2) else outP d L B T (j.val / 2)

/-- What any of the 64 copies leaves can be kept in an invariant. -/
instance DD_storable (j : Fin 64) : Storable (upEmb : UEmb _ 𝕄) (DD d L A B T j) := by
  unfold DD; split <;> infer_instance

/-- The even copies are those of cosines. -/
theorem DD_even (t : ℕ) (h : 2 * t < 64) : DD d L A B T ⟨2 * t, h⟩ = outC d L A T t := by
  unfold DD
  rw [if_pos (by show 2 * t % 2 = 0; omega)]
  congr 1; show 2 * t / 2 = t; omega
/-- The odd copies are those of phis. -/
theorem DD_odd (t : ℕ) (h : 2 * t + 1 < 64) : DD d L A B T ⟨2 * t + 1, h⟩ = outP d L B T t := by
  unfold DD
  rw [if_neg (by show ¬ (2 * t + 1) % 2 = 0; omega)]
  congr 1; show (2 * t + 1) / 2 = t; omega

/-- The units one row's copy credits. -/
def rowN : ℕ := (cc0_scratch0 : Ref sig .scVector).dmaCredit S8x128 .f32

/-- The copies in flight: so many issued, so much waited for. -/
def bat (n u : ℕ) : sProp 𝕄 := Transfers.Batch (EC (F := F)) (VT d L) (.dma cc0_scratch1.sem) (default : HIx 1) rowN (DD d L A B T) n u

/-- The rows from `t` on, still to be copied. -/
def pend (t : ℕ) : sProp 𝕄 := bigSep (Finset.Ico t 32) fun r => iprop(srcC d L A C0 q r ∗ srcP d L B P0 q r)

/-- The next row's resources, taken from those still to be issued. -/
theorem pend_succ (t : ℕ) (ht : t < 32) :
    pend d L A B C0 P0 q t = iprop((srcC d L A C0 q t ∗ srcP d L B P0 q t) ∗ pend d L A B C0 P0 q (t + 1)) := by
  unfold pend
  rw [← Finset.insert_Ico_add_one_left_eq_Ico ht, SparseCore.bigSep_insert' (by simp)]

/-- The tile's thirty-two targets as its scratch holds them. -/
def tgts : Buf (Elt F) ((lV).view.loc (VT d L)) := fun (x : S32.Idx) => T (rix (base L + (x 0).val))

/-- What the tile holds throughout: its targets, evidence for its waits, what it owes. -/
def keep : sProp 𝕄 := iprop(Transfers.MayWaits (VT d L) (default : HIx 1) O
  ∗ (((lV).view.loc (VT d L) ↦[(lV).view.set]{fullShare} tgts d L T) ∗ semVal (VT d L, .dma cc0_scoped0.sem) 0)
  ∗ ∃ W', owes (VT d L) O W')

/-- Before the copy of a row's cosines. -/
def InvC (t : ℕ) : sProp 𝕄 := iprop(bat d L A B T (2 * t) 0 ∗ pend d L A B C0 P0 q t ∗ keep d L T O)
/-- Between a row's two copies. -/
def InvP (t : ℕ) : sProp 𝕄 := iprop(bat d L A B T (2 * t + 1) 0 ∗ srcP d L B P0 q t ∗ pend d L A B C0 P0 q (t + 1) ∗ keep d L T O)
/-- After so many waits. -/
def InvW (w : ℕ) : sProp 𝕄 := iprop(bat d L A B T 64 (w * rowN) ∗ keep d L T O)

/-- What a copy of cosines credits. -/
theorem rowC_amount (off h) : (dstM cV off h).view.amount (.dma cc0_scratch1.sem) = rowN := rfl
/-- What a copy of phis credits. -/
theorem rowP_amount (off h) : (dstM pV off h).view.amount (.dma cc0_scratch1.sem) = rowN := rfl
/-- A window's credit is positive. -/
theorem rowN_pos : 0 < rowN := by decide

variable [FloatOps F] [Named F]

/-- One step: row `t` of the cosines is issued. -/
theorem issueC {t : ℕ} (ht : t < 32) (hT : ∀ r, tgt T r < 100000) {α : Type} {off : Fin 3 → ℕ} {h} {soff : Fin 2 → ℕ} {hs} {hws hwd hsem}
    {k : PUnit → Prog (TpuEff nD τ sig (Elt F) Λ₀ (VT d L).2) α} {Q : α → sProp 𝕄}
    (hoff : off = ![base L + t, 0, 0]) (hsoff : soff = ![8 * (tgt T (base L + t) / 8), 128 * ((base L + t) / 128)])
    (H : InvP d L A B T C0 P0 q O t ⊢ wp frame (wpE (defs₀ (F := F)) 𝒱₀ (VT d L) none) Set.univ (k ⟨⟩) Q) :
    InvC d L A B T C0 P0 q O t ⊢ wp frame (wpE (defs₀ (F := F)) 𝒱₀ (VT d L) none) Set.univ
      (.op (.enqueueDmaAs (srcM aV soff hs) (.here (dstM cV off h)) .same (.dma cc0_scratch1.sem) hws hwd hsem) k) Q := by
  unfold InvC
  rw [pend_succ _ _ _ _ _ _ _ t ht]
  unfold srcC bat
  have hset : (dstM cV off h).view.set = rowSet (base L + t) := dstC_set off h _ (base_lt L t ht) hoff
  iintro ⟨HB, ⟨⟨⟨HA, HC⟩, HP⟩, Hpend⟩, Hk⟩
  ihave HA' := (pointsTo_split_subset (Finset.subset_univ (srcM aV soff hs).view.set)).1 $$ HA
  icases HA' with ⟨HA, -⟩
  iapply (Transfers.wp_dmaBatch (EC (F := F)) 𝒱₀ (VT d L) none (src := srcM aV soff hs) (dst := dstM cV off h) (via := .same)
    (Sd := rowSet (base L + t)) (fd := C0) (fs := A) (D := DD d L A B T) (j := 2 * t) (u := 0)
    default rowN (rowC_amount off h) (by rw [hset]) (by omega) (Nat.zero_le _)
    (sep_elim_left.trans (by
      rw [DD_even d L A B T t (by omega)]
      unfold outC
      exact Entails.of_eq (pointsTo_congr (landC d A T C0 off h soff hs _ (base_lt L t ht) (hT _) hoff hsoff))))) $$ [HA HC HB]
  · isplitl [HA]; · iexact HA
    isplitl [HC]; · iexact HC
    iexact HB
  iintro HB
  iapply H
  unfold InvP bat
  isplitl [HB]; · iexact HB
  isplitl [HP]; · iexact HP
  isplitl [Hpend]; · iexact Hpend
  iexact Hk

/-- One step: row `t` of the phis is issued. -/
theorem issueP {t : ℕ} (ht : t < 32) (hT : ∀ r, tgt T r < 100000) {α : Type} {off : Fin 3 → ℕ} {h} {soff : Fin 2 → ℕ} {hs} {hws hwd hsem}
    {k : PUnit → Prog (TpuEff nD τ sig (Elt F) Λ₀ (VT d L).2) α} {Q : α → sProp 𝕄}
    (hoff : off = ![base L + t, 0, 0]) (hsoff : soff = ![8 * (tgt T (base L + t) / 8), 128 * ((base L + t) / 128)])
    (H : InvC d L A B T C0 P0 q O (t + 1) ⊢ wp frame (wpE (defs₀ (F := F)) 𝒱₀ (VT d L) none) Set.univ (k ⟨⟩) Q) :
    InvP d L A B T C0 P0 q O t ⊢ wp frame (wpE (defs₀ (F := F)) 𝒱₀ (VT d L) none) Set.univ
      (.op (.enqueueDmaAs (srcM bV soff hs) (.here (dstM pV off h)) .same (.dma cc0_scratch1.sem) hws hwd hsem) k) Q := by
  unfold InvP srcP bat
  have hset : (dstM pV off h).view.set = rowSet (base L + t) := dstP_set off h _ (base_lt L t ht) hoff
  iintro ⟨HB, ⟨HA, HC⟩, Hpend, Hk⟩
  ihave HA' := (pointsTo_split_subset (Finset.subset_univ (srcM bV soff hs).view.set)).1 $$ HA
  icases HA' with ⟨HA, -⟩
  iapply (Transfers.wp_dmaBatch (EC (F := F)) 𝒱₀ (VT d L) none (src := srcM bV soff hs) (dst := dstM pV off h) (via := .same)
    (Sd := rowSet (base L + t)) (fd := P0) (fs := B) (D := DD d L A B T) (j := 2 * t + 1) (u := 0)
    default rowN (rowP_amount off h) (by rw [hset]) (by omega) (Nat.zero_le _)
    (sep_elim_left.trans (by
      rw [DD_odd d L A B T t (by omega)]
      unfold outP
      exact Entails.of_eq (pointsTo_congr (landP d B T P0 off h soff hs _ (base_lt L t ht) (hT _) hoff hsoff))))) $$ [HA HC HB]
  · isplitl [HA]; · iexact HA
    isplitl [HC]; · iexact HC
    iexact HB
  iintro HB
  iapply H
  unfold InvC bat
  isplitl [HB]; · iexact HB
  isplitl [Hpend]; · iexact Hpend
  iexact Hk

/-- One step: a wait that is not the last. -/
theorem waitStep {w : ℕ} (hw : w + 1 < 64) {α : Type} {srcw dstw : Memref sig .scVector .hbm S8x128 .f32} {hws hwd}
    {k : PUnit → Prog (TpuEff nD τ sig (Elt F) Λ₀ (VT d L).2) α} {Q : α → sProp 𝕄}
    (H : InvW d L A B T O (w + 1) ⊢ wp frame (wpE (defs₀ (F := F)) 𝒱₀ (VT d L) none) Set.univ (k ⟨⟩) Q) :
    InvW d L A B T O w ⊢ wp frame (wpE (defs₀ (F := F)) 𝒱₀ (VT d L) none) Set.univ
      (.op (.waitDma2 cc0_scratch1.sem srcw dstw hws hwd) k) Q := by
  unfold InvW keep bat
  iintro ⟨HB, #Hmw, Hl, ⟨%W', HO⟩⟩
  ihave Hm := (Transfers.MayWaits.elim (c := VT d L) (ι := (default : HIx 1)) (O := O) (.dma cc0_scratch1.sem)) $$ Hmw
  iapply (Transfers.wp_waitBatchO (EC (F := F)) 𝒱₀ (VT d L) none (dstw := dstw) (srcw := srcw) (D := DD d L A B T) default
    (N := rowN) rfl (u := w * rowN) (by have := rowN_pos; nlinarith)) $$ [HB HO Hm]
  · isplitl [HB]; · iexact HB
    isplitl [HO]; · iexact HO
    iexact Hm
  iintro ⟨HB, HO⟩
  iapply H
  unfold InvW keep bat
  rw [Nat.succ_mul]
  isplitl [HB]; · iexact HB
  isplitr; · iexact Hmw
  isplitl [Hl]; · iexact Hl
  iexists _; iexact HO

/-- The last wait: every row delivered and the semaphore back at zero. -/
theorem waitLast {α : Type} {srcw dstw : Memref sig .scVector .hbm S8x128 .f32} {hws hwd}
    {k : PUnit → Prog (TpuEff nD τ sig (Elt F) Λ₀ (VT d L).2) α} {Q : α → sProp 𝕄}
    (H : iprop(bigSep Finset.univ (DD d L A B T) ∗ semVal (VT d L, .dma cc0_scratch1.sem) 0 ∗ keep d L T O)
      ⊢ wp frame (wpE (defs₀ (F := F)) 𝒱₀ (VT d L) none) Set.univ (k ⟨⟩) Q) :
    InvW d L A B T O 63 ⊢ wp frame (wpE (defs₀ (F := F)) 𝒱₀ (VT d L) none) Set.univ
      (.op (.waitDma2 cc0_scratch1.sem srcw dstw hws hwd) k) Q := by
  unfold InvW keep bat
  iintro ⟨HB, #Hmw, Hl, ⟨%W', HO⟩⟩
  ihave Hm := (Transfers.MayWaits.elim (c := VT d L) (ι := (default : HIx 1)) (O := O) (.dma cc0_scratch1.sem)) $$ Hmw
  iapply (Transfers.wp_waitBatchLastO (EC (F := F)) 𝒱₀ (VT d L) none (dstw := dstw) (srcw := srcw) (D := DD d L A B T) default
    (N := rowN) rfl rowN_pos (u := 63 * rowN) (by omega)) $$ [HB HO Hm]
  · isplitl [HB]; · iexact HB
    isplitl [HO]; · iexact HO
    iexact Hm
  iintro ⟨HD, Hs, HO⟩
  iapply H
  unfold keep
  isplitl [HD]; · iexact HD
  isplitl [Hs]; · iexact Hs
  isplitr; · iexact Hmw
  isplitl [Hl]; · iexact Hl
  iexists _; iexact HO

/-- All rows issued: the waits begin. -/
theorem toWaits {P : sProp 𝕄} (H : InvW d L A B T O 0 ⊢ P) : InvC d L A B T C0 P0 q O 32 ⊢ P := by
  refine BIBase.Entails.trans ?_ H
  unfold InvC InvW
  rw [Nat.zero_mul]
  iintro ⟨HB, -, Hk⟩
  isplitl [HB]; · iexact HB
  iexact Hk

/-- A check that holds is passed. -/
theorem assumeStep {R : sProp 𝕄} {α : Type} {P : Prop} {dp : Decidable P}
    {k : PLift P → Prog (TpuEff nD τ sig (Elt F) Λ₀ (VT d L).2) α} {Q : α → sProp 𝕄} (h : P)
    (H : R ⊢ wp frame (wpE (defs₀ (F := F)) 𝒱₀ (VT d L) none) Set.univ (k ⟨h⟩) Q) :
    R ⊢ wp frame (wpE (defs₀ (F := F)) 𝒱₀ (VT d L) none) Set.univ (.op (.assume P dp) k) Q :=
  H.trans (wp_assume 𝒱₀ (VT d L) none Set.univ h)

/-- Sixteen of the tile's targets, from the `o`-th on. -/
def tw16 (o : ℕ) : S16.Idx → BitVec 32 := fun x => T (rix (base L + (o + (x 0).val)))

/-- A load of sixteen targets. -/
theorem loadStep {t : ℕ} {α : Type} {o : ℕ} {h} {hl}
    {k : (S16.Idx → BitVec 32) → Prog (TpuEff nD τ sig (Elt F) Λ₀ (VT d L).2) α} {Q : α → sProp 𝕄}
    (H : InvC d L A B T C0 P0 q O t ⊢ wp frame (wpE (defs₀ (F := F)) 𝒱₀ (VT d L) none) Set.univ (k (tw16 d L T o)) Q) :
    InvC d L A B T C0 P0 q O t ⊢ wp frame (wpE (defs₀ (F := F)) 𝒱₀ (VT d L) none) Set.univ
      (.op (.load lV (Rect.unit (s := S32) ![o] S16.size h).toLoadRect hl) k) Q := by
  have hv : ((lV).view.readAt (Elt F) (Rect.unit (s := S32) ![o] S16.size h).toLoadRect (tgts d L T)) = tw16 d L T o := by
    funext x
    rw [View.readAt_apply]
    refine ((View.read_apply _ _).trans (cast_eq _ _)).trans ?_
    show T (rix (base L + (o + 1 * (x 0).val))) = _
    rw [Nat.one_mul]; rfl
  unfold InvC keep
  iintro ⟨HB, Hp, #Hmw, ⟨Hl, Hsc⟩, HO⟩
  iapply (wp_load 𝒱₀ (VT d L) none Set.univ (m := lV) (S := (lV).view.set) (q := fullShare) (f := tgts d L T) (View.setOn_subset_set _ _)) $$ [Hl]
  · iexact Hl
  iintro Hl
  rw [hv]
  iapply H
  unfold InvC keep
  isplitl [HB]; · iexact HB
  isplitl [Hp]; · iexact Hp
  isplitr; · iexact Hmw
  isplitl [Hl Hsc]
  · isplitl [Hl]; · iexact Hl
    iexact Hsc
  iexact HO

/-! ## The fetch of the targets -/

/-- The batch of the one copy that brings the targets. -/
def DT (j : Fin 1) : sProp 𝕄 := (lV).view.loc (VT d L) ↦[(lV).view.set]{fullShare} tgts d L T
/-- What the fetch of the targets leaves can be kept in an invariant. -/
instance DT_storable (j : Fin 1) : Storable (upEmb : UEmb _ 𝕄) (DT d L T j) := by unfold DT; infer_instance

/-- What the fetch of the targets credits. -/
def tgtN : ℕ := (cc0_scratch0 : Ref sig .scVector).dmaCredit S32 .i32
/-- The fetch's credit is positive. -/
theorem tgtN_pos : 0 < tgtN := by decide

/-- While the targets are being fetched. -/
def Fetched : sProp 𝕄 := iprop(Transfers.Batch (EC (F := F)) (VT d L) (.dma cc0_scoped0.sem) (default : HIx 1) tgtN (DT d L T) 1 0
  ∗ semVal (VT d L, .dma cc0_scratch1.sem) 0 ∗ pend d L A B C0 P0 q 0
  ∗ Transfers.MayWaits (VT d L) (default : HIx 1) O ∗ ∃ W', owes (VT d L) O W')

/-- What the run starts from. -/
def Start (qt : PosShare TreeShare) (g0 : Buf (Elt F) ((lV).view.loc (VT d L))) (W : Waits sig (HIx 1)) : sProp 𝕄 :=
  iprop((tLoc d ↦{qt} T) ∗ ((lV).view.loc (VT d L) ↦[(lV).view.set]{fullShare} g0) ∗ semVal (VT d L, .dma cc0_scoped0.sem) 0
    ∗ semVal (VT d L, .dma cc0_scratch1.sem) 0 ∗ pend d L A B C0 P0 q 0
    ∗ Transfers.MayWaits (VT d L) (default : HIx 1) O ∗ owes (VT d L) O W)

/-- The tile's piece of the target array as the kernel names it. -/
abbrev tM (off : Fin 1 → ℕ) (h : ∀ a, off a + S32.size a ≤ S1024.size a) : Memref sig .scVector .hbm S32 .i32 :=
  (tV).slice (Rect.unit (s := S1024) off S32.size h) (fun _ => rfl)

/-- The fetch leaves the tile's 32 targets in its list. -/
theorem land_tgts (off : Fin 1 → ℕ) (h) (hoff : off = ![base L]) (g0 : Buf (Elt F) ((lV).view.loc (VT d L))) :
    ∀ x ∈ (lV).view.set, (lV).view.write (Elt F) g0 (ReadAs.same.apply ((tM off h).view.read (Elt F) T)) Finset.univ x = tgts d L T x := by
  subst hoff
  intro x hx
  obtain ⟨y, -, rfl⟩ := Finset.mem_map.1 hx
  refine ((View.write_emb_of_mem (v := (lV).view) g0 _ (Finset.mem_univ y)).trans (cast_eq _ _)).trans ?_
  refine ((View.read_apply (v := (tM ![base L] h).view) T y).trans (cast_eq _ _)).trans ?_
  have hy : (y 0).val < 32 := (y 0).isLt
  have hb := base_lt L (y 0).val hy
  show T _ = T _
  congr 1
  funext a
  apply Fin.ext
  fin_cases a
  show base L + 1 * (y 0).val = (base L + (y 0).val) % 1024
  rw [Nat.mod_eq_of_lt hb, Nat.one_mul]

/-- The fetch of the targets is issued. -/
theorem fetchIssue {qt : PosShare TreeShare} {g0 : Buf (Elt F) ((lV).view.loc (VT d L))} {W : Waits sig (HIx 1)} {α : Type}
    {off : Fin 1 → ℕ} {h} {hws hwd hsem}
    {k : PUnit → Prog (TpuEff nD τ sig (Elt F) Λ₀ (VT d L).2) α} {Q : α → sProp 𝕄} (hoff : off = ![base L])
    (H : Fetched d L A B T C0 P0 q O ⊢ wp frame (wpE (defs₀ (F := F)) 𝒱₀ (VT d L) none) Set.univ (k ⟨⟩) Q) :
    Start d L A B T C0 P0 q O qt g0 W ⊢ wp frame (wpE (defs₀ (F := F)) 𝒱₀ (VT d L) none) Set.univ
      (.op (.enqueueDmaAs (tM off h) (.here lV) .same (.dma cc0_scoped0.sem) hws hwd hsem) k) Q := by
  unfold Start
  iintro ⟨HT, Hl, Hs, Hs1, Hp, #Hmw, HO⟩
  ihave HT' := (pointsTo_split_subset (Finset.subset_univ (tM off h).view.set)).1 $$ HT
  icases HT' with ⟨HT, -⟩
  imod (Transfers.batch_alloc' (EC (F := F)) (VT d L) (default : HIx 1) tgtN (DT d L T) (sm := .dma cc0_scoped0.sem) (E := Set.univ)) $$ Hs with HB
  iapply (Transfers.wp_dmaBatch (EC (F := F)) 𝒱₀ (VT d L) none (src := tM off h) (dst := lV) (via := .same)
    (Sd := (lV).view.set) (fd := g0) (fs := T) (D := DT d L T) (j := 0) (u := 0)
    default tgtN rfl (fun _ hx => hx) (by omega) (Nat.zero_le _)
    (sep_elim_left.trans (Entails.of_eq (pointsTo_congr (land_tgts d L T off h hoff g0))))) $$ [HT Hl HB]
  · isplitl [HT]; · iexact HT
    isplitl [Hl]; · iexact Hl
    iexact HB
  iintro HB
  iapply H
  unfold Fetched
  isplitl [HB]; · iexact HB
  isplitl [Hs1]; · iexact Hs1
  isplitl [Hp]; · iexact Hp
  isplitr; · iexact Hmw
  iexists _; iexact HO

/-- The fetch of the targets is waited for. -/
theorem fetchWait {α : Type} {srcw : Memref sig .scVector .hbm S32 .i32} {dstw : Memref sig .scVector .vmem S32 .i32} {hws hwd}
    {k : PUnit → Prog (TpuEff nD τ sig (Elt F) Λ₀ (VT d L).2) α} {Q : α → sProp 𝕄}
    (H : InvC d L A B T C0 P0 q O 0 ⊢ wp frame (wpE (defs₀ (F := F)) 𝒱₀ (VT d L) none) Set.univ (k ⟨⟩) Q) :
    Fetched d L A B T C0 P0 q O ⊢ wp frame (wpE (defs₀ (F := F)) 𝒱₀ (VT d L) none) Set.univ
      (.op (.waitDma2 cc0_scoped0.sem srcw dstw hws hwd) k) Q := by
  unfold Fetched
  iintro ⟨HB, Hs1, Hp, #Hmw, ⟨%W', HO⟩⟩
  ihave Hm := (Transfers.MayWaits.elim (c := VT d L) (ι := (default : HIx 1)) (O := O) (.dma cc0_scoped0.sem)) $$ Hmw
  imod (Transfers.batch_alloc' (EC (F := F)) (VT d L) (default : HIx 1) rowN (DD d L A B T) (sm := .dma cc0_scratch1.sem) (E := Set.univ)) $$ Hs1 with HB1
  iapply (Transfers.wp_waitBatchLastO (EC (F := F)) 𝒱₀ (VT d L) none (dstw := dstw) (srcw := srcw) (D := DT d L T) default
    (N := tgtN) rfl tgtN_pos (u := 0) (by omega)) $$ [HB HO Hm]
  · isplitl [HB]; · iexact HB
    isplitl [HO]; · iexact HO
    iexact Hm
  iintro ⟨HD, Hs, HO⟩
  ihave HD' := (show bigSep Finset.univ (DT d L T) ⊢ ((lV).view.loc (VT d L) ↦[(lV).view.set]{fullShare} tgts d L T : sProp 𝕄) from
    Entails.of_eq (by rw [Finset.univ_unique, bigSep_singleton]; rfl)) $$ HD
  iapply H
  unfold InvC keep bat
  isplitl [HB1]; · iexact HB1
  isplitl [Hp]; · iexact Hp
  isplitr; · iexact Hmw
  isplitl [HD' Hs]
  · isplitl [HD']; · iexact HD'
    iexact Hs
  iexists _; iexact HO

/-! ## The run -/

/-- A row's checks: its target word is a multiple of eight and its block lies inside the array. -/
theorem rowChk (t : ℕ) (ht : t < 32) (hT : ∀ r, tgt T r < 100000) :
    (8 ∣ (wordOf L T t).toNat)
      ∧ ∀ a, srcOff L (BitVec.ofNat 32 (16 * (t / 16))) (BitVec.ofNat 32 (t % 16)) (wordOf L T t) a + S8x128.size a ≤ S100000x1024.size a := by
  refine ⟨?_, ?_⟩
  · rw [wordOf_toNat]; exact Dvd.intro _ rfl
  · rw [srcOff_eq L T t _ _ (by omega) ht]
    exact src_inb L T t ht (hT _)

/-- Where the program puts a row's window. -/
theorem dstOff (t : ℕ) (ht : t < 32) :
    k0_off64 L (BitVec.ofNat 32 (16 * (t / 16))) (BitVec.ofNat 32 (t % 16)) = ![base L + t, 0, 0] := by
  show ![(rowW L _ _).toNat, 0, 0] = _
  rw [rowW_toNat L _ _ (by omega), Nat.div_add_mod]

/-- A copy of cosines is issued, with its offsets as the program has them. -/
theorem issueC' {t : ℕ} (ht : t < 32) (hT : ∀ r, tgt T r < 100000) {α : Type} {off : Fin 3 → ℕ} {h} {soff : Fin 2 → ℕ} {hs} {hws hwd hsem}
    {k : PUnit → Prog (TpuEff nD τ sig (Elt F) Λ₀ (VT d L).2) α} {Q : α → sProp 𝕄}
    (hoff : off = k0_off64 L (BitVec.ofNat 32 (16 * (t / 16))) (BitVec.ofNat 32 (t % 16)))
    (hsoff : soff = srcOff L (BitVec.ofNat 32 (16 * (t / 16))) (BitVec.ofNat 32 (t % 16)) (wordOf L T t))
    (H : InvP d L A B T C0 P0 q O t ⊢ wp frame (wpE (defs₀ (F := F)) 𝒱₀ (VT d L) none) Set.univ (k ⟨⟩) Q) :
    InvC d L A B T C0 P0 q O t ⊢ wp frame (wpE (defs₀ (F := F)) 𝒱₀ (VT d L) none) Set.univ
      (.op (.enqueueDmaAs (srcM aV soff hs) (.here (dstM cV off h)) .same (.dma cc0_scratch1.sem) hws hwd hsem) k) Q :=
  issueC d L A B T C0 P0 q O ht hT (hoff.trans (dstOff L t ht)) (hsoff.trans (srcOff_eq L T t _ _ (by omega) ht)) H

/-- A copy of phis is issued, with its offsets as the program has them. -/
theorem issueP' {t : ℕ} (ht : t < 32) (hT : ∀ r, tgt T r < 100000) {α : Type} {off : Fin 3 → ℕ} {h} {soff : Fin 2 → ℕ} {hs} {hws hwd hsem}
    {k : PUnit → Prog (TpuEff nD τ sig (Elt F) Λ₀ (VT d L).2) α} {Q : α → sProp 𝕄}
    (hoff : off = k0_off64 L (BitVec.ofNat 32 (16 * (t / 16))) (BitVec.ofNat 32 (t % 16)))
    (hsoff : soff = srcOff L (BitVec.ofNat 32 (16 * (t / 16))) (BitVec.ofNat 32 (t % 16)) (wordOf L T t))
    (H : InvC d L A B T C0 P0 q O (t + 1) ⊢ wp frame (wpE (defs₀ (F := F)) 𝒱₀ (VT d L) none) Set.univ (k ⟨⟩) Q) :
    InvP d L A B T C0 P0 q O t ⊢ wp frame (wpE (defs₀ (F := F)) 𝒱₀ (VT d L) none) Set.univ
      (.op (.enqueueDmaAs (srcM bV soff hs) (.here (dstM pV off h)) .same (.dma cc0_scratch1.sem) hws hwd hsem) k) Q :=
  issueP d L A B T C0 P0 q O ht hT (hoff.trans (dstOff L t ht)) (hsoff.trans (srcOff_eq L T t _ _ (by omega) ht)) H

/-- A row's checks passed, three facts: the block's bounds are asked for twice. -/
theorem chkStep3 {t : ℕ} (ht : t < 32) (hT : ∀ r, tgt T r < 100000) {α : Type} {P : Prop} {dp : Decidable P}
    {k : PLift P → Prog (TpuEff nD τ sig (Elt F) Λ₀ (VT d L).2) α} {Q : α → sProp 𝕄}
    (hP : P = ((8 ∣ (wordOf L T t).toNat)
      ∧ (∀ a, srcOff L (BitVec.ofNat 32 (16 * (t / 16))) (BitVec.ofNat 32 (t % 16)) (wordOf L T t) a + S8x128.size a ≤ S100000x1024.size a)
      ∧ ∀ a, srcOff L (BitVec.ofNat 32 (16 * (t / 16))) (BitVec.ofNat 32 (t % 16)) (wordOf L T t) a + S8x128.size a ≤ S100000x1024.size a))
    (H : ∀ h, InvC d L A B T C0 P0 q O t ⊢ wp frame (wpE (defs₀ (F := F)) 𝒱₀ (VT d L) none) Set.univ (k ⟨h⟩) Q) :
    InvC d L A B T C0 P0 q O t ⊢ wp frame (wpE (defs₀ (F := F)) 𝒱₀ (VT d L) none) Set.univ (.op (.assume P dp) k) Q := by
  have h := rowChk d L T t ht hT
  exact assumeStep d L (hP ▸ ⟨h.1, h.2, h.2⟩) (H _)

/-- A window's check passes, for its target is in range. -/
theorem chkStep2 {t : ℕ} (ht : t < 32) (hT : ∀ r, tgt T r < 100000) {α : Type} {P : Prop} {dp : Decidable P}
    {k : PLift P → Prog (TpuEff nD τ sig (Elt F) Λ₀ (VT d L).2) α} {Q : α → sProp 𝕄}
    (hP : P = ((8 ∣ (wordOf L T t).toNat)
      ∧ (∀ a, srcOff L (BitVec.ofNat 32 (16 * (t / 16))) (BitVec.ofNat 32 (t % 16)) (wordOf L T t) a + S8x128.size a ≤ S100000x1024.size a)))
    (H : ∀ h, InvC d L A B T C0 P0 q O t ⊢ wp frame (wpE (defs₀ (F := F)) 𝒱₀ (VT d L) none) Set.univ (k ⟨h⟩) Q) :
    InvC d L A B T C0 P0 q O t ⊢ wp frame (wpE (defs₀ (F := F)) 𝒱₀ (VT d L) none) Set.univ (.op (.assume P dp) k) Q := by
  have h := rowChk d L T t ht hT
  exact assumeStep d L (hP ▸ h) (H _)

/-- The whole body of a tile: fetch, 64 copies, 64 waits. -/
theorem tile_run (qt : PosShare TreeShare) (g0 : Buf (Elt F) ((lV).view.loc (VT d L))) (W : Waits sig (HIx 1))
    (hT : ∀ r, tgt T r < 100000) :
    Start d L A B T C0 P0 q O qt g0 W ⊢ wp frame (wpE (defs₀ (F := F)) 𝒱₀ (VT d L) none) Set.univ
      (cc0_gather_kernel L aV (Memref.isWhole_whole _) bV (Memref.isWhole_whole _) tV (Memref.isWhole_whole _) cV (Memref.isWhole_whole _)
        pV (Memref.isWhole_whole _) lV (Memref.isWhole_whole _) cc0_scratch1 cc0_scoped0)
      fun _ => iprop(bigSep Finset.univ (DD d L A B T) ∗ semVal (VT d L, .dma cc0_scratch1.sem) 0 ∗ keep d L T O) := by
  refine fetchIssue d L A B T C0 P0 q O (k0_off1_eq L) ?_
  refine fetchWait d L A B T C0 P0 q O ?_
  refine loadStep d L A B T C0 P0 q O ?_
  iterate 16
    refine chkStep3 d L A B T C0 P0 q O (by decide) hT rfl fun _ => ?_
    refine issueC' d L A B T C0 P0 q O (by decide) hT rfl rfl ?_
    refine issueP' d L A B T C0 P0 q O (by decide) hT rfl rfl ?_
  refine loadStep d L A B T C0 P0 q O ?_
  iterate 15
    refine chkStep3 d L A B T C0 P0 q O (by decide) hT rfl fun _ => ?_
    refine issueC' d L A B T C0 P0 q O (by decide) hT rfl rfl ?_
    refine issueP' d L A B T C0 P0 q O (by decide) hT rfl rfl ?_
  refine chkStep2 d L A B T C0 P0 q O (by decide) hT rfl fun _ => ?_
  refine issueC' d L A B T C0 P0 q O (by decide) hT rfl rfl ?_
  refine issueP' d L A B T C0 P0 q O (by decide) hT rfl rfl ?_
  refine toWaits d L A B T C0 P0 q O ?_
  iterate 63
    refine waitStep d L A B T O (by decide) ?_
  refine waitLast d L A B T O ?_
  exact fupd_intro

end Run

end Cert.Proof.SC

end

end
-- ==== Proof.Pay.lean ====
/-
  What the gather call's handshakes carry, how a call's operands split over the cores and tiles and its results gather
  from theirs, and a tile's obligation.
-/
module

public import proofs.«01_k».proof.Proof.Tile

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.main_v0_scv : Memref Cert.KernelIdeal.sig Kind.scVector Space.hbm Cert.KernelIdeal.S100000x1024 EltTy.f32)
local notation "bV" => (Memref.whole Cert.KernelIdeal.main_v1_scv : Memref Cert.KernelIdeal.sig Kind.scVector Space.hbm Cert.KernelIdeal.S100000x1024 EltTy.f32)
local notation "tV" => (Memref.whole Cert.KernelIdeal.main_arg2_scv : Memref Cert.KernelIdeal.sig Kind.scVector Space.hbm Cert.KernelIdeal.S1024 EltTy.i32)
local notation "cV" => (Memref.whole Cert.KernelIdeal.main_v2_0_scv : Memref Cert.KernelIdeal.sig Kind.scVector Space.hbm Cert.KernelIdeal.S1024x8x128 EltTy.f32)
local notation "pV" => (Memref.whole Cert.KernelIdeal.main_v2_1_scv : Memref Cert.KernelIdeal.sig Kind.scVector Space.hbm Cert.KernelIdeal.S1024x8x128 EltTy.f32)
local notation "lV" => (Memref.whole Cert.KernelIdeal.cc0_scratch0 : Memref Cert.KernelIdeal.sig Kind.scVector Space.vmem Cert.KernelIdeal.S32 EltTy.i32)

/-! ## The rows of a tile and of a core -/

/-- The elements of the rows of the tile at core `c`, subcore `s`. -/
def tileSet (c s : ℕ) : Finset S1024x8x128.Idx := Finset.univ.filter fun x => (x 0).val / 32 = 2 * s + c
/-- The elements of the rows of core `c`. -/
def coreSet (c : ℕ) : Finset S1024x8x128.Idx := Finset.univ.filter fun x => (x 0).val / 32 % 2 = c

/-- A window's row is below 1024. -/
theorem x0_lt (x : S1024x8x128.Idx) : (x 0).val < 1024 := (x 0).isLt

/-- A tile's part of the windows is its 32 rows. -/
theorem tileSet_rows (L : grid0.Coords) : (Finset.range 32).biUnion (fun t => rowSet (base L + t)) = tileSet (L 0).val (L 1).val := by
  have h0 := L0_lt L; have h1 := L1_lt L
  ext x
  simp only [Finset.mem_biUnion, Finset.mem_range, mem_rowSet, tileSet, Finset.mem_filter, Finset.mem_univ, true_and]
  unfold base
  constructor
  · rintro ⟨t, ht, h⟩; omega
  · intro h; exact ⟨(x 0).val % 32, by omega, by omega⟩

/-- A tile's rows do not overlap. -/
theorem rows_disjoint (L : grid0.Coords) : ∀ t ∈ Finset.range 32, ∀ t' ∈ Finset.range 32, t ≠ t' → Disjoint (rowSet (base L + t)) (rowSet (base L + t')) := by
  intro t _ t' _ hne
  rw [Finset.disjoint_left]
  intro x hx hx'
  rw [mem_rowSet] at hx hx'; omega

/-- A SparseCore's part of the windows is that of its sixteen tiles. -/
theorem coreSet_tiles (c : Fin 2) : (Finset.univ : Finset (Fin 16)).biUnion (fun s => tileSet c.val s.val) = coreSet c.val := by
  have hc := c.isLt
  ext x
  have hx := x0_lt x
  simp only [Finset.mem_biUnion, tileSet, coreSet, Finset.mem_filter, Finset.mem_univ, true_and]
  constructor
  · rintro ⟨s, h⟩; omega
  · intro h; exact ⟨⟨(x 0).val / 64, by omega⟩, by show (x 0).val / 32 = 2 * ((x 0).val / 64) + c.val; omega⟩

/-- The tiles' parts do not overlap. -/
theorem tiles_disjoint (c : Fin 2) : ∀ s ∈ (Finset.univ : Finset (Fin 16)), ∀ s' ∈ (Finset.univ : Finset (Fin 16)), s ≠ s' →
    Disjoint (tileSet c.val s.val) (tileSet c.val s'.val) := by
  intro s _ s' _ hne
  rw [Finset.disjoint_left]
  intro x hx hx'
  simp only [tileSet, Finset.mem_filter] at hx hx'
  exact hne (Fin.ext (by omega))

/-- The two SparseCores' parts are all of the windows. -/
theorem univ_cores : (Finset.univ : Finset (Fin 2)).biUnion (fun c => coreSet c.val) = Finset.univ := by
  ext x
  simp only [Finset.mem_biUnion, coreSet, Finset.mem_filter, Finset.mem_univ, true_and, iff_true]
  exact ⟨⟨(x 0).val / 32 % 2, Nat.mod_lt _ (by decide)⟩, rfl⟩

/-- The SparseCores' parts do not overlap. -/
theorem cores_disjoint : ∀ c ∈ (Finset.univ : Finset (Fin 2)), ∀ c' ∈ (Finset.univ : Finset (Fin 2)), c ≠ c' →
    Disjoint (coreSet c.val) (coreSet c'.val) := by
  intro c _ c' _ hne
  rw [Finset.disjoint_left]
  intro x hx hx'
  simp only [coreSet, Finset.mem_filter] at hx hx'
  exact hne (Fin.ext (by omega))

/-! ## What the handshakes carry -/

variable (m : (ℓ : Loc nD τ sig) → Buf (Elt F) ℓ)

/-- The cosines, as they are given. -/
abbrev arg0Loc (d : Dev nD) : Loc nD τ sig := (SparseCore.T d).loc main_arg0
/-- The phis, as they are given. -/
abbrev arg1Loc (d : Dev nD) : Loc nD τ sig := (SparseCore.T d).loc main_arg1

/-- The transposed arrays' contents, and the targets. -/
def aT (d : Dev nD) : Buf (Elt F) (aLoc d) :=
  (transpose S100000x1024 [1, 0] (m (arg0Loc d) : (⟨S1024x100000, .f32⟩ : BufTy).Contents (Elt F)) transposes_S1024x100000_S100000x1024_1_0 : S100000x1024.Idx → Elt F .f32)
/-- The phis transposed. -/
def bT (d : Dev nD) : Buf (Elt F) (bLoc d) :=
  (transpose S100000x1024 [1, 0] (m (arg1Loc d) : (⟨S1024x100000, .f32⟩ : BufTy).Contents (Elt F)) transposes_S1024x100000_S100000x1024_1_0 : S100000x1024.Idx → Elt F .f32)
/-- The targets. -/
abbrev tT (d : Dev nD) : S1024.Idx → BitVec 32 := m (tLoc d)

/-- The windows' final contents. -/
def cG (d : Dev nD) : Buf (Elt F) (cLoc d) := gath (aT m d) (tT m d)
/-- The windows of the phis that the gather is to leave. -/
def pG (d : Dev nD) : Buf (Elt F) (pLoc d) := gath (bT m d) (tT m d)

/-- A core's share of the arrays read by all, and a tile's. -/
abbrev qC (c : ℕ) : PosShare TreeShare := Transfers.shareTokN fullShare c
/-- A tile's read share. -/
abbrev qT (c s : ℕ) : PosShare TreeShare := Transfers.shareTokN (qC c) s

/-- What a SparseCore is started with. -/
def stR (d : Dev nD) (c : ℕ) : sProp 𝕄 := iprop((tLoc d ↦{qC c} m (tLoc d)) ∗ (aLoc d ↦{qC c} aT m d) ∗ (bLoc d ↦{qC c} bT m d)
  ∗ (cLoc d ↦[coreSet c]{fullShare} m (cLoc d)) ∗ (pLoc d ↦[coreSet c]{fullShare} m (pLoc d)))
/-- What a SparseCore ends with. -/
def dnR (d : Dev nD) (c : ℕ) : sProp 𝕄 := iprop((cLoc d ↦[coreSet c]{fullShare} cG m d) ∗ (pLoc d ↦[coreSet c]{fullShare} pG m d))
/-- What a tile is started with. -/
def goR (d : Dev nD) (c s : ℕ) : sProp 𝕄 := iprop((tLoc d ↦{qT c s} m (tLoc d)) ∗ (aLoc d ↦{qT c s} aT m d) ∗ (bLoc d ↦{qT c s} bT m d)
  ∗ (cLoc d ↦[tileSet c s]{fullShare} m (cLoc d)) ∗ (pLoc d ↦[tileSet c s]{fullShare} m (pLoc d)))
/-- What a tile ends with. -/
def tdR (d : Dev nD) (c s : ℕ) : sProp 𝕄 := iprop((cLoc d ↦[tileSet c s]{fullShare} cG m d) ∗ (pLoc d ↦[tileSet c s]{fullShare} pG m d))

variable [FloatOps F] [Named F]

/-- The call takes the arrays' shares and the windows' rows; the rows come back gathered. -/
def P : (K (F := F)).Pay (nD := nD) (Val := Elt F) (Name := ℕ) (U := UU) where
  st := fun q d c => match q with | 0 => stR m d c.val
  dn := fun q d c => match q with | 0 => dnR m d c.val
  go := fun q d c i => match q with | 0 => goR m d c.val i.val
  td := fun q d c i => match q with | 0 => tdR m d c.val i.val
  x := fun _ _ => iprop(emp)

/-- What the handshakes carry can be kept in an invariant. -/
instance P_storable : (P (F := F) m).IsStorable where
  st q d c := match q with
    | 0 => (by unfold stR; infer_instance : BI.Storable (upEmb : UEmb _ 𝕄) (stR m d c.val))
  dn q d c := match q with
    | 0 => (by unfold dnR; infer_instance : BI.Storable (upEmb : UEmb _ 𝕄) (dnR m d c.val))
  go q d c i := match q with
    | 0 => (by unfold goR; infer_instance : BI.Storable (upEmb : UEmb _ 𝕄) (goR m d c.val i.val))
  td q d c i := match q with
    | 0 => (by unfold tdR; infer_instance : BI.Storable (upEmb : UEmb _ 𝕄) (tdR m d c.val i.val))

/-! ## A core's operands split over its tiles -/

omit [FloatOps F] [Named F] in
/-- A share as sixteen read tokens, the rest dropped. -/
theorem toks16 {ℓ : Loc nD τ sig} (q : PosShare TreeShare) (f : Buf (Elt F) ℓ) :
    (ℓ ↦{q} f : sProp 𝕄) ⊢ bigSep Finset.univ fun s : Fin 16 => ℓ ↦{Transfers.shareTokN q s.val} f :=
  (Transfers.pointsTo_toks_split (ℓ := ℓ) (S := Finset.univ) (f := f) q 16).trans sep_elim_right

/-- A SparseCore's resources split into its tiles' and join again. -/
theorem vecSplit : (K (F := F)).VecSplit' (P m) 0 := by
  intro d c
  have hc : c.val < 2 := c.isLt
  show stR m d c.val ⊢ |={Set.univ}=> iprop((bigSep Finset.univ fun i : Fin 16 => goR m d c.val i.val)
      ∗ ((bigSep Finset.univ fun i : Fin 16 => tdR m d c.val i.val) -∗ dnR m d c.val))
  unfold stR goR tdR dnR
  simp only [bigSep_sep']
  have e1 : ∀ f : Buf (Elt F) (cLoc d), (cLoc d ↦[coreSet c.val]{fullShare} f : sProp 𝕄)
      = bigSep Finset.univ fun s : Fin 16 => cLoc d ↦[tileSet c.val s.val]{fullShare} f := fun f => by
    rw [← pointsTo_biUnion Finset.univ (ℓ := cLoc d) (fun s : Fin 16 => tileSet c.val s.val) (tiles_disjoint ⟨c.val, hc⟩), coreSet_tiles ⟨c.val, hc⟩]
  have e2 : ∀ f : Buf (Elt F) (pLoc d), (pLoc d ↦[coreSet c.val]{fullShare} f : sProp 𝕄)
      = bigSep Finset.univ fun s : Fin 16 => pLoc d ↦[tileSet c.val s.val]{fullShare} f := fun f => by
    rw [← pointsTo_biUnion Finset.univ (ℓ := pLoc d) (fun s : Fin 16 => tileSet c.val s.val) (tiles_disjoint ⟨c.val, hc⟩), coreSet_tiles ⟨c.val, hc⟩]
  iintro ⟨HT, HA, HB, HC, HP⟩
  imodintro
  isplitl [HT HA HB HC HP]
  · isplitl [HT]; · iapply (toks16 (qC c.val) _); iexact HT
    isplitl [HA]; · iapply (toks16 (qC c.val) _); iexact HA
    isplitl [HB]; · iapply (toks16 (qC c.val) _); iexact HB
    isplitl [HC]; · iapply (Entails.of_eq (e1 _)); iexact HC
    iapply (Entails.of_eq (e2 _)); iexact HP
  · iintro ⟨HC, HP⟩
    isplitl [HC]; · iapply (Entails.of_eq (e1 _).symm); iexact HC
    iapply (Entails.of_eq (e2 _).symm); iexact HP

/-! ## A tile's obligation -/

section Task

variable (d : Dev nD) (L : grid0.Coords)

omit [FloatOps F] [Named F] in
/-- A tile's copy semaphore is one of its own cells. -/
theorem dma_mem (s : DmaSem sig) : ((VT d L, SemLoc.dma s) : GSem nD τ sig) ∈ ownCells (VT d L) :=
  mem_ownCells.mpr ⟨rfl, (show ∀ s : DmaSem sig, (SemLoc.dma s : SemLoc sig).isScoped .scVector = true by decide) _⟩

omit [FloatOps F] [Named F] in
/-- The tile's own cells at zero: the two the task names and the rest. -/
theorem ownSems0_V :
    (ownSems0 (VT d L) : sProp 𝕄)
      = iprop((semVal (VT d L, .dma cc0_scoped0.sem) 0 ∗ semVal (VT d L, .dma cc0_scratch1.sem) 0)
          ∗ bigSep ((ownCells (VT d L)) \ {((VT d L, SemLoc.dma cc0_scoped0.sem) : GSem nD τ sig), (VT d L, SemLoc.dma cc0_scratch1.sem)}) fun g => semVal g 0) := by
  have hne : ((VT d L, SemLoc.dma cc0_scoped0.sem) : GSem nD τ sig) ∉ ({((VT d L, SemLoc.dma cc0_scratch1.sem) : GSem nD τ sig)} : Finset _) := by
    rw [Finset.mem_singleton]
    intro h
    have := congrArg (fun g : GSem nD τ sig => g.2) h
    exact absurd this (show (SemLoc.dma cc0_scoped0.sem : SemLoc sig) ≠ SemLoc.dma cc0_scratch1.sem by decide)
  unfold SparseCore.Cfg.ownSems0
  rw [SparseCore.bigSep_sdiff_split' (t := {((VT d L, SemLoc.dma cc0_scoped0.sem) : GSem nD τ sig), (VT d L, SemLoc.dma cc0_scratch1.sem)})
      (by
        intro g hg
        rw [Finset.mem_insert, Finset.mem_singleton] at hg
        rcases hg with rfl | rfl <;> exact dma_mem d L _),
    SparseCore.bigSep_insert' hne, bigSep_singleton]

omit [FloatOps F] [Named F] in
/-- The scratch buffer is among the tile's own. -/
theorem ownBufs_V :
    (ownBufs (VT d L) : sProp 𝕄)
      = iprop((∃ f, (VT d L).loc cc0_scratch0 ↦{fullShare} f)
          ∗ bigSep ((ownRefs (τ := τ) (.scVector (cVx L) (jVx L))).erase ((Proc.scVector (cVx L) (jVx L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cVx L) (jVx L))
    (b := (Proc.scVector (cVx L) (jVx L)).devRef cc0_scratch0) rfl)

omit [FloatOps F] [Named F] in
/-- What a tile is handed makes the rows still to be copied. -/
theorem pend_intro (A : Buf (Elt F) (aLoc d)) (B : Buf (Elt F) (bLoc d)) (C0 : Buf (Elt F) (cLoc d)) (P0 : Buf (Elt F) (pLoc d)) (q : PosShare TreeShare) :
    iprop((aLoc d ↦{q} A) ∗ (bLoc d ↦{q} B) ∗ (cLoc d ↦[tileSet (L 0).val (L 1).val]{fullShare} C0) ∗ (pLoc d ↦[tileSet (L 0).val (L 1).val]{fullShare} P0))
      ⊢ (pend d L A B C0 P0 q 0 : sProp 𝕄) := by
  unfold pend srcC srcP
  rw [← Finset.range_eq_Ico]
  simp only [bigSep_sep']
  rw [← pointsTo_biUnion (Finset.range 32) (ℓ := cLoc d) (fun t => rowSet (base L + t)) (rows_disjoint L),
    ← pointsTo_biUnion (Finset.range 32) (ℓ := pLoc d) (fun t => rowSet (base L + t)) (rows_disjoint L), tileSet_rows]
  iintro ⟨HA, HB, HC, HP⟩
  ihave HA' := ((Transfers.pointsTo_toks_range (ℓ := aLoc d) (S := Finset.univ) (f := A) q 32).1.trans sep_elim_right) $$ HA
  ihave HB' := ((Transfers.pointsTo_toks_range (ℓ := bLoc d) (S := Finset.univ) (f := B) q 32).1.trans sep_elim_right) $$ HB
  isplitl [HA' HC]
  · isplitl [HA'] <;> iassumption
  · isplitl [HB'] <;> iassumption

omit [FloatOps F] [Named F] in
/-- The rows delivered are the tile's rows at their final contents. -/
theorem DD_elim (A : Buf (Elt F) (aLoc d)) (B : Buf (Elt F) (bLoc d)) (Tg : Buf (Elt F) (tLoc d)) :
    (bigSep Finset.univ (DD d L A B Tg) : sProp 𝕄)
      ⊢ iprop((cLoc d ↦[tileSet (L 0).val (L 1).val]{fullShare} (gath A Tg : Buf (Elt F) (cLoc d)))
        ∗ (pLoc d ↦[tileSet (L 0).val (L 1).val]{fullShare} (gath B Tg : Buf (Elt F) (pLoc d)))) := by
  rw [bigSep_univ_equiv (finProdFinEquiv : Fin 32 × Fin 2 ≃ Fin (32 * 2)) (DD d L A B Tg), BI.bigSep_univ_prod]
  have e : ∀ t : Fin 32, (bigSep Finset.univ fun b : Fin 2 => DD d L A B Tg (finProdFinEquiv (t, b)))
      = (iprop(outC d L A Tg t.val ∗ outP d L B Tg t.val) : sProp 𝕄) := fun t => by
    have ht := t.isLt
    rw [BI.bigSep_fin_two]
    have h0 : (finProdFinEquiv (t, (0 : Fin 2)) : Fin 64) = ⟨2 * t.val, by omega⟩ := Fin.ext (by simp [finProdFinEquiv])
    have h1 : (finProdFinEquiv (t, (1 : Fin 2)) : Fin 64) = ⟨2 * t.val + 1, by omega⟩ := Fin.ext (by simp [finProdFinEquiv]; omega)
    rw [h0, h1, DD_even, DD_odd]
    rfl
  rw [bigSep_congr fun t _ => e t, bigSep_sep']
  unfold outC outP
  have hr : ∀ x : S1024x8x128.Idx, True := fun _ => trivial
  have hset : (Finset.univ : Finset (Fin 32)).biUnion (fun t => rowSet (base L + t.val)) = tileSet (L 0).val (L 1).val := by
    rw [← tileSet_rows L]
    ext x
    simp only [Finset.mem_biUnion, Finset.mem_univ, _root_.true_and, Finset.mem_range]
    exact ⟨fun ⟨t, h⟩ => ⟨t.val, t.isLt, h⟩, fun ⟨t, ht, h⟩ => ⟨⟨t, ht⟩, h⟩⟩
  have hdis : ∀ t ∈ (Finset.univ : Finset (Fin 32)), ∀ t' ∈ (Finset.univ : Finset (Fin 32)), t ≠ t' → Disjoint (rowSet (base L + t.val)) (rowSet (base L + t'.val)) :=
    fun t _ t' _ h => rows_disjoint L t.val (Finset.mem_range.2 t.isLt) t'.val (Finset.mem_range.2 t'.isLt) (fun e => h (Fin.ext e))
  rw [← pointsTo_biUnion Finset.univ (ℓ := cLoc d) (fun t : Fin 32 => rowSet (base L + t.val)) hdis,
    ← pointsTo_biUnion Finset.univ (ℓ := pLoc d) (fun t : Fin 32 => rowSet (base L + t.val)) hdis, hset]

omit [FloatOps F] [Named F] in
/-- The tile's list of targets, as a view and as a buffer. -/
theorem pts_lV (f : Buf (Elt F) ((VT d L).loc cc0_scratch0)) :
    ((lV).view.loc (VT d L) ↦[(lV).view.set]{fullShare} f : sProp 𝕄) = ((VT d L).loc cc0_scratch0 ↦{fullShare} f) := by
  rw [show (lV).view.set = Finset.univ from View.set_whole _]

/-- The launch's side conditions hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- What the proof asks of the launch memory: every target is a class. -/
def PreOK : Prop := ∀ (d : Dev nD) (r : ℕ), tgt (tT m d) r < 100000

/-- The task of one tile, from what the launch deals it to what it hands back. -/
theorem tile_body (hpre : PreOK m) (O : CellTallies nD τ sig (HIx 1)) (W : Waits sig (HIx 1)) (hO : ∀ g, O g none = 0) :
    iprop(levAts (K (F := F)).L (K (F := F)).lev ∗ emp ∗ goR m d (L 0).val (L 1).val
        ∗ scopedBufs (VT d L) ∗ scopedSems0 (VT d L) ∗ owes (VT d L) O W)
      ⊢ wp frame (wpE (defs₀ (F := F)) 𝒱₀ (VT d L) none) Set.univ
          (cc0_gather_kernel L aV (Memref.isWhole_whole _) bV (Memref.isWhole_whole _) tV (Memref.isWhole_whole _) cV (Memref.isWhole_whole _)
            pV (Memref.isWhole_whole _) lV (Memref.isWhole_whole _) cc0_scratch1 cc0_scoped0)
          fun _ => iprop(tdR m d (L 0).val (L 1).val ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V facts d (cVx L) (jVx L), SparseCore.Cfg.scopedSems0_V (Val := Elt F) d (cVx L) (jVx L), ownSems0_V, ownBufs_V]
  unfold goR tdR
  iintro ⟨#Hlv, -, ⟨HT, HA, HB, HC, HP⟩, ⟨⟨%g0, HG⟩, Hbufs⟩, ⟨⟨Hs0, Hs1⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (Entails.of_eq (pts_lV (F := F) d L _).symm) $$ HG
  ihave Hp := (pend_intro d L (aT m d) (bT m d) (m (cLoc d)) (m (pLoc d)) (qT (L 0).val (L 1).val)) $$ [HA HB HC HP]
  · isplitl [HA]; · iexact HA
    isplitl [HB]; · iexact HB
    isplitl [HC] <;> iassumption
  iapply (wp_wand_r Idealize.ShloMosaic.frame (wpE (defs₀ (F := F)) 𝒱₀ (VT d L) none) Set.univ)
  isplitl [HT HG' Hs0 Hs1 Hp HO]
  · iapply (tile_run d L (aT m d) (bT m d) (m (tLoc d)) (m (cLoc d)) (m (pLoc d)) (qT (L 0).val (L 1).val) O (qT (L 0).val (L 1).val) g0 W (hpre d))
    unfold Start
    isplitl [HT]; · iexact HT
    isplitl [HG']; · iexact HG'
    isplitl [Hs0]; · iexact Hs0
    isplitl [Hs1]; · iexact Hs1
    isplitl [Hp]; · iexact Hp
    isplitr; · iexact Hmw
    iexact HO
  unfold keep
  iintro %_ ⟨HD, Hs1, -, ⟨HG', Hs0⟩, ⟨%W', HO⟩⟩
  ihave HD' := (DD_elim d L (aT m d) (bT m d) (m (tLoc d))) $$ HD
  icases HD' with ⟨HC, HP⟩
  isplitl [HC HP]
  · unfold cG pG
    isplitl [HC] <;> iassumption
  isplitl [HG' Hbufs]
  · isplitl [HG']; · iexists _; iapply (Entails.of_eq (pts_lV (F := F) d L _)); iexact HG'
    iexact Hbufs
  isplitl [Hs0 Hs1 Hsems]
  · isplitl [Hs0 Hs1]
    · isplitl [Hs0] <;> iassumption
    iexact Hsems
  iexists W'; isplitr
  · ipureintro; intro p _
    rcases p.2 with _ | q
    · exact .inr (.inl rfl)
    · exact .inr (.inr (congrArg some (Subsingleton.elim q 0)))
  · iexact HO

end Task

/-- The coordinates of the tile at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile's label unfolds to. -/
theorem defs₀_vector (c : Fin τ.nSC) (s : Fin τ.nSub) :
    defs₀ (F := F) (.scVector c s) 0 ()
      = SparseCore.onTile hcore0 hsub0 (fun c s => cc0_gather_kernel (coordsV c s)
          aV (Memref.isWhole_whole _) bV (Memref.isWhole_whole _) tV (Memref.isWhole_whole _) cV (Memref.isWhole_whole _)
          pV (Memref.isWhole_whole _) lV (Memref.isWhole_whole _) cc0_scratch1 cc0_scoped0) ⟨⟩ c s := rfl

/-- A tile of the grid runs the gather's body. -/
theorem task_eq (c : Fin τ.nSC) (s : Fin τ.nSub) (h : c.val < grid0.bound 0 ∧ s.val < grid0.bound 1) :
    defs₀ (F := F) (.scVector c s) 0 ()
      = cc0_gather_kernel (coordsV ⟨c.val, h.1⟩ ⟨s.val, h.2⟩)
          aV (Memref.isWhole_whole _) bV (Memref.isWhole_whole _) tV (Memref.isWhole_whole _) cV (Memref.isWhole_whole _)
          pV (Memref.isWhole_whole _) lV (Memref.isWhole_whole _) cc0_scratch1 cc0_scoped0 := by
  rw [defs₀_vector]
  simp only [SparseCore.onTile, h, and_self, ↓reduceDIte]
  rfl

/-- The gather's body, run by a tile, takes its resources to their final contents. -/
theorem tile_body' (hpre : PreOK m) (d : Dev nD) (c : Fin τ.nSC) (s : Fin τ.nSub) (h : c.val < grid0.bound 0 ∧ s.val < grid0.bound 1)
    (O : CellTallies nD τ sig (HIx 1)) (W : Waits sig (HIx 1)) (hO : ∀ g, O g none = 0) :
    iprop(levAts (K (F := F)).L (K (F := F)).lev ∗ emp ∗ goR m d c.val s.val
        ∗ scopedBufs (V d c s) ∗ scopedSems0 (V d c s) ∗ owes (V d c s) O W)
      ⊢ wp frame (wpE (defs₀ (F := F)) 𝒱₀ (V d c s) none) Set.univ (defs₀ (F := F) (.scVector c s) 0 ())
          fun _ => iprop(tdR m d c.val s.val ∗ scopedBufs (V d c s) ∗ scopedSems0 (V d c s)
            ∗ ∃ W', ⌜∀ p ∈ W', p ∈ W ∨ p.2 = none ∨ p.2 = some (0 : Fin 1)⌝ ∗ owes (V d c s) O W') := by
  rw [task_eq c s h]
  have e0 : cVx (coordsV ⟨c.val, h.1⟩ ⟨s.val, h.2⟩) = c := rfl
  have e1 : jVx (coordsV ⟨c.val, h.1⟩ ⟨s.val, h.2⟩) = s := rfl
  have eV : VT d (coordsV ⟨c.val, h.1⟩ ⟨s.val, h.2⟩) = V d c s := rfl
  have hb := tile_body (F := F) m d (coordsV ⟨c.val, h.1⟩ ⟨s.val, h.2⟩) hpre O W hO
  refine BIBase.Entails.trans (BIBase.Entails.trans ?_ hb) ?_
  · exact BIBase.Entails.rfl
  · refine BIBase.Entails.of_eq ?_
    have e3 : (fun _ : PUnit => iprop(tdR m d ((coordsV ⟨c.val, h.1⟩ ⟨s.val, h.2⟩) 0).val ((coordsV ⟨c.val, h.1⟩ ⟨s.val, h.2⟩) 1).val ∗ scopedBufs (VT d (coordsV ⟨c.val, h.1⟩ ⟨s.val, h.2⟩)) ∗ scopedSems0 (VT d (coordsV ⟨c.val, h.1⟩ ⟨s.val, h.2⟩))
            ∗ ∃ W', ⌜∀ p ∈ W', p ∈ W ∨ p.2 = none ∨ p.2 = some (0 : Fin 1)⌝ ∗ owes (VT d (coordsV ⟨c.val, h.1⟩ ⟨s.val, h.2⟩)) O W') : PUnit → sProp 𝕄) = fun _ => iprop(tdR m d c.val s.val ∗ scopedBufs (V d c s) ∗ scopedSems0 (V d c s)
            ∗ ∃ W', ⌜∀ p ∈ W', p ∈ W ∨ p.2 = none ∨ p.2 = some (0 : Fin 1)⌝ ∗ owes (V d c s) O W') := rfl
    rw [e3]
    unfold VT; congr 1

/-- Every tile meets its obligation. -/
theorem tileObl (hpre : PreOK m) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  exact tile_body' m hpre d _ _ hci O W hO

end Cert.Proof.SC

end

end
-- ==== Proof.Steps.lean ====
/-
  Steps of a TensorCore kernel's run: a whole staging buffer loaded, a whole staging buffer stored, a branch taken.
  The state is a separating conjunction of staging buffers at named contents; a step finds its buffer in it.
-/
module

public import proofs.«01_k».proof.Proof.Base
public import Idealize.ShloMosaic.Lib.Pipeline.Value
public import Idealize.ShloMosaic.Lib.Pipeline.Frame

@[expose] public section

noncomputable section

namespace Cert.Proof.SC

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type}

local notation "𝕄" => MT nD τ sig (HIx 1) (Elt F) ℕ UU ℕ

/-- The buffer behind `M` held whole, reading `v`. -/
abbrev hld (d : Dev nD) {sp : Space} {S : Shape} {e : EltTy} (M : Memref sig .tc sp S e) (v : S.Idx → Elt F e) : sProp 𝕄 :=
  owns (SparseCore.T d : Thread nD τ) M fullShare v

/-- Where in a state the buffer behind `M` is: at contents `v`, the state at other contents being `C`. -/
class Focus (d : Dev nD) {sp : Space} {S : Shape} {e : EltTy} (P : sProp 𝕄) (M : Memref sig .tc sp S e)
    (v : outParam (S.Idx → Elt F e)) (C : outParam ((S.Idx → Elt F e) → sProp 𝕄)) : Prop where
  out : P ⊢ iprop(hld d M v ∗ ∀ w, hld d M w -∗ C w)
  same : C v = P

section
variable (d : Dev nD) {sp : Space} {S : Shape} {e : EltTy} (M : Memref sig .tc sp S e) (v : S.Idx → Elt F e)

/-- The array is the first of several. -/
instance focus_here (R : sProp 𝕄) : Focus d iprop(hld d M v ∗ R) M v (fun w => iprop(hld d M w ∗ R)) where
  out := by
    iintro ⟨H, HR⟩
    isplitl [H]; · iexact H
    iintro %w H
    isplitl [H] <;> iassumption
  same := rfl

/-- The array is the only one left. -/
instance (priority := low) focus_last : Focus d (hld d M v) M v (fun w => hld d M w) where
  out := by
    iintro H
    isplitl [H]; · iexact H
    iintro %w H
    iexact H
  same := rfl

/-- The array is among the rest. -/
instance (priority := low) focus_there (G R : sProp 𝕄) (C : (S.Idx → Elt F e) → sProp 𝕄) [h : Focus d R M v C] :
    Focus d iprop(G ∗ R) M v (fun w => iprop(G ∗ C w)) where
  out := by
    iintro ⟨HG, HR⟩
    ihave H := h.out $$ HR
    icases H with ⟨H, Hw⟩
    isplitl [H]; · iexact H
    iintro %w H
    isplitl [HG]; · iexact HG
    iapply Hw; iexact H
  same := by simp only [h.same]
end

variable [FloatOps F] [Named F]

/-- A load of a whole buffer. -/
theorem ld {d : Dev nD} {S : Shape} {e : EltTy} {M : Memref sig .tc .vmem S e} {off : Fin S.rank → Nat} {inb} {hl}
    {α : Type} {k : (S.Idx → Elt F e) → Prog (TpuEff nD τ sig (Elt F) Λ₀ .tc) α} {Q : α → sProp 𝕄} {St : sProp 𝕄} {v C}
    (hoff : ∀ a, off a = 0) [h : Focus d St M v C]
    (H : St ⊢ wp frame (wpE (defs₀ (F := F)) 𝒱₀ (SparseCore.T d) none) Set.univ (k v) Q) :
    St ⊢ wp frame (wpE (defs₀ (F := F)) 𝒱₀ (SparseCore.T d) none) Set.univ
      (.op (.load M (Rect.unit (s := S) off S.size inb).toLoadRect hl) k) Q := by
  refine h.out.trans ?_
  rw [← h.same] at H
  unfold hld owns
  iintro ⟨⟨%f, %hf, Hf⟩, Hw⟩
  iapply (wp_load 𝒱₀ (SparseCore.T d) none Set.univ (m := M) (S := M.view.set) (q := fullShare) (f := f) (View.setOn_subset_set _ _)) $$ [Hf]
  · iexact Hf
  iintro Hf
  have hv : M.view.readAt (Elt F) (Rect.unit (s := S) off S.size inb).toLoadRect f = v := by
    rw [View.readAt_eq_ld, hf]
    exact View.ld_unit_zero (funext hoff) inb v
  rw [hv]
  iapply H
  iapply Hw
  iexists f
  isplitr; · ipureintro; exact hf
  iexact Hf

/-- A store of a whole buffer. -/
theorem st {d : Dev nD} {S : Shape} {e : EltTy} {M : Memref sig .tc .vmem S e} {off : Fin S.rank → Nat} {inb} {w : S.Idx → Elt F e} {hx} {hm}
    {α : Type} {k : PUnit → Prog (TpuEff nD τ sig (Elt F) Λ₀ .tc) α} {Q : α → sProp 𝕄} {St : sProp 𝕄} {v C}
    (hoff : ∀ a, off a = 0) [h : Focus d St M v C]
    (H : C w ⊢ wp frame (wpE (defs₀ (F := F)) 𝒱₀ (SparseCore.T d) none) Set.univ (k ⟨⟩) Q) :
    St ⊢ wp frame (wpE (defs₀ (F := F)) 𝒱₀ (SparseCore.T d) none) Set.univ
      (.op (.store M (Rect.unit (s := S) off S.size inb) w Finset.univ hx hm) k) Q := by
  refine h.out.trans ?_
  unfold hld owns
  iintro ⟨⟨%f, %hf, Hf⟩, Hw⟩
  have hS : (M.access (Rect.unit (s := S) off S.size inb)).set ⊆ M.view.set := by
    show (M.view.slice _).set ⊆ _
    rw [View.set_slice]; exact View.setOn_subset_set _ _
  iapply (wp_store_writes₀ 𝒱₀ (SparseCore.T d) none Set.univ (m := M) (S := M.view.set) (f := f) hS) $$ [Hf]
  · iexact Hf
  iintro Hf
  iapply H
  iapply Hw
  iexists _
  isplitr; swap; · iexact Hf
  ipureintro
  rw [View.read_writes_eq_canon M.view f _ (fun y => ⟨_, List.mem_singleton_self _, View.mem_set_unit_zero (S := S) (funext hoff) inb y⟩)]
  exact View.canon_unit_zero (S := S) (funext hoff) inb w

/-- A branch whose condition holds. -/
theorem ifT {d : Dev nD} {α : Type} {c : Prop} [Decidable c] {A : c → Prog (TpuEff nD τ sig (Elt F) Λ₀ .tc) α} {B : ¬c → Prog (TpuEff nD τ sig (Elt F) Λ₀ .tc) α}
    {Q : α → sProp 𝕄} {St : sProp 𝕄} (hc : c)
    (H : St ⊢ wp frame (wpE (defs₀ (F := F)) 𝒱₀ (SparseCore.T d) none) Set.univ (A hc) Q) :
    St ⊢ wp frame (wpE (defs₀ (F := F)) 𝒱₀ (SparseCore.T d) none) Set.univ (dite c A B) Q := by
  rw [dif_pos hc]; exact H

/-- A branch whose condition fails. -/
theorem ifF {d : Dev nD} {α : Type} {c : Prop} [Decidable c] {A : c → Prog (TpuEff nD τ sig (Elt F) Λ₀ .tc) α} {B : ¬c → Prog (TpuEff nD τ sig (Elt F) Λ₀ .tc) α}
    {Q : α → sProp 𝕄} {St : sProp 𝕄} (hc : ¬c)
    (H : St ⊢ wp frame (wpE (defs₀ (F := F)) 𝒱₀ (SparseCore.T d) none) Set.univ (B hc) Q) :
    St ⊢ wp frame (wpE (defs₀ (F := F)) 𝒱₀ (SparseCore.T d) none) Set.univ (dite c A B) Q := by
  rw [dif_neg hc]; exact H

/-- The end of a run. -/
theorem fin {d : Dev nD} {α : Type} {a : α} {Q : α → sProp 𝕄} {St : sProp 𝕄} (H : St ⊢ Q a) :
    St ⊢ wp frame (wpE (defs₀ (F := F)) 𝒱₀ (SparseCore.T d) none) Set.univ (.ret a) Q := by
  rw [wp_ret]
  exact H.trans (fupd_intro)

end Cert.Proof.SC

end

end
-- ==== Proof.StreamBody.lean ====
/-
  One grid point of the streaming kernel: what it leaves in the running maximum, the running sum of exponentials and
  the running place of the maximum, of what it found there and of the block it is given.
-/
module

public import proofs.«01_k».proof.Proof.Steps

@[expose] public section

noncomputable section

namespace Cert.Proof.SC

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] [Named F]

local notation "𝕄" => MT nD τ sig (HIx 1) (Elt F) ℕ UU ℕ

/-! ## The values -/

/-- The largest entry of each column of a block. -/
def bmx (x : FVec F S2000x1024 .f32) : FVec F S1x1024 .f32 :=
  shapeCast S1x1024 (multiReduction .maximumf [0] S1024 x 0xFF800000#32 reduces_S2000x1024_S1024 (.inl rfl) rfl) shapeCasts_S1024_S1x1024

/-- The first class of the block at which each column's largest entry stands. -/
def bix (g : BitVec 32) (x : FVec F S2000x1024 .f32) : IVec S1x1024 32 :=
  addi (shapeCast S1x1024 (multiReductionI .minsi [0] S1024
      (select (cmpf .oeq x (broadcastTo S2000x1024 (bmx x) broadcasts_S1x1024_S2000x1024))
        (iota .tc S2000x1024 32 [0] iota_S2000x1024_d0_w32) (broadcast S2000x1024 1073741824#32))
      2147483647#32 reduces_S2000x1024_S1024 rfl) shapeCasts_S1024_S1x1024)
    (broadcast S1x1024 (Scalar.muli g 2000#32))

/-- The running maximum after a block. -/
def mN (x : FVec F S2000x1024 .f32) (m : FVec F S1x1024 .f32) : FVec F S1x1024 .f32 := maximumf m (bmx x)

/-- The running sum after a block. -/
def sN (x : FVec F S2000x1024 .f32) (m s : FVec F S1x1024 .f32) : FVec F S1x1024 .f32 :=
  addf (mulf s (exp (subf m (mN x m))))
    (shapeCast S1x1024 (multiReduction .add [0] S1024 (exp (subf x (broadcastTo S2000x1024 (mN x m) broadcasts_S1x1024_S2000x1024)))
      0x00000000#32 reduces_S2000x1024_S1024 (.inl rfl) rfl) shapeCasts_S1024_S1x1024)

/-- The running place of the maximum after a block. -/
def aN (g : BitVec 32) (x : FVec F S2000x1024 .f32) (m : FVec F S1x1024 .f32) (a : IVec S1x1024 32) : IVec S1x1024 32 :=
  select (cmpf .ogt (bmx x) m) (bix g x) a

/-- What the first point starts from. -/
def m0 : FVec F S1x1024 .f32 := broadcast S1x1024 (Scalar.ofBits .f32 0xFF800000#32)
/-- The sums that the stream starts from: zero. -/
def s0 : FVec F S1x1024 .f32 := broadcast S1x1024 (Scalar.ofBits .f32 0x00000000#32)
/-- The places that the stream starts from: zero. -/
def a0 : IVec S1x1024 32 := broadcast S1x1024 0#32

/-! ## The run -/

/-- The offsets of a whole matrix are zero. -/
theorem hz2 : ∀ a : Fin 2, (![0, 0] : Fin 2 → Nat) a = 0 := by decide

/-- The test of the first point. -/
abbrev first (i : grid1.Coords) : Prop :=
  Scalar.cmpi .ne (Scalar.extui (Scalar.cmpi .eq (BitVec.ofNat 32 (i 0).val) 0#32)) 0#32 = 1#1

section
variable (d : Dev nD) (i : grid1.Coords) (M1 : Memref sig .tc .vmem S2000x1024 .f32) (h1 : M1.IsWhole) (M2 : Memref sig .tc .vmem S1x1024 .f32) (h2 : M2.IsWhole)
  (M3 : Memref sig .tc .vmem S1x1024 .f32) (h3 : M3.IsWhole) (M4 : Memref sig .tc .vmem S1x1024 .i32) (h4 : M4.IsWhole)
  (x : FVec F S2000x1024 .f32) (m s : FVec F S1x1024 .f32) (a : IVec S1x1024 32)

/-- The four staging buffers at contents. -/
abbrev st4 (m s : FVec F S1x1024 .f32) (a : IVec S1x1024 32) : sProp 𝕄 :=
  iprop(hld d M1 (x : S2000x1024.Idx → Elt F .f32) ∗ hld d M2 (m : S1x1024.Idx → Elt F .f32) ∗ hld d M3 (s : S1x1024.Idx → Elt F .f32) ∗ hld d M4 (a : S1x1024.Idx → Elt F .i32))

/-- A later point: the three running values updated. -/
theorem stream_next (hi : ¬ first i) :
    (st4 d M1 M2 M3 M4 x m s a : sProp 𝕄) ⊢ wp frame (wpE (defs₀ (F := F)) 𝒱₀ (SparseCore.T d) none) Set.univ
      (cc1__stream_body i M1 h1 M2 h2 M3 h3 M4 h4)
      fun _ => st4 d M1 M2 M3 M4 x (mN x m) (sN x m s) (aN (BitVec.ofNat 32 (i 0).val) x m a) := by
  unfold cc1__stream_body
  rw [wp_bind]
  have key : (st4 d M1 M2 M3 M4 x m s a : sProp 𝕄) ⊢ wp frame (wpE (defs₀ (F := F)) 𝒱₀ (SparseCore.T d) none) Set.univ
      (k1_part1 i M1 h1 M2 h2 M3 h3 M4 h4)
      fun v => iprop(⌜v = mN x m⌝ ∗ st4 d M1 M2 M3 M4 x m (sN x m s) (aN (BitVec.ofNat 32 (i 0).val) x m a)) := by
    unfold k1_part1
    refine ld (F := F) hz2 ?_
    refine ifF (F := F) hi ?_
    refine ld (F := F) hz2 ?_
    refine ld (F := F) hz2 ?_
    refine ld (F := F) hz2 ?_
    refine st (F := F) hz2 ?_
    refine ld (F := F) hz2 ?_
    refine ld (F := F) hz2 ?_
    refine st (F := F) hz2 ?_
    refine fin (F := F) ?_
    simp only [shapeCast_self]
    iintro H
    isplitr
    · ipureintro; rfl
    iexact H
  refine key.trans (wp_mono frame (wpE (defs₀ (F := F)) 𝒱₀ (SparseCore.T d) none) Set.univ fun v => ?_)
  iintro ⟨%hv, H⟩
  subst hv
  iapply (show (st4 d M1 M2 M3 M4 x m (sN x m s) (aN (BitVec.ofNat 32 (i 0).val) x m a) : sProp 𝕄) ⊢ wp frame (wpE (defs₀ (F := F)) 𝒱₀ (SparseCore.T d) none) Set.univ _ _ from
    ld (F := F) hz2 (st (F := F) hz2 (fin (F := F) .rfl)))
  iexact H

/-- The first point: whatever the buffers held, the running values start afresh. -/
theorem stream_first (hi : first i) :
    (st4 d M1 M2 M3 M4 x m s a : sProp 𝕄) ⊢ wp frame (wpE (defs₀ (F := F)) 𝒱₀ (SparseCore.T d) none) Set.univ
      (cc1__stream_body i M1 h1 M2 h2 M3 h3 M4 h4)
      fun _ => st4 d M1 M2 M3 M4 x (mN x m0) (sN x m0 s0) (aN (BitVec.ofNat 32 (i 0).val) x m0 a0) := by
  unfold cc1__stream_body
  rw [wp_bind]
  have key : (st4 d M1 M2 M3 M4 x m s a : sProp 𝕄) ⊢ wp frame (wpE (defs₀ (F := F)) 𝒱₀ (SparseCore.T d) none) Set.univ
      (k1_part1 i M1 h1 M2 h2 M3 h3 M4 h4)
      fun v => iprop(⌜v = mN x m0⌝ ∗ st4 d M1 M2 M3 M4 x m0 (sN x m0 s0) (aN (BitVec.ofNat 32 (i 0).val) x m0 a0)) := by
    unfold k1_part1
    refine ld (F := F) hz2 ?_
    refine ifT (F := F) hi ?_
    refine ld (F := F) hz2 ?_
    refine st (F := F) hz2 ?_
    refine ld (F := F) hz2 ?_
    refine st (F := F) hz2 ?_
    refine ld (F := F) hz2 ?_
    refine st (F := F) hz2 ?_
    refine ld (F := F) hz2 ?_
    refine ld (F := F) hz2 ?_
    refine ld (F := F) hz2 ?_
    refine st (F := F) hz2 ?_
    refine ld (F := F) hz2 ?_
    refine ld (F := F) hz2 ?_
    refine st (F := F) hz2 ?_
    refine fin (F := F) ?_
    simp only [shapeCast_self]
    iintro H
    isplitr
    · ipureintro; rfl
    iexact H
  refine key.trans (wp_mono frame (wpE (defs₀ (F := F)) 𝒱₀ (SparseCore.T d) none) Set.univ fun v => ?_)
  iintro ⟨%hv, H⟩
  subst hv
  iapply (show (st4 d M1 M2 M3 M4 x m0 (sN x m0 s0) (aN (BitVec.ofNat 32 (i 0).val) x m0 a0) : sProp 𝕄) ⊢ wp frame (wpE (defs₀ (F := F)) 𝒱₀ (SparseCore.T d) none) Set.univ _ _ from
    ld (F := F) hz2 (st (F := F) hz2 (fin (F := F) .rfl)))
  iexact H

end

end Cert.Proof.SC

end

end
-- ==== Proof.EpiBody.lean ====
/-
  The closing kernel: what it leaves in the two results, of the streamed statistics, the targets and the two gathered
  window arrays.
-/
module

public import proofs.«01_k».proof.Proof.Steps

@[expose] public section

noncomputable section

namespace Cert.Proof.SC

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] [Named F]

local notation "𝕄" => MT nD τ sig (HIx 1) (Elt F) ℕ UU ℕ

/-! ## The values -/

/-- Which element of each row's window is the row's own: the sublane of its class, the lane of its row. -/
def mask (t2 : IVec S1024x1 32) : IVec S1024x8x128 1 :=
  andi
    (cmpi .eq (iota .tc S1024x8x128 32 [1] iota_S1024x8x128_d1_w32)
      (broadcastTo S1024x8x128 (shapeCast S1024x1x1 (andi t2 (broadcast S1024x1 7#32)) shapeCasts_S1024x1_S1024x1x1) broadcasts_S1024x1x1_S1024x8x128))
    (cmpi .eq (iota .tc S1024x8x128 32 [2] iota_S1024x8x128_d2_w32)
      (andi (iota .tc S1024x8x128 32 [0] iota_S1024x8x128_d0_w32) (broadcast S1024x8x128 127#32)))

/-- Each row's own element, by the masked sum of its window. -/
def pick (t2 : IVec S1024x1 32) (w : FVec F S1024x8x128 .f32) : FVec F S1x1024 .f32 :=
  shapeCast S1x1024 (multiReduction .add [1, 2] S1024 (select (mask t2) w (broadcast S1024x8x128 (Scalar.ofBits .f32 0x00000000#32)))
    0x00000000#32 reduces_S1024x8x128_S1024 (.inl rfl) rfl) shapeCasts_S1024_S1x1024

/-- The mixed target score. -/
def mix (ct pt : FVec F S1x1024 .f32) : FVec F S1x1024 .f32 :=
  addf ct (mulf (subf pt ct) (broadcast S1x1024 (Named.named κ "inv_one_plus_lamb" 0x3A40191B#32)))

/-- The target's log-probability under the adjusted scores. -/
def logp (m s ct pt : FVec F S1x1024 .f32) : FVec F S1x1024 .f32 :=
  subf (subf (mix ct pt) m) (log (addf (subf s (exp (subf ct m))) (exp (subf (mix ct pt) m))))

/-- The sum of a row of values. -/
def tot (v : FVec F S1x1024 .f32) : F .f32 :=
  extractAt ![0, 0, 0] (shapeCast S1x1x1 (multiReduction .add [1, 2] S1 (shapeCast S1x1x1024 v shapeCasts_S1x1024_S1x1x1024)
    0x00000000#32 reduces_S1x1x1024_S1 (.inl rfl) rfl) shapeCasts_S1_S1x1x1) inpos_S1x1x1_p0_0_0

/-- The first result: minus the mean of the log-probabilities. -/
def lossV (m s : FVec F S1x1024 .f32) (t2 : IVec S1024x1 32) (c p : FVec F S1024x8x128 .f32) : FVec F S1x1 .f32 :=
  mulf (subf (broadcast S1x1 (Scalar.ofBits .f32 0x00000000#32)) (broadcast S1x1 (tot (logp m s (pick t2 c) (pick t2 p)))))
    (broadcast S1x1 (Scalar.ofBits .f32 0x3A800000#32))

/-- The second result: the fraction of rows whose place of the maximum is the target. -/
def accV (a t1 : IVec S1x1024 32) : FVec F S1x1 .f32 :=
  mulf (broadcast S1x1 (tot (sitofp .f32 (extui 32 (cmpi .eq a t1) natLt_1_32)))) (broadcast S1x1 (Scalar.ofBits .f32 0x3A800000#32))

/-! ## The run -/

/-- The offsets of a whole matrix are zero. -/
theorem hz2' : ∀ a : Fin 2, (![0, 0] : Fin 2 → Nat) a = 0 := by decide
/-- The offsets of a whole array of rank three are zero. -/
theorem hz3 : ∀ a : Fin 3, (![0, 0, 0] : Fin 3 → Nat) a = 0 := by decide

section
variable (d : Dev nD) (M0 : Memref sig .tc .vmem S1x1024 .f32) (h0 : M0.IsWhole) (M1 : Memref sig .tc .vmem S1x1024 .f32) (h1 : M1.IsWhole)
  (M2 : Memref sig .tc .vmem S1x1024 .i32) (h2 : M2.IsWhole) (M3 : Memref sig .tc .vmem S1x1024 .i32) (h3 : M3.IsWhole)
  (M4 : Memref sig .tc .vmem S1024x1 .i32) (h4 : M4.IsWhole) (M5 : Memref sig .tc .vmem S1024x8x128 .f32) (h5 : M5.IsWhole)
  (M6 : Memref sig .tc .vmem S1024x8x128 .f32) (h6 : M6.IsWhole) (M7 : Memref sig .tc .vmem S1x1 .f32) (h7 : M7.IsWhole) (M8 : Memref sig .tc .vmem S1x1 .f32) (h8 : M8.IsWhole)
  (m s : FVec F S1x1024 .f32) (a t1 : IVec S1x1024 32) (t2 : IVec S1024x1 32) (c p : FVec F S1024x8x128 .f32)

/-- The nine staging buffers at contents. -/
abbrev st9 (l r : FVec F S1x1 .f32) : sProp 𝕄 :=
  iprop(hld d M0 (m : S1x1024.Idx → Elt F .f32) ∗ hld d M1 (s : S1x1024.Idx → Elt F .f32) ∗ hld d M2 (a : S1x1024.Idx → Elt F .i32) ∗ hld d M3 (t1 : S1x1024.Idx → Elt F .i32)
    ∗ hld d M4 (t2 : S1024x1.Idx → Elt F .i32) ∗ hld d M5 (c : S1024x8x128.Idx → Elt F .f32) ∗ hld d M6 (p : S1024x8x128.Idx → Elt F .f32)
    ∗ hld d M7 (l : S1x1.Idx → Elt F .f32) ∗ hld d M8 (r : S1x1.Idx → Elt F .f32))

/-- The body leaves the two results. -/
theorem epi_run (l r : FVec F S1x1 .f32) :
    (st9 d M0 M1 M2 M3 M4 M5 M6 M7 M8 m s a t1 t2 c p l r : sProp 𝕄) ⊢ wp frame (wpE (defs₀ (F := F)) 𝒱₀ (SparseCore.T d) none) Set.univ
      (cc2__epilogue_body M0 h0 M1 h1 M2 h2 M3 h3 M4 h4 M5 h5 M6 h6 M7 h7 M8 h8)
      fun _ => st9 d M0 M1 M2 M3 M4 M5 M6 M7 M8 m s a t1 t2 c p (lossV m s t2 c p) (accV a t1) := by
  unfold cc2__epilogue_body
  rw [wp_bind]
  have key : (st9 d M0 M1 M2 M3 M4 M5 M6 M7 M8 m s a t1 t2 c p l r : sProp 𝕄) ⊢ wp frame (wpE (defs₀ (F := F)) 𝒱₀ (SparseCore.T d) none) Set.univ
      (k2_part1 M0 h0 M1 h1 M2 h2 M3 h3 M4 h4 M5 h5 M6 h6 M7 h7 M8 h8)
      fun v => iprop(⌜v = ⟨m, s, a, t1, pick t2 c, mulf (subf (pick t2 p) (pick t2 c)) (broadcast S1x1024 (Named.named κ "inv_one_plus_lamb" 0x3A40191B#32))⟩⌝
        ∗ st9 d M0 M1 M2 M3 M4 M5 M6 M7 M8 m s a t1 t2 c p l r) := by
    unfold k2_part1
    refine ld (F := F) hz2' ?_
    refine ld (F := F) hz2' ?_
    refine ld (F := F) hz2' ?_
    refine ld (F := F) hz2' ?_
    refine ld (F := F) hz2' ?_
    refine ld (F := F) hz3 ?_
    refine ld (F := F) hz3 ?_
    refine fin (F := F) ?_
    simp only [shapeCast_self]
    iintro H
    isplitr
    · ipureintro; rfl
    iexact H
  refine key.trans (wp_mono frame (wpE (defs₀ (F := F)) 𝒱₀ (SparseCore.T d) none) Set.univ fun v => ?_)
  iintro ⟨%hv, H⟩
  subst hv
  iapply (show (st9 d M0 M1 M2 M3 M4 M5 M6 M7 M8 m s a t1 t2 c p l r : sProp 𝕄) ⊢ wp frame (wpE (defs₀ (F := F)) 𝒱₀ (SparseCore.T d) none) Set.univ _ _ from
    ld (F := F) hz2' (st (F := F) hz2' (ld (F := F) hz2' (st (F := F) hz2' (fin (F := F) .rfl)))))
  iexact H

end

end Cert.Proof.SC

end

end
-- ==== Proof.Data.lean ====
/-
  The two TensorCore calls' proof data: what their arrays hold on entry, what the bodies leave in the staging buffers
  point by point, and the values the arrays end at.
-/
module

public import proofs.«01_k».proof.Proof.Pay
public import proofs.«01_k».proof.Proof.StreamBody
public import proofs.«01_k».proof.Proof.EpiBody
public import proofs.«01_k».proof.Proof.Gen.KernelIdeal.Launch
public import proofs.«01_k».proof.Proof.Gen.KernelIdeal.Points

@[expose] public section

noncomputable section

namespace Cert.Proof.SC

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

/-! ## The values -/

/-- The running maximum, sum and place of the maximum before block `n`. -/
def runS (X : ℕ → FVec F S2000x1024 .f32) : ℕ → FVec F S1x1024 .f32 × FVec F S1x1024 .f32 × IVec S1x1024 32
  | 0 => (m0, s0, a0)
  | n + 1 => (mN (X n) (runS X n).1, sN (X n) (runS X n).1 (runS X n).2.1, aN (BitVec.ofNat 32 n) (X n) (runS X n).1 (runS X n).2.2)

section
variable (m : (ℓ : Loc nD τ sig) → Buf (Elt F) ℓ)

/-- Block `t` of the transposed cosines. -/
def blkX (d : Dev nD) (t : ℕ) : FVec F S2000x1024 .f32 := fun x => aT m d (tix (2000 * t + (x 0).val) (x 1).val)

/-- The statistics after every block. -/
def stat (d : Dev nD) : FVec F S1x1024 .f32 × FVec F S1x1024 .f32 × IVec S1x1024 32 := runS (blkX m d) 50

/-- The targets as a row and as a column. -/
def tRow (d : Dev nD) : IVec S1x1024 32 := shapeCast S1x1024 (tT m d) shapeCasts_S1024_S1x1024
/-- The targets as a column. -/
def tCol (d : Dev nD) : IVec S1024x1 32 := shapeCast S1024x1 (tT m d) shapeCasts_S1024_S1024x1

/-- The two results as the closing kernel leaves them. -/
def lossR (d : Dev nD) : FVec F S1x1 .f32 := lossV (stat m d).1 (stat m d).2.1 (tCol m d) (cG m d) (pG m d)
/-- The accuracy, as the closing call leaves it. -/
def accR (d : Dev nD) : FVec F S1x1 .f32 := accV (stat m d).2.2 (tRow m d)

/-! ## The proof data -/

/-- The pairs a TensorCore may have recorded once its SparseCore call is over. -/
def recd (c : Dev nD) : Set (SemLoc sig × HIx 1) := {p | (K (F := F)).lev (SparseCore.T c, p.1) p.2 ≤ 8}

/-- The streaming call's. -/
def dat1 (c : Dev nD) : Dat τ (Elt F) (HIx 1) ℕ UU ℕ cfg1 c where
  A w := match w with
    | ⟨0, _⟩ => aT m c
    | ⟨1, _⟩ => m ((c : Thread nD τ).loc main_v3_0)
    | ⟨2, _⟩ => m ((c : Thread nD τ).loc main_v3_1)
    | ⟨3, _⟩ => m ((c : Thread nD τ).loc main_v3_2)
  after w t := match w with
    | ⟨0, _⟩ => blkX m c t.val
    | ⟨1, _⟩ => (runS (blkX m c) (t.val + 1)).1
    | ⟨2, _⟩ => (runS (blkX m c) (t.val + 1)).2.1
    | ⟨3, _⟩ => (runS (blkX m c) (t.val + 1)).2.2
  Φ _ := Pipeline.scopedRest spec1 c
  q _ := Transfers.shareDrop fullShare 2
  owed _ := 0
  recorded _ := recd (F := F) c

/-- The closing call's. -/
def dat2 (c : Dev nD) : Dat τ (Elt F) (HIx 1) ℕ UU ℕ cfg2 c where
  A w := match w with
    | ⟨0, _⟩ => (stat m c).1
    | ⟨1, _⟩ => (stat m c).2.1
    | ⟨2, _⟩ => (stat m c).2.2
    | ⟨3, _⟩ => tRow m c
    | ⟨4, _⟩ => tCol m c
    | ⟨5, _⟩ => cG m c
    | ⟨6, _⟩ => pG m c
    | ⟨7, _⟩ => m ((c : Thread nD τ).loc main_v6_0)
    | ⟨8, _⟩ => m ((c : Thread nD τ).loc main_v6_1)
  after w _ := match w with
    | ⟨0, _⟩ => (stat m c).1
    | ⟨1, _⟩ => (stat m c).2.1
    | ⟨2, _⟩ => (stat m c).2.2
    | ⟨3, _⟩ => tRow m c
    | ⟨4, _⟩ => tCol m c
    | ⟨5, _⟩ => cG m c
    | ⟨6, _⟩ => pG m c
    | ⟨7, _⟩ => lossR m c
    | ⟨8, _⟩ => accR m c
  Φ _ := Pipeline.scopedRest spec2 c
  q _ := fullShare
  owed _ := 0
  recorded _ := recd (F := F) c

/-- No call prefetches a table. -/
abbrev adm : (p : Fin 2) → (pcfgs (F := F) p).Adm := fun p => (cfgs p).toPCfg_adm

/-- The proof data of both calls. -/
def pdats : (p : Fin 2) → (c : Dev nD) → Dat τ (Elt F) (HIx 1) ℕ UU ℕ (Pipeline.pin (pcfgs (F := F)) adm p) c
  | ⟨0, _⟩ => fun c => dat1 m c
  | ⟨1, _⟩ => fun c => dat2 m c

end

end Cert.Proof.SC

end

end
-- ==== Proof.StreamRegion.lean ====
/-
  The streaming call: its body at every point, what its arrays end at, and the call as a region of @main.
-/
module

public import proofs.«01_k».proof.Proof.Data
public import Idealize.ShloMosaic.Lib.Pipeline.FrameBody
public import Idealize.ShloMosaic.Lib.Pipeline.ValueKit

@[expose] public section

noncomputable section

namespace Cert.Proof.SC

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

section
variable (m : (ℓ : Loc nD τ sig) → Buf (Elt F) ℓ)

/-- The grid's coordinate at a point is the point. -/
theorem coords1 (t : Fin cfg1.N) : (grid1.coords t 0).val = t.val := by
  have h : ∀ t : Fin grid1.N, (grid1.coords t 0).val = t.val := by decide +kernel
  exact h t

/-- The first-point test says the point is the first. -/
theorem first_iff (t : Fin cfg1.N) : first (grid1.coords t) ↔ t.val = 0 := by
  have h : ∀ t : Fin grid1.N, first (grid1.coords t) ↔ t.val = 0 := by decide +kernel
  exact h t

/-- The streamed window's block of its array, element by element. -/
theorem blk1_0 (c : Dev nD) (t : Fin cfg1.N) : (((cfg1.win 0).blk t).view.read (Elt F) (aT m c) : S2000x1024.Idx → Elt F .f32) = blkX m c t.val := by
  have hN : t.val < 50 := lt_of_lt_of_eq t.isLt N_1
  have hi : win1_0.index t 0 = t.val ∧ win1_0.index t 1 = 0 := by
    have h : ∀ t : Fin grid1.N, win1_0.index t 0 = t.val ∧ win1_0.index t 1 = 0 := by decide +kernel
    exact h t
  funext j
  have h0 : (j 0).val < 2000 := (j 0).isLt
  have h1 : (j 1).val < 1024 := (j 1).isLt
  rw [View.read_apply]
  unfold blkX
  show aT m c _ = aT m c _
  congr 1
  funext a
  apply Fin.ext
  match a with
  | ⟨0, _⟩ => show win1_0.index t 0 * 2000 + 1 * (j 0).val = (2000 * t.val + (j 0).val) % 100000; rw [hi.1]; omega
  | ⟨1, _⟩ => show win1_0.index t 1 * 1024 + 1 * (j 1).val = (j 1).val % 1024; rw [hi.2]; omega

/-- The stream's first window holds the block of the step. -/
theorem before1_0 (c : Dev nD) (t : Fin cfg1.N) (d) : (dat1 m c).before 0 t d = blkX m c t.val := by
  unfold Dat.before; rw [if_pos (fetch1_0 t)]
  exact blk1_0 m c t

/-- The point before a later one. -/
abbrev prev (t : Fin cfg1.N) : Fin cfg1.N := ⟨t.val - 1, Nat.lt_of_le_of_lt (Nat.sub_le _ _) t.isLt⟩

/-- Before the last step no statistic is written back. -/
theorem noflush (t : Fin cfg1.N) (ht : t.val ≠ 0) (w : Fin 4) (hw : (cfg1.win w).flush (prev t) = true ↔ (prev t).val % 50 = 49) :
    (cfg1.win w).flush (prev t) = false := by
  have hN : t.val < 50 := lt_of_lt_of_eq t.isLt N_1
  rw [Bool.eq_false_iff, Ne, hw]
  show ¬ (t.val - 1) % 50 = 49
  omega

/-- At a later step the second window holds the running maxima. -/
theorem before1_1 (c : Dev nD) (t : Fin cfg1.N) (ht : t.val ≠ 0) (d) : (dat1 m c).before 1 t d = (runS (blkX m c) t.val).1 := by
  rw [(dat1 m c).before_out_kept 1 rfl t ht (noflush t ht 1 (flush1_1 _)) (fun _ => rfl) (fun _ _ => rfl)]
  show (runS (blkX m c) (t.val - 1 + 1)).1 = _
  rw [Nat.sub_add_cancel (Nat.pos_of_ne_zero ht)]
/-- At a later step the third window holds the running sums. -/
theorem before1_2 (c : Dev nD) (t : Fin cfg1.N) (ht : t.val ≠ 0) (d) : (dat1 m c).before 2 t d = (runS (blkX m c) t.val).2.1 := by
  rw [(dat1 m c).before_out_kept 2 rfl t ht (noflush t ht 2 (flush1_2 _)) (fun _ => rfl) (fun _ _ => rfl)]
  show (runS (blkX m c) (t.val - 1 + 1)).2.1 = _
  rw [Nat.sub_add_cancel (Nat.pos_of_ne_zero ht)]
/-- At a later step the fourth window holds the running places. -/
theorem before1_3 (c : Dev nD) (t : Fin cfg1.N) (ht : t.val ≠ 0) (d) : (dat1 m c).before 3 t d = (runS (blkX m c) t.val).2.2 := by
  rw [(dat1 m c).before_out_kept 3 rfl t ht (noflush t ht 3 (flush1_3 _)) (fun _ => rfl) (fun _ _ => rfl)]
  show (runS (blkX m c) (t.val - 1 + 1)).2.2 = _
  rw [Nat.sub_add_cancel (Nat.pos_of_ne_zero ht)]

/-- The body at a point: from what the four staging buffers hold there to what it leaves. -/
theorem point1 (c : Dev nD) (t : Fin cfg1.N) (d1 : S1x1024.Idx → Elt F .f32) (d2 : S1x1024.Idx → Elt F .f32) (d3 : S1x1024.Idx → Elt F .i32)
    (e1 : t.val ≠ 0 → d1 = (runS (blkX m c) t.val).1) (e2 : t.val ≠ 0 → d2 = (runS (blkX m c) t.val).2.1) (e3 : t.val ≠ 0 → d3 = (runS (blkX m c) t.val).2.2) :
    (st4 c (st1_0 t) (st1_1 t) (st1_2 t) (st1_3 t) (blkX m c t.val) d1 d2 d3 : sProp 𝕄) ⊢ wp frame (wpE (defs₀ (F := F)) 𝒱₀ (SparseCore.T c) none) Set.univ
      (bodyAt1 t) fun _ => st4 c (st1_0 t) (st1_1 t) (st1_2 t) (st1_3 t) (blkX m c t.val)
        (runS (blkX m c) (t.val + 1)).1 (runS (blkX m c) (t.val + 1)).2.1 (runS (blkX m c) (t.val + 1)).2.2 := by
  by_cases h : t.val = 0
  · have hr := stream_first (F := F) c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (blkX m c t.val) d1 d2 d3 ((first_iff t).mpr h)
    rw [coords1 t] at hr
    rw [h] at hr ⊢
    exact hr
  · have hr := stream_next (F := F) c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) (blkX m c t.val) d1 d2 d3 (fun hf => h ((first_iff t).mp hf))
    rw [coords1 t] at hr
    rw [e1 h, e2 h, e3 h] at hr ⊢
    exact hr

/-- The stream's body does at every step what its data say. -/
theorem body1 (c : Dev nD) : BodyObligation (dat1 m c) (defs₀ (F := F)) 𝒱₀ none Set.univ := fun t => by
  rw [bigSep_W1, bigSep_W1]
  rw [show (dat1 m c).Φ t.castSucc = Pipeline.scopedRest spec1 c from rfl, show (dat1 m c).Φ t.succ = Pipeline.scopedRest spec1 c from rfl,
    show (dat1 m c).owesAt none t.succ = (dat1 m c).owesAt none t.castSucc from rfl]
  iintro ⟨HΦ, Howes, ⟨%d0, H0⟩, ⟨%d1, H1⟩, ⟨%d2, H2⟩, ⟨%d3, H3⟩⟩
  rw [before1_0]
  ihave H := (point1 m c t ((dat1 m c).before 1 t d1) ((dat1 m c).before 2 t d2) ((dat1 m c).before 3 t d3)
    (fun h => before1_1 m c t h d1) (fun h => before1_2 m c t h d2) (fun h => before1_3 m c t h d3)) $$ [H0 H1 H2 H3]
  · isplitl [H0]; · iexact H0
    isplitl [H1]; · iexact H1
    isplitl [H2]; · iexact H2
    iexact H3
  iapply (wp_wand frame (wpE (defs₀ (F := F)) 𝒱₀ (SparseCore.T c) none) Set.univ) $$ H
  iintro %a ⟨H0, H1, H2, H3⟩
  isplitl [HΦ]; · iexact HΦ
  isplitl [Howes]; · iexact Howes
  isplitl [H0]; · iexact H0
  isplitl [H1]; · iexact H1
  isplitl [H2]; · iexact H2
  iexact H3

/-! ## The arrays at the end -/

/-- The last point. -/
def tL : Fin cfg1.N := ⟨49, by rw [show cfg1.N = 50 from N_1]; decide⟩

/-- After the stream its first result holds the maxima. -/
theorem final1_1 (c : Dev nD) : (dat1 m c).arrAt 1 cfg1.N = (stat m c).1 :=
  (dat1 m c).arrAt_eq_of_after_last 1 tL (by decide +kernel) ((stat m c).1 : S1x1024.Idx → Elt F .f32) fun _ => rfl
/-- After the stream its second result holds the sums. -/
theorem final1_2 (c : Dev nD) : (dat1 m c).arrAt 2 cfg1.N = (stat m c).2.1 :=
  (dat1 m c).arrAt_eq_of_after_last 2 tL (by decide +kernel) ((stat m c).2.1 : S1x1024.Idx → Elt F .f32) fun _ => rfl
/-- After the stream its third result holds the places of the maxima. -/
theorem final1_3 (c : Dev nD) : (dat1 m c).arrAt 3 cfg1.N = (stat m c).2.2 :=
  (dat1 m c).arrAt_eq_of_after_last 3 tL (by decide +kernel) ((stat m c).2.2 : S1x1024.Idx → Elt F .i32) fun _ => rfl

/-! ## The region -/

/-- The TensorCore owing nothing, what it has recorded bounded. -/
def owe0 (c : Dev nD) : sProp 𝕄 := iprop(∃ W, ⌜(K (F := F)).WBelow (SparseCore.T c) W 8⌝ ∗ owes (SparseCore.T c) (0 : CellTallies nD τ sig (HIx 1)) W)

/-- A call that owes nothing starts from a thread that owes nothing. -/
theorem owe0_in {cfg : Cfg sig Λ₀} (c : Dev nD) (d : Dat τ (Elt F) (HIx 1) ℕ UU ℕ cfg c) (t) (ho : d.owed t = 0) (hr : d.recorded t = recd (F := F) c) :
    (owe0 (F := F) c : sProp 𝕄) ⊢ d.owesAt none t := by
  unfold owe0
  iintro ⟨%W, %hW, H⟩
  iexists W
  isplitr
  · ipureintro
    intro p hp
    unfold Dat.bound
    rw [hr]
    exact Or.inl (hW p hp)
  rw [ho]
  iexact H

/-- A call that owes nothing ends with a thread that owes nothing. -/
theorem owe0_out {cfg : Cfg sig Λ₀} (c : Dev nD) (d : Dat τ (Elt F) (HIx 1) ℕ UU ℕ cfg c) (t) (ho : d.owed t = 0) (hr : d.recorded t = recd (F := F) c) :
    (d.owesAt none t : sProp 𝕄) ⊢ owe0 (F := F) c := by
  unfold owe0
  iintro ⟨%W, %hW, H⟩
  iexists W
  isplitr
  · ipureintro
    intro p hp
    have hb := hW hp
    unfold Dat.bound at hb
    rw [hr] at hb
    rcases hb with hb | ⟨w, s, rfl⟩
    · exact hb
    · exact Nat.zero_le _
  rw [ho]
  iexact H

/-- The windowed arrays one by one. -/
theorem arrays1 (c : Dev nD) (G) : ((dat1 m c).arrays G : sProp 𝕄) = iprop((aLoc c ↦{Transfers.shareDrop fullShare 2} G 0)
    ∗ ((c : Thread nD τ).loc main_v3_0 ↦{fullShare} G 1) ∗ ((c : Thread nD τ).loc main_v3_1 ↦{fullShare} G 2) ∗ ((c : Thread nD τ).loc main_v3_2 ↦{fullShare} G 3)) := by
  unfold Dat.arrays
  rw [bigSep_W1]
  rw [(arr_whole1 0).set_eq_univ, (arr_whole1 1).set_eq_univ, (arr_whole1 2).set_eq_univ, (arr_whole1 3).set_eq_univ]
  rfl

/-- What the call takes and gives back. -/
def pre1 (c : Dev nD) : sProp 𝕄 := iprop(owe0 (F := F) c ∗ (aLoc c ↦{Transfers.shareDrop fullShare 2} aT m c)
    ∗ ((c : Thread nD τ).loc main_v3_0 ↦{fullShare} m ((c : Thread nD τ).loc main_v3_0)) ∗ ((c : Thread nD τ).loc main_v3_1 ↦{fullShare} m ((c : Thread nD τ).loc main_v3_1))
    ∗ ((c : Thread nD τ).loc main_v3_2 ↦{fullShare} m ((c : Thread nD τ).loc main_v3_2)))
/-- What the streaming call gives back. -/
def post1 (c : Dev nD) : sProp 𝕄 := iprop(owe0 (F := F) c ∗ (aLoc c ↦{Transfers.shareDrop fullShare 2} aT m c)
    ∗ ((c : Thread nD τ).loc main_v3_0 ↦{fullShare} ((stat m c).1 : S1x1024.Idx → Elt F .f32)) ∗ ((c : Thread nD τ).loc main_v3_1 ↦{fullShare} ((stat m c).2.1 : S1x1024.Idx → Elt F .f32))
    ∗ ((c : Thread nD τ).loc main_v3_2 ↦{fullShare} ((stat m c).2.2 : S1x1024.Idx → Elt F .i32)))

set_option backward.isDefEq.respectTransparency.types false in
/-- The streaming call as a region. -/
def reg1 : Pipeline.RegionSeg (pcfgs (F := F)) adm (pdats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 m c).loose
  hwaits := Pipeline.hwaits_of_owed_zero _ _ _ _ _ _ 0 fun _ _ => rfl
  pre := pre1 m
  post := post1 m
  X _ := BI.emp
  Y _ := BI.emp
  Z _ := BI.emp
  hentry c := by
    rw [Pipeline.ownSems0_none]
    show iprop(pre1 m c ∗ _ ∗ _) ⊢ |={Set.univ}=> iprop((dat1 m c).arrays ((dat1 m c).arrAt · 0) ∗ _ ∗ (dat1 m c).owesAt none 0 ∗ _ ∗ _)
    rw [arrays1]
    unfold pre1
    iintro ⟨⟨HO, Ha⟩, -, -⟩
    imodintro
    isplitl [Ha]; · iexact Ha
    isplitr; · unfold Pipeline.prefHeld; rw [show (Finset.univ : Finset (Fin 0)) = ∅ from rfl, BI.bigSep_empty]; iempintro
    isplitl [HO]
    · iapply (owe0_in c (dat1 m c) 0 rfl rfl); iexact HO
    isplitr; · iempintro
    iempintro
  hin c := by
    rw [show (pdats m 0 c).Φ 0 = Pipeline.scopedRest spec1 c from rfl]
    iintro ⟨-, -, Hr⟩; iexact Hr
  hout c := by
    rw [Pipeline.ownSems0_none, show (pdats m 0 c).Φ (Fin.last _) = Pipeline.scopedRest spec1 c from rfl]
    iintro Hr
    isplitr; · iempintro
    isplitr; · iempintro
    iexact Hr
  hexit c := by
    show iprop((dat1 m c).arrays ((dat1 m c).arrAt · cfg1.N) ∗ (dat1 m c).owesAt none (Fin.last _) ∗ _ ∗ _) ⊢ |={Set.univ}=> post1 m c
    rw [arrays1]
    unfold post1
    rw [← final1_1, ← final1_2, ← final1_3]
    rw [(dat1 m c).arrAt_in 0 rfl]
    iintro ⟨Ha, HO, -, -⟩
    imodintro
    isplitl [HO]
    · iapply (owe0_out c (dat1 m c) _ rfl rfl); iexact HO
    iexact Ha

end

end Cert.Proof.SC

end

end
-- ==== Proof.EpiRegion.lean ====
/-
  The closing call: its body, what its arrays end at, and the call as a region of @main.
-/
module

public import proofs.«01_k».proof.Proof.StreamRegion
public import Idealize.ShloMosaic.Lib.Pipeline.FrameBody
public import Idealize.ShloMosaic.Lib.Pipeline.ValueKit

@[expose] public section

noncomputable section

namespace Cert.Proof.SC

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Pipeline (Dat Cfg Window BodyObligation)

variable {F : FTy → Type} [FloatOps F] [Named F]

local notation "𝕄" => MT nD τ sig (HIx 1) (Elt F) ℕ UU ℕ

section
variable (m : (ℓ : Loc nD τ sig) → Buf (Elt F) ℓ)

/-- The one block of a window over a whole array is the array. -/
theorem whole_read (b : Ref sig .tc) {off : Fin b.ty.shape.rank → ℕ} (hz : ∀ a, off a = 0) (hb : ∀ a, off a + b.ty.shape.size a ≤ b.ty.shape.size a) (f : b.ty.Contents (Elt F)) :
    ((View.whole b).slice (Rect.unit off b.ty.shape.size hb)).read (Elt F) f = f :=
  Memref.read_access_unit_zero (Elt F) b (funext hz) hb f

/-- The closing call's first window holds the maxima. -/
theorem before2_0 (c : Dev nD) (d) : (dat2 m c).before 0 t2_0 d = ((stat m c).1 : S1x1024.Idx → Elt F .f32) := by
  unfold Dat.before; rw [if_pos (fetch2_0 _)]
  show ((cfg2.win 0).blk t2_0).view.read (Elt F) ((stat m c).1 : S1x1024.Idx → Elt F .f32) = _
  exact whole_read (F := F) main_v3_0 (fun a => Nat.zero_mul _) _ _
/-- Its second window holds the sums. -/
theorem before2_1 (c : Dev nD) (d) : (dat2 m c).before 1 t2_0 d = ((stat m c).2.1 : S1x1024.Idx → Elt F .f32) := by
  unfold Dat.before; rw [if_pos (fetch2_1 _)]
  show ((cfg2.win 1).blk t2_0).view.read (Elt F) ((stat m c).2.1 : S1x1024.Idx → Elt F .f32) = _
  exact whole_read (F := F) main_v3_1 (fun a => Nat.zero_mul _) _ _
/-- Its third window holds the places of the maxima. -/
theorem before2_2 (c : Dev nD) (d) : (dat2 m c).before 2 t2_0 d = ((stat m c).2.2 : S1x1024.Idx → Elt F .i32) := by
  unfold Dat.before; rw [if_pos (fetch2_2 _)]
  show ((cfg2.win 2).blk t2_0).view.read (Elt F) ((stat m c).2.2 : S1x1024.Idx → Elt F .i32) = _
  exact whole_read (F := F) main_v3_2 (fun a => Nat.zero_mul _) _ _
/-- Its fourth window holds the targets as a row. -/
theorem before2_3 (c : Dev nD) (d) : (dat2 m c).before 3 t2_0 d = (tRow m c : S1x1024.Idx → Elt F .i32) := by
  unfold Dat.before; rw [if_pos (fetch2_3 _)]
  show ((cfg2.win 3).blk t2_0).view.read (Elt F) (tRow m c : S1x1024.Idx → Elt F .i32) = _
  exact whole_read (F := F) main_v4 (fun a => Nat.zero_mul _) _ _
/-- Its fifth window holds the targets as a column. -/
theorem before2_4 (c : Dev nD) (d) : (dat2 m c).before 4 t2_0 d = (tCol m c : S1024x1.Idx → Elt F .i32) := by
  unfold Dat.before; rw [if_pos (fetch2_4 _)]
  show ((cfg2.win 4).blk t2_0).view.read (Elt F) (tCol m c : S1024x1.Idx → Elt F .i32) = _
  exact whole_read (F := F) main_v5 (fun a => Nat.zero_mul _) _ _
/-- Its sixth window holds the gathered cosines. -/
theorem before2_5 (c : Dev nD) (d) : (dat2 m c).before 5 t2_0 d = (cG m c : S1024x8x128.Idx → Elt F .f32) := by
  unfold Dat.before; rw [if_pos (fetch2_5 _)]
  show ((cfg2.win 5).blk t2_0).view.read (Elt F) (cG m c : S1024x8x128.Idx → Elt F .f32) = _
  exact whole_read (F := F) main_v2_0 (fun a => Nat.zero_mul _) _ _
/-- Its seventh window holds the gathered phis. -/
theorem before2_6 (c : Dev nD) (d) : (dat2 m c).before 6 t2_0 d = (pG m c : S1024x8x128.Idx → Elt F .f32) := by
  unfold Dat.before; rw [if_pos (fetch2_6 _)]
  show ((cfg2.win 6).blk t2_0).view.read (Elt F) (pG m c : S1024x8x128.Idx → Elt F .f32) = _
  exact whole_read (F := F) main_v2_1 (fun a => Nat.zero_mul _) _ _

/-- The closing call's body, at its one grid point, does what its data say. -/
theorem body2 (c : Dev nD) : BodyObligation (dat2 m c) (defs₀ (F := F)) 𝒱₀ none Set.univ := fun t => by
  obtain rfl := fin_N2 t
  rw [bigSep_W2, bigSep_W2]
  rw [show (dat2 m c).Φ t2_0.castSucc = Pipeline.scopedRest spec2 c from rfl, show (dat2 m c).Φ t2_0.succ = Pipeline.scopedRest spec2 c from rfl,
    show (dat2 m c).owesAt none t2_0.succ = (dat2 m c).owesAt none t2_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2_0, before2_1, before2_2, before2_3, before2_4, before2_5, before2_6]
  ihave H := (epi_run (F := F) c (st2_0 t2_0) (hstage2_0 0) (st2_1 t2_0) (hstage2_1 0) (st2_2 t2_0) (hstage2_2 0) (st2_3 t2_0) (hstage2_3 0)
    (st2_4 t2_0) (hstage2_4 0) (st2_5 t2_0) (hstage2_5 0) (st2_6 t2_0) (hstage2_6 0) (st2_7 t2_0) (hstage2_7 0) (st2_8 t2_0) (hstage2_8 0)
    (stat m c).1 (stat m c).2.1 (stat m c).2.2 (tRow m c) (tCol m c) (cG m c) (pG m c) ((dat2 m c).before 7 t2_0 d7) ((dat2 m c).before 8 t2_0 d8))
    $$ [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iapply (wp_wand frame (wpE (defs₀ (F := F)) 𝒱₀ (SparseCore.T c) none) Set.univ) $$ H
  iintro %a H
  isplitl [HΦ]; · iexact HΦ
  isplitl [Howes]; · iexact Howes
  iexact H

/-! ## The arrays at the end -/

/-- After the closing call the first result array holds the loss. -/
theorem final2_7 (c : Dev nD) : (dat2 m c).arrAt 7 cfg2.N = lossR m c :=
  (dat2 m c).arrAt_eq_of_after_last 7 t2_0 (by decide +kernel) (lossR m c : S1x1.Idx → Elt F .f32) fun _ => rfl
/-- After the closing call the second result array holds the accuracy. -/
theorem final2_8 (c : Dev nD) : (dat2 m c).arrAt 8 cfg2.N = accR m c :=
  (dat2 m c).arrAt_eq_of_after_last 8 t2_0 (by decide +kernel) (accR m c : S1x1.Idx → Elt F .f32) fun _ => rfl

/-! ## The region -/

/-- The windowed arrays one by one. -/
theorem arrays2 (c : Dev nD) (G) : ((dat2 m c).arrays G : sProp 𝕄) = iprop(((c : Thread nD τ).loc main_v3_0 ↦{fullShare} G 0)
    ∗ ((c : Thread nD τ).loc main_v3_1 ↦{fullShare} G 1) ∗ ((c : Thread nD τ).loc main_v3_2 ↦{fullShare} G 2) ∗ ((c : Thread nD τ).loc main_v4 ↦{fullShare} G 3)
    ∗ ((c : Thread nD τ).loc main_v5 ↦{fullShare} G 4) ∗ (cLoc c ↦{fullShare} G 5) ∗ (pLoc c ↦{fullShare} G 6)
    ∗ ((c : Thread nD τ).loc main_v6_0 ↦{fullShare} G 7) ∗ ((c : Thread nD τ).loc main_v6_1 ↦{fullShare} G 8)) := by
  unfold Dat.arrays
  rw [bigSep_W2]
  rw [(arr_whole2 0).set_eq_univ, (arr_whole2 1).set_eq_univ, (arr_whole2 2).set_eq_univ, (arr_whole2 3).set_eq_univ, (arr_whole2 4).set_eq_univ,
    (arr_whole2 5).set_eq_univ, (arr_whole2 6).set_eq_univ, (arr_whole2 7).set_eq_univ, (arr_whole2 8).set_eq_univ]
  rfl

/-- What the call takes: the statistics, the targets, the windows, and the two results at contents. -/
def st2 (c : Dev nD) (l r : S1x1.Idx → Elt F .f32) : sProp 𝕄 := iprop(((c : Thread nD τ).loc main_v3_0 ↦{fullShare} ((stat m c).1 : S1x1024.Idx → Elt F .f32))
    ∗ ((c : Thread nD τ).loc main_v3_1 ↦{fullShare} ((stat m c).2.1 : S1x1024.Idx → Elt F .f32))
    ∗ ((c : Thread nD τ).loc main_v3_2 ↦{fullShare} ((stat m c).2.2 : S1x1024.Idx → Elt F .i32))
    ∗ ((c : Thread nD τ).loc main_v4 ↦{fullShare} (tRow m c : S1x1024.Idx → Elt F .i32)) ∗ ((c : Thread nD τ).loc main_v5 ↦{fullShare} (tCol m c : S1024x1.Idx → Elt F .i32))
    ∗ (cLoc c ↦{fullShare} cG m c) ∗ (pLoc c ↦{fullShare} pG m c)
    ∗ ((c : Thread nD τ).loc main_v6_0 ↦{fullShare} l) ∗ ((c : Thread nD τ).loc main_v6_1 ↦{fullShare} r))
/-- What the closing call is given. -/
def pre2 (c : Dev nD) : sProp 𝕄 := iprop(owe0 (F := F) c ∗ st2 m c (m ((c : Thread nD τ).loc main_v6_0)) (m ((c : Thread nD τ).loc main_v6_1)))
/-- What the closing call gives back. -/
def post2 (c : Dev nD) : sProp 𝕄 := iprop(owe0 (F := F) c ∗ st2 m c (lossR m c) (accR m c))

set_option backward.isDefEq.respectTransparency.types false in
/-- The closing call as a region. -/
def reg2 : Pipeline.RegionSeg (pcfgs (F := F)) adm (pdats m) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 m c).loose
  hwaits := Pipeline.hwaits_of_owed_zero _ _ _ _ _ _ 1 fun _ _ => rfl
  pre := pre2 m
  post := post2 m
  X _ := BI.emp
  Y _ := BI.emp
  Z _ := BI.emp
  hentry c := by
    rw [Pipeline.ownSems0_none]
    show iprop(pre2 m c ∗ _ ∗ _) ⊢ |={Set.univ}=> iprop((dat2 m c).arrays ((dat2 m c).arrAt · 0) ∗ _ ∗ (dat2 m c).owesAt none 0 ∗ _ ∗ _)
    rw [arrays2]
    unfold pre2 st2
    iintro ⟨⟨HO, Ha⟩, -, -⟩
    imodintro
    isplitl [Ha]; · iexact Ha
    isplitr; · unfold Pipeline.prefHeld; rw [show (Finset.univ : Finset (Fin 0)) = ∅ from rfl, BI.bigSep_empty]; iempintro
    isplitl [HO]
    · iapply (owe0_in c (dat2 m c) 0 rfl rfl); iexact HO
    isplitr; · iempintro
    iempintro
  hin c := by
    rw [show (pdats m 1 c).Φ 0 = Pipeline.scopedRest spec2 c from rfl]
    iintro ⟨-, -, Hr⟩; iexact Hr
  hout c := by
    rw [Pipeline.ownSems0_none, show (pdats m 1 c).Φ (Fin.last _) = Pipeline.scopedRest spec2 c from rfl]
    iintro Hr
    isplitr; · iempintro
    isplitr; · iempintro
    iexact Hr
  hexit c := by
    show iprop((dat2 m c).arrays ((dat2 m c).arrAt · cfg2.N) ∗ (dat2 m c).owesAt none (Fin.last _) ∗ _ ∗ _) ⊢ |={Set.univ}=> post2 m c
    rw [arrays2]
    unfold post2 st2
    rw [← final2_7, ← final2_8]
    rw [(dat2 m c).arrAt_in 0 rfl, (dat2 m c).arrAt_in 1 rfl, (dat2 m c).arrAt_in 2 rfl, (dat2 m c).arrAt_in 3 rfl, (dat2 m c).arrAt_in 4 rfl,
      (dat2 m c).arrAt_in 5 rfl, (dat2 m c).arrAt_in 6 rfl]
    iintro ⟨Ha, HO, -, -⟩
    imodintro
    isplitl [HO]
    · iapply (owe0_out c (dat2 m c) _ rfl rfl); iexact HO
    iexact Ha

end

end Cert.Proof.SC

end

end
-- ==== Proof.Main.lean ====
/-
  @main on the TensorCore: the two transposes, the gather call, the streaming call, the reshapes, the closing call, the
  last reshapes; then the program's run.
-/
module

public import proofs.«01_k».proof.Proof.EpiRegion

@[expose] public section

noncomputable section

namespace Cert.Proof.SC

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds

variable {F : FTy → Type} [FloatOps F] [Named F]

local notation "𝕄" => MT nD τ sig (HIx 1) (Elt F) ℕ UU ℕ

/-! ## One host operation -/

/-- A host operation of one operand, read at any share: the result's buffer ends at the operation's value. -/
theorem hlo_one (d : Dev nD) (op : HloOp τ sig (Elt F)) (x y : Ref sig .tc) (hxy : x ≠ y)
    (hb : op.bufs = {Proc.devRef .tc x, Proc.devRef .tc y}) (hw : op.writes = {Proc.devRef .tc y}) (hf : op.fresh = ∅)
    (q : PosShare TreeShare) (V : Valuation τ sig (Elt F)) (f : Buf (Elt F) ((SparseCore.T d : Thread nD τ).loc x)) (g g' : Buf (Elt F) ((SparseCore.T d : Thread nD τ).loc y))
    (ef : V (Proc.devRef .tc x) = f) (eg : V (Proc.devRef .tc y) = g) (eg' : op.result V (Proc.devRef .tc y) = g') {Φ : PUnit → sProp 𝕄} :
    iprop(boundary (SparseCore.T d) ∗ ((SparseCore.T d).loc x ↦{q} f) ∗ ((SparseCore.T d).loc y ↦{fullShare} g))
      ⊢ iprop(((boundary (SparseCore.T d) ∗ ((SparseCore.T d).loc x ↦{q} f) ∗ ((SparseCore.T d).loc y ↦{fullShare} g')) -∗ Φ ⟨⟩)
        -∗ wp frame (wpE ((K (F := F)).defs (D (F := F))) 𝒱 (SparseCore.T d) none) Set.univ (hlo rfl op (fun _ => .ret ⟨⟩)) Φ) := by
  have hne : (Proc.devRef .tc x : DevRef τ sig) ≠ Proc.devRef .tc y := StableHlo.devRef_ne_of_ne hxy
  have hr : op.result V (Proc.devRef .tc x) = f := (op.result_of_not_mem V (by rw [hw, Finset.mem_singleton]; exact hne)).trans ef
  have e : ∀ W : Valuation τ sig (Elt F), (bigSep op.bufs (fun b => ((SparseCore.T d : Thread nD τ).1, b) ↦{if b = Proc.devRef .tc y then fullShare else q} W b) : sProp 𝕄)
      = iprop(((SparseCore.T d).loc x ↦{q} W (Proc.devRef .tc x)) ∗ ((SparseCore.T d).loc y ↦{fullShare} W (Proc.devRef .tc y))) := fun W => by
    rw [hb, SparseCore.bigSep_insert' (by rw [Finset.mem_singleton]; exact hne), bigSep_singleton, if_neg hne, if_pos rfl]
  have h := wp_hlo (defs := (K (F := F)).defs (D (F := F))) 𝒱 (SparseCore.T d : Thread nD τ) none Set.univ (Γ := .empty) (hp := rfl) (op := op) (k := fun _ => (.ret ⟨⟩ : Prog _ PUnit)) (Q := Φ)
    (q := fun b => if b = Proc.devRef .tc y then fullShare else q) (F := V) (fun b hb' => by rw [hw, Finset.mem_singleton] at hb'; rw [if_pos hb']) hf
  rw [e V, e (op.result V), ef, eg, hr, eg'] at h
  iintro H Hk
  iapply h $$ H
  iintro H
  rw [wp_ret]; imodintro
  iapply Hk; iexact H

section
variable (m : (ℓ : Loc nD τ sig) → Buf (Elt F) ℓ) (ρ : Dev nD → PrngReg)

/-- The launch memory of a device as a valuation. -/
abbrev V0 (d : Dev nD) : Valuation τ sig (Elt F) := fun b => m (d, b)

/-! ## One TensorCore call -/

/-- A TensorCore call of @main, from its region's precondition to its postcondition. -/
theorem call_wp (p : Fin 2) (R : Pipeline.RegionSeg (pcfgs (F := F)) adm (pdats m) none defs₀ 𝒱₀ (K (F := F)).L (K (F := F)).lev p) (d : Dev nD) {Φ : PUnit → sProp 𝕄} :
    iprop((iprop(boundary (SparseCore.T d) ∗ R.post d) -∗ Φ ⟨⟩) ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ := by
  have h := Pipeline.RegionSeg.wp (pcfgs (F := F)) adm (pdats m) none cellOf_inj EP defs₀ 𝒱₀ (K (F := F)).L (K (F := F)).lev R d none (fun u hu => nomatch hu)
    (fun _ => (.ret ⟨⟩ : Prog _ PUnit)) Φ
  refine BIBase.Entails.trans ?_ (h.trans ((K (F := F)).wp_liftProg (D (F := F)) 𝒱 (SparseCore.T d) Set.univ none (Prog.lift (.customCall (Pipeline.entry p) ())) Φ))
  iintro ⟨Hk, H⟩
  isplitl [Hk]
  · iintro H; rw [wp_ret]; imodintro; iapply Hk; iexact H
  iexact H

/-! ## What the launch deals @main, and what @main ends with -/

/-- The pipelines' round states of device `d`. -/
def GP (d : Dev nD) : sProp 𝕄 := iprop((bigSep Finset.univ fun p : Fin 2 => Pipeline.cellsGhost (Pipeline.pin (pcfgs (F := F)) adm) EP p d)
  ∗ bigSep Finset.univ fun p : Fin 2 => Pipeline.toksInit (Pipeline.pin (pcfgs (F := F)) adm) EP p d)

/-- The certificate's ghost state at launch. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipelines' ghost state, call by call. -/
theorem GP_eq (d : Dev nD) : (GP (F := F) d : sProp 𝕄) = iprop((Pipeline.cellsGhost (Pipeline.pin (pcfgs (F := F)) adm) EP 0 d ∗ Pipeline.cellsGhost (Pipeline.pin (pcfgs (F := F)) adm) EP 1 d)
    ∗ (Pipeline.toksInit (Pipeline.pin (pcfgs (F := F)) adm) EP 0 d ∗ Pipeline.toksInit (Pipeline.pin (pcfgs (F := F)) adm) EP 1 d)) := by
  unfold GP; rw [bigSep_fin_two, bigSep_fin_two]; rfl

/-- Nothing, any number of times, is nothing. -/
theorem bigSep_emp' {I : Type} (s : Finset I) : (bigSep s fun _ => iprop(emp)) = (iprop(emp) : sProp 𝕄) := bigSep_emp_const s

/-- The first ghost state splits into the handshakes', the pipelines' and the counters' parts. -/
theorem hu₀ : (ownU (u₀ (F := F)) : sProp 𝕄)
    ⊢ |={Set.univ}=> iprop(BI.own (EH (initOf (K (F := F)).hsCells (K (F := F)).hsToks)) ∗ (bigSep Finset.univ (GP (F := F)))
        ∗ bigSep Finset.univ fun thr : Thread nD τ => bigSep Finset.univ fun q : Fin 1 => (P m).x q thr) := by
  have hP : (BI.own (embR (nD := nD) (sig := sig) (Ix := HIx 1) (Val := Elt F) (Name := ℕ) (Lvl := ℕ) (A := UH) (B := UP × Counters)
      (initOf (Pipeline.cells (Pipeline.pin (pcfgs (F := F)) adm) cellOf_inj) (Pipeline.launchToks (Pipeline.pin (pcfgs (F := F)) adm) cellOf_inj), (1 : Counters))) : sProp 𝕄)
      ⊢ BI.own (EP (F := F) (initOf (Pipeline.cells (Pipeline.pin (pcfgs (F := F)) adm) cellOf_inj) (Pipeline.launchToks (Pipeline.pin (pcfgs (F := F)) adm) cellOf_inj))) :=
    by unfold EP; exact (own_pair_emb (embR (nD := nD) (sig := sig) (Ix := HIx 1) (Val := Elt F) (Name := ℕ) (Lvl := ℕ) (A := UH) (B := UP × Counters)) _ _).trans sep_elim_left
  unfold u₀
  iintro Hu
  ihave H := (ownU_pair _ _) $$ Hu
  icases H with ⟨HH, HR⟩
  ihave HP := hP $$ HR
  imod (Pipeline.fund_ghost (Pipeline.pin (pcfgs (F := F)) adm) (EP (F := F)) cellOf_inj) $$ HP with ⟨Hg, Ht⟩
  imodintro
  isplitl [HH]; · iexact HH
  isplitl [Hg Ht]
  · unfold GP
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- The two results. -/
def res7 (d : Dev nD) : FVec F S_ .f32 := shapeCast S_ (lossR m d) shapeCasts_S1x1_S_
/-- The accuracy as a scalar. -/
def res8 (d : Dev nD) : FVec F S_ .f32 := shapeCast S_ (accR m d) shapeCasts_S1x1_S_

/-- What @main ends with: the arguments as they were, the results at their values. -/
def FIN (d : Dev nD) : sProp 𝕄 := iprop((arg0Loc d ↦{fullShare} m (arg0Loc d)) ∗ (arg1Loc d ↦{fullShare} m (arg1Loc d))
  ∗ (tLoc d ↦{Transfers.shareDrop fullShare 2} m (tLoc d))
  ∗ ((SparseCore.T d).loc main_v7 ↦{fullShare} (res7 m d : S_.Idx → Elt F .f32)) ∗ ((SparseCore.T d).loc main_v8 ↦{fullShare} (res8 m d : S_.Idx → Elt F .f32)))

/-- The host's arrays, one by one. -/
theorem unscopedBufs_eq (d : Dev nD) (W : (b : Ref sig .tc) → Buf (Elt F) ((d.tc : Thread nD τ).loc b)) :
    (unscopedBufs d W : sProp 𝕄) = iprop((arg0Loc d ↦{fullShare} W main_arg0) ∗ (arg1Loc d ↦{fullShare} W main_arg1) ∗ (tLoc d ↦{fullShare} W main_arg2)
      ∗ (aLoc d ↦{fullShare} W main_v0) ∗ (bLoc d ↦{fullShare} W main_v1) ∗ (cLoc d ↦{fullShare} W main_v2_0) ∗ (pLoc d ↦{fullShare} W main_v2_1)
      ∗ ((SparseCore.T d).loc main_v3_0 ↦{fullShare} W main_v3_0) ∗ ((SparseCore.T d).loc main_v3_1 ↦{fullShare} W main_v3_1) ∗ ((SparseCore.T d).loc main_v3_2 ↦{fullShare} W main_v3_2)
      ∗ ((SparseCore.T d).loc main_v4 ↦{fullShare} W main_v4) ∗ ((SparseCore.T d).loc main_v5 ↦{fullShare} W main_v5)
      ∗ ((SparseCore.T d).loc main_v6_0 ↦{fullShare} W main_v6_0) ∗ ((SparseCore.T d).loc main_v6_1 ↦{fullShare} W main_v6_1)
      ∗ ((SparseCore.T d).loc main_v7 ↦{fullShare} W main_v7) ∗ ((SparseCore.T d).loc main_v8 ↦{fullShare} W main_v8)) := by
  unfold unscopedBufs
  exact bigSep_eq_bigSepL_of_eq [main_arg0, main_arg1, main_arg2, main_v0, main_v1, main_v2_0, main_v2_1, main_v3_0, main_v3_1,
    main_v3_2, main_v4, main_v5, main_v6_0, main_v6_1, main_v7, main_v8] (by decide) (by decide) _

/-- A whole array at the full share as the two cores' read tokens and the rest. -/
theorem toks2 {ℓ : Loc nD τ sig} (f : Buf (Elt F) ℓ) :
    (ℓ ↦{fullShare} f : sProp 𝕄) ⊢ iprop((ℓ ↦{Transfers.shareDrop fullShare 2} f) ∗ bigSep Finset.univ fun c : Fin 2 => ℓ ↦{qC c.val} f) :=
  Transfers.pointsTo_toks_split (ℓ := ℓ) (S := Finset.univ) (f := f) fullShare 2

/-- The cosines' windows, split between the two SparseCores. -/
theorem cPts (d : Dev nD) (f : Buf (Elt F) (cLoc d)) :
    (cLoc d ↦{fullShare} f : sProp 𝕄) = bigSep Finset.univ fun c : Fin 2 => cLoc d ↦[coreSet c.val]{fullShare} f := by
  rw [← pointsTo_biUnion Finset.univ (ℓ := cLoc d) (fun c : Fin 2 => coreSet c.val) cores_disjoint, univ_cores]
/-- The phis' windows, split between the two SparseCores. -/
theorem pPts (d : Dev nD) (f : Buf (Elt F) (pLoc d)) :
    (pLoc d ↦{fullShare} f : sProp 𝕄) = bigSep Finset.univ fun c : Fin 2 => pLoc d ↦[coreSet c.val]{fullShare} f := by
  rw [← pointsTo_biUnion Finset.univ (ℓ := pLoc d) (fun c : Fin 2 => coreSet c.val) cores_disjoint, univ_cores]

/-- The gather call's operands, from the whole arrays. -/
theorem st_intro (d : Dev nD) :
    iprop((tLoc d ↦{fullShare} m (tLoc d)) ∗ (aLoc d ↦{fullShare} aT m d) ∗ (bLoc d ↦{fullShare} bT m d) ∗ (cLoc d ↦{fullShare} m (cLoc d)) ∗ (pLoc d ↦{fullShare} m (pLoc d)))
      ⊢ (iprop((tLoc d ↦{Transfers.shareDrop fullShare 2} m (tLoc d)) ∗ (aLoc d ↦{Transfers.shareDrop fullShare 2} aT m d)
        ∗ bigSep Finset.univ fun c : Fin ((K (F := F)).nCore 0) => (P m).st 0 d c) : sProp 𝕄) := by
  rw [show (bigSep Finset.univ fun c : Fin ((K (F := F)).nCore 0) => (P (F := F) m).st 0 d c) = bigSep Finset.univ fun c : Fin 2 => stR m d c.val from rfl]
  unfold stR
  simp only [bigSep_sep']
  iintro ⟨HT, HA, HB, HC, HP⟩
  ihave HT := (toks2 _) $$ HT
  icases HT with ⟨HT, HT'⟩
  ihave HA := (toks2 _) $$ HA
  icases HA with ⟨HA, HA'⟩
  ihave HB := (toks2 _) $$ HB
  icases HB with ⟨-, HB'⟩
  isplitl [HT]; · iexact HT
  isplitl [HA]; · iexact HA
  isplitl [HT']; · iexact HT'
  isplitl [HA']; · iexact HA'
  isplitl [HB']; · iexact HB'
  isplitl [HC]; · iapply (Entails.of_eq (cPts d _)); iexact HC
  iapply (Entails.of_eq (pPts d _)); iexact HP

/-- The gather call's results, whole. -/
theorem dn_elim (d : Dev nD) : (bigSep Finset.univ fun c : Fin ((K (F := F)).nCore 0) => (P (F := F) m).dn 0 d c)
    ⊢ (iprop((cLoc d ↦{fullShare} cG m d) ∗ (pLoc d ↦{fullShare} pG m d)) : sProp 𝕄) := by
  rw [show (bigSep Finset.univ fun c : Fin ((K (F := F)).nCore 0) => (P (F := F) m).dn 0 d c) = bigSep Finset.univ fun c : Fin 2 => dnR m d c.val from rfl]
  unfold dnR
  simp only [bigSep_sep']
  iintro ⟨HC, HP⟩
  isplitl [HC]; · iapply (Entails.of_eq (cPts d _).symm); iexact HC
  iapply (Entails.of_eq (pPts d _).symm); iexact HP

/-- After the gather call the TensorCore owes nothing. -/
theorem tcSt_owe (d : Dev nD) : ((K (F := F)).tcSt EH d 1 : sProp 𝕄) ⊢ iprop(owe0 (F := F) d ∗ (owe0 (F := F) d -∗ (K (F := F)).tcSt EH d 1)) := by
  unfold SparseCore.Cfg.tcSt owe0
  rw [(K (F := F)).Otc_end d (le_refl 1)]
  iintro ⟨HO, H⟩
  isplitl [HO]; · iexact HO
  iintro HO
  isplitl [HO]; · iexact HO
  iexact H

/-! ## @main -/

set_option maxHeartbeats 1000000 in
/-- The host program runs from its arguments to its two results. -/
theorem hmain (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, GP_eq]
  simp only [main, wp_bind, wp_pure]
  iintro ⟨#Hctx, Hst, ⟨Hb, ⟨H0, H1, HT, Ha, Hbb, Hc, Hp, Hs0, Hs1, Hs2, H4, H5, H60, H61, H7, H8⟩, Hts, -⟩, ⟨Hg0, Hg1⟩, ⟨Ht0, Ht1⟩⟩
  ihave #Hlev := (SparseCore.Cfg.ctx_levAts κ) $$ Hctx
  -- the two transposes
  iapply (hlo_one d _ main_arg0 main_v0 (by decide) rfl rfl rfl fullShare (V0 m d) (m (arg0Loc d)) (m (aLoc d)) (aT m d) rfl rfl
    (StableHlo.unary_result' _ _ _ _)) $$ [Hb H0 Ha]
  · isplitl [Hb]; · iexact Hb
    isplitl [H0]; · iexact H0
    iexact Ha
  iintro ⟨Hb, H0, Ha⟩
  iapply (hlo_one d _ main_arg1 main_v1 (by decide) rfl rfl rfl fullShare (V0 m d) (m (arg1Loc d)) (m (bLoc d)) (bT m d) rfl rfl
    (StableHlo.unary_result' _ _ _ _)) $$ [Hb H1 Hbb]
  · isplitl [Hb]; · iexact Hb
    isplitl [H1]; · iexact H1
    iexact Hbb
  iintro ⟨Hb, H1, Hbb⟩
  -- the gather call
  ihave H := (st_intro m d) $$ [HT Ha Hbb Hc Hp]
  · isplitl [HT]; · iexact HT
    isplitl [Ha]; · iexact Ha
    isplitl [Hbb]; · iexact Hbb
    isplitl [Hc]; · iexact Hc
    iexact Hp
  icases H with ⟨HT, Ha, Hst0⟩
  iapply ((K (F := F)).wp_run (D (F := F)) 𝒱 (EH := EH) (P := P m) κ d 0)
  isplitr; · iexact Hctx
  isplitl [Hst]; · iexact Hst
  isplitl [Hst0]; · iexact Hst0
  iintro ⟨Hst, Hdn⟩
  ihave Hdn := (dn_elim m d) $$ Hdn
  icases Hdn with ⟨Hc, Hp⟩
  ihave Hst := (show (K (F := F)).tcSt EH d ((0 : Fin 1).val + 1) ⊢ _ from tcSt_owe (F := F) d) $$ Hst
  icases Hst with ⟨HO, Hst⟩
  -- the streaming call
  iapply (call_wp m 0 (reg1 m) d)
  isplitr [Hb HO Ha Hs0 Hs1 Hs2 Hg0 Ht0]
  rotate_left
  · isplitl [Hb]; · iexact Hb
    isplitl [HO Ha Hs0 Hs1 Hs2]
    · iapply (show pre1 m d ⊢ (reg1 m).pre d from .rfl)
      unfold pre1
      isplitl [HO]; · iexact HO
      isplitl [Ha]; · iexact Ha
      isplitl [Hs0]; · iexact Hs0
      isplitl [Hs1]; · iexact Hs1
      iexact Hs2
    isplitr; · iexact Hlev
    isplitl [Hg0]; · iexact Hg0
    iexact Ht0
  iintro ⟨Hb, Hpost⟩
  ihave Hpost := (show (reg1 m).post d ⊢ post1 m d from .rfl) $$ Hpost
  unfold post1
  icases Hpost with ⟨HO, -, Hs0, Hs1, Hs2⟩
  -- the targets as a row and as a column
  iapply (hlo_one d _ main_arg2 main_v4 (by decide) rfl rfl rfl (Transfers.shareDrop fullShare 2) (V0 m d) (m (tLoc d)) (m ((SparseCore.T d).loc main_v4)) (tRow m d) rfl rfl
    (StableHlo.reshape_result' _ _ _ _ _)) $$ [Hb HT H4]
  · isplitl [Hb]; · iexact Hb
    isplitl [HT]; · iexact HT
    iexact H4
  iintro ⟨Hb, HT, H4⟩
  iapply (hlo_one d _ main_arg2 main_v5 (by decide) rfl rfl rfl (Transfers.shareDrop fullShare 2) (V0 m d) (m (tLoc d)) (m ((SparseCore.T d).loc main_v5)) (tCol m d) rfl rfl
    (StableHlo.reshape_result' _ _ _ _ _)) $$ [Hb HT H5]
  · isplitl [Hb]; · iexact Hb
    isplitl [HT]; · iexact HT
    iexact H5
  iintro ⟨Hb, HT, H5⟩
  -- the closing call
  iapply (call_wp m 1 (reg2 m) d)
  isplitr [Hb HO Hs0 Hs1 Hs2 H4 H5 Hc Hp H60 H61 Hg1 Ht1]
  rotate_left
  · isplitl [Hb]; · iexact Hb
    isplitl [HO Hs0 Hs1 Hs2 H4 H5 Hc Hp H60 H61]
    · iapply (show pre2 m d ⊢ (reg2 m).pre d from .rfl)
      unfold pre2 st2
      isplitl [HO]; · iexact HO
      isplitl [Hs0]; · iexact Hs0
      isplitl [Hs1]; · iexact Hs1
      isplitl [Hs2]; · iexact Hs2
      isplitl [H4]; · iexact H4
      isplitl [H5]; · iexact H5
      isplitl [Hc]; · iexact Hc
      isplitl [Hp]; · iexact Hp
      isplitl [H60]; · iexact H60
      iexact H61
    isplitr; · iexact Hlev
    isplitl [Hg1]; · iexact Hg1
    iexact Ht1
  iintro ⟨Hb, Hpost⟩
  ihave Hpost := (show (reg2 m).post d ⊢ post2 m d from .rfl) $$ Hpost
  unfold post2 st2
  icases Hpost with ⟨HO, -, -, -, -, -, -, -, H60, H61⟩
  -- the results
  iapply (hlo_one d _ main_v6_0 main_v7 (by decide) rfl rfl rfl fullShare (Function.update (V0 m d) (Proc.devRef .tc main_v6_0) (lossR m d : S1x1.Idx → Elt F .f32)) (lossR m d : S1x1.Idx → Elt F .f32)
    (m ((SparseCore.T d).loc main_v7)) (res7 m d : S_.Idx → Elt F .f32) (Function.update_self _ _ _) (Function.update_of_ne (by decide) _ _)
    ((StableHlo.reshape_result' _ _ _ _ _).trans (by rw [Function.update_self]; rfl))) $$ [Hb H60 H7]
  · isplitl [Hb]; · iexact Hb
    isplitl [H60]; · iexact H60
    iexact H7
  iintro ⟨Hb, -, H7⟩
  iapply (hlo_one d _ main_v6_1 main_v8 (by decide) rfl rfl rfl fullShare (Function.update (V0 m d) (Proc.devRef .tc main_v6_1) (accR m d : S1x1.Idx → Elt F .f32)) (accR m d : S1x1.Idx → Elt F .f32)
    (m ((SparseCore.T d).loc main_v8)) (res8 m d : S_.Idx → Elt F .f32) (Function.update_self _ _ _) (Function.update_of_ne (by decide) _ _)
    ((StableHlo.reshape_result' _ _ _ _ _).trans (by rw [Function.update_self]; rfl))) $$ [Hb H61 H8]
  · isplitl [Hb]; · iexact Hb
    isplitl [H61]; · iexact H61
    iexact H8
  iintro ⟨Hb, -, H8⟩
  imodintro
  isplitl [HO Hst]
  · iapply Hst; iexact HO
  isplitr [Hb Hts]
  · unfold FIN
    isplitl [H0]; · iexact H0
    isplitl [H1]; · iexact H1
    isplitl [HT]; · iexact HT
    isplitl [H7]; · iexact H7
    iexact H8
  isplitl [Hb] <;> iassumption

/-! ## The run -/

/-- What a final memory shows of a device. -/
def fq (d : Dev nD) (s' : Phys nD τ sig (Elt F)) : Prop :=
  s'.mem.mem (arg0Loc d) = m (arg0Loc d) ∧ s'.mem.mem (arg1Loc d) = m (arg1Loc d) ∧ s'.mem.mem (tLoc d) = m (tLoc d)
    ∧ s'.mem.mem ((SparseCore.T d).loc main_v7) = (res7 m d : S_.Idx → Elt F .f32) ∧ s'.mem.mem ((SparseCore.T d).loc main_v8) = (res8 m d : S_.Idx → Elt F .f32)

/-- A whole buffer held at any share is what the memory has there. -/
theorem read_loc {ℓ : Loc nD τ sig} {q : PosShare TreeShare} (f : Buf (Elt F) ℓ) (s' : Phys nD τ sig (Elt F)) :
    iprop((ℓ ↦{q} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := q) (f := f))) $$ [HSI H]
  · isplitl [HSI] <;> iassumption
  icases H with ⟨%h1, HSI, -⟩
  isplitr
  · ipureintro; exact funext fun (i : Idx ℓ) => h1 i (by simp)
  iexact HSI

/-- What the host ends with determines the final memory. -/
theorem hfin (d : Dev nD) (s' : Phys nD τ sig (Elt F)) : iprop(FIN m d ∗ SI s') ⊢ (⌜fq m d s'⌝ : sProp 𝕄) := by
  unfold FIN
  iintro ⟨⟨H0, H1, HT, H7, H8⟩, HSI⟩
  ihave H := (read_loc _ s') $$ [H0 HSI]
  · isplitl [H0] <;> iassumption
  icases H with ⟨%e0, HSI⟩
  ihave H := (read_loc _ s') $$ [H1 HSI]
  · isplitl [H1] <;> iassumption
  icases H with ⟨%e1, HSI⟩
  ihave H := (read_loc _ s') $$ [HT HSI]
  · isplitl [HT] <;> iassumption
  icases H with ⟨%e2, HSI⟩
  ihave H := (read_loc _ s') $$ [H7 HSI]
  · isplitl [H7] <;> iassumption
  icases H with ⟨%e3, HSI⟩
  ihave H := (read_loc _ s') $$ [H8 HSI]
  · isplitl [H8] <;> iassumption
  icases H with ⟨%e4, -⟩
  ipureintro
  exact ⟨e0, e1, e2, e3, e4⟩

/-- Every final state: the arguments unchanged, the two results at their values, every semaphore at zero. -/
def QC : PUnit × MemSt nD τ sig (Elt F) → Prop := fun r =>
  (∀ c : Dev nD, r.2.mem (arg0Loc c) = m (arg0Loc c) ∧ r.2.mem (arg1Loc c) = m (arg1Loc c) ∧ r.2.mem (tLoc c) = m (tLoc c)
    ∧ r.2.mem ((SparseCore.T c).loc main_v7) = (res7 m c : S_.Idx → Elt F .f32) ∧ r.2.mem ((SparseCore.T c).loc main_v8) = (res8 m c : S_.Idx → Elt F .f32))
  ∧ r.2.sem = fun _ => 0

/-- The program's run, under the targets' range. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (GP (F := F)) (FIN m) (u₀ (F := F)) (sep_elim_left.trans (hu₀ m)) (hmain m ρ) (fq m) (hfin m) (QC m) (fun _ h hz => ⟨h, hz⟩)

end

end Cert.Proof.SC

end

end
-- ==== Proof.Frames.lean ====
module

public import proofs.«01_k».proof.Defs
public import proofs.«01_k».proof.Proof.Main
public import proofs.«01_k».proof.Proof.Gen.Kernel
public import proofs.«01_k».proof.Proof.Gen.Pre_pre
public import Idealize.ShloMosaic.Lib.ReduceAll
public import Idealize.ShloMosaic.Lib.StableHlo.Predicate

@[expose] public section
noncomputable section

/-! What the precondition says element by element, and from it the frames of the kernel and of its idealization. -/

namespace Cert.Proof.SC

open Idealize.ShloMosaic Idealize.ShloMosaic.TcCoe Idealize.SL.Sem
open Cert.Pre_pre (S_ S1024 S1024x100000)

variable {F : FTy → Type} [FloatOps F]

/-- A scalar has one index. -/
instance : Subsingleton S_.Idx := ⟨fun _ _ => funext fun a => a.elim0⟩

/-- A word at least 0 and below `100000`, both signed, is a number below `100000`. -/
theorem lt_of_cmp (v : BitVec 32) (h : IntOp.andi (IntOp.cmpi .sge v 0#32) (IntOp.cmpi .slt v 100000#32) = 1#1) : v.toNat < 100000 := by
  obtain ⟨h0, h1⟩ := IntOp.andi_eq_one.1 h
  simp only [IntOp.cmpi, BitVec.sle_eq_decide, BitVec.slt_eq_decide, BitVec.toInt_eq_toNat_cond, BitVec.toNat_ofNat, Nat.reducePow, Nat.reduceMod,
    StableHlo.Predicate.ofBool_eq_one_iff, decide_eq_true_eq] at h0 h1
  omega

/-- The precondition says that every target is a class. -/
theorem pre_parts (x p : FVec F S1024x100000 .f32) (t : IVec S1024 32) (e : Cert.Pre_pre.fn x p t = fun _ => 1#1) :
    ∀ i, (t i).toNat < 100000 := by
  have et := congrFun e (fun a => a.elim0)
  unfold Cert.Pre_pre.fn at et
  exact fun i => lt_of_cmp _ (Host.reduce_andi_all _ _ _ _ _ et i)

/-- Under the precondition every target the tiles read is a class. -/
theorem preOK_of_pre [Named F] (m : (ℓ : Loc Cert.KernelIdeal.nD Cert.KernelIdeal.τ Cert.KernelIdeal.sig) → Buf (Elt F) ℓ)
    (h : ∀ c : Dev Cert.KernelIdeal.nD, Cert.Pre_pre.fn (F := F) (m ((c.tc : Thread _ _).loc Cert.KernelIdeal.main_arg0))
      (m ((c.tc : Thread _ _).loc Cert.KernelIdeal.main_arg1)) (m ((c.tc : Thread _ _).loc Cert.KernelIdeal.main_arg2)) = fun _ => 1#1) :
    PreOK m := fun d r => pre_parts _ _ _ (h d) (rix r)

/-- There is a word of every type. -/
instance (e : EltTy) : Nonempty (Elt Bits e) := by cases e <;> exact ⟨(0 : BitVec _)⟩
/-- There is an ideal element of every type. -/
instance (e : EltTy) : Nonempty (Elt Ideal e) := by
  cases e
  all_goals first | exact ⟨(0 : BitVec _)⟩ | exact ⟨(0 : EReal)⟩

section
open Cert.KernelIdeal

/-- Under the precondition the kernel runs, and leaves its arguments and every counter as they were: on any floats. -/
theorem frame_any [Named F] [∀ e, Nonempty (Elt F e)] (m : (ℓ : Loc nD τ sig) → Buf (Elt F) ℓ) (ρ : Dev nD → PrngReg) (hpre : PreOK m) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := F)) _ _).mono (fun _ h => ⟨fun c => ⟨(h.1 c).1, (h.1 c).2.1, (h.1 c).2.2.1⟩, h.2⟩) (run_main (F := F) m ρ hpre)

end

/-- The idealized kernel's frame. -/
theorem frame_ideal : Cert.quiescent_KernelIdeal := fun m ρ hpre => frame_any (F := Ideal) m ρ (preOK_of_pre m hpre)

/-- The named constant read on the machine's floats: the float the program wrote. -/
local instance namedBits : Named Bits where
  named _ _ {φ} bits := Scalar.ofBits φ bits

set_option maxHeartbeats 0 in
/-- On the machine's floats the two body tables are one, label by label. -/
theorem defs₀_eq : Cert.Kernel.defs₀ (F := Bits) = Cert.KernelIdeal.defs₀ (F := Bits) := by
  funext p ℓ a
  cases p <;> rcases ℓ with ⟨_ | _ | _ | _, hl⟩ <;> first | rfl | omega

/-- So are the whole tables. -/
theorem defs_eq : Cert.Kernel.defs (F := Bits) = Cert.KernelIdeal.defs (F := Bits) := by
  have h : Cert.Kernel.defs (F := Bits) = Cert.Kernel.sc.defs (Pipeline.defs Cert.Kernel.pcfgs Cert.Kernel.defs₀) := rfl
  rw [h, defs₀_eq]
  rfl

/-- And so are the runs. -/
theorem run_eq (m ρ) : θ_run Cert.Kernel.defs (Cert.Kernel.threads (F := Bits)) ⟨m, fun _ => 0, ρ⟩
    = θ_run Cert.KernelIdeal.defs (Cert.KernelIdeal.threads (F := Bits)) ⟨m, fun _ => 0, ρ⟩ := by
  rw [defs_eq]
  rfl

/-- The kernel's frame: on the machine's floats it is the idealized text with the constant as it was written. -/
theorem frame_kernel : Cert.quiescent_Kernel := by
  intro m ρ hpre
  rw [run_eq]
  exact frame_any (F := Bits) m ρ (preOK_of_pre m hpre)

/-- The one renamed constant is the number the table gives its name. -/
theorem preserves : Cert.preserves_Kernel_KernelIdeal :=
  IdealRules.named_const.statement Cert.KernelIdeal.κ "inv_one_plus_lamb" .f32 0x3A40191B#32 ((8192 / 11179101 : ℝ) : EReal) rfl

end Cert.Proof.SC
-- ==== Proof.RefRun.lean ====
module

public import proofs.«01_k».proof.Defs
public import proofs.«01_k».proof.Proof.Gen.ReferenceIdeal
public import proofs.«01_k».proof.Proof.Gen.Pre_pre
public import Idealize.ShloMosaic.Lib.Claim

@[expose] public section
noncomputable section

/-! The run of the reference, a program of host operations only: its two results as functions of its three arguments. -/

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- An array of floats over the 1024 rows and 100000 classes. -/
abbrev Tab (F : FTy → Type) := (⟨S1024x100000, .f32⟩ : BufTy).Contents (Elt F)
/-- One float per row. -/
abbrev RowF (F : FTy → Type) := (⟨S1024, .f32⟩ : BufTy).Contents (Elt F)
/-- One word per row. -/
abbrev RowI (F : FTy → Type) := (⟨S1024, .i32⟩ : BufTy).Contents (Elt F)
/-- One float. -/
abbrev One (F : FTy → Type) := (⟨S_, .f32⟩ : BufTy).Contents (Elt F)

/-- An index counted from the end if it is negative: `n` added to the negative ones. -/
def wrap (n : BitVec 32) (x : RowI F) : RowI F :=
  select (cmpi .slt x (broadcastInDim S1024 ![] bcast_S_S1024 (constantI S_ 32 0#32)))
    (addi x (broadcastInDim S1024 ![] bcast_S_S1024 (constantI S_ 32 n))) x

/-- Two columns of words side by side. -/
def sideBySide (a b : (⟨S1024x1, .i32⟩ : BufTy).Contents (Elt F)) : (⟨S1024x2, .i32⟩ : BufTy).Contents (Elt F) :=
  concatenate S1024x2 1 [⟨S1024x1, a⟩, ⟨S1024x1, b⟩] concatenates_S1024x1_S1024x1_S1024x2_d1

/-- The places whose rows are `r` and whose classes are `t`. -/
def placesAt (r t : RowI F) : (⟨S1024x2, .i32⟩ : BufTy).Contents (Elt F) :=
  sideBySide (broadcastInDim S1024x1 ![0] bcast_S1024_S1024x1_0 (wrap 1024#32 r))
    (broadcastInDim S1024x1 ![0] bcast_S1024_S1024x1_0 (wrap 100000#32 t))

/-- The place of each row's target: the row and the class. -/
def places (t : RowI F) : (⟨S1024x2, .i32⟩ : BufTy).Contents (Elt F) := placesAt (iotaInDim S1024 32 0) t

/-- The entries at the places. -/
def entries (x : Tab F) (i : (⟨S1024x2, .i32⟩ : BufTy).Contents (Elt F)) : RowF F :=
  Host.gather gather_S1024x100000_S1024x2_S1024_n_01_n_n_01_1_11 x i

/-- Each row's entry at its target. -/
def atTarget (x : Tab F) (t : RowI F) : RowF F :=
  entries x (places t)

/-- One plus lambda, once per row. -/
def lam1 : RowF F := broadcastInDim S1024 ![] bcast_S_S1024 (constant S_ .f32 0x44AA945D#32)

/-- What the loss adds for a cosine and a phi: minus the cosine plus phi, each over one plus lambda. -/
def delta (ct pt : RowF F) : RowF F := addf (Host.divf (Host.negf ct) lam1) (Host.divf pt lam1)

/-- The table with `d` added at the places. -/
def addAt (x : Tab F) (i : (⟨S1024x2, .i32⟩ : BufTy).Contents (Elt F)) (d : RowF F) : Tab F :=
  Host.scatterAdd scatter_S1024x100000_S1024x2_S1024_n_01_01_1 x i d

/-- The cosines with that added at each row's target. -/
def logits (x p : Tab F) (t : RowI F) : Tab F :=
  addAt x (places t) (delta (atTarget x t) (atTarget p t))

/-- One float per row, over the row. -/
def spread (v : RowF F) : Tab F :=
  broadcastInDim S1024x100000 ![0, 1] bcast_S1024x1_S1024x100000_0_1 (broadcastInDim S1024x1 ![0] bcast_S1024_S1024x1_0 v)

/-- Each row's greatest entry. -/
def rowMax (x : Tab F) : RowF F :=
  maximumf (broadcastInDim S1024 ![] bcast_S_S1024 (constant S_ .f32 0xFF800000#32))
    (Host.reduce FloatOps.maximumf x (constant S_ .f32 0xFF800000#32) reducesTo_S1024x100000_S1024_d1 h_S_)

/-- A row less its greatest entry. -/
def shifted (x : Tab F) : Tab F := subf x (spread (rowMax x))

/-- The logarithm of each row's softmax. -/
def logSoftmax (x : Tab F) : Tab F :=
  subf (shifted x) (broadcastInDim S1024x100000 ![0, 1] bcast_S1024x1_S1024x100000_0_1
    (Host.log (broadcastInDim S1024x1 ![0] bcast_S1024_S1024x1_0
      (Host.reduceAdd (Host.exp (shifted x)) (constant S_ .f32 0x00000000#32) reducesTo_S1024x100000_S1024_d1 h_S_))))

/-- The mean over the rows. -/
def mean (v : RowF F) : One F :=
  Host.divf (Host.reduceAdd v (constant S_ .f32 0x00000000#32) reducesTo_S1024_S_d0 h_S_) (constant S_ .f32 0x44800000#32)

/-- The first result, the loss. -/
def lossR (x p : Tab F) (t : RowI F) : One F := mean (Host.negf (atTarget (logSoftmax (logits x p t)) t))

/-- Each row's first class with the greatest cosine. -/
def best (x : Tab F) : RowI F := fun j =>
  (Host.argReduce reducer_argmax_f32_i32 x (iotaInDim S1024x100000 32 1) (constant S_ .f32 0xFF800000#32) (constantI S_ 32 0#32)
    reducesTo_S1024x100000_S1024_d1 h_S_ j).2

/-- The second result, the accuracy. -/
def accR (x : Tab F) (t : RowI F) : One F := mean (uitofp .f32 (cmpi .eq (best x) t))

/-- The operations of the reference that compute the cosine at each target. -/
abbrev opsCt : List (HloOp τ sig (Elt F)) :=
  [ nullary main_v0 (iotaInDim S1024 32 0),
    nullary main_c (constantI S_ 32 0#32),
    unary main_c main_v1 (broadcastInDim S1024 ![] bcast_S_S1024),
    binary main_v0 main_v1 main_v2 (cmpi .slt),
    nullary main_c_0 (constantI S_ 32 1024#32),
    unary main_c_0 main_v3 (broadcastInDim S1024 ![] bcast_S_S1024),
    binary main_v0 main_v3 main_v4 addi,
    ternary main_v2 main_v4 main_v0 main_v5 select,
    nullary main_c_1 (constantI S_ 32 0#32),
    unary main_c_1 main_v6 (broadcastInDim S1024 ![] bcast_S_S1024),
    binary main_arg2 main_v6 main_v7 (cmpi .slt),
    nullary main_c_2 (constantI S_ 32 100000#32),
    unary main_c_2 main_v8 (broadcastInDim S1024 ![] bcast_S_S1024),
    binary main_arg2 main_v8 main_v9 addi,
    ternary main_v7 main_v9 main_arg2 main_v10 select,
    unary main_v5 main_v11 (broadcastInDim S1024x1 ![0] bcast_S1024_S1024x1_0),
    unary main_v10 main_v12 (broadcastInDim S1024x1 ![0] bcast_S1024_S1024x1_0),
    binary main_v11 main_v12 main_v13 sideBySide,
    binary main_arg0 main_v13 main_v14 (fun x i => Host.gather gather_S1024x100000_S1024x2_S1024_n_01_n_n_01_1_11 x i) ]

/-- The operations of the reference that compute phi at each target. -/
abbrev opsPt : List (HloOp τ sig (Elt F)) :=
  [ nullary main_c_3 (constantI S_ 32 0#32),
    unary main_c_3 main_v15 (broadcastInDim S1024 ![] bcast_S_S1024),
    binary main_v0 main_v15 main_v16 (cmpi .slt),
    nullary main_c_4 (constantI S_ 32 1024#32),
    unary main_c_4 main_v17 (broadcastInDim S1024 ![] bcast_S_S1024),
    binary main_v0 main_v17 main_v18 addi,
    ternary main_v16 main_v18 main_v0 main_v19 select,
    nullary main_c_5 (constantI S_ 32 0#32),
    unary main_c_5 main_v20 (broadcastInDim S1024 ![] bcast_S_S1024),
    binary main_arg2 main_v20 main_v21 (cmpi .slt),
    nullary main_c_6 (constantI S_ 32 100000#32),
    unary main_c_6 main_v22 (broadcastInDim S1024 ![] bcast_S_S1024),
    binary main_arg2 main_v22 main_v23 addi,
    ternary main_v21 main_v23 main_arg2 main_v24 select,
    unary main_v19 main_v25 (broadcastInDim S1024x1 ![0] bcast_S1024_S1024x1_0),
    unary main_v24 main_v26 (broadcastInDim S1024x1 ![0] bcast_S1024_S1024x1_0),
    binary main_v25 main_v26 main_v27 sideBySide,
    binary main_arg1 main_v27 main_v28 (fun x i => Host.gather gather_S1024x100000_S1024x2_S1024_n_01_n_n_01_1_11 x i) ]

/-- The operations of the reference that compute what is added there. -/
abbrev opsDelta : List (HloOp τ sig (Elt F)) :=
  [ unary main_v14 main_v29 Host.negf,
    nullary main_cst (constant S_ .f32 0x44AA945D#32),
    unary main_cst main_v30 (broadcastInDim S1024 ![] bcast_S_S1024),
    binary main_v29 main_v30 main_v31 Host.divf,
    nullary main_cst_7 (constant S_ .f32 0x44AA945D#32),
    unary main_cst_7 main_v32 (broadcastInDim S1024 ![] bcast_S_S1024),
    binary main_v28 main_v32 main_v33 Host.divf,
    binary main_v31 main_v33 main_v34 addf ]

/-- The operations of the reference that compute the table with that added. -/
abbrev opsLogits : List (HloOp τ sig (Elt F)) :=
  [ nullary main_c_8 (constantI S_ 32 0#32),
    unary main_c_8 main_v35 (broadcastInDim S1024 ![] bcast_S_S1024),
    binary main_v0 main_v35 main_v36 (cmpi .slt),
    nullary main_c_9 (constantI S_ 32 1024#32),
    unary main_c_9 main_v37 (broadcastInDim S1024 ![] bcast_S_S1024),
    binary main_v0 main_v37 main_v38 addi,
    ternary main_v36 main_v38 main_v0 main_v39 select,
    nullary main_c_10 (constantI S_ 32 0#32),
    unary main_c_10 main_v40 (broadcastInDim S1024 ![] bcast_S_S1024),
    binary main_arg2 main_v40 main_v41 (cmpi .slt),
    nullary main_c_11 (constantI S_ 32 100000#32),
    unary main_c_11 main_v42 (broadcastInDim S1024 ![] bcast_S_S1024),
    binary main_arg2 main_v42 main_v43 addi,
    ternary main_v41 main_v43 main_arg2 main_v44 select,
    unary main_v39 main_v45 (broadcastInDim S1024x1 ![0] bcast_S1024_S1024x1_0),
    unary main_v44 main_v46 (broadcastInDim S1024x1 ![0] bcast_S1024_S1024x1_0),
    binary main_v45 main_v46 main_v47 sideBySide,
    ternary main_arg0 main_v47 main_v34 main_v48 (fun x i u => Host.scatterAdd scatter_S1024x100000_S1024x2_S1024_n_01_01_1 x i u) ]

/-- The operations of the reference that compute the logarithm of its softmax. -/
abbrev opsLsm : List (HloOp τ sig (Elt F)) :=
  [ TRef.nullary main_call0.cst (constant S_ .f32 0xFF800000#32),
    TRef.binary (TRef.of (T := ⟨S1024x100000, .f32⟩) main_v48) main_call0.cst main_call0.v0 (fun x v => Host.reduce FloatOps.maximumf x v reducesTo_S1024x100000_S1024_d1 h_S_),
    TRef.nullary main_call0.cst_0 (constant S_ .f32 0xFF800000#32),
    TRef.unary main_call0.cst_0 main_call0.v1 (broadcastInDim S1024 ![] bcast_S_S1024),
    TRef.binary main_call0.v1 main_call0.v0 main_call0.v2 maximumf,
    TRef.unary main_call0.v2 main_call0.v3 (broadcastInDim S1024x1 ![0] bcast_S1024_S1024x1_0),
    TRef.unary main_call0.v3 main_call0.v4 (broadcastInDim S1024x100000 ![0, 1] bcast_S1024x1_S1024x100000_0_1),
    TRef.binary (TRef.of (T := ⟨S1024x100000, .f32⟩) main_v48) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S1024x100000_S1024_d1 h_S_),
    TRef.unary main_call0.v7 main_call0.v8 (broadcastInDim S1024x1 ![0] bcast_S1024_S1024x1_0),
    TRef.unary main_call0.v8 main_call0.v9 Host.log,
    TRef.unary main_call0.v9 main_call0.v10 (broadcastInDim S1024x100000 ![0, 1] bcast_S1024x1_S1024x100000_0_1),
    TRef.binary main_call0.v5 main_call0.v10 main_call0.v11 subf ]

/-- The operations of the reference that compute its entries at the targets. -/
abbrev opsPick : List (HloOp τ sig (Elt F)) :=
  [ nullary main_c_12 (constantI S_ 32 0#32),
    unary main_c_12 main_v50 (broadcastInDim S1024 ![] bcast_S_S1024),
    binary main_v0 main_v50 main_v51 (cmpi .slt),
    nullary main_c_13 (constantI S_ 32 1024#32),
    unary main_c_13 main_v52 (broadcastInDim S1024 ![] bcast_S_S1024),
    binary main_v0 main_v52 main_v53 addi,
    ternary main_v51 main_v53 main_v0 main_v54 select,
    nullary main_c_14 (constantI S_ 32 0#32),
    unary main_c_14 main_v55 (broadcastInDim S1024 ![] bcast_S_S1024),
    binary main_arg2 main_v55 main_v56 (cmpi .slt),
    nullary main_c_15 (constantI S_ 32 100000#32),
    unary main_c_15 main_v57 (broadcastInDim S1024 ![] bcast_S_S1024),
    binary main_arg2 main_v57 main_v58 addi,
    ternary main_v56 main_v58 main_arg2 main_v59 select,
    unary main_v54 main_v60 (broadcastInDim S1024x1 ![0] bcast_S1024_S1024x1_0),
    unary main_v59 main_v61 (broadcastInDim S1024x1 ![0] bcast_S1024_S1024x1_0),
    binary main_v60 main_v61 main_v62 sideBySide,
    binary main_v49 main_v62 main_v63 (fun x i => Host.gather gather_S1024x100000_S1024x2_S1024_n_01_n_n_01_1_11 x i) ]

/-- The operations of the reference that compute the loss. -/
abbrev opsLoss : List (HloOp τ sig (Elt F)) :=
  [ unary main_v63 main_v64 Host.negf,
    nullary main_cst_16 (constant S_ .f32 0x00000000#32),
    binary main_v64 main_cst_16 main_v65 (fun x v => Host.reduceAdd x v reducesTo_S1024_S_d0 h_S_),
    nullary main_cst_17 (constant S_ .f32 0x44800000#32),
    binary main_v65 main_cst_17 main_v66 Host.divf ]

/-- The operations of the reference that compute each row's best class. -/
abbrev opsBest : List (HloOp τ sig (Elt F)) :=
  [ TRef.nullary main_call1.v0 (iotaInDim S1024x100000 32 1),
    TRef.nullary main_call1.cst (constant S_ .f32 0xFF800000#32),
    TRef.nullary main_call1.c (constantI S_ 32 0#32),
    TRef.quaternary (TRef.of (T := ⟨S1024x100000, .f32⟩) main_arg0) main_call1.v0 main_call1.cst main_call1.c main_call1.v1_0 (fun x y u v j => (Host.argReduce reducer_argmax_f32_i32 x y u v reducesTo_S1024x100000_S1024_d1 h_S_ j).1),
    TRef.quaternary (TRef.of (T := ⟨S1024x100000, .f32⟩) main_arg0) main_call1.v0 main_call1.cst main_call1.c main_call1.v1_1 (fun x y u v j => (Host.argReduce reducer_argmax_f32_i32 x y u v reducesTo_S1024x100000_S1024_d1 h_S_ j).2) ]

/-- The operations of the reference that compute the accuracy. -/
abbrev opsAcc : List (HloOp τ sig (Elt F)) :=
  [ binary main_v67 main_arg2 main_v68 (cmpi .eq),
    unary main_v68 main_v69 (uitofp .f32),
    nullary main_cst_18 (constant S_ .f32 0x00000000#32),
    binary main_v69 main_cst_18 main_v70 (fun x v => Host.reduceAdd x v reducesTo_S1024_S_d0 h_S_),
    nullary main_cst_19 (constant S_ .f32 0x44800000#32),
    binary main_v70 main_cst_19 main_v71 Host.divf ]

/-- After those operations the buffers read later hold the cosine at each target and what they held. -/
theorem after_opsCt (V : Valuation τ sig (Elt F)) :
    after opsCt V (main_v14 : DevRef τ sig) = entries (V (main_arg0 : DevRef τ sig)) (placesAt (iotaInDim S1024 32 0) (V (main_arg2 : DevRef τ sig)))
      ∧ after opsCt V (main_v0 : DevRef τ sig) = (iotaInDim S1024 32 0 : RowI F)
      ∧ after opsCt V (main_arg0 : DevRef τ sig) = V (main_arg0 : DevRef τ sig)
      ∧ after opsCt V (main_arg1 : DevRef τ sig) = V (main_arg1 : DevRef τ sig)
      ∧ after opsCt V (main_arg2 : DevRef τ sig) = V (main_arg2 : DevRef τ sig) := by
  refine ⟨?_, ?_, ?_, ?_, ?_⟩
  all_goals after_results_simp
  all_goals rfl

/-- After those operations the buffers read later hold phi at each target and what they held. -/
theorem after_opsPt (V : Valuation τ sig (Elt F)) :
    after opsPt V (main_v28 : DevRef τ sig) = entries (V (main_arg1 : DevRef τ sig)) (placesAt (V (main_v0 : DevRef τ sig)) (V (main_arg2 : DevRef τ sig)))
      ∧ after opsPt V (main_arg0 : DevRef τ sig) = V (main_arg0 : DevRef τ sig)
      ∧ after opsPt V (main_arg1 : DevRef τ sig) = V (main_arg1 : DevRef τ sig)
      ∧ after opsPt V (main_arg2 : DevRef τ sig) = V (main_arg2 : DevRef τ sig)
      ∧ after opsPt V (main_v0 : DevRef τ sig) = V (main_v0 : DevRef τ sig)
      ∧ after opsPt V (main_v14 : DevRef τ sig) = V (main_v14 : DevRef τ sig) := by
  refine ⟨?_, ?_, ?_, ?_, ?_, ?_⟩
  all_goals after_results_simp
  all_goals rfl

/-- After those operations the buffers read later hold what is added there and what they held. -/
theorem after_opsDelta (V : Valuation τ sig (Elt F)) :
    after opsDelta V (main_v34 : DevRef τ sig) = delta (V (main_v14 : DevRef τ sig)) (V (main_v28 : DevRef τ sig))
      ∧ after opsDelta V (main_arg0 : DevRef τ sig) = V (main_arg0 : DevRef τ sig)
      ∧ after opsDelta V (main_arg1 : DevRef τ sig) = V (main_arg1 : DevRef τ sig)
      ∧ after opsDelta V (main_arg2 : DevRef τ sig) = V (main_arg2 : DevRef τ sig)
      ∧ after opsDelta V (main_v0 : DevRef τ sig) = V (main_v0 : DevRef τ sig) := by
  refine ⟨?_, ?_, ?_, ?_, ?_⟩
  all_goals after_results_simp
  all_goals rfl

/-- After those operations the buffers read later hold the table with that added and what they held. -/
theorem after_opsLogits (V : Valuation τ sig (Elt F)) :
    after opsLogits V (main_v48 : DevRef τ sig) = addAt (V (main_arg0 : DevRef τ sig)) (placesAt (V (main_v0 : DevRef τ sig)) (V (main_arg2 : DevRef τ sig))) (V (main_v34 : DevRef τ sig))
      ∧ after opsLogits V (main_arg0 : DevRef τ sig) = V (main_arg0 : DevRef τ sig)
      ∧ after opsLogits V (main_arg1 : DevRef τ sig) = V (main_arg1 : DevRef τ sig)
      ∧ after opsLogits V (main_arg2 : DevRef τ sig) = V (main_arg2 : DevRef τ sig)
      ∧ after opsLogits V (main_v0 : DevRef τ sig) = V (main_v0 : DevRef τ sig) := by
  refine ⟨?_, ?_, ?_, ?_, ?_⟩
  all_goals after_results_simp
  all_goals rfl

/-- After those operations the buffers read later hold the logarithm of its softmax and what they held. -/
theorem after_opsLsm (V : Valuation τ sig (Elt F)) :
    after opsLsm V (main_v49 : DevRef τ sig) = logSoftmax (V (main_v48 : DevRef τ sig))
      ∧ after opsLsm V (main_arg0 : DevRef τ sig) = V (main_arg0 : DevRef τ sig)
      ∧ after opsLsm V (main_arg1 : DevRef τ sig) = V (main_arg1 : DevRef τ sig)
      ∧ after opsLsm V (main_arg2 : DevRef τ sig) = V (main_arg2 : DevRef τ sig)
      ∧ after opsLsm V (main_v0 : DevRef τ sig) = V (main_v0 : DevRef τ sig) := by
  refine ⟨?_, ?_, ?_, ?_, ?_⟩
  all_goals simp only [opsLsm, TRef.nullary, TRef.unary, TRef.binary, TRef.quaternary, TRef.toBuf, TRef.ofBuf, cast_eq]
  all_goals after_results_simp
  all_goals rfl

/-- After those operations the buffers read later hold its entries at the targets and what they held. -/
theorem after_opsPick (V : Valuation τ sig (Elt F)) :
    after opsPick V (main_v63 : DevRef τ sig) = entries (V (main_v49 : DevRef τ sig)) (placesAt (V (main_v0 : DevRef τ sig)) (V (main_arg2 : DevRef τ sig)))
      ∧ after opsPick V (main_arg0 : DevRef τ sig) = V (main_arg0 : DevRef τ sig)
      ∧ after opsPick V (main_arg1 : DevRef τ sig) = V (main_arg1 : DevRef τ sig)
      ∧ after opsPick V (main_arg2 : DevRef τ sig) = V (main_arg2 : DevRef τ sig) := by
  refine ⟨?_, ?_, ?_, ?_⟩
  all_goals after_results_simp
  all_goals rfl

/-- After those operations the buffers read later hold the loss and what they held. -/
theorem after_opsLoss (V : Valuation τ sig (Elt F)) :
    after opsLoss V (main_v66 : DevRef τ sig) = mean (Host.negf (V (main_v63 : DevRef τ sig)))
      ∧ after opsLoss V (main_arg0 : DevRef τ sig) = V (main_arg0 : DevRef τ sig)
      ∧ after opsLoss V (main_arg1 : DevRef τ sig) = V (main_arg1 : DevRef τ sig)
      ∧ after opsLoss V (main_arg2 : DevRef τ sig) = V (main_arg2 : DevRef τ sig) := by
  refine ⟨?_, ?_, ?_, ?_⟩
  all_goals after_results_simp
  all_goals rfl

/-- After those operations the buffers read later hold each row's best class and what they held. -/
theorem after_opsBest (V : Valuation τ sig (Elt F)) :
    after opsBest V (main_v67 : DevRef τ sig) = best (V (main_arg0 : DevRef τ sig))
      ∧ after opsBest V (main_arg0 : DevRef τ sig) = V (main_arg0 : DevRef τ sig)
      ∧ after opsBest V (main_arg1 : DevRef τ sig) = V (main_arg1 : DevRef τ sig)
      ∧ after opsBest V (main_arg2 : DevRef τ sig) = V (main_arg2 : DevRef τ sig)
      ∧ after opsBest V (main_v66 : DevRef τ sig) = V (main_v66 : DevRef τ sig) := by
  refine ⟨?_, ?_, ?_, ?_, ?_⟩
  all_goals simp only [opsBest, TRef.nullary, TRef.unary, TRef.binary, TRef.quaternary, TRef.toBuf, TRef.ofBuf, cast_eq]
  all_goals after_results_simp
  all_goals rfl

/-- After those operations the buffers read later hold the accuracy and what they held. -/
theorem after_opsAcc (V : Valuation τ sig (Elt F)) :
    after opsAcc V (main_v71 : DevRef τ sig) = mean (uitofp .f32 (cmpi .eq (V (main_v67 : DevRef τ sig)) (V (main_arg2 : DevRef τ sig))))
      ∧ after opsAcc V (main_arg0 : DevRef τ sig) = V (main_arg0 : DevRef τ sig)
      ∧ after opsAcc V (main_arg1 : DevRef τ sig) = V (main_arg1 : DevRef τ sig)
      ∧ after opsAcc V (main_arg2 : DevRef τ sig) = V (main_arg2 : DevRef τ sig)
      ∧ after opsAcc V (main_v66 : DevRef τ sig) = V (main_v66 : DevRef τ sig) := by
  refine ⟨?_, ?_, ?_, ?_, ?_⟩
  all_goals after_results_simp
  all_goals rfl

/-- All of them, in order. -/
abbrev ops : List (HloOp τ sig (Elt F)) :=
  opsCt ++ (opsPt ++ (opsDelta ++ (opsLogits ++ (opsLsm ++ (opsPick ++ (opsLoss ++ (opsBest ++ (opsAcc))))))))

set_option maxRecDepth 8192 in
set_option maxHeartbeats 4000000 in
/-- The reference is that straight line. -/
theorem main_eq (c : Dev nD) : main (F := F) c = seq ops := rfl

/-- Nothing is scoped here: no buffer, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

set_option maxRecDepth 8192 in
/-- Every operation touches references of the host only. -/
theorem ops_sub : (ops : List (HloOp τ sig (Elt F))).Forall fun op => op.bufs ⊆ tcRefs τ sig := by
  simp [TRef.nullary, TRef.unary, TRef.binary, TRef.quaternary]

set_option maxRecDepth 8192 in
/-- Every operation determines its result. -/
theorem ops_fresh : ∀ op ∈ (ops : List (HloOp τ sig (Elt F))), op.fresh = ∅ :=
  List.forall_iff_forall_mem.mp (forall_fresh_of_map rfl)

/-- One line of operations after another. -/
theorem after_two (l k : List (HloOp τ sig (Elt F))) (V : Valuation τ sig (Elt F)) : after (l ++ k) V = after k (after l V) := by
  induction l generalizing V with
  | nil => rfl
  | cons op l ih => exact ih _

/-- After the whole line the two results are `lossR` and `accR` of the arguments, which are unchanged. -/
theorem after_ops (V : Valuation τ sig (Elt F)) :
    after ops V (main_v66 : DevRef τ sig) = lossR (V (main_arg0 : DevRef τ sig)) (V (main_arg1 : DevRef τ sig)) (V (main_arg2 : DevRef τ sig))
      ∧ after ops V (main_v71 : DevRef τ sig) = accR (V (main_arg0 : DevRef τ sig)) (V (main_arg2 : DevRef τ sig))
      ∧ after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig) := by
  simp only [ops, after_two]
  obtain ⟨h14, h0, a0, a1, a2⟩ := after_opsCt V
  generalize after opsCt V = V1 at *
  obtain ⟨h28, b0, b1, b2, b3, b4⟩ := after_opsPt V1
  generalize after opsPt V1 = V2 at *
  obtain ⟨h34, c0, c1, c2, c3⟩ := after_opsDelta V2
  generalize after opsDelta V2 = V3 at *
  obtain ⟨h48, d0, d1, d2, d3⟩ := after_opsLogits V3
  generalize after opsLogits V3 = V4 at *
  obtain ⟨h49, e0, e1, e2, e3⟩ := after_opsLsm V4
  generalize after opsLsm V4 = V5 at *
  obtain ⟨h63, f0, f1, f2⟩ := after_opsPick V5
  generalize after opsPick V5 = V6 at *
  obtain ⟨h66, g0, g1, g2⟩ := after_opsLoss V6
  generalize after opsLoss V6 = V7 at *
  obtain ⟨h67, i0, i1, i2, i3⟩ := after_opsBest V7
  generalize after opsBest V7 = V8 at *
  obtain ⟨h71, j0, j1, j2, j3⟩ := after_opsAcc V8
  generalize after opsAcc V8 = V9 at *
  rw [j3, i3, h66, h63, h49, h48, h34, h71, h67, j0, j1, j2, i0, i1, i2, g0, g1, g2, f0, f1, f2, e0, e1, e2, e3, d0, d1, d2, d3, c0, c1, c2, c3,
    h28, b4, h14, b0, b1, b2, b3, h0, a0, a1, a2]
  exact ⟨rfl, rfl, rfl, rfl, rfl⟩

/-- The reference runs to its end from any memory with every counter at zero: the two results are `lossR` and `accR` of its
    arguments, which are unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v66) = lossR (m ((c.tc : Thread nD τ).loc main_arg0))
          (m ((c.tc : Thread nD τ).loc main_arg1)) (m ((c.tc : Thread nD τ).loc main_arg2))
      ∧ r.2.mem ((c.tc : Thread nD τ).loc main_v71) = accR (m ((c.tc : Thread nD τ).loc main_arg0))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v66).trans (after_ops _).1, (h c main_v71).trans (after_ops _).2.1, (h c main_arg0).trans (after_ops _).2.2.1,
        (h c main_arg1).trans (after_ops _).2.2.2.1, (h c main_arg2).trans (after_ops _).2.2.2.2⟩)
    (run_seq scopedRefs_eq scopedSems_eq defs main (fun _ => ops) main_eq (fun _ => ops_sub) m g (fun _ => ops_fresh))

/-- The reference's frame. -/
theorem frame_ref : Cert.quiescent_ReferenceIdeal := fun m g _ =>
  (θ_run (defs (F := Ideal)) _ _).mono (fun r h => ⟨fun c => (h c).2.2, sem_eq_zero_of_no_sems (by decide) r.2⟩) (run m g)

end Cert.Proof.Ref
-- ==== Proof.Row.lean ====
/-
  The mathematics of one row of scores: the first class at which the greatest score stands, the sum of the
  exponentials of the scores less that greatest score, how both extend over one more block of classes, and how the sum
  changes when one score is replaced.
-/
module

public import Idealize.ShloMosaic.PureOps.Ideal.Laws
public import Idealize.ShloMosaic.Lib.Pointwise.Select
public import Mathlib.Analysis.SpecialFunctions.Log.Basic

@[expose] public section

noncomputable section

namespace Cert.Proof.Row

open Idealize.ShloMosaic
open scoped BigOperators

/-! ## The first greatest score -/

/-- Among the first `N` scores the greatest stands at class `A`, and at no class before it. -/
def Lead (f : ℕ → EReal) (N A : ℕ) : Prop := A < N ∧ (∀ k < N, f k ≤ f A) ∧ ∀ k < A, f k < f A

/-- Of a first stretch of scores and the one after it, the later leads exactly where its greatest score is above. -/
theorem lead_step {f : ℕ → EReal} {N A n B : ℕ} (hA : Lead f N A) (hB : Lead (fun j => f (N + j)) n B) :
    Lead f (N + n) (if f A < f (N + B) then N + B else A) := by
  obtain ⟨a1, a2, a3⟩ := hA
  obtain ⟨b1, b2, b3⟩ := hB
  have hsplit : ∀ k, k < N ∨ ∃ j, k = N + j := fun k => by
    rcases Nat.lt_or_ge k N with h | h
    · exact .inl h
    · exact .inr ⟨k - N, by omega⟩
  split_ifs with h
  · refine ⟨by omega, fun k hk => ?_, fun k hk => ?_⟩
    · rcases hsplit k with h' | ⟨j, rfl⟩
      · exact (a2 k h').trans h.le
      · exact b2 j (by omega)
    · rcases hsplit k with h' | ⟨j, rfl⟩
      · exact (a2 k h').trans_lt h
      · exact b3 j (by omega)
  · refine ⟨by omega, fun k hk => ?_, a3⟩
    rcases hsplit k with h' | ⟨j, rfl⟩
    · exact a2 k h'
    · exact (b2 j (by omega)).trans (not_lt.mp h)

/-- Some class leads a nonempty stretch. -/
theorem lead_exists (f : ℕ → EReal) (N : ℕ) (h : 0 < N) : ∃ A, Lead f N A := by
  induction N with
  | zero => exact absurd h (lt_irrefl _)
  | succ N ih =>
    have h1 : Lead (fun j => f (N + j)) 1 0 :=
      ⟨Nat.one_pos, fun k hk => by rw [Nat.lt_one_iff.mp hk], fun k hk => absurd hk (Nat.not_lt_zero k)⟩
    rcases Nat.eq_zero_or_pos N with rfl | hN
    · exact ⟨0, by omega, fun k hk => by rw [show k = 0 by omega], fun k hk => absurd hk (Nat.not_lt_zero k)⟩
    · obtain ⟨A, hA⟩ := ih hN
      exact ⟨_, lead_step hA h1⟩

/-! ## Exponentials of differences -/

/-- The exponential of a number below infinity, as a real number. -/
def gap (x : EReal) : ℝ := (Ideal.exp x).toReal

/-- At minus infinity it is zero. -/
theorem gap_bot : gap ⊥ = 0 := by rw [gap, Ideal.exp_bot, EReal.toReal_zero]

/-- At a real number it is the exponential. -/
theorem gap_coe (r : ℝ) : gap (r : EReal) = Real.exp r := by rw [gap, Ideal.exp_coe, EReal.toReal_coe]

/-- It is not negative. -/
theorem gap_nonneg (x : EReal) : 0 ≤ gap x := by
  induction x using EReal.rec with
  | bot => rw [gap_bot]
  | coe r => rw [gap_coe]; exact (Real.exp_pos r).le
  | top => rw [gap, Ideal.exp_top, EReal.toReal_top]

/-- Below infinity the exponential is that real number. -/
theorem exp_gap {x : EReal} (h : x ≠ ⊤) : Ideal.exp x = (gap x : EReal) := by
  induction x using EReal.rec with
  | bot => rw [gap_bot, Ideal.exp_bot, EReal.coe_zero]
  | coe r => rw [gap_coe, Ideal.exp_coe]
  | top => exact absurd rfl h

/-- Less a number at least as great, a number is below infinity. -/
theorem sub_ne_top {a b : EReal} (h : a ≤ b) : a - b ≠ ⊤ := by
  induction b using EReal.rec with
  | bot => rw [le_bot_iff.mp h]; simp
  | coe r =>
    induction a using EReal.rec with
    | bot => simp
    | coe s => rw [← EReal.coe_sub]; exact EReal.coe_ne_top _
    | top => exact absurd h (not_le.mpr (EReal.coe_lt_top r))
  | top => simp

/-- Exponentials of differences of ascending numbers multiply. -/
theorem gap_mul {a b c : EReal} (hab : a ≤ b) (hbc : b ≤ c) : gap (a - b) * gap (b - c) = gap (a - c) := by
  induction c using EReal.rec with
  | top => simp [gap_bot]
  | bot =>
    have hb := le_bot_iff.mp hbc
    subst hb
    rw [le_bot_iff.mp hab]
    simp [gap_bot]
  | coe z =>
    induction b using EReal.rec with
    | top => exact absurd hbc (not_le.mpr (EReal.coe_lt_top z))
    | bot => rw [le_bot_iff.mp hab]; simp [gap_bot]
    | coe y =>
      induction a using EReal.rec with
      | top => exact absurd hab (not_le.mpr (EReal.coe_lt_top y))
      | bot => simp [gap_bot]
      | coe x =>
        rw [← EReal.coe_sub, ← EReal.coe_sub, ← EReal.coe_sub, gap_coe, gap_coe, gap_coe, ← Real.exp_add]
        congr 1; ring

/-- A change of the real number subtracted is a factor. -/
theorem gap_shift {x : EReal} (hx : x ≠ ⊤) (a d : ℝ) : gap (x - d) = Real.exp (a - d) * gap (x - a) := by
  induction x using EReal.rec with
  | top => exact absurd rfl hx
  | bot => simp [gap_bot]
  | coe y =>
    rw [← EReal.coe_sub, ← EReal.coe_sub, gap_coe, gap_coe, ← Real.exp_add]
    congr 1; ring

/-- The sum of the exponentials of the first `N` scores, each less the score at `A`. -/
def expSum (f : ℕ → EReal) (N A : ℕ) : ℝ := ∑ k : Fin N, gap (f k - f A)

/-- The sum over one more stretch: the sum so far, scaled to the new greatest score, plus the stretch's own. -/
theorem expSum_step (f : ℕ → EReal) (N n A C : ℕ) (hA : ∀ k < N, f k ≤ f A) (hC : f A ≤ f C) :
    expSum f N A * gap (f A - f C) + ∑ j : Fin n, gap (f (N + j) - f C) = expSum f (N + n) C := by
  unfold expSum
  rw [Fin.sum_univ_add, Finset.sum_mul]
  exact congrArg₂ (· + ·) (Finset.sum_congr rfl fun k _ => gap_mul (hA k k.isLt) hC) rfl

/-! ## Sums, maxima and folds of finite entries -/

/-- A sum of real entries is real. -/
theorem sum_coe {ι : Type*} (S : Finset ι) (g : ι → ℝ) : ∑ k ∈ S, (g k : EReal) = ((∑ k ∈ S, g k : ℝ) : EReal) := by
  classical
  induction S using Finset.induction_on with
  | empty => simp
  | insert a S ha ih => rw [Finset.sum_insert ha, Finset.sum_insert ha, ih, EReal.coe_add]

/-- The fold of the maximum over real entries is the greatest of them. -/
theorem fold_max {ι : Type*} (S : Finset ι) (v : ι → EReal) (M : EReal) (hle : ∀ k ∈ S, v k ≤ M) (hat : ∃ k ∈ S, v k = M) :
    S.fold max ⊥ v = M := by
  refine le_antisymm ((Finset.fold_max_le _).mpr ⟨bot_le, hle⟩) ?_
  obtain ⟨k, hk, rfl⟩ := hat
  exact (Finset.le_fold_max _).mpr (.inr ⟨k, hk, le_rfl⟩)

/-- The fold of the signed minimum of words is the least of them. -/
theorem fold_minsi {ι : Type*} (S : Finset ι) (v : ι → BitVec 32) (a r : BitVec 32) (ha : r.toInt ≤ a.toInt)
    (hle : ∀ k ∈ S, r.toInt ≤ (v k).toInt) (hat : ∃ k ∈ S, v k = r) : S.fold IntOp.minsi a v = r := by
  classical
  have key : ∀ T : Finset ι, (∀ k ∈ T, r.toInt ≤ (v k).toInt) →
      r.toInt ≤ (T.fold IntOp.minsi a v).toInt ∧ ∀ k ∈ T, (T.fold IntOp.minsi a v).toInt ≤ (v k).toInt := by
    intro T
    induction T using Finset.induction_on with
    | empty => exact fun _ => ⟨by simpa using ha, fun k hk => absurd hk (Finset.notMem_empty k)⟩
    | insert b T hb ih =>
      intro h
      obtain ⟨h1, h2⟩ := ih fun k hk => h k (Finset.mem_insert_of_mem hk)
      rw [Finset.fold_insert hb]
      have hm : ∀ x y : BitVec 32, (IntOp.minsi x y).toInt = min x.toInt y.toInt := fun x y => by
        unfold IntOp.minsi
        simp only [BitVec.slt]
        split <;> simp_all <;> omega
      rw [hm]
      refine ⟨le_min (h b (Finset.mem_insert_self b T)) h1, fun k hk => ?_⟩
      rcases Finset.mem_insert.mp hk with rfl | hk
      · exact min_le_left _ _
      · exact (min_le_right _ _).trans (h2 k hk)
  obtain ⟨h1, h2⟩ := key S hle
  obtain ⟨k, hk, rfl⟩ := hat
  exact BitVec.eq_of_toInt_eq (le_antisymm (h2 k hk) h1)

/-- A sum without plus infinity is not plus infinity, and its negation is the sum of the negations. -/
theorem neg_sum {ι : Type*} (S : Finset ι) (g : ι → EReal) (h : ∀ k ∈ S, g k ≠ ⊤) :
    ∑ k ∈ S, g k ≠ ⊤ ∧ -(∑ k ∈ S, g k) = ∑ k ∈ S, -g k := by
  classical
  induction S using Finset.induction_on with
  | empty => simp
  | insert a S ha ih =>
    obtain ⟨h1, h2⟩ := ih fun k hk => h k (Finset.mem_insert_of_mem hk)
    have h0 := h a (Finset.mem_insert_self a S)
    rw [Finset.sum_insert ha, Finset.sum_insert ha, ← h2]
    exact ⟨EReal.add_ne_top h0 h1, EReal.neg_add (.inr h1) (.inl h0)⟩

/-! ## Replacing one score -/

/-- The score the target is given: the cosine moved towards phi by one over one plus lambda. -/
def mixed (a b : EReal) : EReal := a + (b - a) * ((8192 / 11179101 : ℝ) : EReal)

/-- A positive factor keeps plus infinity. -/
theorem top_mul_c : (⊤ : EReal) * ((8192 / 11179101 : ℝ) : EReal) = ⊤ := EReal.top_mul_coe_of_pos (by norm_num)

/-- A positive factor keeps minus infinity. -/
theorem bot_mul_c : (⊥ : EReal) * ((8192 / 11179101 : ℝ) : EReal) = ⊥ := EReal.bot_mul_coe_of_pos (by norm_num)

/-- Minus infinity absorbs. -/
theorem bot_sub' (x : EReal) : (⊥ : EReal) - x = ⊥ := by rw [sub_eq_add_neg, EReal.bot_add]

/-- Nothing less plus infinity is minus infinity. -/
theorem sub_top' (x : EReal) : x - (⊤ : EReal) = ⊥ := by rw [sub_eq_add_neg, EReal.neg_top, EReal.add_bot]

/-- The reference adds minus the cosine and phi, each scaled: the same score. -/
theorem mixed_eq (a b : EReal) : a + (-a * ((8192 / 11179101 : ℝ) : EReal) + b * ((8192 / 11179101 : ℝ) : EReal)) = mixed a b := by
  unfold mixed
  induction a using EReal.rec with
  | bot => rw [EReal.bot_add, EReal.bot_add]
  | top => rw [EReal.neg_top, bot_mul_c, EReal.bot_add, sub_top', bot_mul_c]
  | coe x =>
    induction b using EReal.rec with
    | bot => rw [bot_sub', bot_mul_c, EReal.add_bot]
    | top => rw [sub_eq_add_neg, ← EReal.coe_neg, EReal.top_add_coe, top_mul_c, ← EReal.coe_mul, EReal.coe_add_top]
    | coe y =>
      rw [← EReal.coe_neg, ← EReal.coe_mul, ← EReal.coe_mul, ← EReal.coe_add, ← EReal.coe_add, ← EReal.coe_sub, ← EReal.coe_mul, ← EReal.coe_add]
      congr 1; ring

/-- A target's score is minus infinity, or its cosine is real and the score is plus infinity or real. -/
theorem mixed_cases (a b : EReal) : mixed a b = ⊥ ∨ ∃ x : ℝ, a = x ∧ (mixed a b = ⊤ ∨ ∃ v : ℝ, mixed a b = v) := by
  unfold mixed
  induction a using EReal.rec with
  | bot => exact .inl (EReal.bot_add _)
  | top => exact .inl (by rw [sub_top', bot_mul_c, EReal.add_bot])
  | coe x =>
    induction b using EReal.rec with
    | bot => exact .inl (by rw [bot_sub', bot_mul_c, EReal.add_bot])
    | top => exact .inr ⟨x, rfl, .inl (by rw [sub_eq_add_neg, ← EReal.coe_neg, EReal.top_add_coe, top_mul_c, EReal.coe_add_top])⟩
    | coe y => exact .inr ⟨x, rfl, .inr ⟨_, by rw [← EReal.coe_sub, ← EReal.coe_mul, ← EReal.coe_add]⟩⟩

/-- The sum of the exponentials with the score at `t` replaced by `v`, less `d`: the old sum, rescaled, less the old
    score's share plus the new one's. -/
theorem sum_replace (f : ℕ → EReal) (N A t : ℕ) (ht : t < N) (hf : ∀ k < N, f k ≠ ⊤) (a v d : ℝ) (ha : f A = a) :
    ∑ k : Fin N, gap ((if (k : ℕ) = t then (v : EReal) else f k) - d)
      = Real.exp (a - d) * (expSum f N A - gap (f t - a) + Real.exp (v - a)) := by
  unfold expSum
  have e : ∀ k : Fin N, gap ((if (k : ℕ) = t then (v : EReal) else f k) - d)
      = Real.exp (a - d) * (gap (f k - a) + if k = ⟨t, ht⟩ then Real.exp (v - a) - gap (f t - a) else 0) := by
    intro k
    by_cases hk : (k : ℕ) = t
    · have hk' : k = ⟨t, ht⟩ := Fin.ext hk
      subst hk'
      simp only [if_true]
      rw [add_sub_cancel, ← Real.exp_add, ← EReal.coe_sub, gap_coe]
      congr 1; ring
    · have hk' : k ≠ ⟨t, ht⟩ := fun h => hk (congrArg Fin.val h)
      rw [if_neg hk, if_neg hk', add_zero, gap_shift (hf k k.isLt) a d]
  rw [Finset.sum_congr rfl fun k _ => e k, ← Finset.mul_sum, Finset.sum_add_distrib, Finset.sum_ite_eq' Finset.univ (⟨t, ht⟩ : Fin N), ha]
  simp only [Finset.mem_univ, if_true]
  ring

/-- What the closing kernel takes the logarithm of is positive. -/
theorem arg_pos (f : ℕ → EReal) (N A t : ℕ) (ht : t < N) (v : ℝ) :
    0 < expSum f N A - gap (f t - f A) + Real.exp v := by
  have h : gap (f t - f A) ≤ expSum f N A :=
    Finset.single_le_sum (f := fun k : Fin N => gap (f k - f A)) (fun k _ => gap_nonneg _) (Finset.mem_univ ⟨t, ht⟩)
  have := Real.exp_pos v
  linarith

/-- A row's log-probability of class `t`, its cosine mixed with `q`, over the leading class `A`. -/
def rowLogp (f : ℕ → EReal) (q : EReal) (t N A : ℕ) : EReal :=
  (mixed (f t) q - f A) - Ideal.log (((expSum f N A : ℝ) : EReal) - Ideal.exp (f t - f A) + Ideal.exp (mixed (f t) q - f A))

/-- The log-softmax of the scores with the target's mixed is that, over whichever of them leads; and it is not plus
    infinity. -/
theorem logp_eq (f : ℕ → EReal) (q : EReal) (N A C t : ℕ) (ht : t < N) (hA : Lead f N A)
    (hC : Lead (fun k => if k = t then mixed (f t) q else f k) N C) :
    (mixed (f t) q - (if C = t then mixed (f t) q else f C))
        - Ideal.log ((∑ k : Fin N, gap ((if (k : ℕ) = t then mixed (f t) q else f k) - (if C = t then mixed (f t) q else f C)) : ℝ) : EReal)
      = rowLogp f q t N A ∧ rowLogp f q t N A ≠ ⊤ := by
  have hCt : mixed (f t) q ≤ (if C = t then mixed (f t) q else f C) := by simpa using hC.2.1 t ht
  have hCk : ∀ k < N, (if k = t then mixed (f t) q else f k) ≤ (if C = t then mixed (f t) q else f C) := hC.2.1
  have hCe : (if C = t then mixed (f t) q else f C) = mixed (f t) q ∨ (if C = t then mixed (f t) q else f C) = f C := by
    by_cases h : C = t
    · exact .inl (if_pos h)
    · exact .inr (if_neg h)
  have hCN := hC.1
  generalize (if C = t then mixed (f t) q else f C) = c at *
  unfold rowLogp
  rcases mixed_cases (f t) q with hm | ⟨x, hx, hm | ⟨v, hm⟩⟩
  · rw [hm, bot_sub', bot_sub', bot_sub', bot_sub']
    exact ⟨rfl, bot_ne_top⟩
  · have hc : c = ⊤ := top_le_iff.mp (hm ▸ hCt)
    have hk : (⊤ - f A) - Ideal.log (((expSum f N A : ℝ) : EReal) - Ideal.exp (f t - f A) + Ideal.exp (⊤ - f A)) = ⊥ := by
      have hle := hA.2.1 t ht
      rw [hx] at hle ⊢
      generalize hfA : f A = a at *
      induction a using EReal.rec with
      | bot => exact absurd hle (not_le.mpr (EReal.bot_lt_coe x))
      | top => rw [sub_top', bot_sub']
      | coe a =>
        rw [sub_eq_add_neg (⊤ : EReal), ← EReal.coe_neg, EReal.top_add_coe, Ideal.exp_top, ← EReal.coe_sub, Ideal.exp_coe, ← EReal.coe_sub,
          EReal.coe_add_top, Ideal.log_top, sub_top']
    rw [hm, hk, hc, sub_top', bot_sub']
    exact ⟨rfl, bot_ne_top⟩
  · have hle := hA.2.1 t ht
    rw [hm] at hCt hCk hCe ⊢
    by_cases hAt : f A = ⊤
    · have hne : A ≠ t := fun h => by rw [h, hx] at hAt; exact EReal.coe_ne_top _ hAt
      have hc : c = ⊤ := by
        have h := hCk A hA.1
        rw [if_neg hne, hAt] at h
        exact top_le_iff.mp h
      rw [hAt, hc, sub_top', bot_sub', bot_sub']
      exact ⟨rfl, bot_ne_top⟩
    · have hf : ∀ k < N, f k ≠ ⊤ := fun k hk h => hAt (top_le_iff.mp (h ▸ hA.2.1 k hk))
      have hcT : c ≠ ⊤ := by
        rcases hCe with h | h
        · rw [h]; exact EReal.coe_ne_top _
        · rw [h]; exact hf C hCN
      have hcB : c ≠ ⊥ := fun h => by
        rw [h] at hCt
        exact absurd hCt (not_le.mpr (EReal.bot_lt_coe v))
      have hAB : f A ≠ ⊥ := fun h => by
        rw [h, hx] at hle
        exact absurd hle (not_le.mpr (EReal.bot_lt_coe x))
      obtain ⟨d, rfl⟩ : ∃ d : ℝ, c = d := ⟨_, (EReal.coe_toReal hcT hcB).symm⟩
      obtain ⟨a, ha⟩ : ∃ a : ℝ, f A = a := ⟨_, (EReal.coe_toReal hAt hAB).symm⟩
      have hpos := arg_pos f N A t ht (v - a)
      rw [sum_replace f N A t ht hf a v d ha]
      rw [exp_gap (sub_ne_top hle)]
      rw [ha] at hpos ⊢
      rw [← EReal.coe_sub, ← EReal.coe_sub v a, Ideal.exp_coe, ← EReal.coe_sub, ← EReal.coe_add, Ideal.log_coe, Ideal.log_coe,
        if_neg (not_le.mpr (mul_pos (Real.exp_pos _) hpos)), if_neg (not_le.mpr hpos), ← EReal.coe_sub, ← EReal.coe_sub]
      refine ⟨?_, EReal.coe_ne_top _⟩
      rw [Real.log_mul (Real.exp_pos _).ne' hpos.ne', Real.log_exp]
      congr 1; ring

/-- A row's log-probability is not plus infinity. -/
theorem rowLogp_ne_top (f : ℕ → EReal) (q : EReal) (N A t : ℕ) (ht : t < N) (hA : Lead f N A) : rowLogp f q t N A ≠ ⊤ :=
  have ⟨C, hC⟩ := lead_exists (fun k => if k = t then mixed (f t) q else f k) N (Nat.zero_lt_of_lt ht)
  (logp_eq f q N A C t ht hA hC).2

end Cert.Proof.Row

end

end
-- ==== Proof.Consts.lean ====
/-
  The float constants the two programs spell, as the numbers their patterns denote.
-/
module

public import Idealize.ShloMosaic.PureOps.Ideal

@[expose] public section

noncomputable section

namespace Cert.Proof.Consts

open Idealize.ShloMosaic

/-- The pattern every running maximum starts from denotes minus infinity. -/
theorem ninf : Ideal.ofBits .f32 0xFF800000#32 = ⊥ := by simp [Ideal.ofBits, Ideal.ieee]

/-- The factor the closing kernel averages by is one over the number of rows. -/
theorem inv1024 : Ideal.ofBits .f32 0x3A800000#32 = ((1 / 1024 : ℝ) : EReal) := by
  simp [Ideal.ofBits, Ideal.ieee, -EReal.coe_mul]; norm_num

/-- The divisor the reference averages by is the number of rows. -/
theorem c1024 : Ideal.ofBits .f32 0x44800000#32 = ((1024 : ℝ) : EReal) := by
  simp [Ideal.ofBits, Ideal.ieee, -EReal.coe_mul]; norm_num

/-- The reference's one plus lambda, as its float pattern has it. -/
theorem lam : Ideal.ofBits .f32 0x44AA945D#32 = ((11179101 / 8192 : ℝ) : EReal) := by
  simp [Ideal.ofBits, Ideal.ieee, -EReal.coe_mul]; norm_num

end Cert.Proof.Consts

end
-- ==== Proof.StreamValue.lean ====
/-
  What the streaming kernel's running statistics are at the ideal values, column by column: the greatest score so far,
  the sum of the exponentials less it, and the first class at which it stands.
-/
module

public import proofs.«01_k».proof.Proof.Data
public import proofs.«01_k».proof.Proof.Row
public import proofs.«01_k».proof.Proof.Consts
public import Idealize.ShloMosaic.Lib.ValueIdx
public import Idealize.ShloMosaic.Lib.ValueLayout
public import Idealize.ShloMosaic.Lib.Pointwise.Reduce

@[expose] public section

noncomputable section

namespace Cert.Proof.SC

open Cert.KernelIdeal Cert.KernelIdeal.Gen
open Idealize.ShloMosaic hiding ix1 ix2 ix3 ix4
open Idealize.ShloMosaic.ValueIdx
open Cert.Proof.Row
open scoped BigOperators

/-- A column's sum over the block. -/
theorem sum_col (c : Fin 1024) (y : FVec Ideal S2000x1024 .f32) (g : ℕ → ℝ) (hy : ∀ j : Fin 2000, y (ix2 j c) = (g j : EReal)) :
    shapeCast S1x1024 (multiReduction .add [0] S1024 y 0x00000000#32 reduces_S2000x1024_S1024 (.inl rfl) rfl) shapeCasts_S1024_S1x1024 (ix2 0 c)
      = ((∑ j : Fin 2000, g j : ℝ) : EReal) := by
  refine (shapeCast_a_1a_apply _ _ _ _).trans ?_
  refine (Ideal.reduceAdd_r2_a0 reduces_S2000x1024_S1024 y (ix1 c)).trans ?_
  rw [← sum_coe]
  exact Finset.sum_congr rfl fun j _ => hy j

section
variable (x : FVec Ideal S2000x1024 .f32) (c : Fin 1024) (f : ℕ → EReal) (hx : ∀ j : Fin 2000, x (ix2 j c) = f j)
  {B : ℕ} (hB : Lead f 2000 B)
include hx hB

/-- A column's greatest entry of the block is the leading one. -/
theorem bmx_at : bmx x (ix2 0 c) = f B := by
  refine (shapeCast_a_1a_apply _ _ _ _).trans ?_
  refine (multiReduction_maximumf_eq_fold x 0xFF800000#32 reduces_S2000x1024_S1024 (.inl rfl) rfl (ix1 c)).trans ?_
  refine (reduces_S2000x1024_S1024.fold_fiber_r2_a0 (ix1 c) _ _ _).trans ?_
  rw [show (FloatOps.ofBits .f32 0xFF800000#32 : Ideal .f32) = ⊥ from Consts.ninf]
  refine fold_max _ _ _ (fun k _ => ?_) ⟨⟨B, hB.1⟩, Finset.mem_univ _, hx ⟨B, hB.1⟩⟩
  exact (hx k).le.trans (hB.2.1 k k.isLt)

/-- A column's place of its greatest entry is the leading class. -/
theorem bix_at (n : ℕ) (hn : n < 50) : bix (BitVec.ofNat 32 n) x (ix2 0 c) = BitVec.ofNat 32 (2000 * n + B) := by
  have h1 : multiReductionI .minsi [0] S1024
      (select (cmpf .oeq x (broadcastTo S2000x1024 (bmx x) broadcasts_S1x1024_S2000x1024))
        (iota .tc S2000x1024 32 [0] iota_S2000x1024_d0_w32) (broadcast S2000x1024 1073741824#32))
      2147483647#32 reduces_S2000x1024_S1024 rfl (ix1 c) = BitVec.ofNat 32 B := by
    refine (multiReductionI_eq_fold .minsi _ _ reduces_S2000x1024_S1024 rfl (ix1 c)).trans ?_
    refine (reduces_S2000x1024_S1024.fold_fiber_r2_a0 (ix1 c) _ _ _).trans ?_
    have hB2 := hB.1
    have ti : ∀ k : ℕ, k < 2000 → (BitVec.ofNat 32 k).toInt = k := fun k hk => by
      rw [BitVec.toInt_eq_toNat_cond]; simp only [BitVec.toNat_ofNat]; norm_num; omega
    have hv : ∀ k : Fin 2000, select (cmpf .oeq x (broadcastTo S2000x1024 (bmx x) broadcasts_S1x1024_S2000x1024))
        (iota .tc S2000x1024 32 [0] iota_S2000x1024_d0_w32) (broadcast S2000x1024 1073741824#32) (ix2 k c)
          = if f k = f B then BitVec.ofNat 32 k else 1073741824#32 := by
      intro k
      rw [select_apply, cmpf_apply, broadcast_apply,
        show broadcastTo S2000x1024 (bmx x) broadcasts_S1x1024_S2000x1024 (ix2 k c) = f B from
          (broadcastTo_1b_ab_apply (bmx x) broadcasts_S1x1024_S2000x1024 k c).trans (bmx_at x c f hx hB), hx k,
        show iota .tc S2000x1024 32 [0] iota_S2000x1024_d0_w32 (ix2 k c) = BitVec.ofNat 32 k from by simp [iota]]
      rw [Ideal.cmpf_def, Ideal.cmp_oeq]
      by_cases h : f k = f B
      · simp [h, Scalar.select]
      · simp [h, Scalar.select]
    refine fold_minsi _ _ 2147483647#32 _ ?_ (fun k _ => ?_) ⟨⟨B, hB.1⟩, Finset.mem_univ _, ?_⟩
    · rw [ti B hB2, show (2147483647#32).toInt = 2147483647 by decide]; omega
    · refine le_of_le_of_eq ?_ (congrArg BitVec.toInt (hv k)).symm
      rw [ti B hB2]
      split
      · rename_i h
        rw [ti k k.isLt]
        by_contra hlt
        exact absurd h (hB.2.2 k (by omega)).ne
      · rw [show (1073741824#32).toInt = 1073741824 by decide]; omega
    · exact (hv ⟨B, hB2⟩).trans (if_pos rfl)
  refine (congrArg (· + (BitVec.ofNat 32 n * 2000#32)) ((shapeCast_a_1a_apply _ shapeCasts_S1024_S1x1024 0 c).trans h1)).trans ?_
  apply BitVec.eq_of_toNat_eq
  simp
  omega

/-- The running maximum after the block. -/
theorem mN_at (m : FVec Ideal S1x1024 .f32) : mN x m (ix2 0 c) = max (m (ix2 0 c)) (f B) := by
  show max (m (ix2 0 c)) (bmx x (ix2 0 c)) = _
  rw [bmx_at x c f hx hB]

/-- The running place after the block. -/
theorem aN_at (n : ℕ) (hn : n < 50) (m : FVec Ideal S1x1024 .f32) (a : IVec S1x1024 32) : aN (BitVec.ofNat 32 n) x m a (ix2 0 c)
    = if m (ix2 0 c) < f B then BitVec.ofNat 32 (2000 * n + B) else a (ix2 0 c) := by
  unfold aN
  rw [select_apply, cmpf_apply, bmx_at x c f hx hB, bix_at x c f hx hB n hn, Ideal.cmpf_def, Ideal.cmp_ogt]
  by_cases h : m (ix2 0 c) < f B
  · rw [if_pos h, decide_eq_true h]; rfl
  · rw [if_neg h, decide_eq_false h]; rfl

/-- The running sum after the block, once the running maximum and the old sum's scaled share are known. -/
theorem sN_at (m s : FVec Ideal S1x1024 .f32) (M : EReal) (S : ℝ) (hM : mN x m (ix2 0 c) = M)
    (hS : s (ix2 0 c) * Ideal.exp (m (ix2 0 c) - M) = (S : EReal)) :
    sN x m s (ix2 0 c) = ((S + ∑ j : Fin 2000, gap (f j - M) : ℝ) : EReal) := by
  have hle : ∀ j : Fin 2000, f j ≤ M := fun j => by
    rw [← hM, mN_at x c f hx hB]
    exact (hB.2.1 j j.isLt).trans (le_max_right _ _)
  have e1 : shapeCast S1x1024 (multiReduction .add [0] S1024 (exp (subf x (broadcastTo S2000x1024 (mN x m) broadcasts_S1x1024_S2000x1024)))
      0x00000000#32 reduces_S2000x1024_S1024 (.inl rfl) rfl) shapeCasts_S1024_S1x1024 (ix2 0 c)
      = ((∑ j : Fin 2000, gap (f j - M) : ℝ) : EReal) := by
    refine sum_col c _ (fun j => gap (f j - M)) fun j => ?_
    show Ideal.exp (x (ix2 j c) - broadcastTo S2000x1024 (mN x m) broadcasts_S1x1024_S2000x1024 (ix2 j c)) = _
    rw [show broadcastTo S2000x1024 (mN x m) broadcasts_S1x1024_S2000x1024 (ix2 j c) = M from
      (broadcastTo_1b_ab_apply (mN x m) broadcasts_S1x1024_S2000x1024 j c).trans hM, hx j, exp_gap (sub_ne_top (hle j))]
  refine (congrArg₂ (fun a b : EReal => a + b) ?_ e1).trans (EReal.coe_add _ _).symm
  show s (ix2 0 c) * Ideal.exp (m (ix2 0 c) - mN x m (ix2 0 c)) = _
  rw [hM]; exact hS

end

/-- The greatest score after one more block. -/
theorem runS_one (X : ℕ → FVec Ideal S2000x1024 .f32) (n : ℕ) : (runS X (n + 1)).1 = mN (X n) (runS X n).1 := rfl
/-- The sum after one more block. -/
theorem runS_two (X : ℕ → FVec Ideal S2000x1024 .f32) (n : ℕ) : (runS X (n + 1)).2.1 = sN (X n) (runS X n).1 (runS X n).2.1 := rfl
/-- The place after one more block. -/
theorem runS_three (X : ℕ → FVec Ideal S2000x1024 .f32) (n : ℕ) :
    (runS X (n + 1)).2.2 = aN (BitVec.ofNat 32 n) (X n) (runS X n).1 (runS X n).2.2 := by
  rw [runS]

/-- After every block the running statistics of a column are those of the classes seen so far. -/
theorem runS_at (X : ℕ → FVec Ideal S2000x1024 .f32) (c : Fin 1024) (f : ℕ → EReal)
    (hX : ∀ n < 50, ∀ j : Fin 2000, X n (ix2 j c) = f (2000 * n + j)) (n : ℕ) (hn : n < 50) :
    ∃ A, Lead f (2000 * (n + 1)) A ∧ (runS X (n + 1)).1 (ix2 0 c) = f A
      ∧ (runS X (n + 1)).2.1 (ix2 0 c) = (expSum f (2000 * (n + 1)) A : EReal) ∧ (runS X (n + 1)).2.2 (ix2 0 c) = BitVec.ofNat 32 A := by
  induction n with
  | zero =>
    obtain ⟨B, hB⟩ := lead_exists (fun j => f (2000 * 0 + j)) 2000 (by norm_num)
    have hx := hX 0 hn
    have e0 : (m0 : FVec Ideal S1x1024 .f32) (ix2 0 c) = ⊥ := Consts.ninf
    have hm : mN (X 0) m0 (ix2 0 c) = f B := by
      rw [mN_at (X 0) c _ hx hB, e0, max_eq_right bot_le, Nat.mul_zero, Nat.zero_add]
    rw [runS_one, runS_two, runS_three]
    refine ⟨B, by simpa using hB, hm, (sN_at (X 0) c (fun j => f (2000 * 0 + j)) hx hB m0 s0 (f B) 0 hm ?_).trans ?_, (aN_at (X 0) c _ hx hB 0 hn m0 a0).trans ?_⟩
    · rw [show (s0 : FVec Ideal S1x1024 .f32) (ix2 0 c) = 0 from Ideal.ofBits_zero_f32, zero_mul, EReal.coe_zero]
    · simp [expSum]
    · rw [e0, Nat.mul_zero, Nat.zero_add]
      rcases bot_le.lt_or_eq (b := f B) with h | h
      · rw [if_pos h]
      · rw [if_neg (fun h' => h'.ne h)]
        rcases Nat.eq_zero_or_pos B with rfl | hp
        · rfl
        · have h' := hB.2.2 0 hp
          simp only [Nat.mul_zero, Nat.zero_add, ← h] at h'
          exact absurd h' not_lt_bot
  | succ n ih =>
    obtain ⟨A, hA, h1, h2, h3⟩ := ih (by omega)
    obtain ⟨B, hB⟩ := lead_exists (fun j => f (2000 * (n + 1) + j)) 2000 (by norm_num)
    have hx := hX (n + 1) hn
    have hL := lead_step hA hB
    set C := if f A < f (2000 * (n + 1) + B) then 2000 * (n + 1) + B else A with hC
    have hmax : max (f A) (f (2000 * (n + 1) + B)) = f C := by
      rw [hC]; split_ifs with h
      · exact max_eq_right h.le
      · exact max_eq_left (not_lt.mp h)
    have hAC : f A ≤ f C := hmax ▸ le_max_left _ _
    have hm : mN (X (n + 1)) (runS X (n + 1)).1 (ix2 0 c) = f C := by
      rw [mN_at (X (n + 1)) c _ hx hB, h1, ← hmax]
    rw [runS_one, runS_two, runS_three]
    refine ⟨C, hL, hm, (sN_at (X (n + 1)) c (fun j => f (2000 * (n + 1) + j)) hx hB (runS X (n + 1)).1 (runS X (n + 1)).2.1 (f C)
        (expSum f (2000 * (n + 1)) A * gap (f A - f C)) hm ?_).trans ?_,
      (aN_at (X (n + 1)) c _ hx hB (n + 1) hn (runS X (n + 1)).1 (runS X (n + 1)).2.2).trans ?_⟩
    · rw [h2, h1, exp_gap (sub_ne_top hAC), ← EReal.coe_mul]
    · rw [expSum_step f (2000 * (n + 1)) 2000 A C hA.2.1 hAC]; rfl
    · rw [h1, h3, hC]
      by_cases h : f A < f (2000 * (n + 1) + B)
      · rw [if_pos h, if_pos h]
      · rw [if_neg h, if_neg h]

end Cert.Proof.SC

end

end
-- ==== Proof.EpiValue.lean ====
/-
  What the closing kernel computes at the ideal values: each row's own element of its window, its log-probability, and
  the two means.
-/
module

public import proofs.«01_k».proof.Proof.StreamValue
public import Idealize.ShloMosaic.Lib.ValueLayoutCasts

@[expose] public section

noncomputable section

namespace Cert.Proof.SC

open Cert.KernelIdeal Cert.KernelIdeal.Gen
open Idealize.ShloMosaic hiding ix1 ix2 ix3 ix4 eq_ix1 eq_ix2 eq_ix3 subf_apply addf_apply mulf_apply
open Idealize.ShloMosaic.ValueIdx
open Cert.Proof.Row
open scoped BigOperators

/-! ## A row's own element -/

/-- Keeping a word's low bits is its remainder. -/
theorem low_bits (v : BitVec 32) (k : ℕ) (w : BitVec 32) (hw : w.toNat = 2 ^ k - 1) :
    IntOp.andi v w = BitVec.ofNat 32 (v.toNat % 2 ^ k) := by
  apply BitVec.eq_of_toNat_eq
  show (v &&& w).toNat = _
  rw [BitVec.toNat_and, hw, Nat.and_two_pow_sub_one_eq_mod, BitVec.toNat_ofNat]
  exact (Nat.mod_eq_of_lt ((Nat.mod_le _ _).trans_lt v.isLt)).symm

/-- Small words are equal only when the numbers are. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A comparison for equality is set exactly where the words are equal. -/
theorem cmpi_eq (x y : BitVec 32) : IntOp.cmpi .eq x y = if x = y then 1#1 else 0#1 := by
  by_cases h : x = y
  · simp [IntOp.cmpi, h]
  · simp only [IntOp.cmpi, if_neg h, beq_false_of_ne h]; rfl

/-- The mask is set at exactly the sublane of the row's class and the lane of the row. -/
theorem mask_at (t2 : IVec S1024x1 32) (r : Fin 1024) (a : Fin 8) (b : Fin 128) :
    mask t2 (ix3 r a b) = 1#1 ↔ a.val = (t2 (ix2 r 0)).toNat % 8 ∧ b.val = r.val % 128 := by
  have e1 : broadcastTo S1024x8x128 (shapeCast S1024x1x1 (andi t2 (broadcast S1024x1 7#32)) shapeCasts_S1024x1_S1024x1x1)
      broadcasts_S1024x1x1_S1024x8x128 (ix3 r a b) = BitVec.ofNat 32 ((t2 (ix2 r 0)).toNat % 8) := by
    refine (broadcastTo_apply _ broadcasts_S1024x1x1_S1024x8x128 (ix3 r a b) (ix3 r 0 0) fun ax => ?_).trans ?_
    · match ax with
      | ⟨0, _⟩ => rfl
      | ⟨1, _⟩ => rfl
      | ⟨2, _⟩ => rfl
    refine (shapeCast_apply _ shapeCasts_S1024x1_S1024x1x1 (ix3 r 0 0) (ix2 r 0) ?_).trans ?_
    · rw [Shape.rowMajor_val_two, Shape.rowMajor_val_three]
      show r.val * 1 + 0 = (r.val * 1 + 0) * 1 + 0
      omega
    exact low_bits _ 3 7#32 (by decide)
  have e2 : andi (iota .tc S1024x8x128 32 [0] iota_S1024x8x128_d0_w32) (broadcast S1024x8x128 127#32) (ix3 r a b)
      = BitVec.ofNat 32 (r.val % 128) := by
    refine (low_bits _ 7 127#32 (by decide)).trans ?_
    rw [show iota .tc S1024x8x128 32 [0] iota_S1024x8x128_d0_w32 (ix3 r a b) = BitVec.ofNat 32 r.val from by simp [iota],
      BitVec.toNat_ofNat, Nat.mod_eq_of_lt (a := r.val) (by have := r.isLt; omega)]
    rfl
  have e3 : iota .tc S1024x8x128 32 [1] iota_S1024x8x128_d1_w32 (ix3 r a b) = BitVec.ofNat 32 a.val := by simp [iota]
  have e4 : iota .tc S1024x8x128 32 [2] iota_S1024x8x128_d2_w32 (ix3 r a b) = BitVec.ofNat 32 b.val := by simp [iota]
  have h8 : (t2 (ix2 r 0)).toNat % 8 < 8 := Nat.mod_lt _ (by norm_num)
  have h128 : r.val % 128 < 128 := Nat.mod_lt _ (by norm_num)
  have ha := a.isLt
  have hb := b.isLt
  unfold mask
  show IntOp.andi (IntOp.cmpi .eq (iota .tc S1024x8x128 32 [1] iota_S1024x8x128_d1_w32 (ix3 r a b)) _)
    (IntOp.cmpi .eq (iota .tc S1024x8x128 32 [2] iota_S1024x8x128_d2_w32 (ix3 r a b)) _) = 1#1 ↔ _
  rw [e1, e2, e3, e4, ← ofNat_inj (a := a.val) (by omega) (by omega), ← ofNat_inj (a := b.val) (by omega) (by omega)]
  generalize BitVec.ofNat 32 a.val = w1
  generalize BitVec.ofNat 32 b.val = w2
  generalize BitVec.ofNat 32 ((t2 (ix2 r 0)).toNat % 8) = w3
  generalize BitVec.ofNat 32 (r.val % 128) = w4
  rw [cmpi_eq, cmpi_eq]
  by_cases h1 : w1 = w3 <;> by_cases h2 : w2 = w4 <;> simp [IntOp.andi, h1, h2]

/-- The masked sum of a row's window is its own element. -/
theorem pick_at (t2 : IVec S1024x1 32) (w : FVec Ideal S1024x8x128 .f32) (r : Fin 1024) :
    pick t2 w (ix2 0 r) = w (ix3 r ⟨(t2 (ix2 r 0)).toNat % 8, Nat.mod_lt _ (by norm_num)⟩ ⟨r.val % 128, Nat.mod_lt _ (by norm_num)⟩) := by
  set i₀ : S1024x8x128.Idx := ix3 r ⟨(t2 (ix2 r 0)).toNat % 8, Nat.mod_lt _ (by norm_num)⟩ ⟨r.val % 128, Nat.mod_lt _ (by norm_num)⟩ with hi₀
  refine (shapeCast_a_1a_apply _ shapeCasts_S1024_S1x1024 0 r).trans ?_
  refine (show _ = ∑ i ∈ Finset.univ.filter (fun i => reduces_S1024x8x128_S1024.drop i = ix1 r),
    select (mask t2) w (broadcast S1024x8x128 (Scalar.ofBits .f32 0x00000000#32)) i from rfl).trans ?_
  have hdrop : ∀ i : S1024x8x128.Idx, reduces_S1024x8x128_S1024.drop i = ix1 r ↔ i 0 = r := fun i => by
    constructor
    · intro h
      exact Fin.ext ((reduces_S1024x8x128_S1024.drop_apply_val_of_eq i 0 0).symm.trans (congrArg Fin.val (congrFun h 0)))
    · intro h
      refine (eq_ix1 _).trans (congrArg ix1 (Fin.ext ?_))
      exact (reduces_S1024x8x128_S1024.drop_apply_val_of_eq i 0 0).trans (congrArg Fin.val h)
  rw [Finset.sum_eq_single i₀]
  · rw [select_apply, (mask_at t2 r _ _).mpr ⟨rfl, rfl⟩, select_one]
  · intro i hi hne
    have h0 := (hdrop i).mp (Finset.mem_filter.mp hi).2
    obtain ⟨r', a, b, rfl⟩ : ∃ (r' : Fin 1024) (a : Fin 8) (b : Fin 128), i = ix3 r' a b := ⟨i 0, i 1, i 2, eq_ix3 i⟩
    have hr : r' = r := h0
    subst hr
    rw [select_apply, eq_zero_of_ne_one (b := mask t2 (ix3 r' a b)) (fun hm => hne ?_), select_zero]
    · exact Ideal.ofBits_zero_f32
    · obtain ⟨h1, h2⟩ := (mask_at t2 r' a b).mp hm
      rw [hi₀]
      exact congrArg₂ (ix3 r') (Fin.ext h1) (Fin.ext h2)
  · intro h
    exact (h (Finset.mem_filter.mpr ⟨Finset.mem_univ _, (hdrop i₀).mpr rfl⟩)).elim

/-- Of a gathered array it is the entry of the row's class and row. -/
theorem pick_gath (A : FVec Ideal S100000x1024 .f32) (T : IVec S1024 32) (r : Fin 1024) :
    pick (shapeCast S1024x1 T shapeCasts_S1024_S1024x1) (gath A T) (ix2 0 r) = A (tix (T (ix1 r)).toNat r.val) := by
  have hT : shapeCast S1024x1 T shapeCasts_S1024_S1024x1 (ix2 r 0) = T (ix1 r) := shapeCast_a_a1_apply T shapeCasts_S1024_S1024x1 r 0
  have hr : rix r.val = ix1 r := (eq_ix1 _).trans (congrArg ix1 (Fin.ext (Nat.mod_eq_of_lt r.isLt)))
  rw [pick_at, hT]
  unfold gath
  refine congrArg A (congrArg₂ tix ?_ ?_)
  · show 8 * (tgt T r.val / 8) + (T (ix1 r)).toNat % 8 = _
    unfold tgt
    rw [hr]
    omega
  · show 128 * (r.val / 128) + r.val % 128 = _
    omega

/-! ## A row's log-probability -/

/-- A row's log-probability, of its scores' leading class and sum. -/
theorem logp_at (m s ct pt : FVec Ideal S1x1024 .f32) (r : Fin 1024) (f : ℕ → EReal) (N A t : ℕ) (q : EReal)
    (hm : m (ix2 0 r) = f A) (hs : s (ix2 0 r) = (expSum f N A : EReal)) (hc : ct (ix2 0 r) = f t) (hp : pt (ix2 0 r) = q) :
    logp m s ct pt (ix2 0 r) = rowLogp f q t N A := by
  have hmix : mix ct pt (ix2 0 r) = mixed (f t) q := by
    unfold mix
    rw [addf_apply, mulf_apply, subf_apply, broadcast_apply, hc, hp,
      IdealRules.named_const.ideal_named_scalar (φ := .f32) (name := "inv_one_plus_lamb") (κ := κ) 0x3A40191B#32 ((8192 / 11179101 : ℝ) : EReal) rfl]
    rfl
  unfold logp
  rw [subf_apply, subf_apply, hmix, hm]
  refine congrArg (fun z : EReal => (mixed (f t) q - f A) - z)
    (show Ideal.log ((s (ix2 0 r) - Ideal.exp (ct (ix2 0 r) - m (ix2 0 r))) + Ideal.exp (mix ct pt (ix2 0 r) - m (ix2 0 r))) = _ from ?_)
  rw [hs, hc, hm, hmix]

/-! ## The means -/

/-- The sum of a row of values. -/
theorem tot_at (v : FVec Ideal S1x1024 .f32) (g : Fin 1024 → EReal) (hv : ∀ r : Fin 1024, v (ix2 0 r) = g r) : tot v = ∑ r, g r := by
  unfold tot extractAt
  refine (show _ = multiReduction .add [1, 2] S1 (shapeCast S1x1x1024 v shapeCasts_S1x1024_S1x1x1024)
    0x00000000#32 reduces_S1x1x1024_S1 (.inl rfl) rfl (Shape.reshapeEquiv shapeCasts_S1_S1x1x1 _) from rfl).trans ?_
  refine (Idealize.ShloMosaic.Ideal.multiReduction_add_total _ _ reduces_S1x1x1024_S1 (by decide) (.inl rfl) rfl _).trans ?_
  refine (Fintype.sum_bijective (fun r : Fin 1024 => (ix3 0 0 r : S1x1x1024.Idx)) ⟨fun a b h => congrFun h 2, fun i => ⟨i 2, ?_⟩⟩ _ _ fun r => ?_).symm
  · funext a
    match a with
    | ⟨0, _⟩ => exact Subsingleton.elim (α := Fin 1) _ _
    | ⟨1, _⟩ => exact Subsingleton.elim (α := Fin 1) _ _
    | ⟨2, _⟩ => rfl
  · exact ((shapeCast_ab_1ab_apply v shapeCasts_S1x1024_S1x1x1024 0 0 r).trans (hv r)).symm

/-- The first result, of the rows' log-probabilities. -/
theorem lossV_at (m s : FVec Ideal S1x1024 .f32) (t2 : IVec S1024x1 32) (c p : FVec Ideal S1024x8x128 .f32) (g : Fin 1024 → EReal)
    (hg : ∀ r : Fin 1024, logp m s (pick t2 c) (pick t2 p) (ix2 0 r) = g r) (i : S1x1.Idx) :
    lossV m s t2 c p i = -(∑ r, g r) * ((1 / 1024 : ℝ) : EReal) := by
  unfold lossV
  rw [mulf_apply, subf_apply, broadcast_apply, broadcast_apply, broadcast_apply, tot_at _ g hg,
    show (Scalar.ofBits .f32 0x00000000#32 : Ideal .f32) = 0 from Ideal.ofBits_zero_f32,
    show (Scalar.ofBits .f32 0x3A800000#32 : Ideal .f32) = _ from Consts.inv1024, zero_sub]

/-- The second result, of the rows' places of the maximum. -/
theorem accV_at (a t1 : IVec S1x1024 32) (i : S1x1.Idx) :
    accV (F := Ideal) a t1 i
      = (∑ r : Fin 1024, ((if a (ix2 0 r) = t1 (ix2 0 r) then (1 : ℝ) else 0 : ℝ) : EReal)) * ((1 / 1024 : ℝ) : EReal) := by
  unfold accV
  rw [mulf_apply, broadcast_apply, broadcast_apply,
    tot_at _ (fun r => ((if a (ix2 0 r) = t1 (ix2 0 r) then (1 : ℝ) else 0 : ℝ) : EReal)) fun r => ?_,
    show (Scalar.ofBits .f32 0x3A800000#32 : Ideal .f32) = _ from Consts.inv1024]
  rw [sitofp_apply, extui_apply]
  show (((BitVec.setWidth 32 (IntOp.cmpi .eq (a (ix2 0 r)) (t1 (ix2 0 r)))).toInt : ℝ) : EReal) = _
  rw [cmpi_eq]
  split <;> simp

end Cert.Proof.SC

end

end
-- ==== Proof.RefValue.lean ====
/-
  What the reference computes at the ideal values, row by row: the entry at each target, the adjusted scores, the
  logarithm of their softmax and the first class of the greatest cosine.
-/
module

public import proofs.«01_k».proof.Proof.RefRun
public import proofs.«01_k».proof.Proof.Row
public import proofs.«01_k».proof.Proof.Consts
public import Idealize.ShloMosaic.Lib.ValueIdx
public import Idealize.ShloMosaic.Lib.ValueIdxRank1
public import Idealize.ShloMosaic.Lib.Routing.Ops
public import Idealize.ShloMosaic.Lib.StableHlo.Predicate
public import Idealize.ShloMosaic.Lib.Pointwise.Reduce

@[expose] public section

noncomputable section

namespace Cert.Proof.Ref

open Cert.ReferenceIdeal Cert.ReferenceIdeal.Gen
open Idealize.ShloMosaic hiding ix1 ix2 ix3 ix4 eq_ix1 eq_ix2 eq_ix3 subf_apply addf_apply mulf_apply
open Idealize.ShloMosaic.ValueIdx
open Cert.Proof.Row
open scoped BigOperators

/-! ## The places of the targets -/

/-- A word that is not negative is left as it is. -/
theorem wrap_at (n : BitVec 32) (v : RowI Ideal) (i : S1024.Idx) (h : (v i).toNat < 2 ^ 31) : wrap (F := Ideal) n v i = v i := by
  have hc : ¬IntOp.cmpi .slt (v i) 0#32 = 1#1 := fun e => by
    have := (Idealize.ShloMosaic.StableHlo.Predicate.slt_iff_toNat h (by decide)).mp e
    exact absurd this (by simp)
  unfold wrap
  rw [select_apply, show cmpi .slt v (broadcastInDim S1024 ![] bcast_S_S1024 (constantI S_ 32 0#32)) i = IntOp.cmpi .slt (v i) 0#32 from rfl,
    eq_zero_of_ne_one hc, select_zero]

section
variable (t : RowI Ideal) (ht : ∀ i, (t i).toNat < 100000) (r : Fin 1024)

/-- The first coordinate of a row's place is the row. -/
theorem places_row : places (F := Ideal) t (ix2 r 0) = BitVec.ofNat 32 r.val := by
  unfold places placesAt sideBySide
  refine (concatenate_pair_apply_left (t := S1024x2) (s₁ := S1024x1) (s₂ := S1024x1) 1 _ _ _ (ix2 r 0) rfl (ix2 r 0) ?_).trans ?_
  · intro b
    match b with
    | ⟨0, _⟩ => rfl
    | ⟨1, _⟩ => rfl
  refine (Routing.bcCol bcast_S1024_S1024x1_0 _ r).trans ?_
  refine (wrap_at 1024#32 _ _ ?_).trans rfl
  show (BitVec.ofNat 32 r.val).toNat < _
  rw [BitVec.toNat_ofNat]
  have := r.isLt
  omega

include ht in
/-- The second coordinate of a row's place is the target. -/
theorem places_cls : places (F := Ideal) t (ix2 r 1) = t (ix1 r) := by
  unfold places placesAt sideBySide
  refine (concatenate_pair_apply_right (t := S1024x2) (s₁ := S1024x1) (s₂ := S1024x1) 1 _ _ _ (ix2 r 1) rfl rfl (ix2 r 0) ?_ ?_).trans ?_
  · intro b
    match b with
    | ⟨0, _⟩ => exact fun _ => rfl
    | ⟨1, _⟩ => exact fun h => absurd rfl h
  · rfl
  refine (Routing.bcCol bcast_S1024_S1024x1_0 _ r).trans ?_
  exact wrap_at 100000#32 _ _ ((ht _).trans (by decide))

/-- A small word read signed is its value. -/
theorem toInt_small (v : BitVec 32) (h : v.toNat < 2 ^ 31) : v.toInt = v.toNat := by
  rw [BitVec.toInt_eq_toNat_cond]
  split <;> omega

/-- A small number's word read signed is the number. -/
theorem toInt_ofNat_small {n : ℕ} (h : n < 2 ^ 31) : (BitVec.ofNat 32 n).toInt = n := by
  have e : (BitVec.ofNat 32 n).toNat = n := by rw [BitVec.toNat_ofNat]; omega
  rw [toInt_small _ (by omega), e]

/-- The class of a row's target. -/
def cls : Fin 100000 := ⟨(t (ix1 r)).toNat, ht _⟩

/-- The entry read at a row's place is the row's at its target. -/
theorem entries_at (x : Tab Ideal) : entries (F := Ideal) x (places (F := Ideal) t) (ix1 r) = x (ix2 r (cls t ht r)) := by
  unfold entries Host.gather
  refine congrArg x (funext fun a => Fin.ext ?_)
  have hz : ∀ a : Fin 2, a = 0 ∨ a = 1 := by decide
  show gather_S1024x100000_S1024x2_S1024_n_01_n_n_01_1_11.start (ix1 r) (places (F := Ideal) t) a
    + gather_S1024x100000_S1024x2_S1024_n_01_n_n_01_1_11.batchCoord (ix1 r) a
    + gather_S1024x100000_S1024x2_S1024_n_01_n_n_01_1_11.offCoord (ix1 r) a = _
  rw [GatherDims.batchCoord_eq_zero _ _ _ (fun h => by simp [gather_S1024x100000_S1024x2_S1024_n_01_n_n_01_1_11] at h),
    GatherDims.offCoord_eq_zero _ _ _ (fun h => ((GatherDims.mem_sKept _ _).mp h).1 (by
      rcases hz a with rfl | rfl <;> simp [gather_S1024x100000_S1024x2_S1024_n_01_n_n_01_1_11]))]
  simp only [Nat.add_zero]
  have hsi : ∀ (a : Fin 2) (ha : a ∈ gather_S1024x100000_S1024x2_S1024_n_01_n_n_01_1_11.startIndexMap),
      gather_S1024x100000_S1024x2_S1024_n_01_n_n_01_1_11.siIdx (ix1 r) ⟨List.idxOf a
        gather_S1024x100000_S1024x2_S1024_n_01_n_n_01_1_11.startIndexMap, List.idxOf_lt_length_iff.2 ha⟩ = ix2 r a := by
    intro a ha
    funext b
    refine Fin.ext ?_
    rcases hz a with rfl | rfl
    · match b with
      | ⟨0, _⟩ => rfl
      | ⟨1, _⟩ => rfl
    · match b with
      | ⟨0, _⟩ => rfl
      | ⟨1, _⟩ => rfl
  have hr := r.isLt
  have hc := ht (ix1 r)
  have m0 : (0 : Fin 2) ∈ gather_S1024x100000_S1024x2_S1024_n_01_n_n_01_1_11.startIndexMap := List.mem_cons_self
  have m1 : (1 : Fin 2) ∈ gather_S1024x100000_S1024x2_S1024_n_01_n_n_01_1_11.startIndexMap := List.mem_cons_of_mem _ List.mem_cons_self
  unfold GatherDims.start
  rcases hz a with rfl | rfl
  · rw [dif_pos m0, hsi 0 m0,
      places_row t r, toInt_ofNat_small (by omega)]
    show min r.val (1024 - 1) = r.val
    omega
  · rw [dif_pos m1, hsi 1 m1, places_cls t ht r, toInt_small _ (by omega)]
    show min (t (ix1 r)).toNat (100000 - 1) = (t (ix1 r)).toNat
    omega

/-- What is added at a row's place lands at the row's target. -/
theorem lands : scatter_S1024x100000_S1024x2_S1024_n_01_01_1.resultIdx? (ix1 r) (places (F := Ideal) t) = some (ix2 r (cls t ht r)) := by
  have hz : ∀ a : Fin 2, a = 0 ∨ a = 1 := by decide
  have hsi : ∀ (a : Fin 2) (ha : a ∈ scatter_S1024x100000_S1024x2_S1024_n_01_01_1.scatterDimsToOperandDims),
      scatter_S1024x100000_S1024x2_S1024_n_01_01_1.siIdx (ix1 r) ⟨List.idxOf a
        scatter_S1024x100000_S1024x2_S1024_n_01_01_1.scatterDimsToOperandDims, List.idxOf_lt_length_iff.2 ha⟩ = ix2 r a := by
    intro a ha
    funext b
    refine Fin.ext ?_
    rcases hz a with rfl | rfl
    · match b with
      | ⟨0, _⟩ => rfl
      | ⟨1, _⟩ => rfl
    · match b with
      | ⟨0, _⟩ => rfl
      | ⟨1, _⟩ => rfl
  have hr := r.isLt
  have hc := ht (ix1 r)
  have m0 : (0 : Fin 2) ∈ scatter_S1024x100000_S1024x2_S1024_n_01_01_1.scatterDimsToOperandDims := List.mem_cons_self
  have m1 : (1 : Fin 2) ∈ scatter_S1024x100000_S1024x2_S1024_n_01_01_1.scatterDimsToOperandDims := List.mem_cons_of_mem _ List.mem_cons_self
  have key : ∀ a : Fin 2, scatter_S1024x100000_S1024x2_S1024_n_01_01_1.start (ix1 r) (places (F := Ideal) t) a
      + scatter_S1024x100000_S1024x2_S1024_n_01_01_1.window (ix1 r) a = ((ix2 r (cls t ht r) : S1024x100000.Idx) a).val := by
    intro a
    have hw : scatter_S1024x100000_S1024x2_S1024_n_01_01_1.window (ix1 r) a = 0 := by
      unfold ScatterDims.window
      rw [dif_neg fun h => ?_]
      rcases hz a with rfl | rfl <;> simp [ScatterDims.sKept, Shape.kept, scatter_S1024x100000_S1024x2_S1024_n_01_01_1] at h
    rw [hw]
    unfold ScatterDims.start
    rcases hz a with rfl | rfl
    · rw [dif_pos m0, hsi 0 m0,
        places_row t r, toInt_ofNat_small (by omega)]
      exact Int.add_zero _
    · rw [dif_pos m1, hsi 1 m1, places_cls t ht r, toInt_small _ (by omega)]
      exact Int.add_zero _
  unfold ScatterDims.resultIdx?
  rw [dif_pos fun a => ?_]
  · refine congrArg some (funext fun a => Fin.ext ?_)
    exact (congrArg Int.toNat (key a)).trans (Int.toNat_natCast _)
  · rw [key a]
    exact ⟨Int.natCast_nonneg _, Int.ofNat_lt.mpr (((ix2 r (cls t ht r) : S1024x100000.Idx) a).isLt)⟩

/-! ## The adjusted scores -/

/-- What is added at a target, of the cosine and phi there. -/
theorem delta_at (ct pt : RowF Ideal) (i : S1024.Idx) (a b : EReal) (ha : ct i = a) (hb : pt i = b) :
    delta (F := Ideal) ct pt i = -a * ((8192 / 11179101 : ℝ) : EReal) + b * ((8192 / 11179101 : ℝ) : EReal) := by
  unfold delta
  refine (show _ = Ideal.div (-(ct i)) (Ideal.ofBits .f32 0x44AA945D#32) + Ideal.div (pt i) (Ideal.ofBits .f32 0x44AA945D#32) from rfl).trans ?_
  rw [Consts.lam, Ideal.div_coe (by norm_num), Ideal.div_coe (by norm_num), ha, hb,
    show (1 / (11179101 / 8192) : ℝ) = 8192 / 11179101 by norm_num]

/-- A row of the adjusted scores: the cosines, with the target's moved towards phi. -/
theorem logits_at (x p : Tab Ideal) (f : ℕ → EReal) (hf : ∀ k : Fin 100000, x (ix2 r k) = f k) (q : EReal)
    (hq : p (ix2 r (cls t ht r)) = q) (k : Fin 100000) :
    logits (F := Ideal) x p t (ix2 r k) = if (k : ℕ) = cls t ht r then mixed (f (cls t ht r)) q else f k := by
  have hd : delta (F := Ideal) (atTarget x t) (atTarget p t) (ix1 r)
      = -f (cls t ht r) * ((8192 / 11179101 : ℝ) : EReal) + q * ((8192 / 11179101 : ℝ) : EReal) :=
    delta_at _ _ _ _ _ ((entries_at t ht r x).trans (hf _)) ((entries_at t ht r p).trans hq)
  unfold logits addAt
  refine (show _ = x (ix2 r k) + ∑ j ∈ Finset.univ.filter (fun j =>
    scatter_S1024x100000_S1024x2_S1024_n_01_01_1.resultIdx? j (places (F := Ideal) t) = some (ix2 r k)),
      delta (F := Ideal) (atTarget x t) (atTarget p t) j from rfl).trans ?_
  have hmem : ∀ j : S1024.Idx, scatter_S1024x100000_S1024x2_S1024_n_01_01_1.resultIdx? j (places (F := Ideal) t) = some (ix2 r k)
      ↔ j = ix1 r ∧ k = cls t ht r := by
    intro j
    obtain ⟨r', rfl⟩ : ∃ r' : Fin 1024, j = ix1 r' := ⟨j 0, eq_ix1 j⟩
    rw [lands t ht r']
    constructor
    · intro h
      have h' := Option.some.inj h
      have h0 : r' = r := congrFun h' 0
      subst h0
      exact ⟨rfl, (congrFun h' 1).symm⟩
    · rintro ⟨h1, h2⟩
      have h0 : r' = r := congrFun h1 0
      subst h0
      rw [h2]
  by_cases hk : k = cls t ht r
  · rw [Finset.sum_eq_single (ix1 r) (fun j hj hne => absurd ((hmem j).mp (Finset.mem_filter.mp hj).2).1 hne)
      (fun h => (h (Finset.mem_filter.mpr ⟨Finset.mem_univ _, (hmem _).mpr ⟨rfl, hk⟩⟩)).elim), hd, hf k, hk, if_pos rfl]
    exact mixed_eq _ _
  · rw [Finset.sum_eq_zero (fun j hj => absurd ((hmem j).mp (Finset.mem_filter.mp hj).2).2 hk), add_zero, hf k,
      if_neg (fun h => hk (Fin.ext h))]

/-! ## The logarithm of the softmax -/

/-- A column read over the rows. -/
theorem colRows {α : Type} {n m : ℕ} (h₂ : (⟨2, ![n, 1]⟩ : Shape).BroadcastsInDim ⟨2, ![n, m]⟩ (![0, 1] : Fin 2 → Fin 2))
    (v : (⟨2, ![n, 1]⟩ : Shape).Idx → α) (a : Fin n) (b : Fin m) :
    broadcastInDim ⟨2, ![n, m]⟩ ![0, 1] h₂ v (ix2 a b) = v (ix2 a (0 : Fin 1)) := by
  refine broadcastInDim_apply _ h₂ v _ _ fun c => ?_
  match c with
  | ⟨0, _⟩ =>
    show a.val = if n = 1 then 0 else a.val
    split
    · have := a.isLt; omega
    · rfl
  | ⟨1, _⟩ => rfl

/-- The host's logarithm at an index, of the value there. -/
theorem hostLog_of {s : Shape} {v : FVec Ideal s .f32} {i : s.Idx} {a : EReal} (h : v i = a) : Host.log v i = Ideal.log a := by
  rw [← h]; rfl

/-- A row's greatest entry is the leading one. -/
theorem rowMax_at (y : Tab Ideal) (g : ℕ → EReal) (hy : ∀ k : Fin 100000, y (ix2 r k) = g k) {A : ℕ} (hA : Lead g 100000 A) :
    rowMax (F := Ideal) y (ix1 r) = g A := by
  have h1 : Host.reduce (FloatOps.maximumf (F := Ideal)) y (constant S_ .f32 0xFF800000#32) reducesTo_S1024x100000_S1024_d1 h_S_ (ix1 r) = g A := by
    refine (Host.reduce_eq_fold (FloatOps.maximumf (F := Ideal) (φ := .f32)) y _ reducesTo_S1024x100000_S1024_d1 h_S_ (ix1 r)).trans ?_
    refine (reducesTo_S1024x100000_S1024_d1.fold_fiber_r2_a1 (ix1 r) _ _ _).trans ?_
    rw [show (constant (F := Ideal) S_ .f32 0xFF800000#32 (Shape.Idx.first h_S_)) = ⊥ from Consts.ninf]
    refine fold_max _ _ _ (fun k _ => ?_) ⟨⟨A, hA.1⟩, Finset.mem_univ _, hy ⟨A, hA.1⟩⟩
    exact (hy k).le.trans (hA.2.1 k k.isLt)
  unfold rowMax
  refine (maximumf_apply _ _ _).trans ?_
  rw [h1]
  refine (congrArg (fun z : EReal => max z (g A)) (show _ = (⊥ : EReal) from Consts.ninf)).trans ?_
  exact max_eq_right bot_le

/-- A row of the log-softmax. -/
theorem logSoftmax_at (y : Tab Ideal) (g : ℕ → EReal) (hy : ∀ k : Fin 100000, y (ix2 r k) = g k) {A : ℕ} (hA : Lead g 100000 A)
    (k : Fin 100000) :
    logSoftmax (F := Ideal) y (ix2 r k) = (g k - g A) - Ideal.log ((∑ k : Fin 100000, gap (g k - g A) : ℝ) : EReal) := by
  have hs : ∀ k : Fin 100000, shifted (F := Ideal) y (ix2 r k) = g k - g A := by
    intro k
    unfold shifted spread
    rw [subf_apply, hy k]
    exact congrArg (fun z : EReal => g k - z)
      ((Routing.bcRows bcast_S1024_S1024x1_0 bcast_S1024x1_S1024x100000_0_1 _ r k).trans (rowMax_at r y g hy hA))
  have hsum : Host.reduceAdd (F := Ideal) (Host.exp (shifted (F := Ideal) y)) (constant S_ .f32 0x00000000#32) reducesTo_S1024x100000_S1024_d1 h_S_ (ix1 r)
      = ((∑ k : Fin 100000, gap (g k - g A) : ℝ) : EReal) := by
    refine (Ideal.hostReduceAdd_r2_a1 reducesTo_S1024x100000_S1024_d1 _ _ (ix1 r)).trans ?_
    refine (congrArg₂ (fun a b : EReal => a + b) Ideal.ofBits_zero_f32 (Finset.sum_congr
      (g := fun k : Fin 100000 => ((gap (g k - g A) : ℝ) : EReal)) rfl fun k _ => ?_)).trans ?_
    · exact (congrArg Ideal.exp (hs k)).trans (exp_gap (sub_ne_top (hA.2.1 k k.isLt)))
    · rw [zero_add, sum_coe]
  unfold logSoftmax
  rw [subf_apply, hs k]
  refine congrArg (fun z : EReal => (g k - g A) - z) ?_
  refine (colRows bcast_S1024x1_S1024x100000_0_1 _ r k).trans ?_
  exact hostLog_of ((Routing.bcCol bcast_S1024_S1024x1_0 _ r).trans hsum)

/-- A row's log-probability of its target under the adjusted scores, of the leading class of the cosines themselves. -/
theorem logp_at (x p : Tab Ideal) (f : ℕ → EReal) (hf : ∀ k : Fin 100000, x (ix2 r k) = f k) (q : EReal)
    (hq : p (ix2 r (cls t ht r)) = q) {A : ℕ} (hA : Lead f 100000 A) :
    atTarget (F := Ideal) (logSoftmax (F := Ideal) (logits (F := Ideal) x p t)) t (ix1 r) = rowLogp f q (cls t ht r) 100000 A := by
  obtain ⟨C, hC⟩ := lead_exists (fun k => if k = (cls t ht r : ℕ) then mixed (f (cls t ht r)) q else f k) 100000 (by norm_num)
  refine (entries_at t ht r _).trans ((logSoftmax_at r _ _ (logits_at t ht r x p f hf q hq) hC _).trans ?_)
  rw [if_pos rfl]
  exact (logp_eq f q 100000 A C (cls t ht r) (cls t ht r).isLt hA hC).1

end

end Cert.Proof.Ref

end

end
-- ==== Proof.RefBest.lean ====
/-
  The reference's mean of a row, and its fold for the first class of a row's greatest cosine, at the ideal values.
-/
module

public import proofs.«01_k».proof.Proof.RefRun
public import proofs.«01_k».proof.Proof.RefValue
public import proofs.«01_k».proof.Proof.Row
public import proofs.«01_k».proof.Proof.Consts
public import Idealize.ShloMosaic.Lib.ValueIdx
public import Idealize.ShloMosaic.Lib.ValueIdxRank1
public import Idealize.ShloMosaic.Lib.Routing.Ops
public import Idealize.ShloMosaic.Lib.StableHlo.Predicate
public import Idealize.ShloMosaic.Lib.Pointwise.Reduce

@[expose] public section

noncomputable section

namespace Cert.Proof.Ref

open Cert.ReferenceIdeal Cert.ReferenceIdeal.Gen
open Idealize.ShloMosaic hiding ix1 ix2 ix3 ix4 eq_ix1 eq_ix2 eq_ix3 subf_apply addf_apply mulf_apply
open Idealize.ShloMosaic.ValueIdx
open Cert.Proof.Row
open scoped BigOperators

/-- The mean of a row of values. -/
theorem mean_at (v : RowF Ideal) (g : Fin 1024 → EReal) (hv : ∀ r, v (ix1 r) = g r) (i : S_.Idx) :
    mean (F := Ideal) v i = (∑ r, g r) * ((1 / 1024 : ℝ) : EReal) := by
  unfold mean
  refine (show _ = Ideal.div (Ideal.hostReduceAdd reducesTo_S1024_S_d0 v (Ideal.ofBits .f32 0x00000000#32) i) (Ideal.ofBits .f32 0x44800000#32) from rfl).trans ?_
  rw [Consts.c1024, Ideal.div_coe (by norm_num), Ideal.hostReduceAdd_r1_a0 reducesTo_S1024_S_d0, Ideal.ofBits_zero_f32, zero_add,
    show (∑ k, v (Idealize.ShloMosaic.ix1 k)) = ∑ r, g r from Finset.sum_congr rfl fun r _ => hv r]

/-! ## The first class of the greatest cosine -/

/-- One pair is at most another: its value is below, or equal with a later place. -/
def PLe (a b : Ideal .f32 × BitVec 32) : Prop := a.1 < b.1 ∨ a.1 = b.1 ∧ b.2.toInt ≤ a.2.toInt

/-- A pair is at most itself. -/
theorem PLe.rfl' (a : Ideal .f32 × BitVec 32) : PLe a a := .inr ⟨rfl, le_rfl⟩

/-- The order on pairs is transitive. -/
theorem PLe.trans {a b c : Ideal .f32 × BitVec 32} (h₁ : PLe a b) (h₂ : PLe b c) : PLe a c := by
  rcases h₁ with h₁ | ⟨h₁, h₁'⟩ <;> rcases h₂ with h₂ | ⟨h₂, h₂'⟩
  · exact .inl (lt_trans h₁ h₂)
  · exact .inl (h₂ ▸ h₁)
  · exact .inl (h₁ ▸ h₂)
  · exact .inr ⟨h₁.trans h₂, h₂'.trans h₁'⟩

/-- The reducer keeps one of its two pairs, and both are at most the one it keeps. -/
theorem red_spec (a b : Ideal .f32 × BitVec 32) :
    (reducer_argmax_f32_i32 (F := Ideal) a b = a ∨ reducer_argmax_f32_i32 (F := Ideal) a b = b)
      ∧ PLe a (reducer_argmax_f32_i32 (F := Ideal) a b) ∧ PLe b (reducer_argmax_f32_i32 (F := Ideal) a b) := by
  obtain ⟨a1, a2⟩ := a
  obtain ⟨b1, b2⟩ := b
  have hune : Ideal.cmp .une a1 a1 = 0#1 := by rw [Ideal.cmp_une]; simp
  have e : reducer_argmax_f32_i32 (F := Ideal) (a1, a2) (b1, b2)
      = (Scalar.select (IntOp.ori (Ideal.cmp .ogt a1 b1) 0#1) a1 b1,
        Scalar.select (IntOp.ori (IntOp.ori (Ideal.cmp .ogt a1 b1) 0#1) (IntOp.andi (Ideal.cmp .oeq a1 b1) (IntOp.cmpi .slt a2 b2))) a2 b2) := by
    rw [← hune]; rfl
  rw [e, Ideal.cmp_ogt, Ideal.cmp_oeq]
  rcases lt_trichotomy b1 a1 with h | h | h
  · rw [decide_eq_true h, decide_eq_false h.ne']
    have ec : ∀ w : BitVec 1, IntOp.ori (IntOp.ori (BitVec.ofBool true) 0#1) (IntOp.andi (BitVec.ofBool false) w) = 1#1 := by decide
    rw [ec, show IntOp.ori (BitVec.ofBool true) 0#1 = 1#1 from rfl, select_one, select_one]
    exact ⟨.inl rfl, PLe.rfl' _, .inl h⟩
  · subst h
    rw [decide_eq_false (lt_irrefl _), decide_eq_true rfl]
    have ec : ∀ w : BitVec 1, IntOp.ori (IntOp.ori (BitVec.ofBool false) 0#1) (IntOp.andi (BitVec.ofBool true) w) = w := by decide
    rw [ec, show IntOp.ori (BitVec.ofBool false) 0#1 = 0#1 from rfl, select_zero]
    have es : IntOp.cmpi .slt a2 b2 = BitVec.ofBool (decide (a2.toInt < b2.toInt)) := rfl
    rw [es]
    by_cases h' : a2.toInt < b2.toInt
    · rw [decide_eq_true h']
      exact ⟨.inl rfl, PLe.rfl' _, .inr ⟨rfl, h'.le⟩⟩
    · rw [decide_eq_false h']
      exact ⟨.inr rfl, .inr ⟨rfl, not_lt.mp h'⟩, PLe.rfl' _⟩
  · rw [decide_eq_false (not_lt.mpr h.le), decide_eq_false h.ne]
    have ec : ∀ w : BitVec 1, IntOp.ori (IntOp.ori (BitVec.ofBool false) 0#1) (IntOp.andi (BitVec.ofBool false) w) = 0#1 := by decide
    rw [ec, show IntOp.ori (BitVec.ofBool false) 0#1 = 0#1 from rfl, select_zero, select_zero]
    exact ⟨.inr rfl, .inl h, PLe.rfl' _⟩

/-- Folding the reducer over a list keeps the first pair or one of the list's, and every pair is at most the one kept. -/
theorem foldl_spec {ι : Type} (L : List ι) (u : ι → Ideal .f32) (w : ι → BitVec 32) (a : Ideal .f32 × BitVec 32) :
    (L.foldl (fun s n => reducer_argmax_f32_i32 (F := Ideal) s (u n, w n)) a = a
        ∨ ∃ n ∈ L, L.foldl (fun s n => reducer_argmax_f32_i32 (F := Ideal) s (u n, w n)) a = (u n, w n))
      ∧ PLe a (L.foldl (fun s n => reducer_argmax_f32_i32 (F := Ideal) s (u n, w n)) a)
      ∧ ∀ n ∈ L, PLe (u n, w n) (L.foldl (fun s n => reducer_argmax_f32_i32 (F := Ideal) s (u n, w n)) a) := by
  induction L generalizing a with
  | nil => exact ⟨.inl rfl, PLe.rfl' a, fun n hn => absurd hn List.not_mem_nil⟩
  | cons b L ih =>
    rw [List.foldl_cons]
    obtain ⟨h1, h2, h3⟩ := red_spec a (u b, w b)
    obtain ⟨i1, i2, i3⟩ := ih (reducer_argmax_f32_i32 (F := Ideal) a (u b, w b))
    refine ⟨?_, h2.trans i2, fun n hn => ?_⟩
    · rcases i1 with i1 | ⟨n, hn, i1⟩
      · rw [i1]
        rcases h1 with h1 | h1
        · exact .inl h1
        · exact .inr ⟨b, List.mem_cons_self, h1⟩
      · exact .inr ⟨n, List.mem_cons_of_mem _ hn, i1⟩
    · rcases List.mem_cons.mp hn with rfl | hn
      · exact h3.trans i2
      · exact i3 n hn

/-- The fold of the reducer over a row, of a table with its column numbers, is at the leading column. -/
theorem fold_row {n0 n1 : ℕ} (hn : n1 ≤ 2 ^ 31) (h : (⟨2, ![n0, n1]⟩ : Shape).ReducesTo [1] ⟨1, ![n0]⟩)
    (x : (⟨2, ![n0, n1]⟩ : Shape).Idx → Ideal .f32) (y : (⟨2, ![n0, n1]⟩ : Shape).Idx → BitVec 32) (ix : S_.Idx → Ideal .f32) (iy : S_.Idx → BitVec 32)
    (hu : 0 < S_.numel) (r : Fin n0) (f : ℕ → EReal) (hf : ∀ k : Fin n1, x (ix2 r k) = f k) (hy : ∀ k : Fin n1, y (ix2 r k) = BitVec.ofNat 32 k)
    (hi : ∀ i, ix i = (⊥ : EReal)) (hi0 : ∀ i, iy i = 0#32) {A : ℕ} (hA : Lead f n1 A) (Q : (⟨1, ![n0]⟩ : Shape).Idx → Ideal .f32 × BitVec 32)
    (hQ : Q = Host.argReduce (reducer_argmax_f32_i32 (F := Ideal)) x y ix iy h hu) : (Q (ix1 r)).2 = BitVec.ofNat 32 A := by
  subst hQ
  rw [Ideal.argReduce_eq_reduce2]
  unfold Host.reduce2
  generalize hL : (List.finRange (⟨2, ![n0, n1]⟩ : Shape).numel).filter
    (fun n => decide (h.drop ((⟨2, ![n0, n1]⟩ : Shape).rowMajor.symm n) = ix1 r)) = L
  obtain ⟨h1, -, h3⟩ := foldl_spec L (fun n => x ((⟨2, ![n0, n1]⟩ : Shape).rowMajor.symm n)) (fun n => y ((⟨2, ![n0, n1]⟩ : Shape).rowMajor.symm n))
    (ix (Shape.Idx.first hu), iy (Shape.Idx.first hu))
  have hmem : ∀ n, n ∈ L ↔ ∃ k : Fin n1, (⟨2, ![n0, n1]⟩ : Shape).rowMajor.symm n = ix2 r k := by
    intro n
    rw [← hL, List.mem_filter, decide_eq_true_iff, h.fiber_r2_a1]
    exact ⟨fun e => e.2.imp fun k hk => hk.symm, fun e => ⟨List.mem_finRange n, e.imp fun k hk => hk.symm⟩⟩
  have hA' := h3 ((⟨2, ![n0, n1]⟩ : Shape).rowMajor (ix2 r ⟨A, hA.1⟩)) ((hmem _).mpr ⟨_, Equiv.symm_apply_apply _ _⟩)
  beta_reduce at hA'
  rw [Equiv.symm_apply_apply, hf, hy] at hA'
  have hlt := hA.1
  rcases h1 with h1 | ⟨n, hnL, h1⟩
  · rw [h1, hi] at hA'
    rw [h1]
    have e : f A = ⊥ := by
      rcases hA' with e | ⟨e, -⟩
      · exact absurd e not_lt_bot
      · exact e
    rcases Nat.eq_zero_or_pos A with h0 | h0
    · rw [h0]; exact hi0 _
    · exact absurd (e ▸ hA.2.2 0 h0) not_lt_bot
  · obtain ⟨k, hk⟩ := (hmem n).mp hnL
    beta_reduce at h1
    rw [hk, hf, hy] at h1
    rw [h1] at hA' ⊢
    have hkA : (k : ℕ) = A := by
      rcases hA' with e | ⟨e, h'⟩
      · exact absurd e (not_lt.mpr (hA.2.1 k k.isLt))
      · have hle : (BitVec.ofNat 32 k.val).toInt ≤ (BitVec.ofNat 32 A).toInt := h'
        have hk' := k.isLt
        rw [toInt_ofNat_small (by omega), toInt_ofNat_small (by omega)] at hle
        by_contra hne
        exact absurd e (hA.2.2 k (by omega)).ne'
    exact congrArg (BitVec.ofNat 32) hkA

/-- The reference's first class, spelled out. -/
theorem best_eq {F : FTy → Type} [FloatOps F] (x : Tab F) : best x = fun j =>
    (Host.argReduce reducer_argmax_f32_i32 x (iotaInDim S1024x100000 32 1) (constant S_ .f32 0xFF800000#32) (constantI S_ 32 0#32)
      reducesTo_S1024x100000_S1024_d1 h_S_ j).2 := by
  delta best
  with_reducible rfl

/-- A row's first class of its greatest cosine is the leading one. -/
theorem best_at (x : Tab Ideal) (r : Fin 1024) (f : ℕ → EReal) (hf : ∀ k : Fin 100000, x (ix2 r k) = f k) {A : ℕ}
    (hA : Lead f 100000 A) : best (F := Ideal) x (ix1 r) = BitVec.ofNat 32 A := by
  refine (congrFun (best_eq x) (ix1 r)).trans ?_
  beta_reduce
  exact fold_row (by norm_num) reducesTo_S1024x100000_S1024_d1 x (iotaInDim S1024x100000 32 1) (constant (F := Ideal) S_ .f32 0xFF800000#32)
    (constantI S_ 32 0#32) h_S_ r f hf (fun _ => rfl) (fun _ => Consts.ninf) (fun _ => rfl) hA _ (Eq.refl _)

end Cert.Proof.Ref

end

end
-- ==== Proof.Equal.lean ====
/-
  The two programs' results are equal at the ideal values: both are written over the entries of the tables and over one
  leading class per row.
-/
module

public import proofs.«01_k».proof.Proof.Frames
public import proofs.«01_k».proof.Proof.EpiValue
public import proofs.«01_k».proof.Proof.RefBest

@[expose] public section

noncomputable section

namespace Cert.Proof

open Idealize.ShloMosaic hiding ix1 ix2 ix3 ix4 eq_ix1 eq_ix2 eq_ix3 subf_apply addf_apply mulf_apply
open Idealize.ShloMosaic.ValueIdx
open Idealize.SL.Sem
open Cert.Proof.Row
open scoped BigOperators

/-- The reference with a precondition runs as it does without. -/
theorem frame_ref_pre : Cert.quiescent_ReferenceIdeal_pre_pre := fun m g _ => Ref.frame_ref m g trivial

/-! ## The reference -/

section
open Cert.ReferenceIdeal

variable (x p : Ref.Tab Ideal) (t : Ref.RowI Ideal) (ht : ∀ i, (t i).toNat < 100000) (f q : Fin 1024 → ℕ → EReal) (A : Fin 1024 → ℕ)
  (hx : ∀ (r : Fin 1024) (k : Fin 100000), x (ix2 r k) = f r k) (hp : ∀ (r : Fin 1024) (k : Fin 100000), p (ix2 r k) = q r k)

include ht hx hp in
/-- The reference's loss. -/
theorem ref_loss (hA : ∀ r, Lead (f r) 100000 (A r)) (i : S_.Idx) :
    Ref.lossR (F := Ideal) x p t i
      = (∑ r : Fin 1024, -rowLogp (f r) (q r (t (ix1 r)).toNat) (t (ix1 r)).toNat 100000 (A r)) * ((1 / 1024 : ℝ) : EReal) := by
  unfold Ref.lossR
  refine Ref.mean_at _ _ (fun r => ?_) i
  exact congrArg (fun z : EReal => -z) (Ref.logp_at t ht r x p (f r) (hx r) _ (hp r _) (hA r))

include hx in
/-- The reference's accuracy. -/
theorem ref_acc (hA : ∀ r, Lead (f r) 100000 (A r)) (i : S_.Idx) :
    Ref.accR (F := Ideal) x t i
      = (∑ r : Fin 1024, ((if BitVec.ofNat 32 (A r) = t (ix1 r) then (1 : ℝ) else 0 : ℝ) : EReal)) * ((1 / 1024 : ℝ) : EReal) := by
  unfold Ref.accR
  refine Ref.mean_at _ _ (fun r => ?_) i
  rw [uitofp_apply, cmpi_apply, Ref.best_at x r (f r) (hx r) (hA r), SC.cmpi_eq]
  split
  · exact congrArg (fun z : ℝ => (z : EReal)) (by norm_num)
  · exact congrArg (fun z : ℝ => (z : EReal)) (by norm_num)

end

/-! ## The kernel -/

section
open Cert.KernelIdeal Cert.KernelIdeal.Gen Cert.Proof.SC

/-- A transposed table's entry, by class and row. -/
theorem tix_lt {k r : ℕ} (hk : k < 100000) (hr : r < 1024) : tix k r = ix2 (⟨k, hk⟩ : Fin 100000) (⟨r, hr⟩ : Fin 1024) :=
  (eq_ix2 _).trans (congrArg₂ ix2 (Fin.ext (Nat.mod_eq_of_lt hk)) (Fin.ext (Nat.mod_eq_of_lt hr)))

variable (m : (ℓ : Loc nD τ sig) → Buf (Elt Ideal) ℓ) (c : Dev nD) (x p : FVec Ideal S1024x100000 .f32) (t : IVec S1024 32)
  (ex : (m (arg0Loc c) : FVec Ideal S1024x100000 .f32) = x) (ep : (m (arg1Loc c) : FVec Ideal S1024x100000 .f32) = p) (et : (m (tLoc c) : IVec S1024 32) = t)
  (ht : ∀ i, (t i).toNat < 100000) (f q : Fin 1024 → ℕ → EReal)
  (hx : ∀ (r : Fin 1024) (k : Fin 100000), x (ix2 r k) = f r k) (hp : ∀ (r : Fin 1024) (k : Fin 100000), p (ix2 r k) = q r k)

include ex hx in
/-- The first table, transposed. -/
theorem aT_at (r : Fin 1024) {k : ℕ} (hk : k < 100000) : aT m c (tix k r.val) = f r k := by
  rw [tix_lt hk r.isLt]
  unfold aT
  refine (transpose_ix2_apply _ _ _ _).trans ?_
  exact (congrFun ex _).trans (hx r ⟨k, hk⟩)

include ep hp in
/-- The second table, transposed. -/
theorem bT_at (r : Fin 1024) {k : ℕ} (hk : k < 100000) : bT m c (tix k r.val) = q r k := by
  rw [tix_lt hk r.isLt]
  unfold bT
  refine (transpose_ix2_apply _ _ _ _).trans ?_
  exact (congrFun ep _).trans (hp r ⟨k, hk⟩)

include ex hx in
/-- The statistics of every row, over its leading class. -/
theorem stat_at (r : Fin 1024) : ∃ A, Lead (f r) 100000 A ∧ (stat m c).1 (ix2 0 r) = f r A
    ∧ (stat m c).2.1 (ix2 0 r) = (expSum (f r) 100000 A : EReal) ∧ (stat m c).2.2 (ix2 0 r) = BitVec.ofNat 32 A :=
  runS_at (blkX m c) r (f r) (fun n hn j => aT_at m c x ex f hx r (k := 2000 * n + j.val) (by have := j.isLt; omega)) 49 (by norm_num)

variable (A : Fin 1024 → ℕ)

include ex ep et ht hx hp in
/-- The kernel's loss. -/
theorem kernel_loss (h1 : ∀ r, (stat m c).1 (ix2 0 r) = f r (A r))
    (h2 : ∀ r, (stat m c).2.1 (ix2 0 r) = (expSum (f r) 100000 (A r) : EReal)) (i : S1x1.Idx) :
    SC.lossR m c i = -(∑ r : Fin 1024, rowLogp (f r) (q r (t (ix1 r)).toNat) (t (ix1 r)).toNat 100000 (A r)) * ((1 / 1024 : ℝ) : EReal) := by
  unfold SC.lossR
  refine lossV_at _ _ _ _ _ _ (fun r => ?_) i
  refine SC.logp_at _ _ _ _ r (f r) 100000 (A r) (t (ix1 r)).toNat _ (h1 r) (h2 r) ?_ ?_
  · refine (pick_gath (aT m c) (tT m c) r).trans ?_
    rw [show tT m c = t from et]
    exact aT_at m c x ex f hx r (ht _)
  · refine (pick_gath (bT m c) (tT m c) r).trans ?_
    rw [show tT m c = t from et]
    exact bT_at m c p ep q hp r (ht _)

include et in
/-- The kernel's accuracy. -/
theorem kernel_acc (h3 : ∀ r, (stat m c).2.2 (ix2 0 r) = BitVec.ofNat 32 (A r)) (i : S1x1.Idx) :
    SC.accR m c i
      = (∑ r : Fin 1024, ((if BitVec.ofNat 32 (A r) = t (ix1 r) then (1 : ℝ) else 0 : ℝ) : EReal)) * ((1 / 1024 : ℝ) : EReal) := by
  unfold SC.accR
  refine (accV_at _ _ i).trans (congrArg (fun z : EReal => z * ((1 / 1024 : ℝ) : EReal)) (Finset.sum_congr rfl fun r _ => ?_))
  have e : tRow m c (ix2 0 r) = t (ix1 r) := by
    unfold tRow
    refine (shapeCast_a_1a_apply (tT m c) shapeCasts_S1024_S1x1024 0 r).trans ?_
    rw [show tT m c = t from et]
  rw [h3, e]

end

/-! ## The two -/

section
open Cert.KernelIdeal Cert.KernelIdeal.Gen Cert.Proof.SC

/-- A table's rows, as functions of the class. -/
theorem rows_exist (y : FVec Ideal S1024x100000 .f32) :
    ∃ g : Fin 1024 → ℕ → EReal, ∀ (r : Fin 1024) (k : Fin 100000), y (ix2 r k) = g r k :=
  ⟨fun r n => y (ix2 r (⟨n % 100000, Nat.mod_lt _ (by norm_num)⟩ : Fin 100000)), fun r k =>
    congrArg (fun j : Fin 100000 => y (ix2 r j)) (Fin.ext (Nat.mod_eq_of_lt k.isLt).symm)⟩

/-- Where the targets are classes the results are the reference's. -/
theorem results_eq (m : (ℓ : Loc nD τ sig) → Buf (Elt Ideal) ℓ) (c : Dev nD) (x p : FVec Ideal S1024x100000 .f32) (t : IVec S1024 32)
    (ex : (m (arg0Loc c) : FVec Ideal S1024x100000 .f32) = x) (ep : (m (arg1Loc c) : FVec Ideal S1024x100000 .f32) = p)
    (et : (m (tLoc c) : IVec S1024 32) = t) (ht : ∀ i, (t i).toNat < 100000) :
    res7 m c = Ref.lossR (F := Ideal) x p t ∧ res8 m c = Ref.accR (F := Ideal) x t := by
  obtain ⟨f, hx⟩ := rows_exist x
  obtain ⟨q, hp⟩ := rows_exist p
  choose A hA h1 h2 h3 using fun r => stat_at m c x ex f hx r
  constructor
  · funext i
    refine Eq.trans ?_ (ref_loss x p t ht f q A hx hp hA i).symm
    rw [← (neg_sum Finset.univ _ fun r _ => rowLogp_ne_top (f r) (q r (t (ix1 r)).toNat) 100000 (A r) (t (ix1 r)).toNat (ht _) (hA r)).2]
    exact kernel_loss m c x p t ex ep et ht f q hx hp A h1 h2 _
  · funext i
    exact (kernel_acc m c t et A h3 _).trans (ref_acc x t f A hx hA i).symm

end

/-- The idealized kernel computes the reference's results. -/
theorem algebraic : Cert.algebraic_KernelIdeal_ReferenceIdeal := by
  intro m g m' g' hpre hargs
  refine ⟨SC.res7 m, SC.res8 m, ?_, ?_⟩
  · exact (θ_run (Cert.KernelIdeal.defs (F := Ideal)) _ _).mono
      (fun _ h c => ⟨(h.1 c).2.2.2.1, (h.1 c).2.2.2.2, (h.1 c).1, (h.1 c).2.1, (h.1 c).2.2.1⟩) (SC.run_main (F := Ideal) m g (SC.preOK_of_pre m hpre))
  · refine (θ_run (Cert.ReferenceIdeal.defs (F := Ideal)) _ _).mono (fun _ h c => ?_) (Ref.run (F := Ideal) m' g')
    obtain ⟨e0, e1, e2⟩ := hargs c
    obtain ⟨r7, r8⟩ := results_eq m c _ _ _ rfl rfl rfl (SC.pre_parts _ _ _ (hpre c))
    obtain ⟨h7, h8, h0, h1, h2⟩ := h c
    rw [e0, e1, e2] at h7
    rw [e0, e2] at h8
    exact ⟨h7.trans r7.symm, h8.trans r8.symm, h0, h1, h2⟩

end Cert.Proof

end

end
-- ==== Proof.lean ====
/- The certificate: the claims proved in the modules below, behind the witnesses of the programs' stated facts. -/
module

public import proofs.«01_k».proof.Defs
public import proofs.«01_k».proof.Proof.Frames
public import proofs.«01_k».proof.Proof.RefRun
public import proofs.«01_k».proof.Proof.Equal

@[expose] public section
noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_pre.Gen.facts,
    SC.frame_kernel, SC.frame_ideal, Ref.frame_ref, frame_ref_pre, SC.preserves, algebraic⟩

end Cert.Proof

end
